-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_tokens_and_weights [hPre_finite_tokens_and_weights : Cert.Pre_finite_tokens_and_weights.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_tokens_and_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_tokens_and_weights [hPre_finite_tokens_and_weights : Cert.Pre_finite_tokens_and_weights.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_tokens_and_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_tokens_and_weights [hKernel4Ideal : Cert.Kernel4Ideal.Facts] [hPre_finite_tokens_and_weights : Cert.Pre_finite_tokens_and_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_tokens_and_weights m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_tokens_and_weights [hReference4Ideal : Cert.Reference4Ideal.Facts] [hPre_finite_tokens_and_weights : Cert.Pre_finite_tokens_and_weights.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_tokens_and_weights m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "gone" .f32 0xC2D00000#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_tokens_and_weights [hKernel4Ideal : Cert.Kernel4Ideal.Facts] [hReference4Ideal : Cert.Reference4Ideal.Facts] [hPre_finite_tokens_and_weights : Cert.Pre_finite_tokens_and_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_tokens_and_weights m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts) (hPre_finite_tokens_and_weights : Cert.Pre_finite_tokens_and_weights.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_tokens_and_weights (hKernel4Ideal := hKernel4Ideal) (hPre_finite_tokens_and_weights := hPre_finite_tokens_and_weights)
    ∧ quiescent_Reference4Ideal (hReference4Ideal := hReference4Ideal)
    ∧ quiescent_Reference4Ideal_pre_finite_tokens_and_weights (hReference4Ideal := hReference4Ideal) (hPre_finite_tokens_and_weights := hPre_finite_tokens_and_weights)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_tokens_and_weights (hKernel4Ideal := hKernel4Ideal) (hReference4Ideal := hReference4Ideal) (hPre_finite_tokens_and_weights := hPre_finite_tokens_and_weights)
-- ==== Pre_finite_queries_and_keys.lean ====
abbrev S8x4096x5760 : Shape := ⟨3, ![8, 4096, 5760]⟩
abbrev S8x4096x2048 : Shape := ⟨3, ![8, 4096, 2048]⟩
abbrev S_ : Shape := ⟨0, ![]⟩

class Facts : Prop where
  slices_S8x4096x5760_S8x4096x2048_0_0_0 : S8x4096x5760.Slices ![0, 0, 0] S8x4096x2048
  bcast_S_S8x4096x2048 : S_.BroadcastsInDim S8x4096x2048 (![] : Fin 0 → Fin S8x4096x2048.rank)

variable [Facts]

def fn {F : FTy → Type} [FloatOps F] (main_arg0 : FVec F S8x4096x5760 .bf16) : IVec S8x4096x2048 1 :=
  let main_v0 : FVec F S8x4096x2048 .bf16 := (extractStridedSlice S8x4096x2048 ![0, 0, 0] · slices_S8x4096x5760_S8x4096x2048_0_0_0) main_arg0
  let main_v1 : FVec F S8x4096x2048 .bf16 := Host.absf main_v0
  let main_cst : FVec F S_ .bf16 := constant S_ .bf16 0x7F80#16
  let main_v2 : FVec F S8x4096x2048 .bf16 := broadcastInDim S8x4096x2048 ![] bcast_S_S8x4096x2048 main_cst
  let main_v3 : IVec S8x4096x2048 1 := cmpf .olt main_v1 main_v2
  main_v3
-- ==== Pre_finite_tokens_and_weights.lean ====
abbrev S8x4096x2048 : Shape := ⟨3, ![8, 4096, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S32768x2048 : Shape := ⟨2, ![32768, 2048]⟩
abbrev S2048x2048 : Shape := ⟨2, ![2048, 2048]⟩
abbrev S128x2048 : Shape := ⟨2, ![128, 2048]⟩
abbrev S34945x2048 : Shape := ⟨2, ![34945, 2048]⟩
abbrev S_ : Shape := ⟨0, ![]⟩

class Facts : Prop where
  shapeCasts_S8x4096x2048_S32768x2048 : S8x4096x2048.ShapeCasts S32768x2048
  shapeCasts_S1x2048x2048_S2048x2048 : S1x2048x2048.ShapeCasts S2048x2048
  shapeCasts_S1x8x2x128x128_S128x2048 : S1x8x2x128x128.ShapeCasts S128x2048
  concatenates_S32768x2048_S1x2048_S2048x2048_S128x2048_S34945x2048_d0 : Shape.Concatenates [S32768x2048, S1x2048, S2048x2048, S128x2048] S34945x2048 0
  bcast_S_S34945x2048 : S_.BroadcastsInDim S34945x2048 (![] : Fin 0 → Fin S34945x2048.rank)

variable [Facts]

def fn {F : FTy → Type} [FloatOps F] (main_arg0 : FVec F S8x4096x2048 .f32) (main_arg1 : FVec F S1x2048 .f32) (main_arg2 : FVec F S1x2048x2048 .f32) (main_arg3 : FVec F S1x8x2x128x128 .f32) : IVec S34945x2048 1 :=
  let main_v0 : FVec F S32768x2048 .f32 := shapeCast S32768x2048 main_arg0 shapeCasts_S8x4096x2048_S32768x2048
  let main_v1 : FVec F S2048x2048 .f32 := shapeCast S2048x2048 main_arg2 shapeCasts_S1x2048x2048_S2048x2048
  let main_v2 : FVec F S128x2048 .f32 := shapeCast S128x2048 main_arg3 shapeCasts_S1x8x2x128x128_S128x2048
  let main_v3 : FVec F S34945x2048 .f32 := concatenate S34945x2048 0 [⟨S32768x2048, main_v0⟩, ⟨S1x2048, main_arg1⟩, ⟨S2048x2048, main_v1⟩, ⟨S128x2048, main_v2⟩] concatenates_S32768x2048_S1x2048_S2048x2048_S128x2048_S34945x2048_d0
  let main_v4 : FVec F S34945x2048 .f32 := Host.absf main_v3
  let main_cst : FVec F S_ .f32 := constant S_ .f32 0x7F800000#32
  let main_v5 : FVec F S34945x2048 .f32 := broadcastInDim S34945x2048 ![] bcast_S_S34945x2048 main_cst
  let main_v6 : IVec S34945x2048 1 := cmpf .olt main_v4 main_v5
  main_v6
-- ==== Kernel.lean ====
abbrev S8x4096x5760 : Shape := ⟨3, ![8, 4096, 5760]⟩
abbrev S8x4096x1024 : Shape := ⟨3, ![8, 4096, 1024]⟩
abbrev S1x256x128 : Shape := ⟨3, ![1, 256, 128]⟩
abbrev S1x4096x128 : Shape := ⟨3, ![1, 4096, 128]⟩
abbrev S256x128 : Shape := ⟨2, ![256, 128]⟩
abbrev S256x256 : Shape := ⟨2, ![256, 256]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S8x4096x5760, .bf16⟩
  | .hbm, ⟨1, _⟩ => ⟨S8x4096x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .f32⟩
  | .local _ .vmem, ⟨7, _⟩ => ⟨S1x256x128, .f32⟩
  | .local _ .vmem, ⟨8, _⟩ => ⟨S256x128, .f32⟩
  | .local _ .vmem, ⟨9, _⟩ => ⟨S256x128, .f32⟩
  | _, _ => ⟨S8x4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

def k0_mult1 (i : grid0.Coords) : BitVec 32 :=
  let arg2 : BitVec 32 := BitVec.ofNat 32 (i 2).val
  let c2_i32 : BitVec 32 := 2#32
  let v38 : BitVec 32 := Scalar.muli arg2 c2_i32
  let c1_i32_13 : BitVec 32 := 1#32
  let v39 : BitVec 32 := Scalar.addi v38 c1_i32_13
  let c0_i32_14 : BitVec 32 := 0#32
  let v40 : BitVec 32 := Scalar.maxsi v39 c0_i32_14
  let c128_i32_15 : BitVec 32 := 128#32
  let v41 : BitVec 32 := Scalar.muli v40 c128_i32_15
  v41
def k0_off1 (i : grid0.Coords) : Fin 3 → Nat :=
  let c0_16 : Index := 0#32
  let arg2 : BitVec 32 := BitVec.ofNat 32 (i 2).val
  let c2_i32 : BitVec 32 := 2#32
  let v38 : BitVec 32 := Scalar.muli arg2 c2_i32
  let c1_i32_13 : BitVec 32 := 1#32
  let v39 : BitVec 32 := Scalar.addi v38 c1_i32_13
  let c0_i32_14 : BitVec 32 := 0#32
  let v40 : BitVec 32 := Scalar.maxsi v39 c0_i32_14
  let c128_i32_15 : BitVec 32 := 128#32
  let v41 : BitVec 32 := Scalar.muli v40 c128_i32_15
  let v42 : BitVec 32 := v41
  let v43 : Index := Scalar.indexCast v42
  let c0_17 : Index := 0#32
  ![0, v43.toNat, 0]
def k0_mult2 (i : grid0.Coords) : BitVec 32 :=
  let arg2 : BitVec 32 := BitVec.ofNat 32 (i 2).val
  let c2_i32 : BitVec 32 := 2#32
  let v38 : BitVec 32 := Scalar.muli arg2 c2_i32
  let c1_i32_13 : BitVec 32 := 1#32
  let v39 : BitVec 32 := Scalar.addi v38 c1_i32_13
  let c1_i32_33 : BitVec 32 := 1#32
  let v90 : BitVec 32 := Scalar.subi v39 c1_i32_33
  let c0_i32_34 : BitVec 32 := 0#32
  let v91 : BitVec 32 := Scalar.maxsi v90 c0_i32_34
  let c128_i32_35 : BitVec 32 := 128#32
  let v92 : BitVec 32 := Scalar.muli v91 c128_i32_35
  v92
def k0_off2 (i : grid0.Coords) : Fin 3 → Nat :=
  let c0_36 : Index := 0#32
  let arg2 : BitVec 32 := BitVec.ofNat 32 (i 2).val
  let c2_i32 : BitVec 32 := 2#32
  let v38 : BitVec 32 := Scalar.muli arg2 c2_i32
  let c1_i32_13 : BitVec 32 := 1#32
  let v39 : BitVec 32 := Scalar.addi v38 c1_i32_13
  let c1_i32_33 : BitVec 32 := 1#32
  let v90 : BitVec 32 := Scalar.subi v39 c1_i32_33
  let c0_i32_34 : BitVec 32 := 0#32
  let v91 : BitVec 32 := Scalar.maxsi v90 c0_i32_34
  let c128_i32_35 : BitVec 32 := 128#32
  let v92 : BitVec 32 := Scalar.muli v91 c128_i32_35
  let v93 : BitVec 32 := v92
  let v94 : Index := Scalar.indexCast v93
  let c0_37 : Index := 0#32
  ![0, v94.toNat, 0]
def k0_mult3 (arg9 : BitVec 32) : BitVec 32 :=
  let c0_i32_72 : BitVec 32 := 0#32
  let v175 : BitVec 32 := Scalar.maxsi arg9 c0_i32_72
  let c128_i32_73 : BitVec 32 := 128#32
  let v176 : BitVec 32 := Scalar.muli v175 c128_i32_73
  v176

def k0_off3 (arg9 : BitVec 32) : Fin 3 → Nat :=
  let c0_74 : Index := 0#32
  let c0_i32_72 : BitVec 32 := 0#32
  let v175 : BitVec 32 := Scalar.maxsi arg9 c0_i32_72
  let c128_i32_73 : BitVec 32 := 128#32
  let v176 : BitVec 32 := Scalar.muli v175 c128_i32_73
  let v177 : BitVec 32 := v176
  let v178 : Index := Scalar.indexCast v177
  let c0_75 : Index := 0#32
  ![0, v178.toNat, 0]
def k0_mult4 (arg9 : BitVec 32) : BitVec 32 :=
  let c1_i32_87 : BitVec 32 := 1#32
  let v213 : BitVec 32 := Scalar.subi arg9 c1_i32_87
  let c0_i32_89 : BitVec 32 := 0#32
  let v217 : BitVec 32 := Scalar.maxsi v213 c0_i32_89
  let c128_i32_90 : BitVec 32 := 128#32
  let v218 : BitVec 32 := Scalar.muli v217 c128_i32_90
  v218
def k0_off4 (arg9 : BitVec 32) : Fin 3 → Nat :=
  let c0_91 : Index := 0#32
  let c1_i32_87 : BitVec 32 := 1#32
  let v213 : BitVec 32 := Scalar.subi arg9 c1_i32_87
  let c0_i32_89 : BitVec 32 := 0#32
  let v217 : BitVec 32 := Scalar.maxsi v213 c0_i32_89
  let c128_i32_90 : BitVec 32 := 128#32
  let v218 : BitVec 32 := Scalar.muli v217 c128_i32_90
  let v219 : BitVec 32 := v218
  let v220 : Index := Scalar.indexCast v219
  let c0_92 : Index := 0#32
  ![0, v220.toNat, 0]

def k0_chk1 (arg9 : BitVec 32) : Prop :=
  (128 ∣ (k0_mult3 arg9).toNat) ∧
  (∀ a, (k0_off3 arg9) a + S1x128x128.size a ≤ S1x4096x128.size a) ∧
  (128 ∣ (k0_mult4 arg9).toNat) ∧
  (∀ a, (k0_off4 arg9) a + S1x128x128.size a ≤ S1x4096x128.size a)
theorem k0_mult3_dvd : ∀ (arg9 : BitVec 32) (k0_hw1 : k0_chk1 arg9), 128 ∣ (k0_mult3 arg9).toNat := fun arg9 k0_hw1 => k0_hw1.1
theorem k0_off3_inb : ∀ (arg9 : BitVec 32) (k0_hw1 : k0_chk1 arg9), ∀ a, (k0_off3 arg9) a + S1x128x128.size a ≤ S1x4096x128.size a := fun arg9 k0_hw1 => k0_hw1.2.1
theorem k0_mult4_dvd : ∀ (arg9 : BitVec 32) (k0_hw1 : k0_chk1 arg9), 128 ∣ (k0_mult4 arg9).toNat := fun arg9 k0_hw1 => k0_hw1.2.2.1
theorem k0_off4_inb : ∀ (arg9 : BitVec 32) (k0_hw1 : k0_chk1 arg9), ∀ a, (k0_off4 arg9) a + S1x128x128.size a ≤ S1x4096x128.size a := fun arg9 k0_hw1 => k0_hw1.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "gone" => some ⊥
  | _ => none
-- ==== ReferenceIdeal.lean ====
abbrev S8x4096x5760 : Shape := ⟨3, ![8, 4096, 5760]⟩
abbrev S8x4096x1024 : Shape := ⟨3, ![8, 4096, 1024]⟩
abbrev S8x4096x2688 : Shape := ⟨3, ![8, 4096, 2688]⟩
abbrev S8x4096x8x128 : Shape := ⟨4, ![8, 4096, 8, 128]⟩
abbrev S8x8x4096x128 : Shape := ⟨4, ![8, 8, 4096, 128]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x128x4096 : Shape := ⟨4, ![8, 8, 128, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x5760, .bf16⟩
  | .hbm, ⟨1, _⟩ => ⟨S8x4096x5760, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x2688, .f32⟩
  | .hbm, ⟨6, _⟩ => ⟨S8x4096x8x128, .f32⟩
  | .hbm, ⟨7, _⟩ => ⟨S8x8x4096x128, .f32⟩
  | .hbm, ⟨8, _⟩ => ⟨S8x4096x8x128, .f32⟩
  | .hbm, ⟨9, _⟩ => ⟨S8x8x4096x128, .f32⟩
  | .hbm, ⟨10, _⟩ => ⟨S8x4096x8x128, .f32⟩
  | .hbm, ⟨11, _⟩ => ⟨S8x8x4096x128, .f32⟩
  | .hbm, ⟨12, _⟩ => ⟨S4096, .i32⟩
  | .hbm, ⟨13, _⟩ => ⟨S8x8x4096x4096, .f32⟩
  | .hbm, ⟨14, _⟩ => ⟨S_, .f32⟩
  | .hbm, ⟨15, _⟩ => ⟨S8x8x4096x4096, .f32⟩
  | .hbm, ⟨16, _⟩ => ⟨S8x8x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .i1⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S_, .f32⟩
  | .hbm, ⟨65, _⟩ => ⟨S_, .f32⟩
  | .hbm, ⟨66, _⟩ => ⟨S8x8x4096x4096, .i1⟩
  | .hbm, ⟨67, _⟩ => ⟨S8x8x4096x4096, .f32⟩
  | .hbm, ⟨68, _⟩ => ⟨S8x8x4096x4096, .f32⟩
  | .hbm, ⟨69, _⟩ => ⟨S8x8x128x4096, .f32⟩
  | .hbm, ⟨70, _⟩ => ⟨S8x4096x8x128, .f32⟩
  | .hbm, ⟨71, _⟩ => ⟨S8x4096x1024, .f32⟩
  | _, _ => ⟨S8x4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩

abbrev nD : Nat := 1
abbrev τ : Topo := Topo.v7x

variable {F : FTy → Type} [FloatOps F]
-- ==== Kernel2.lean ====
abbrev S8x4096x2048 : Shape := ⟨3, ![8, 4096, 2048]⟩
abbrev S1x2048 : Shape := ⟨2, ![1, 2048]⟩
abbrev S1x2048x5656 : Shape := ⟨3, ![1, 2048, 5656]⟩
abbrev S1x128 : Shape := ⟨2, ![1, 128]⟩
abbrev S5760 : Shape := ⟨1, ![5760]⟩
abbrev S32768x2048 : Shape := ⟨2, ![32768, 2048]⟩
abbrev S2048x5656 : Shape := ⟨2, ![2048, 5656]⟩
abbrev S_ : Shape := ⟨0, ![]⟩
abbrev S2048x5760 : Shape := ⟨2, ![2048, 5760]⟩
abbrev S128 : Shape := ⟨1, ![128]⟩
abbrev S8x128 : Shape := ⟨2, ![8, 128]⟩
abbrev S1024 : Shape := ⟨1, ![1024]⟩
abbrev S1 : Shape := ⟨1, ![1]⟩
abbrev S2x128 : Shape := ⟨2, ![2, 128]⟩
abbrev S256 : Shape := ⟨1, ![256]⟩
abbrev S2048 : Shape := ⟨1, ![2048]⟩
abbrev S1x5760 : Shape := ⟨2, ![1, 5760]⟩
abbrev S32768x5760 : Shape := ⟨2, ![32768, 5760]⟩
abbrev S1024x2048 : Shape := ⟨2, ![1024, 2048]⟩
abbrev S2048x640 : Shape := ⟨2, ![2048, 640]⟩
abbrev S1x640 : Shape := ⟨2, ![1, 640]⟩
abbrev S1024x640 : Shape := ⟨2, ![1024, 640]⟩
abbrev S1024x1 : Shape := ⟨2, ![1024, 1]⟩
abbrev S1024x128 : Shape := ⟨2, ![1024, 128]⟩

abbrev nBuf : Space → Nat
  | .hbm => 43
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x5656, .f32⟩
  | .hbm, ⟨3, _⟩ => ⟨S1x128, .f32⟩
  | .hbm, ⟨4, _⟩ => ⟨S1x128, .f32⟩
  | .hbm, ⟨5, _⟩ => ⟨S5760, .f32⟩
  | .hbm, ⟨6, _⟩ => ⟨S32768x2048, .f32⟩
  | .hbm, ⟨7, _⟩ => ⟨S2048x5656, .f32⟩
  | .hbm, ⟨8, _⟩ => ⟨S_, .i32⟩
  | .hbm, ⟨9, _⟩ => ⟨S_, .f32⟩
  | .hbm, ⟨10, _⟩ => ⟨S2048x5760, .f32⟩
  | .hbm, ⟨11, _⟩ => ⟨S2048x5760, .bf16⟩
  | .hbm, ⟨12, _⟩ => ⟨S_, .f32⟩
  | .hbm, ⟨13, _⟩ => ⟨S5760, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S8x128, .f32⟩
  | .hbm, ⟨22, _⟩ => ⟨S1024, .f32⟩
  | .hbm, ⟨23, _⟩ => ⟨S_, .i32⟩
  | .hbm, ⟨24, _⟩ => ⟨S1, .i32⟩
  | .hbm, ⟨25, _⟩ => ⟨S5760, .f32⟩
  | .hbm, ⟨26, _⟩ => ⟨S1x128, .f32⟩
  | .hbm, ⟨27, _⟩ => ⟨S2x128, .f32⟩
  | .hbm, ⟨28, _⟩ => ⟨S256, .f32⟩
  | .hbm, ⟨29, _⟩ => ⟨S_, .i32⟩
  | .hbm, ⟨30, _⟩ => ⟨S1, .i32⟩
  | .hbm, ⟨31, _⟩ => ⟨S5760, .f32⟩
  | .hbm, ⟨32, _⟩ => ⟨S1x128, .f32⟩
  | .hbm, ⟨33, _⟩ => ⟨S2x128, .f32⟩
  | .hbm, ⟨34, _⟩ => ⟨S256, .f32⟩
  | .hbm, ⟨35, _⟩ => ⟨S_, .i32⟩
  | .hbm, ⟨36, _⟩ => ⟨S1, .i32⟩
  | .hbm, ⟨37, _⟩ => ⟨S5760, .f32⟩
  | .hbm, ⟨38, _⟩ => ⟨S2048, .f32⟩
  | .hbm, ⟨39, _⟩ => ⟨S1x2048, .f32⟩
  | .hbm, ⟨40, _⟩ => ⟨S1x5760, .f32⟩
  | .hbm, ⟨41, _⟩ => ⟨S1x5760, .f32⟩
  | .hbm, ⟨42, _⟩ => ⟨S32768x5760, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x640, .bf16⟩
  | .local _ .vmem, ⟨4, _⟩ => ⟨S2048x640, .bf16⟩
  | .local _ .vmem, ⟨5, _⟩ => ⟨S1x640, .f32⟩
  | .local _ .vmem, ⟨6, _⟩ => ⟨S1x640, .f32⟩
  | .local _ .vmem, ⟨7, _⟩ => ⟨S1x640, .f32⟩
  | .local _ .vmem, ⟨8, _⟩ => ⟨S1x640, .f32⟩
  | .local _ .vmem, ⟨9, _⟩ => ⟨S1024x640, .bf16⟩
  | .local _ .vmem, ⟨10, _⟩ => ⟨S1024x640, .bf16⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 9], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x2048 : Shape := ⟨3, ![8, 4096, 2048]⟩
abbrev S1x2048 : Shape := ⟨2, ![1, 2048]⟩
abbrev S1x2048x5656 : Shape := ⟨3, ![1, 2048, 5656]⟩
abbrev S1x128 : Shape := ⟨2, ![1, 128]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x5656 : Shape := ⟨2, ![2048, 5656]⟩
abbrev S8x4096x5656 : Shape := ⟨3, ![8, 4096, 5656]⟩
abbrev S8x4096x1024 : Shape := ⟨3, ![8, 4096, 1024]⟩
abbrev S8x4096x256 : Shape := ⟨3, ![8, 4096, 256]⟩
abbrev S8x4096x24 : Shape := ⟨3, ![8, 4096, 24]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x104 : Shape := ⟨3, ![8, 4096, 104]⟩
abbrev S8x4096x5760 : Shape := ⟨3, ![8, 4096, 5760]⟩
abbrev S32768x5760 : Shape := ⟨2, ![32768, 5760]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x5656, .f32⟩
  | .hbm, ⟨3, _⟩ => ⟨S1x128, .f32⟩
  | .hbm, ⟨4, _⟩ => ⟨S1x128, .f32⟩
  | .hbm, ⟨5, _⟩ => ⟨S2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S2048x5656, .f32⟩
  | .hbm, ⟨23, _⟩ => ⟨S8x4096x5656, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x256, .f32⟩
  | .hbm, ⟨29, _⟩ => ⟨S8x4096x256, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S8x4096x24, .f32⟩
  | .hbm, ⟨35, _⟩ => ⟨S8x4096x8x128, .f32⟩
  | .hbm, ⟨36, _⟩ => ⟨S128, .f32⟩
  | .hbm, ⟨37, _⟩ => ⟨S8x4096x8x128, .f32⟩
  | .hbm, ⟨38, _⟩ => ⟨S_, .f32⟩
  | .hbm, ⟨39, _⟩ => ⟨S8x4096x8, .f32⟩
  | .hbm, ⟨40, _⟩ => ⟨S8x4096x8x1, .f32⟩
  | .hbm, ⟨41, _⟩ => ⟨S_, .f32⟩
  | .hbm, ⟨42, _⟩ => ⟨S8x4096x8x1, .f32⟩
  | .hbm, ⟨43, _⟩ => ⟨S8x4096x8x1, .f32⟩
  | .hbm, ⟨44, _⟩ => ⟨S_, .f32⟩
  | .hbm, ⟨45, _⟩ => ⟨S8x4096x8x1, .f32⟩
  | .hbm, ⟨46, _⟩ => ⟨S8x4096x8x1, .f32⟩
  | .hbm, ⟨47, _⟩ => ⟨S8x4096x8x1, .f32⟩
  | .hbm, ⟨48, _⟩ => ⟨S8x4096x8x128, .f32⟩
  | .hbm, ⟨49, _⟩ => ⟨S8x4096x8x128, .f32⟩
  | .hbm, ⟨50, _⟩ => ⟨S1x1x1x128, .f32⟩
  | .hbm, ⟨51, _⟩ => ⟨S8x4096x8x128, .f32⟩
  | .hbm, ⟨52, _⟩ => ⟨S8x4096x8x128, .f32⟩
  | .hbm, ⟨53, _⟩ => ⟨S_, .f32⟩
  | .hbm, ⟨54, _⟩ => ⟨S8x4096x8x128, .f32⟩
  | .hbm, ⟨55, _⟩ => ⟨S8x4096x8x128, .f32⟩
  | .hbm, ⟨56, _⟩ => ⟨S8x4096x1024, .f32⟩
  | .hbm, ⟨57, _⟩ => ⟨S8x4096x2x128, .f32⟩
  | .hbm, ⟨58, _⟩ => ⟨S128, .f32⟩
  | .hbm, ⟨59, _⟩ => ⟨S8x4096x2x128, .f32⟩
  | .hbm, ⟨60, _⟩ => ⟨S_, .f32⟩
  | .hbm, ⟨61, _⟩ => ⟨S8x4096x2, .f32⟩
  | .hbm, ⟨62, _⟩ => ⟨S8x4096x2x1, .f32⟩
  | .hbm, ⟨63, _⟩ => ⟨S_, .f32⟩
  | .hbm, ⟨64, _⟩ => ⟨S8x4096x2x1, .f32⟩
  | .hbm, ⟨65, _⟩ => ⟨S8x4096x2x1, .f32⟩
  | .hbm, ⟨66, _⟩ => ⟨S_, .f32⟩
  | .hbm, ⟨67, _⟩ => ⟨S8x4096x2x1, .f32⟩
  | .hbm, ⟨68, _⟩ => ⟨S8x4096x2x1, .f32⟩
  | .hbm, ⟨69, _⟩ => ⟨S8x4096x2x1, .f32⟩
  | .hbm, ⟨70, _⟩ => ⟨S8x4096x2x128, .f32⟩
  | .hbm, ⟨71, _⟩ => ⟨S8x4096x2x128, .f32⟩
  | .hbm, ⟨72, _⟩ => ⟨S1x1x1x128, .f32⟩
  | .hbm, ⟨73, _⟩ => ⟨S8x4096x2x128, .f32⟩
  | .hbm, ⟨74, _⟩ => ⟨S8x4096x2x128, .f32⟩
  | .hbm, ⟨75, _⟩ => ⟨S8x4096x256, .f32⟩
  | .hbm, ⟨76, _⟩ => ⟨S8x4096x2x128, .f32⟩
  | .hbm, ⟨77, _⟩ => ⟨S128, .f32⟩
  | .hbm, ⟨78, _⟩ => ⟨S8x4096x2x128, .f32⟩
  | .hbm, ⟨79, _⟩ => ⟨S_, .f32⟩
  | .hbm, ⟨80, _⟩ => ⟨S8x4096x2, .f32⟩
  | .hbm, ⟨81, _⟩ => ⟨S8x4096x2x1, .f32⟩
  | .hbm, ⟨82, _⟩ => ⟨S_, .f32⟩
  | .hbm, ⟨83, _⟩ => ⟨S8x4096x2x1, .f32⟩
  | .hbm, ⟨84, _⟩ => ⟨S8x4096x2x1, .f32⟩
  | .hbm, ⟨85, _⟩ => ⟨S_, .f32⟩
  | .hbm, ⟨86, _⟩ => ⟨S8x4096x2x1, .f32⟩
  | .hbm, ⟨87, _⟩ => ⟨S8x4096x2x1, .f32⟩
  | .hbm, ⟨88, _⟩ => ⟨S8x4096x2x1, .f32⟩
  | .hbm, ⟨89, _⟩ => ⟨S8x4096x2x128, .f32⟩
  | .hbm, ⟨90, _⟩ => ⟨S8x4096x2x128, .f32⟩
  | .hbm, ⟨91, _⟩ => ⟨S1x1x1x128, .f32⟩
  | .hbm, ⟨92, _⟩ => ⟨S8x4096x2x128, .f32⟩
  | .hbm, ⟨93, _⟩ => ⟨S8x4096x2x128, .f32⟩
  | .hbm, ⟨94, _⟩ => ⟨S8x4096x256, .f32⟩
  | .hbm, ⟨95, _⟩ => ⟨S_, .f32⟩
  | .hbm, ⟨96, _⟩ => ⟨S8x4096x104, .f32⟩
  | .hbm, ⟨97, _⟩ => ⟨S8x4096x5760, .f32⟩
  | .hbm, ⟨98, _⟩ => ⟨S32768x5760, .f32⟩
  | .hbm, ⟨99, _⟩ => ⟨S32768x5760, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x5760 : Shape := ⟨3, ![8, 4096, 5760]⟩
abbrev S1x1024 : Shape := ⟨2, ![1, 1024]⟩
abbrev S1x2048x2048 : Shape := ⟨3, ![1, 2048, 2048]⟩
abbrev S8x4096x2048 : Shape := ⟨3, ![8, 4096, 2048]⟩
abbrev S32768x2048 : Shape := ⟨2, ![32768, 2048]⟩
abbrev S32768x1024 : Shape := ⟨2, ![32768, 1024]⟩
abbrev S32768x5760 : Shape := ⟨2, ![32768, 5760]⟩
abbrev S1024 : Shape := ⟨1, ![1024]⟩
abbrev S2048x2048 : Shape := ⟨2, ![2048, 2048]⟩
abbrev S512x1024 : Shape := ⟨2, ![512, 1024]⟩
abbrev S512x128 : Shape := ⟨2, ![512, 128]⟩
abbrev S2048x512 : Shape := ⟨2, ![2048, 512]⟩
abbrev S512x512 : Shape := ⟨2, ![512, 512]⟩
abbrev S512x2048 : Shape := ⟨2, ![512, 2048]⟩
abbrev S128x1024 : Shape := ⟨2, ![128, 1024]⟩
abbrev S512 : Shape := ⟨1, ![512]⟩
abbrev S512x1 : Shape := ⟨2, ![512, 1]⟩

abbrev nBuf : Space → Nat
  | .hbm => 22
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x5760, .bf16⟩
  | .hbm, ⟨5, _⟩ => ⟨S1x1024, .f32⟩
  | .hbm, ⟨6, _⟩ => ⟨S1x1024, .f32⟩
  | .hbm, ⟨7, _⟩ => ⟨S1x2048x2048, .f32⟩
  | .hbm, ⟨8, _⟩ => ⟨S8x4096x2048, .f32⟩
  | .hbm, ⟨9, _⟩ => ⟨S32768x2048, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x5760, .bf16⟩
  | .hbm, ⟨15, _⟩ => ⟨S1024, .f32⟩
  | .hbm, ⟨16, _⟩ => ⟨S1024, .f32⟩
  | .hbm, ⟨17, _⟩ => ⟨S2048x2048, .f32⟩
  | .hbm, ⟨18, _⟩ => ⟨S2048x2048, .bf16⟩
  | .hbm, ⟨19, _⟩ => ⟨S1x1024, .f32⟩
  | .hbm, ⟨20, _⟩ => ⟨S1x1024, .f32⟩
  | .hbm, ⟨21, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .bf16⟩
  | .local _ .vmem, ⟨9, _⟩ => ⟨S512x128, .bf16⟩
  | .local _ .vmem, ⟨10, _⟩ => ⟨S1x1024, .f32⟩
  | .local _ .vmem, ⟨11, _⟩ => ⟨S1x1024, .f32⟩
  | .local _ .vmem, ⟨12, _⟩ => ⟨S2048x512, .bf16⟩
  | .local _ .vmem, ⟨13, _⟩ => ⟨S2048x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, c44_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4096x1024 : Shape := ⟨3, ![8, 4096, 1024]⟩
abbrev S8x4096x5760 : Shape := ⟨3, ![8, 4096, 5760]⟩
abbrev S1x1024 : Shape := ⟨2, ![1, 1024]⟩
abbrev S1x2048x2048 : Shape := ⟨3, ![1, 2048, 2048]⟩
abbrev S8x4096x2048 : Shape := ⟨3, ![8, 4096, 2048]⟩
abbrev S8x4096x24 : Shape := ⟨3, ![8, 4096, 24]⟩
abbrev S_ : Shape := ⟨0, ![]⟩
abbrev S8x4096x2x4x3 : Shape := ⟨5, ![8, 4096, 2, 4, 3]⟩
abbrev S8x2x4x4096x3 : Shape := ⟨5, ![8, 2, 4, 4096, 3]⟩
abbrev S8x2x4x4096x1 : Shape := ⟨5, ![8, 2, 4, 4096, 1]⟩
abbrev S8x4096x2x4x128 : Shape := ⟨5, ![8, 4096, 2, 4, 128]⟩
abbrev S8x2x4x4096x128 : Shape := ⟨5, ![8, 2, 4, 4096, 128]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S2048x2048 : Shape := ⟨2, ![2048, 2048]⟩
abbrev S32768x2048 : Shape := ⟨2, ![32768, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x5760, .bf16⟩
  | .hbm, ⟨5, _⟩ => ⟨S1x1024, .f32⟩
  | .hbm, ⟨6, _⟩ => ⟨S1x1024, .f32⟩
  | .hbm, ⟨7, _⟩ => ⟨S1x2048x2048, .f32⟩
  | .hbm, ⟨8, _⟩ => ⟨S8x4096x2048, .f32⟩
  | .hbm, ⟨9, _⟩ => ⟨S8x4096x24, .bf16⟩
  | .hbm, ⟨10, _⟩ => ⟨S8x4096x24, .f32⟩
  | .hbm, ⟨11, _⟩ => ⟨S8x4096x24, .f32⟩
  | .hbm, ⟨12, _⟩ => ⟨S8x4096x24, .f32⟩
  | .hbm, ⟨13, _⟩ => ⟨S_, .f32⟩
  | .hbm, ⟨14, _⟩ => ⟨S8x4096x24, .f32⟩
  | .hbm, ⟨15, _⟩ => ⟨S8x4096x24, .f32⟩
  | .hbm, ⟨16, _⟩ => ⟨S_, .f32⟩
  | .hbm, ⟨17, _⟩ => ⟨S8x4096x24, .f32⟩
  | .hbm, ⟨18, _⟩ => ⟨S8x4096x24, .f32⟩
  | .hbm, ⟨19, _⟩ => ⟨S8x4096x2x4x3, .f32⟩
  | .hbm, ⟨20, _⟩ => ⟨S8x2x4x4096x3, .f32⟩
  | .hbm, ⟨21, _⟩ => ⟨S8x2x4x4096x1, .f32⟩
  | .hbm, ⟨22, _⟩ => ⟨S8x4096x2x4x128, .f32⟩
  | .hbm, ⟨23, _⟩ => ⟨S8x2x4x4096x128, .f32⟩
  | .hbm, ⟨24, _⟩ => ⟨S8x2x4x4096x128, .f32⟩
  | .hbm, ⟨25, _⟩ => ⟨S8x2x4x4096x128, .f32⟩
  | .hbm, ⟨26, _⟩ => ⟨S8x2x4x4096x1, .f32⟩
  | .hbm, ⟨27, _⟩ => ⟨S8x4096x2x4x128, .f32⟩
  | .hbm, ⟨28, _⟩ => ⟨S8x2x4x4096x128, .f32⟩
  | .hbm, ⟨29, _⟩ => ⟨S8x2x4x4096x128, .f32⟩
  | .hbm, ⟨30, _⟩ => ⟨S8x2x4x4096x128, .f32⟩
  | .hbm, ⟨31, _⟩ => ⟨S8x2x4x4096x128, .f32⟩
  | .hbm, ⟨32, _⟩ => ⟨S8x2x4x4096x1, .f32⟩
  | .hbm, ⟨33, _⟩ => ⟨S8x4096x2x4x128, .f32⟩
  | .hbm, ⟨34, _⟩ => ⟨S8x2x4x4096x128, .f32⟩
  | .hbm, ⟨35, _⟩ => ⟨S8x2x4x4096x128, .f32⟩
  | .hbm, ⟨36, _⟩ => ⟨S8x2x4x4096x128, .f32⟩
  | .hbm, ⟨37, _⟩ => ⟨S8x2x4x4096x128, .f32⟩
  | .hbm, ⟨38, _⟩ => ⟨S8x4096x2x4x128, .f32⟩
  | .hbm, ⟨39, _⟩ => ⟨S8x4096x1024, .f32⟩
  | .hbm, ⟨40, _⟩ => ⟨S1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S8x4096x2048, .f32⟩
  | .hbm, ⟨75, _⟩ => ⟨S2048x2048, .f32⟩
  | .hbm, ⟨76, _⟩ => ⟨S8x4096x2048, .f32⟩
  | .hbm, ⟨77, _⟩ => ⟨S8x4096x2048, .f32⟩
  | .hbm, ⟨78, _⟩ => ⟨S32768x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel4.lean ====
abbrev S8x4096x2048 : Shape := ⟨3, ![8, 4096, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S32768x2048 : Shape := ⟨2, ![32768, 2048]⟩
abbrev S2048 : Shape := ⟨1, ![2048]⟩
abbrev S2048x2048 : Shape := ⟨2, ![2048, 2048]⟩
abbrev S8x2x128x128 : Shape := ⟨4, ![8, 2, 128, 128]⟩
abbrev S2048x16x128 : Shape := ⟨3, ![2048, 16, 128]⟩
abbrev S16x2048x128 : Shape := ⟨3, ![16, 2048, 128]⟩
abbrev S16x128x128 : Shape := ⟨3, ![16, 128, 128]⟩
abbrev S2048x32768 : Shape := ⟨2, ![2048, 32768]⟩
abbrev S32768x128 : Shape := ⟨2, ![32768, 128]⟩
abbrev S256x2048 : Shape := ⟨2, ![256, 2048]⟩
abbrev S2048x256 : Shape := ⟨2, ![2048, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S1x2048x128 : Shape := ⟨3, ![1, 2048, 128]⟩
abbrev S2048x128 : Shape := ⟨2, ![2048, 128]⟩
abbrev S1x128x128 : Shape := ⟨3, ![1, 128, 128]⟩
abbrev S128x128 : Shape := ⟨2, ![128, 128]⟩
abbrev S1x256 : Shape := ⟨2, ![1, 256]⟩
abbrev S16x256 : Shape := ⟨2, ![16, 256]⟩
abbrev S8x256 : Shape := ⟨2, ![8, 256]⟩
abbrev S80x256 : Shape := ⟨2, ![80, 256]⟩

abbrev nBuf : Space → Nat
  | .hbm => 17
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x2048, .f32⟩
  | .hbm, ⟨3, _⟩ => ⟨S1x8x2x128x128, .f32⟩
  | .hbm, ⟨4, _⟩ => ⟨S32768x2048, .f32⟩
  | .hbm, ⟨5, _⟩ => ⟨S2048, .f32⟩
  | .hbm, ⟨6, _⟩ => ⟨S2048x2048, .f32⟩
  | .hbm, ⟨7, _⟩ => ⟨S8x2x128x128, .f32⟩
  | .hbm, ⟨8, _⟩ => ⟨S2048x16x128, .f32⟩
  | .hbm, ⟨9, _⟩ => ⟨S16x2048x128, .f32⟩
  | .hbm, ⟨10, _⟩ => ⟨S16x2048x128, .bf16⟩
  | .hbm, ⟨11, _⟩ => ⟨S16x128x128, .f32⟩
  | .hbm, ⟨12, _⟩ => ⟨S16x128x128, .bf16⟩
  | .hbm, ⟨13, _⟩ => ⟨S1x2048, .f32⟩
  | .hbm, ⟨14, _⟩ => ⟨S2048x32768, .bf16⟩
  | .hbm, ⟨15, _⟩ => ⟨S32768x128, .i32⟩
  | .hbm, ⟨16, _⟩ => ⟨S32768x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S16x2048x128, .bf16⟩
  | .local _ .vmem, ⟨4, _⟩ => ⟨S16x128x128, .bf16⟩
  | .local _ .vmem, ⟨5, _⟩ => ⟨S2048x256, .bf16⟩
  | .local _ .vmem, ⟨6, _⟩ => ⟨S2048x256, .bf16⟩
  | .local _ .vmem, ⟨7, _⟩ => ⟨S256x128, .i32⟩
  | .local _ .vmem, ⟨8, _⟩ => ⟨S256x128, .i32⟩
  | .local _ .vmem, ⟨9, _⟩ => ⟨S256x128, .f32⟩
  | .local _ .vmem, ⟨10, _⟩ => ⟨S256x128, .f32⟩
  | .local _ .vmem, ⟨11, _⟩ => ⟨S128x256, .f32⟩
  | .local _ .vmem, ⟨12, _⟩ => ⟨S128x256, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v22 : BitVec 32 := Scalar.addi c0_i32 c8_i32
  let c1_i32 : BitVec 32 := 1#32
  ⟨c0_i32, v22, c1_i32⟩
def k0_off1 (k0_t1 : Fin k0_t1_loop.trips) (c0_i32_16 : BitVec 32) : Fin 3 → Nat :=
  let c0_i32 : BitVec 32 := 0#32
  let c1_i32 : BitVec 32 := 1#32
  let arg10 : BitVec 32 := Scf.iv c0_i32 c1_i32 k0_t1
  let c2_i32 : BitVec 32 := 2#32
  let v30 : BitVec 32 := Scalar.muli arg10 c2_i32
  let v31 : BitVec 32 := Scalar.addi v30 c0_i32_16
  let v32 : Index := Scalar.indexCast v31
  let c0_17 : Index := 0#32
  let c0_18 : Index := 0#32
  ![v32.toNat, 0, 0]
def k0_off2 (k0_t1 : Fin k0_t1_loop.trips) (c0_i32_16 : BitVec 32) : Fin 3 → Nat :=
  let c0_i32 : BitVec 32 := 0#32
  let c1_i32 : BitVec 32 := 1#32
  let arg10 : BitVec 32 := Scf.iv c0_i32 c1_i32 k0_t1
  let c2_i32 : BitVec 32 := 2#32
  let v30 : BitVec 32 := Scalar.muli arg10 c2_i32
  let v31 : BitVec 32 := Scalar.addi v30 c0_i32_16
  let v37 : Index := Scalar.indexCast v31
  let c0_20 : Index := 0#32
  let c0_21 : Index := 0#32
  ![v37.toNat, 0, 0]
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c16_i32 : BitVec 32 := 16#32
  let v836 : BitVec 32 := Scalar.muli arg10 c16_i32
  v836
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c16_i32 : BitVec 32 := 16#32
  let v836 : BitVec 32 := Scalar.muli arg10 c16_i32
  let v837 : BitVec 32 := v836
  let v839 : Index := Scalar.indexCast v837
  let c0_285 : Index := 0#32
  ![v839.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x4096x2048 : Shape := ⟨3, ![8, 4096, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩
abbrev S2048x2048 : Shape := ⟨2, ![2048, 2048]⟩
abbrev S32768x8x2x128 : Shape := ⟨4, ![32768, 8, 2, 128]⟩
abbrev S8x2x128x128 : Shape := ⟨4, ![8, 2, 128, 128]⟩
abbrev S8x2x128x32768 : Shape := ⟨4, ![8, 2, 128, 32768]⟩
abbrev S32768x8x2x16 : Shape := ⟨4, ![32768, 8, 2, 16]⟩
abbrev S32768x8x1x16 : Shape := ⟨4, ![32768, 8, 1, 16]⟩
abbrev S32768x8x16 : Shape := ⟨3, ![32768, 8, 16]⟩
abbrev S32768x8x16x1 : Shape := ⟨4, ![32768, 8, 16, 1]⟩
abbrev S32768x8x16x16 : Shape := ⟨4, ![32768, 8, 16, 16]⟩
abbrev S32768x8x256 : Shape := ⟨3, ![32768, 8, 256]⟩
abbrev S1 : Shape := ⟨1, ![1]⟩
abbrev S1x1x1x1 : Shape := ⟨4, ![1, 1, 1, 1]⟩
abbrev S32768x8 : Shape := ⟨2, ![32768, 8]⟩
abbrev S32768x8x1 : Shape := ⟨3, ![32768, 8, 1]⟩
abbrev S2048x32768 : Shape := ⟨2, ![2048, 32768]⟩
abbrev S32768x128 : Shape := ⟨2, ![32768, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x2048, .f32⟩
  | .hbm, ⟨3, _⟩ => ⟨S1x8x2x128x128, .f32⟩
  | .hbm, ⟨4, _⟩ => ⟨S2048, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S32768x2048, .f32⟩
  | .hbm, ⟨22, _⟩ => ⟨S2048x2048, .f32⟩
  | .hbm, ⟨23, _⟩ => ⟨S32768x2048, .f32⟩
  | .hbm, ⟨24, _⟩ => ⟨S32768x8x2x128, .f32⟩
  | .hbm, ⟨25, _⟩ => ⟨S8x2x128x128, .f32⟩
  | .hbm, ⟨26, _⟩ => ⟨S8x2x128x32768, .f32⟩
  | .hbm, ⟨27, _⟩ => ⟨S32768x8x2x128, .f32⟩
  | .hbm, ⟨28, _⟩ => ⟨S32768x8x2x16, .f32⟩
  | .hbm, ⟨29, _⟩ => ⟨S32768x8x2x16, .i32⟩
  | .hbm, ⟨30, _⟩ => ⟨S32768x8x1x16, .f32⟩
  | .hbm, ⟨31, _⟩ => ⟨S32768x8x16, .f32⟩
  | .hbm, ⟨32, _⟩ => ⟨S32768x8x16x1, .f32⟩
  | .hbm, ⟨33, _⟩ => ⟨S32768x8x1x16, .f32⟩
  | .hbm, ⟨34, _⟩ => ⟨S32768x8x16, .f32⟩
  | .hbm, ⟨35, _⟩ => ⟨S32768x8x1x16, .f32⟩
  | .hbm, ⟨36, _⟩ => ⟨S32768x8x16x16, .f32⟩
  | .hbm, ⟨37, _⟩ => ⟨S32768x8x16x16, .f32⟩
  | .hbm, ⟨38, _⟩ => ⟨S32768x8x16x16, .f32⟩
  | .hbm, ⟨39, _⟩ => ⟨S32768x8x256, .f32⟩
  | .hbm, ⟨40, _⟩ => ⟨S32768x8x1x16, .i32⟩
  | .hbm, ⟨41, _⟩ => ⟨S32768x8x16, .i32⟩
  | .hbm, ⟨42, _⟩ => ⟨S32768x8x16x1, .i32⟩
  | .hbm, ⟨43, _⟩ => ⟨S_, .i32⟩
  | .hbm, ⟨44, _⟩ => ⟨S32768x8x16x1, .i32⟩
  | .hbm, ⟨45, _⟩ => ⟨S32768x8x16x1, .i32⟩
  | .hbm, ⟨46, _⟩ => ⟨S32768x8x1x16, .i32⟩
  | .hbm, ⟨47, _⟩ => ⟨S32768x8x16, .i32⟩
  | .hbm, ⟨48, _⟩ => ⟨S32768x8x1x16, .i32⟩
  | .hbm, ⟨49, _⟩ => ⟨S32768x8x16x16, .i32⟩
  | .hbm, ⟨50, _⟩ => ⟨S32768x8x16x16, .i32⟩
  | .hbm, ⟨51, _⟩ => ⟨S32768x8x16x16, .i32⟩
  | .hbm, ⟨52, _⟩ => ⟨S32768x8x256, .i32⟩
  | .hbm, ⟨53, _⟩ => ⟨S32768x8x16, .f32⟩
  | .hbm, ⟨54, _⟩ => ⟨S32768x8x16, .i32⟩
  | .hbm, ⟨55, _⟩ => ⟨S_, .i32⟩
  | .hbm, ⟨56, _⟩ => ⟨S32768x8x16, .i32⟩
  | .hbm, ⟨57, _⟩ => ⟨S32768x8x16, .i1⟩
  | .hbm, ⟨58, _⟩ => ⟨S_, .i32⟩
  | .hbm, ⟨59, _⟩ => ⟨S32768x8x16, .i32⟩
  | .hbm, ⟨60, _⟩ => ⟨S32768x8x16, .i32⟩
  | .hbm, ⟨61, _⟩ => ⟨S32768x8x16, .i32⟩
  | .hbm, ⟨62, _⟩ => ⟨S32768x8x16x1, .i32⟩
  | .hbm, ⟨63, _⟩ => ⟨S1, .i32⟩
  | .hbm, ⟨64, _⟩ => ⟨S_, .i32⟩
  | .hbm, ⟨65, _⟩ => ⟨S32768x8x16x1, .i32⟩
  | .hbm, ⟨66, _⟩ => ⟨S32768x8x16x1, .i1⟩
  | .hbm, ⟨67, _⟩ => ⟨S1x1x1x1, .i32⟩
  | .hbm, ⟨68, _⟩ => ⟨S32768x8x16x1, .i32⟩
  | .hbm, ⟨69, _⟩ => ⟨S32768x8x16x1, .i1⟩
  | .hbm, ⟨70, _⟩ => ⟨S32768x8x16x1, .i1⟩
  | .hbm, ⟨71, _⟩ => ⟨S_, .i1⟩
  | .hbm, ⟨72, _⟩ => ⟨S32768x8x16, .i1⟩
  | .hbm, ⟨73, _⟩ => ⟨S32768x8x16, .i32⟩
  | .hbm, ⟨74, _⟩ => ⟨S_, .i32⟩
  | .hbm, ⟨75, _⟩ => ⟨S32768x8x16, .i32⟩
  | .hbm, ⟨76, _⟩ => ⟨S32768x8x16, .i32⟩
  | .hbm, ⟨77, _⟩ => ⟨S_, .f32⟩
  | .hbm, ⟨78, _⟩ => ⟨S32768x8, .f32⟩
  | .hbm, ⟨79, _⟩ => ⟨S_, .f32⟩
  | .hbm, ⟨80, _⟩ => ⟨S32768x8, .f32⟩
  | .hbm, ⟨81, _⟩ => ⟨S32768x8, .f32⟩
  | .hbm, ⟨82, _⟩ => ⟨S32768x8x1, .f32⟩
  | .hbm, ⟨83, _⟩ => ⟨S32768x8x16, .f32⟩
  | .hbm, ⟨84, _⟩ => ⟨S32768x8x16, .f32⟩
  | .hbm, ⟨85, _⟩ => ⟨S32768x8x16, .f32⟩
  | .hbm, ⟨86, _⟩ => ⟨S_, .f32⟩
  | .hbm, ⟨87, _⟩ => ⟨S32768x8, .f32⟩
  | .hbm, ⟨88, _⟩ => ⟨S32768x8x1, .f32⟩
  | .hbm, ⟨89, _⟩ => ⟨S32768x8x16, .f32⟩
  | .hbm, ⟨90, _⟩ => ⟨S32768x8x16, .f32⟩
  | .hbm, ⟨91, _⟩ => ⟨S2048x32768, .f32⟩
  | .hbm, ⟨92, _⟩ => ⟨S2048x32768, .bf16⟩
  | .hbm, ⟨93, _⟩ => ⟨S32768x128, .i32⟩
  | .hbm, ⟨94, _⟩ => ⟨S32768x128, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_values_2 : Ref sig .tc := ⟨.hbm, 53, rfl⟩
abbrev main_indices_3 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_c_4 : Ref sig .tc := ⟨.hbm, 74, rfl⟩
abbrev main_call0_v14 : Ref sig .tc := ⟨.hbm, 75, rfl⟩
abbrev main_v43 : Ref sig .tc := ⟨.hbm, 76, rfl⟩
abbrev main_cst_4 : Ref sig .tc := ⟨.hbm, 77, rfl⟩
abbrev main_v44 : Ref sig .tc := ⟨.hbm, 78, rfl⟩
abbrev main_cst_5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩

abbrev nD : Nat := 1
abbrev τ : Topo := Topo.v7x

variable {F : FTy → Type} [FloatOps F]
-- ==== Proof.Ideal.Loop.lean ====
/-
  The stick-breaking kernel's loop over the earlier pairs of key tiles. The loop's function is met by a
  specification at "`k` pairs still to go": holding the whole key and value blocks and the two scratch buffers at
  the running total and the accumulated rows, it ends with the accumulated rows `loopAcc` names.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants: natural numbers (the pairs of tiles still to go). -/
abbrev 𝒱₀ : Variants := Variants.nat

/-! ## Tiles of the key and value blocks -/

theorem rT_inb (j : ℕ) : ∀ a, (![0, (j % 32) * 128, 0] : Fin 3 → ℕ) a + S1x128x128.size a ≤ S1x4096x128.size a := by
  intro a
  have h := Nat.mod_lt j (by decide : 32 > 0)
  fin_cases a
  · show 0 + 1 ≤ 1; omega
  · show (j % 32) * 128 + 128 ≤ 4096; omega
  · show 0 + 128 ≤ 128; omega

/-- The rectangle of tile `j`: 128 rows of the block. -/
abbrev rT (j : ℕ) : Rect S1x4096x128 := Rect.unit (s := S1x4096x128) ![0, (j % 32) * 128, 0] S1x128x128.size (rT_inb j)

/-- Tile `j` of a block of 4096 rows. -/
def tile (X : Vec F S1x4096x128 .bf16) (j : ℕ) : Vec F S1x128x128 .bf16 := View.ld X (rT j)

theorem load_tile {κ' : Kind} (m : Memref sig κ' .vmem S1x4096x128 .bf16) (f : m.view.ty.Contents (Elt F)) {X : Vec F S1x4096x128 .bf16}
    (hf : m.view.read (Elt F) f = X) {off : Fin 3 → ℕ} (j : ℕ) (hoff : off = ![0, (j % 32) * 128, 0])
    (inb : ∀ a, off a + S1x128x128.size a ≤ S1x4096x128.size a) :
    m.view.readAt (Elt F) (Rect.unit (s := S1x4096x128) off S1x128x128.size inb).toLoadRect f = tile X j := by
  subst hoff; subst hf; rfl

/-! ## The loop's counter -/

/-- The counter with `k` pairs to go: `2 k - 1`. -/
abbrev kW (k : ℕ) : BitVec 32 := Scalar.subi (Scalar.muli (BitVec.ofNat 32 k) 2#32) 1#32

theorem kW_test_succ : ∀ n : Fin 16, Scalar.cmpi .sge (kW (n.val + 1)) 0#32 = 1#1 := by decide +kernel
theorem kW_test_zero : Scalar.cmpi .sge (kW 0) 0#32 = 0#1 := by decide +kernel
theorem kW_next : ∀ n : Fin 16, Scalar.subi (kW (n.val + 1)) 2#32 = kW n.val := by decide +kernel
theorem kW_off3 : ∀ n : Fin 16, k0_off3 (kW (n.val + 1)) = ![0, ((2 * n.val + 1) % 32) * 128, 0] := by decide +kernel
theorem kW_off4 : ∀ n : Fin 16, k0_off4 (kW (n.val + 1)) = ![0, ((2 * n.val) % 32) * 128, 0] := by decide +kernel
theorem kW_chk : ∀ n : Fin 16, k0_chk1 (kW (n.val + 1)) := by
  intro n; unfold k0_chk1; revert n; decide +kernel
theorem kW_live : ∀ n : Fin 16, Scalar.cmpi .sge (Scalar.subi (kW (n.val + 1)) 1#32) 0#32 = 1#1 := by decide +kernel

/-! ## One trip -/

/-- The early exit's test on the largest running total. -/
def goOn (mx : F .f32) : BitVec 1 := Scalar.cmpf .ogt mx (Named.named κ "gone" 0xC2D00000#32)

/-- The accumulated rows after the pair of tiles `2 n + 1`, `2 n`. -/
def stepAcc (v1 : FVec F S256x128 .bf16) (v35 : FVec F S256x256 .bf16) (K V : Vec F S1x4096x128 .bf16) (n : ℕ)
    (cc acc : FVec F S256x128 .f32) : FVec F S256x128 .f32 :=
  k0_pay3 (k0_pay31 (tile V (2 * n + 1))) (k0_pay37 1#1) (k0_pay38 (tile V (2 * n))) (k0_pay42 v1 v35 1#1 (tile K (2 * n)))
    (k0_pay44 (k0_pay35 v1 v35 (tile K (2 * n + 1))) cc) (k0_pay45 (k0_pay36 v1 v35 (tile K (2 * n + 1))) cc) acc

/-- The running total after it, -/
def stepC (v1 : FVec F S256x128 .bf16) (v35 : FVec F S256x256 .bf16) (K : Vec F S1x4096x128 .bf16) (n : ℕ)
    (cc : FVec F S256x128 .f32) : FVec F S256x128 .f32 :=
  k0_pay5 (k0_pay36 v1 v35 (tile K (2 * n + 1))) (k0_pay43 v1 v35 1#1 (tile K (2 * n))) cc

/-- and its largest entry. -/
def stepMax (v1 : FVec F S256x128 .bf16) (v35 : FVec F S256x256 .bf16) (K : Vec F S1x4096x128 .bf16) (n : ℕ)
    (cc : FVec F S256x128 .f32) : F .f32 :=
  k0_pay6 (k0_pay36 v1 v35 (tile K (2 * n + 1))) (k0_pay43 v1 v35 1#1 (tile K (2 * n))) cc

/-- The accumulated rows when the loop ends, `k` pairs to go. -/
def loopAcc (v1 : FVec F S256x128 .bf16) (v35 : FVec F S256x256 .bf16) (K V : Vec F S1x4096x128 .bf16) :
    ℕ → F .f32 → FVec F S256x128 .f32 → FVec F S256x128 .f32 → FVec F S256x128 .f32
  | 0, _, _, acc => acc
  | n + 1, mx, cc, acc => if goOn mx = 1#1 then
      loopAcc v1 v35 K V n (stepMax v1 v35 K n cc) (stepC v1 v35 K n cc) (stepAcc v1 v35 K V n cc acc) else acc

/-! ## The loop's specification -/

/-- The scratch operands. -/
abbrev scC : Memref sig .tc .vmem S256x128 .f32 := Memref.whole cc0_scratch0
abbrev scA : Memref sig .tc .vmem S256x128 .f32 := Memref.whole cc0_scratch1

theorem zero2 : (![0, 0] : Fin 2 → ℕ) = fun _ => 0 := funext fun a => by fin_cases a <;> rfl
theorem zero3 : (![0, 0, 0] : Fin 3 → ℕ) = fun _ => 0 := funext fun a => by fin_cases a <;> rfl

theorem load_scC (f : FVec F S256x128 .f32) :
    (scC : Memref sig .tc .vmem S256x128 .f32).view.readAt (Elt F) (Rect.unit (s := S256x128) ![0, 0] S256x128.size inb_S256x128_S256x128_0_0).toLoadRect f = f :=
  Memref.readAt_unit_zero (Elt F) cc0_scratch0 zero2 _ f
theorem load_scA (f : FVec F S256x128 .f32) :
    (scA : Memref sig .tc .vmem S256x128 .f32).view.readAt (Elt F) (Rect.unit (s := S256x128) ![0, 0] S256x128.size inb_S256x128_S256x128_0_0).toLoadRect f = f :=
  Memref.readAt_unit_zero (Elt F) cc0_scratch1 zero2 _ f
theorem store_scC (f w : FVec F S256x128 .f32) :
    ((scC : Memref sig .tc .vmem S256x128 .f32).access (Rect.unit (s := S256x128) ![0, 0] S256x128.size inb_S256x128_S256x128_0_0) : View sig .tc _ _ _).write (Elt F) f w Finset.univ = w :=
  Memref.write_access_unit_zero_univ (Elt F) cc0_scratch0 zero2 _ f w
theorem store_scA (f w : FVec F S256x128 .f32) :
    ((scA : Memref sig .tc .vmem S256x128 .f32).access (Rect.unit (s := S256x128) ![0, 0] S256x128.size inb_S256x128_S256x128_0_0) : View sig .tc _ _ _).write (Elt F) f w Finset.univ = w :=
  Memref.write_access_unit_zero_univ (Elt F) cc0_scratch1 zero2 _ f w

section Label

variable (c : Dev nD) (i : grid0.Coords)
  (arg4 : Memref sig .tc .vmem S1x4096x128 .bf16) (harg4 : arg4.IsWhole) (arg5 : Memref sig .tc .vmem S1x4096x128 .bf16) (harg5 : arg5.IsWhole)
  (v1 : FVec F S256x128 .bf16) (v35 : FVec F S256x256 .bf16) (K V : Vec F S1x4096x128 .bf16)

/-- What the loop holds: the key and value blocks, and the scratch buffers at `cc` and `acc`. -/
def held (cc acc : FVec F S256x128 .f32) : sProp 𝕄 :=
  iprop(owns (c : Thread nD τ) arg4 fullShare K ∗ owns (c : Thread nD τ) arg5 fullShare V
    ∗ ((c : Thread nD τ).loc cc0_scratch0 ↦{fullShare} cc) ∗ ((c : Thread nD τ).loc cc0_scratch1 ↦{fullShare} acc))

/-- The specification with `k` pairs to go. -/
def spec (k : ℕ) (mx : F .f32) (cc acc : FVec F S256x128 .f32) : sWPT 𝕄 (BitVec 32 × F .f32) := do
  sWPT.consume (held c arg4 arg5 K V cc acc)
  let r ← sWPT.arbitrary
  sWPT.produce (iprop(∃ cc', held c arg4 arg5 K V cc' (loopAcc v1 v35 K V k mx cc acc)))
  pure r

theorem spec_apply (k : ℕ) (mx : F .f32) (cc acc : FVec F S256x128 .f32) (Q : BitVec 32 × F .f32 → sProp 𝕄) :
    spec c arg4 arg5 v1 v35 K V k mx cc acc Q
      = iprop(held c arg4 arg5 K V cc acc ∗ ∀ r : BitVec 32 × F .f32,
          ((∃ cc', held c arg4 arg5 K V cc' (loopAcc v1 v35 K V k mx cc acc)) -∗ Q r)) := rfl

set_option maxHeartbeats 1000000 in
/-- The loop's function meets its specification, by induction on the pairs to go. -/
theorem spec_le (E : Set ℕ) :
    ∀ k, k ≤ 16 → ∀ (mx : F .f32) (cc acc : FVec F S256x128 .f32) (Q : BitVec 32 × F .f32 → sProp 𝕄),
      spec c arg4 arg5 v1 v35 K V k mx cc acc Q
      ⊢ wp frame (wpE (defs₀ (F := F)) 𝒱₀ (c : Thread nD τ) (some k)) E
          (defs₀ (F := F) .tc 1 ⟨i, arg4, harg4, arg5, harg5, v1, v35, scC, Memref.isWhole_whole _, scA, Memref.isWhole_whole _, kW k, mx⟩) Q := by
  intro k
  induction k with
  | zero =>
    intro hk mx cc acc Q
    rw [spec_apply]
    show _ ⊢ wp frame (wpE (defs₀ (F := F)) 𝒱₀ (c : Thread nD τ) (some 0)) E
      (cc0_while1 i arg4 harg4 arg5 harg5 v1 v35 scC (Memref.isWhole_whole _) scA (Memref.isWhole_whole _) (kW 0) mx) Q
    simp only [cc0_while1_eq_skeleton]; unfold cc0_while1_skel
    have htest : ¬ (Scalar.andi (Scalar.cmpi .sge (kW 0) 0#32) (Scalar.cmpf .ogt mx (Named.named κ "gone" 0xC2D00000#32)) = 1#1) := by
      rw [kW_test_zero]; generalize Scalar.cmpf .ogt mx (Named.named κ "gone" 0xC2D00000#32) = b; revert b; decide
    simp only [htest, ↓reduceIte, Prog.pure_eq_ret]
    iintro ⟨H, Hk⟩
    rw [wp_ret]; imodintro
    iapply Hk
    iexists _
    simp only [loopAcc]; iexact H
  | succ n ih =>
    intro hk mx cc acc Q
    have hn : n < 16 := by omega
    rw [spec_apply]
    show _ ⊢ wp frame (wpE (defs₀ (F := F)) 𝒱₀ (c : Thread nD τ) (some (n + 1))) E
      (cc0_while1 i arg4 harg4 arg5 harg5 v1 v35 scC (Memref.isWhole_whole _) scA (Memref.isWhole_whole _) (kW (n + 1)) mx) Q
    simp only [cc0_while1_eq_skeleton]; unfold cc0_while1_skel
    have hand : Scalar.andi (Scalar.cmpi .sge (kW (n + 1)) 0#32) (Scalar.cmpf .ogt mx (Named.named κ "gone" 0xC2D00000#32)) = goOn mx := by
      unfold goOn
      rw [kW_test_succ ⟨n, hn⟩]; generalize Scalar.cmpf .ogt mx (Named.named κ "gone" 0xC2D00000#32) = b; revert b; decide
    simp only [hand]
    by_cases hg : goOn mx = 1#1
    · simp only [hg, ↓reduceIte]
      simp only [k0_part5_eq_skeleton, k0_part6_eq_skeleton]; unfold k0_part5_skel k0_part6_skel
      simp only [Prog.lift, Prog.bind_op, Prog.bind_ret, Prog.pure_eq_ret]
      unfold held owns
      iintro ⟨⟨⟨%f4, %h4, H4⟩, ⟨%f5, %h5, H5⟩, HC, HA⟩, Hk⟩
      iapply (wp_assume 𝒱₀ (c : Thread nD τ) (some (n + 1)) E (kW_chk ⟨n, hn⟩))
      iapply (wp_load 𝒱₀ (c : Thread nD τ) (some (n + 1)) E (m := arg4) (View.setOn_subset_set _ _)) $$ H4; iintro H4
      iapply (wp_load 𝒱₀ (c : Thread nD τ) (some (n + 1)) E (m := arg5) (View.setOn_subset_set _ _)) $$ H5; iintro H5
      iapply (wp_load 𝒱₀ (c : Thread nD τ) (some (n + 1)) E (m := arg4) (View.setOn_subset_set _ _)) $$ H4; iintro H4
      iapply (wp_load 𝒱₀ (c : Thread nD τ) (some (n + 1)) E (m := arg5) (View.setOn_subset_set _ _)) $$ H5; iintro H5
      rw [load_tile arg4 f4 h4 (2 * n + 1) (kW_off3 ⟨n, hn⟩), load_tile arg5 f5 h5 (2 * n + 1) (kW_off3 ⟨n, hn⟩),
        load_tile arg4 f4 h4 (2 * n) (kW_off4 ⟨n, hn⟩), load_tile arg5 f5 h5 (2 * n) (kW_off4 ⟨n, hn⟩)]
      iapply (wp_load 𝒱₀ (c : Thread nD τ) (some (n + 1)) E (m := scC) (Finset.subset_univ _)) $$ HC; iintro HC
      iapply (wp_load 𝒱₀ (c : Thread nD τ) (some (n + 1)) E (m := scA) (Finset.subset_univ _)) $$ HA; iintro HA
      iapply (wp_load 𝒱₀ (c : Thread nD τ) (some (n + 1)) E (m := scA) (Finset.subset_univ _)) $$ HA; iintro HA
      rw [load_scC, load_scA]
      iapply (wp_store 𝒱₀ (c : Thread nD τ) (some (n + 1)) E (m := scA) (r := Rect.unit (s := S256x128) ![0, 0] S256x128.size inb_S256x128_S256x128_0_0) (Mk := Finset.univ) (Finset.subset_univ _)) $$ HA; iintro HA
      rw [store_scA]
      iapply (wp_load 𝒱₀ (c : Thread nD τ) (some (n + 1)) E (m := scC) (Finset.subset_univ _)) $$ HC; iintro HC
      iapply (wp_store 𝒱₀ (c : Thread nD τ) (some (n + 1)) E (m := scC) (r := Rect.unit (s := S256x128) ![0, 0] S256x128.size inb_S256x128_S256x128_0_0) (Mk := Finset.univ) (Finset.subset_univ _)) $$ HC; iintro HC
      rw [store_scC, kW_next ⟨n, hn⟩, kW_live ⟨n, hn⟩]
      iapply (wp_call_spec 𝒱₀ (c : Thread nD τ) (some (n + 1)) E
        (spec c arg4 arg5 v1 v35 K V n (stepMax v1 v35 K n cc) (stepC v1 v35 K n cc) (stepAcc v1 v35 K V n cc acc)) n
        (fun u hu => by cases hu; exact Nat.lt_succ_self n)
        (ih (by omega) (stepMax v1 v35 K n cc) (stepC v1 v35 K n cc) (stepAcc v1 v35 K V n cc acc)))
      rw [spec_apply]; unfold held owns
      isplitl [H4 H5 HC HA]
      · isplitl [H4]
        · iexists _; isplitr; · ipureintro; exact h4
          iexact H4
        isplitl [H5]
        · iexists _; isplitr; · ipureintro; exact h5
          iexact H5
        isplitl [HC]; · iexact HC
        iexact HA
      iintro %r H
      rw [wp_ret]; imodintro
      iapply Hk
      simp only [loopAcc, hg, ↓reduceIte]
      iexact H
    · simp only [hg, ↓reduceIte, Prog.pure_eq_ret]
      iintro ⟨H, Hk⟩
      rw [wp_ret]; imodintro
      iapply Hk
      iexists _
      simp only [loopAcc, hg, ↓reduceIte]; iexact H

end Label

end Cert.KernelIdeal.Run

end
-- ==== Proof.Ideal.Body.lean ====
/-
  The stick-breaking kernel's body at one grid point: the masked pair of tiles on the diagonal, the loop over the
  earlier pairs (`Loop.lean`), and the accumulated rows stored as the result's block.
-/
module

public import proofs.«01_k».proof.Proof.Ideal.Loop

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The diagonal pair -/

/-- The row block's word. -/
abbrev bW (b : ℕ) : BitVec 32 := BitVec.ofNat 32 b
/-- The upper tile's word, -/
abbrev hiW (b : ℕ) : BitVec 32 := Scalar.addi (Scalar.muli (bW b) 2#32) 1#32
/-- and the lower tile's. -/
abbrev loW (b : ℕ) : BitVec 32 := Scalar.subi (hiW b) 1#32
/-- Row numbers, -/
abbrev rows : IVec S256x128 32 := iota .tc S256x128 32 [0] iota_S256x128_d0_w32
/-- and column numbers. -/
abbrev cols : IVec S256x128 32 := iota .tc S256x128 32 [1] iota_S256x128_d1_w32

/-- The accumulated rows after the masked pair `2 b + 1`, `2 b`. -/
def pairAcc (b : ℕ) (q : FVec F S256x128 .bf16) (K V : Vec F S1x4096x128 .bf16) : FVec F S256x128 .f32 :=
  k0_pay28 (bW b) (k0_pay10 (F := F)) rows cols (k0_pay11 (tile V (2 * b + 1))) (k0_pay17 (F := F) (k0_pay15 (bW b) rows))
    (k0_pay19 (k0_pay10 (F := F)) (k0_pay14 q (tile K (2 * b + 1))) (k0_pay16 (bW b) q rows (tile K (2 * b + 1))))
    (k0_pay20 (k0_pay10 (F := F)) (k0_pay16 (bW b) q rows (tile K (2 * b + 1)))) (loW b) (k0_pay21 (tile V (2 * b)))
    (k0_pay24 q (tile K (2 * b))) (k0_pay25 q (tile K (2 * b))) (k0_pay8 (F := F)) (k0_pay9 (F := F))

/-- The running total after it, before its last reshape, -/
def pairTot (b : ℕ) (q : FVec F S256x128 .bf16) (K : Vec F S1x4096x128 .bf16) : FVec F S256x128 .f32 :=
  k0_pay29 (bW b) (k0_pay10 (F := F)) rows cols (k0_pay20 (k0_pay10 (F := F)) (k0_pay16 (bW b) q rows (tile K (2 * b + 1)))) (loW b)
    (k0_pay24 q (tile K (2 * b))) (k0_pay8 (F := F))

/-- and as it is stored. -/
def pairC (b : ℕ) (q : FVec F S256x128 .bf16) (K : Vec F S1x4096x128 .bf16) : FVec F S256x128 .f32 :=
  k0_pay30 (bW b) (k0_pay10 (F := F)) rows cols (k0_pay20 (k0_pay10 (F := F)) (k0_pay16 (bW b) q rows (tile K (2 * b + 1)))) (loW b)
    (k0_pay24 q (tile K (2 * b))) (k0_pay8 (F := F))

/-- The accumulated rows at the end. -/
def rowsOut (b : ℕ) (q : FVec F S256x128 .bf16) (K V : Vec F S1x4096x128 .bf16) : FVec F S256x128 .f32 :=
  loopAcc q (k0_pay10 (F := F)) K V b (k0_pay1 (pairTot b q K)) (pairC b q K) (pairAcc b q K V)

/-- The block the body stores at a point whose row block is `b`. -/
def blockOut (b : ℕ) (Q : Vec F S1x256x128 .bf16) (K V : Vec F S1x4096x128 .bf16) : FVec F S1x256x128 .f32 :=
  k0_pay2 (rowsOut b (k0_pay7 Q) K V)

/-! ## The offsets -/

theorem off1_eq (i : grid0.Coords) : k0_off1 i = ![0, ((2 * (i 2).val + 1) % 32) * 128, 0] := by
  unfold k0_off1
  exact (by decide +kernel : ∀ b : Fin 16, (![0, (Scalar.indexCast (Scalar.muli (Scalar.maxsi (Scalar.addi (Scalar.muli (BitVec.ofNat 32 b.val) 2#32) 1#32) 0#32) 128#32)).toNat, 0] : Fin 3 → ℕ)
    = ![0, ((2 * b.val + 1) % 32) * 128, 0]) (i 2)
theorem off2_eq (i : grid0.Coords) : k0_off2 i = ![0, ((2 * (i 2).val) % 32) * 128, 0] := by
  unfold k0_off2
  exact (by decide +kernel : ∀ b : Fin 16, (![0, (Scalar.indexCast (Scalar.muli (Scalar.maxsi (Scalar.subi (Scalar.addi (Scalar.muli (BitVec.ofNat 32 b.val) 2#32) 1#32) 1#32) 0#32) 128#32)).toNat, 0] : Fin 3 → ℕ)
    = ![0, ((2 * b.val) % 32) * 128, 0]) (i 2)
theorem coord_le (i : grid0.Coords) : (i 2).val ≤ 16 := Nat.le_of_lt (show (i 2).val < 16 from (i 2).isLt)

/-! ## Whole loads and stores of the staging buffers -/

theorem load_q {κ' : Kind} (m : Memref sig κ' .vmem S1x256x128 .bf16) (f : m.view.ty.Contents (Elt F)) {X : Vec F S1x256x128 .bf16}
    (hf : m.view.read (Elt F) f = X) :
    m.view.readAt (Elt F) (Rect.unit (s := S1x256x128) ![0, 0, 0] S1x256x128.size inb_S1x256x128_S1x256x128_0_0_0).toLoadRect f = X := by
  subst hf; rw [View.readAt_eq_ld]; exact View.ld_unit_zero zero3 _ _

theorem read_store_o {κ' : Kind} (m : Memref sig κ' .vmem S1x256x128 .f32) (f : m.view.ty.Contents (Elt F)) (w : FVec F S1x256x128 .f32) :
    m.view.read (Elt F) ((m.access (Rect.unit (s := S1x256x128) ![0, 0, 0] S1x256x128.size inb_S1x256x128_S1x256x128_0_0_0)).write (Elt F) f w Finset.univ) = w := by
  have h := View.read_writes_eq_canon m.view f [⟨Rect.unit (s := S1x256x128) ![0, 0, 0] S1x256x128.size inb_S1x256x128_S1x256x128_0_0_0, w⟩]
    (fun y => ⟨_, List.mem_singleton_self _, View.mem_set_unit_zero zero3 inb_S1x256x128_S1x256x128_0_0_0 y⟩)
  rw [View.canon_unit_zero zero3] at h
  exact h

/-! ## The body -/

section Body

variable (c : Dev nD) (i : grid0.Coords)
  (arg3 : Memref sig .tc .vmem S1x256x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x256x128 .f32) (harg6 : arg6.IsWhole)
  (Q : Vec F S1x256x128 .bf16) (K V : Vec F S1x4096x128 .bf16)

set_option maxHeartbeats 1000000 in
theorem body_run (E : Set ℕ) (R : PUnit → sProp 𝕄) :
    iprop(owns (c : Thread nD τ) arg3 fullShare Q ∗ owns (c : Thread nD τ) arg4 fullShare K ∗ owns (c : Thread nD τ) arg5 fullShare V
        ∗ (∃ d, owns (c : Thread nD τ) arg6 fullShare d)
        ∗ (∃ cc : FVec F S256x128 .f32, ((c : Thread nD τ).loc cc0_scratch0 ↦{fullShare} cc))
        ∗ (∃ acc : FVec F S256x128 .f32, ((c : Thread nD τ).loc cc0_scratch1 ↦{fullShare} acc))
        ∗ (iprop(owns (c : Thread nD τ) arg3 fullShare Q ∗ owns (c : Thread nD τ) arg4 fullShare K ∗ owns (c : Thread nD τ) arg5 fullShare V
            ∗ owns (c : Thread nD τ) arg6 fullShare (blockOut (i 2).val Q K V)
            ∗ (∃ cc : FVec F S256x128 .f32, ((c : Thread nD τ).loc cc0_scratch0 ↦{fullShare} cc))
            ∗ (∃ acc : FVec F S256x128 .f32, ((c : Thread nD τ).loc cc0_scratch1 ↦{fullShare} acc))) -∗ R ⟨⟩))
      ⊢ wp frame (wpE (defs₀ (F := F)) 𝒱₀ (c : Thread nD τ) none) E
          (cc0_sb_attention i arg3 harg3 arg4 harg4 arg5 harg5 arg6 harg6 scC (Memref.isWhole_whole _) scA (Memref.isWhole_whole _)) R := by
  simp only [cc0_sb_attention_eq_skeleton]; unfold cc0_sb_attention_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  unfold owns
  iintro ⟨⟨%f3, %h3, H3⟩, ⟨%f4, %h4, H4⟩, ⟨%f5, %h5, H5⟩, ⟨%d6, %f6, %h6, H6⟩, ⟨%cc, HC⟩, ⟨%acc, HA⟩, Hk⟩
  iapply (wp_load 𝒱₀ (c : Thread nD τ) none E (m := arg3) (View.setOn_subset_set _ _)) $$ H3; iintro H3
  iapply (wp_load 𝒱₀ (c : Thread nD τ) none E (m := scC) (Finset.subset_univ _)) $$ HC; iintro HC
  iapply (wp_store 𝒱₀ (c : Thread nD τ) none E (m := scC) (r := Rect.unit (s := S256x128) ![0, 0] S256x128.size inb_S256x128_S256x128_0_0) (Mk := Finset.univ) (Finset.subset_univ _)) $$ HC; iintro HC
  iapply (wp_load 𝒱₀ (c : Thread nD τ) none E (m := scA) (Finset.subset_univ _)) $$ HA; iintro HA
  iapply (wp_store 𝒱₀ (c : Thread nD τ) none E (m := scA) (r := Rect.unit (s := S256x128) ![0, 0] S256x128.size inb_S256x128_S256x128_0_0) (Mk := Finset.univ) (Finset.subset_univ _)) $$ HA; iintro HA
  rw [store_scC, store_scA, load_q arg3 f3 h3]
  iapply (wp_load 𝒱₀ (c : Thread nD τ) none E (m := arg4) (View.setOn_subset_set _ _)) $$ H4; iintro H4
  iapply (wp_load 𝒱₀ (c : Thread nD τ) none E (m := arg5) (View.setOn_subset_set _ _)) $$ H5; iintro H5
  iapply (wp_load 𝒱₀ (c : Thread nD τ) none E (m := arg4) (View.setOn_subset_set _ _)) $$ H4; iintro H4
  iapply (wp_load 𝒱₀ (c : Thread nD τ) none E (m := arg5) (View.setOn_subset_set _ _)) $$ H5; iintro H5
  rw [load_tile arg4 f4 h4 (2 * (i 2).val + 1) (off1_eq i), load_tile arg5 f5 h5 (2 * (i 2).val + 1) (off1_eq i),
    load_tile arg4 f4 h4 (2 * (i 2).val) (off2_eq i), load_tile arg5 f5 h5 (2 * (i 2).val) (off2_eq i)]
  iapply (wp_load 𝒱₀ (c : Thread nD τ) none E (m := scC) (Finset.subset_univ _)) $$ HC; iintro HC
  iapply (wp_load 𝒱₀ (c : Thread nD τ) none E (m := scA) (Finset.subset_univ _)) $$ HA; iintro HA
  iapply (wp_load 𝒱₀ (c : Thread nD τ) none E (m := scA) (Finset.subset_univ _)) $$ HA; iintro HA
  rw [load_scC, load_scA]
  iapply (wp_store 𝒱₀ (c : Thread nD τ) none E (m := scA) (r := Rect.unit (s := S256x128) ![0, 0] S256x128.size inb_S256x128_S256x128_0_0) (Mk := Finset.univ) (Finset.subset_univ _)) $$ HA; iintro HA
  rw [store_scA]
  iapply (wp_load 𝒱₀ (c : Thread nD τ) none E (m := scC) (Finset.subset_univ _)) $$ HC; iintro HC
  iapply (wp_store 𝒱₀ (c : Thread nD τ) none E (m := scC) (r := Rect.unit (s := S256x128) ![0, 0] S256x128.size inb_S256x128_S256x128_0_0) (Mk := Finset.univ) (Finset.subset_univ _)) $$ HC; iintro HC
  rw [store_scC]
  iapply (wp_call_spec 𝒱₀ (c : Thread nD τ) none E
    (spec c arg4 arg5 (k0_pay7 Q) (k0_pay10 (F := F)) K V (i 2).val (k0_pay1 (pairTot (i 2).val (k0_pay7 Q) K)) (pairC (i 2).val (k0_pay7 Q) K) (pairAcc (i 2).val (k0_pay7 Q) K V)) (i 2).val
    (fun u hu => nomatch hu)
    (spec_le c i arg4 harg4 arg5 harg5 (k0_pay7 Q) (k0_pay10 (F := F)) K V E (i 2).val (coord_le i) (k0_pay1 (pairTot (i 2).val (k0_pay7 Q) K)) (pairC (i 2).val (k0_pay7 Q) K) (pairAcc (i 2).val (k0_pay7 Q) K V)))
  rw [spec_apply]; unfold held owns
  isplitl [H4 H5 HC HA]
  · isplitl [H4]
    · iexists _; isplitr; · ipureintro; exact h4
      iexact H4
    isplitl [H5]
    · iexists _; isplitr; · ipureintro; exact h5
      iexact H5
    isplitl [HC]; · iexact HC
    iexact HA
  iintro %r ⟨%cc', H4, H5, HC, HA⟩
  iapply (wp_load 𝒱₀ (c : Thread nD τ) none E (m := scA) (Finset.subset_univ _)) $$ HA; iintro HA
  rw [load_scA]
  iapply (wp_load 𝒱₀ (c : Thread nD τ) none E (m := arg6) (View.setOn_subset_set _ _)) $$ H6; iintro H6
  iapply (wp_store 𝒱₀ (c : Thread nD τ) none E (m := arg6) (r := Rect.unit (s := S1x256x128) ![0, 0, 0] S1x256x128.size inb_S1x256x128_S1x256x128_0_0_0) (Mk := Finset.univ)
    ((View.setOn_subset_set _ _).trans (View.set_slice_subset _ _))) $$ H6; iintro H6
  rw [wp_ret]; imodintro
  iapply Hk
  isplitl [H3]
  · iexists _; isplitr; · ipureintro; exact h3
    iexact H3
  isplitl [H4]; · iexact H4
  isplitl [H5]; · iexact H5
  isplitl [H6]
  · iexists _; isplitr; swap; · iexact H6
    ipureintro; exact read_store_o arg6 f6 _
  isplitl [HC]; · iexists _; iexact HC
  iexists _; iexact HA

end Body

end Cert.KernelIdeal.Run

end
-- ==== Proof.Ideal.Run.lean ====
/-
  The run of the stick-breaking program: the pipeline's proof data (the result's block at a point is `blockOut` of the
  point's query, key and value blocks), the body obligation, the launch and the frame.
-/
module

public import proofs.«01_k».proof.Proof.Ideal.Body
public import Idealize.ShloMosaic.Lib.Claim

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the pipeline is entered: as launched. -/
abbrev V (c : Dev nD) (b : Ref sig .tc) : Buf (Elt F) ((c : Thread nD τ).loc b) := m ((c : Thread nD τ).loc b)

set_option maxHeartbeats 800000 in
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's block at point `t`. -/
def outAt (c : Dev nD) (t : Fin (cfg0 (F := F)).N) : FVec F S1x256x128 .f32 :=
  blockOut (grid0.coords t 2).val (iblk m c 0 t) (iblk m c 1 t) (iblk m c 2 t)

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = outAt m c t := by dsimp only [dats]; rfl

/-- Each input's staging buffer holds its block at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The invariant: the scratch buffers at anything, and the generator's register. -/
theorem PhiA_eq (c : Dev nD) :
    (Pipeline.ΦA spec0 c : sProp 𝕄)
      = iprop(iprop((∃ d : FVec F S256x128 .f32, ((c : Thread nD τ).loc cc0_scratch0 ↦{fullShare} d)) ∗ (∃ d : FVec F S256x128 .f32, ((c : Thread nD τ).loc cc0_scratch1 ↦{fullShare} d))) ∗ (∃ r, prngReg c r)) := by
  unfold Pipeline.ΦA; rw [scopedRest0_eq]; rfl

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA_eq]
  unfold outAt
  iintro ⟨⟨⟨HS0, HS1⟩, Hg⟩, Ho, ⟨%d0, H0⟩, ⟨%d1, H1⟩, ⟨%d2, H2⟩, ⟨%d3, H3⟩⟩
  iapply (body_run c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

-- the launch theorem's implicit arguments are found by unfolding plain definitions
set_option backward.isDefEq.respectTransparency.types false in
/-- The launch: every array of the pipeline ends at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The argument ends as it was, the semaphores at zero, and the result at the pipeline's final contents. -/
theorem run_out : θ_run defs (onTc (τ := τ) (main (F := F))) ⟨m, fun _ => 0, ρ⟩ (fun r => ((∀ c : Dev nD,
      r.2.mem ((c.tc : Thread nD τ).loc main_arg0) = m ((c.tc : Thread nD τ).loc main_arg0))
      ∧ r.2.sem = fun _ => 0) ∧ ∀ c : Dev nD, r.2.mem ((c.tc : Thread nD τ).loc main_v0) = (dats m 0 c).arrAt 3 (cfg0 (F := F)).N) :=
  (θ_run defs _ _).mono (fun _ h => ⟨⟨fun c => ((h.1 c).1 2).trans (((dats m 0 c).arrAt_in 2 rfl _).trans ((A_eq m c 2).trans rfl)), h.2⟩,
    fun c => (h.1 c).1 3⟩) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => h.1) (run_out m ρ)

end Cert.KernelIdeal.Run

end
-- ==== Proof.Value.Real.lean ====
/-
  The scalar functions of stick-breaking attention over the extended reals, read at real arguments, and the sums over
  tiles of 128 columns: a suffix sum and a weighted sum, one tile at a time.
-/
module

public import Idealize.ShloMosaic.Lib.Pointwise

@[expose] public section

set_option maxRecDepth 16384

noncomputable section

namespace Cert.StickBreaking

open Idealize.ShloMosaic
open scoped BigOperators

/-! ## Scalars -/

/-- The logarithm of one less the share that a key takes of the stick, at score `z`. -/
def lkR (z : ℝ) : ℝ := -(max z 0 + Real.log (1 + Real.exp (-|z|)))
/-- The logarithm of the share that a key takes of the stick, at score `z`. -/
def lbR (z : ℝ) : ℝ := min z 0 - Real.log (1 + Real.exp (-|z|))

theorem coe_max_zero (z : ℝ) : max (z : EReal) 0 = ((max z 0 : ℝ) : EReal) := by
  rw [← EReal.coe_zero]; exact (EReal.coe_strictMono.monotone.map_max).symm
theorem coe_min_zero (z : ℝ) : min (z : EReal) 0 = ((min z 0 : ℝ) : EReal) := by
  rw [← EReal.coe_zero]; exact (EReal.coe_strictMono.monotone.map_min).symm
theorem coe_abs (z : ℝ) : FloatOps.absf (F := Ideal) (φ := .f32) (z : EReal) = ((|z| : ℝ) : EReal) := by
  show max (z : EReal) (-(z : EReal)) = _
  rw [← EReal.coe_neg]; exact (EReal.coe_strictMono.monotone.map_max).symm
theorem log_one_add_exp (x : ℝ) : Ideal.log (1 + Ideal.exp (x : EReal)) = ((Real.log (1 + Real.exp x) : ℝ) : EReal) := by
  have h : 0 < 1 + Real.exp x := by positivity
  rw [Ideal.exp_coe, ← EReal.coe_one, ← EReal.coe_add, Ideal.log_coe, if_neg (not_le.2 h)]

/-- `log (1 + exp (0 - |z|))` at a real. -/
theorem logTerm_coe (z : ℝ) : Ideal.log (1 + Ideal.exp (0 - FloatOps.absf (F := Ideal) (φ := .f32) (z : EReal)))
    = ((Real.log (1 + Real.exp (-|z|)) : ℝ) : EReal) := by
  rw [coe_abs, zero_sub, ← EReal.coe_neg, log_one_add_exp]

theorem lb_coe (z : ℝ) : min (z : EReal) 0 - ((Real.log (1 + Real.exp (-|z|)) : ℝ) : EReal) = ((lbR z : ℝ) : EReal) := by
  rw [coe_min_zero, ← EReal.coe_sub]; rfl
theorem lk_coe (z : ℝ) : (0 : EReal) - (max (z : EReal) 0 + ((Real.log (1 + Real.exp (-|z|)) : ℝ) : EReal)) = ((lkR z : ℝ) : EReal) := by
  rw [coe_max_zero, ← EReal.coe_add, zero_sub, ← EReal.coe_neg]; rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ite_coe (p : Prop) [Decidable p] (a b : ℝ) : (if p then (a : EReal) else (b : EReal)) = ((if p then a else b : ℝ) : EReal) := by
  split <;> rfl

/-- A sum of products of reals and zeros or ones is real. -/
theorem sum_mul_ite {n : ℕ} (f : Fin n → ℝ) (p : Fin n → Prop) [DecidablePred p] :
    (∑ y : Fin n, ((f y : ℝ) : EReal) * (if p y then (1 : EReal) else 0)) = ((∑ y : Fin n, if p y then f y else 0 : ℝ) : EReal) := by
  rw [coe_sum]
  refine Finset.sum_congr rfl fun y _ => ?_
  split
  · rw [mul_one]
  · rw [mul_zero, EReal.coe_zero]

/-! ## Sums over tiles -/

/-- The sum of `f` over the columns from tile `j` on. -/
def from_ {M : Type*} [AddCommMonoid M] (f : ℕ → M) (j : ℕ) : M := ∑ t ∈ Finset.Ico (j * 128) 4096, f t

theorem from_step {M : Type*} [AddCommMonoid M] (f : ℕ → M) (j : ℕ) (hj : j < 32) :
    from_ f j = (∑ y : Fin 128, f (j * 128 + y.val)) + from_ f (j + 1) := by
  unfold from_
  rw [← Finset.sum_Ico_consecutive f (m := j * 128) (n := (j + 1) * 128) (k := 4096) (by omega) (by omega)]
  congr 1
  rw [Finset.sum_Ico_eq_sum_range, show (j + 1) * 128 - j * 128 = 128 by omega, Finset.sum_range]

theorem from_zero {M : Type*} [AddCommMonoid M] (f : ℕ → M) : from_ f 0 = ∑ t : Fin 4096, f t.val := by
  unfold from_
  rw [Finset.sum_Ico_eq_sum_range]
  simp only [Nat.zero_mul, Nat.zero_add, Nat.sub_zero]
  rw [Finset.sum_range]

theorem from_eq_zero {M : Type*} [AddCommMonoid M] (f : ℕ → M) (j : ℕ) (h : ∀ t, j * 128 ≤ t → f t = 0) : from_ f j = 0 :=
  Finset.sum_eq_zero fun t ht => h t (Finset.mem_Ico.1 ht).1

/-- The sum of `f` over the columns past `s`. -/
def past (f : ℕ → ℝ) (s : ℕ) : ℝ := ∑ t ∈ Finset.Ico (s + 1) 4096, f t

theorem past_tile (f : ℕ → ℝ) (j : ℕ) (hj : j < 32) (x : Fin 128) :
    past f (j * 128 + x.val) = (∑ y : Fin 128, if y.val > x.val then f (j * 128 + y.val) else 0) + from_ f (j + 1) := by
  have hx := x.isLt
  unfold past from_
  rw [← Finset.sum_Ico_consecutive f (m := j * 128 + x.val + 1) (n := (j + 1) * 128) (k := 4096) (by omega) (by omega)]
  congr 1
  rw [← Finset.sum_filter]
  refine (Finset.sum_bij (fun y _ => j * 128 + y.val) ?_ ?_ ?_ ?_).symm
  · intro y hy
    have := (Finset.mem_filter.1 hy).2
    have := y.isLt
    rw [Finset.mem_Ico]; omega
  · intro y _ y' _ h
    exact Fin.ext (by have h' : j * 128 + y.val = j * 128 + y'.val := h
                      omega)
  · intro t ht
    rw [Finset.mem_Ico] at ht
    refine ⟨⟨t - j * 128, by omega⟩, Finset.mem_filter.2 ⟨Finset.mem_univ _, ?_⟩, ?_⟩
    · show t - j * 128 > x.val; omega
    · show j * 128 + (t - j * 128) = t; omega
  · intro y _; rfl

/-- The sum from `s` on, less the column `s` itself. -/
theorem from_s_sub (f : ℕ → ℝ) (s : ℕ) (hs : s < 4096) : (∑ t ∈ Finset.Ico s 4096, f t) - f s = past f s := by
  unfold past
  rw [Finset.sum_eq_sum_Ico_succ_bot hs]; ring

/-! ## Columns -/

/-- The columns of head `h` in the projection: its queries, -/
theorem q_lt (h : Fin 8) (d : Fin 128) : h.val * 128 + d.val < 5760 := by omega
/-- its keys, -/
theorem k_lt (h : Fin 8) (d : Fin 128) : 1024 + (h.val * 128 + d.val) < 5760 := by omega
/-- its values; -/
theorem v_lt (h : Fin 8) (d : Fin 128) : 2048 + (h.val * 128 + d.val) < 5760 := by omega
/-- and in the result. -/
theorem o_lt (h : Fin 8) (d : Fin 128) : h.val * 128 + d.val < 1024 := by omega
/-- The queries of block `i`. -/
theorem row_lt (i : Fin 16) (r : Fin 256) : i.val * 256 + r.val < 4096 := by omega

end Cert.StickBreaking

end
-- ==== Proof.Value.Tile.lean ====
/-
  The stick-breaking kernel's arithmetic on one tile of 128 keys, read at an index over the extended reals, where
  the scores of the tile are real: the share's logarithm, the sums of the rest's logarithms past a column and over
  the whole tile, the causal mask, and the weighted rows of values.
-/
module

public import proofs.«01_k».proof.Proof.Value.Real
public import proofs.«01_k».proof.Proof.Ideal.Body

@[expose] public section

set_option maxRecDepth 16384

noncomputable section

namespace Cert.KernelIdeal.Value

open Cert.KernelIdeal.Gen Cert.KernelIdeal.Run Cert.StickBreaking
open Idealize.ShloMosaic
open scoped BigOperators

/-! ## Words -/

theorem rem_word : ∀ r : Fin 256, Scalar.select
            (IntOp.andi
              (IntOp.xori
                (IntOp.cmpi CmpIPredicate.slt
                  (IntOp.remsi ArithUnit.vector (BitVec.ofNat 32 r.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 r.val)
                  (Scalar.select (Scalar.cmpi CmpIPredicate.eq 128#32 0#32) 1#32 128#32))
                0#32))
            (IntOp.addi
              (IntOp.remsi ArithUnit.vector (BitVec.ofNat 32 r.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 r.val)
              (Scalar.select (Scalar.cmpi CmpIPredicate.eq 128#32 0#32) 1#32 128#32)) = BitVec.ofNat 32 (r.val % 128) := by
  decide +kernel

/-- The matrix that sums: ones below the diagonal of each upper and lower left block, and in the right half. -/
theorem tri (r y : Fin 256) : k0_pay10 (F := Ideal) (ix2 r y) = if y.val < r.val % 128 ∨ 128 ≤ y.val then (1 : EReal) else 0 := by
  have hr := r.isLt
  have hy := y.isLt
  pointwise [k0_pay10]
  rw [rem_word r, WordCmp.cmpi_sgt_ofNat (by omega) (by omega),
    show (128#32 : BitVec 32) = BitVec.ofNat 32 128 from rfl, WordCmp.cmpi_sge_ofNat (by omega) (by omega), WordCmp.ori_ofBool, WordCmp.select_ofBool]
  simp only [Bool.or_eq_true, decide_eq_true_eq]

theorem hi_word : ∀ b : Fin 16, Scalar.muli (Scalar.addi (Scalar.muli (BitVec.ofNat 32 b.val) 2#32) 1#32) 128#32 = BitVec.ofNat 32 ((2 * b.val + 1) * 128) := by
  decide +kernel
theorem lo_word : ∀ b : Fin 16, Scalar.muli (loW b.val) 128#32 = BitVec.ofNat 32 ((2 * b.val) * 128) := by decide +kernel
theorem row_word : ∀ b : Fin 16, Scalar.muli (BitVec.ofNat 32 b.val) 256#32 = BitVec.ofNat 32 (b.val * 256) := by decide +kernel

theorem slt_words (a x c r : ℕ) (h1 : a + x < 2 ^ 31) (h2 : c + r < 2 ^ 31) :
    IntOp.cmpi CmpIPredicate.slt (IntOp.addi (BitVec.ofNat 32 a) (BitVec.ofNat 32 x)) (IntOp.addi (BitVec.ofNat 32 c) (BitVec.ofNat 32 r))
      = BitVec.ofBool (decide (a + x < c + r)) := by
  unfold IntOp.addi
  rw [← BitVec.ofNat_add, ← BitVec.ofNat_add]
  exact WordCmp.cmpi_slt_ofNat h1 h2

theorem mask_hi (b : Fin 16) (r : Fin 256) (x : Fin 128) :
    k0_pay15 (bW b.val) rows (ix2 r x) = BitVec.ofBool (decide ((2 * b.val + 1) * 128 + x.val < b.val * 256 + r.val)) := by
  have hb := b.isLt
  have hr := r.isLt
  have hx := x.isLt
  pointwise [k0_pay15]
  rw [hi_word b, row_word b]
  exact slt_words _ _ _ _ (by omega) (by omega)
theorem mask_lo (b : Fin 16) (r : Fin 256) (x : Fin 128) :
    k0_pay26 (bW b.val) rows cols (loW b.val) (ix2 r x) = BitVec.ofBool (decide ((2 * b.val) * 128 + x.val < b.val * 256 + r.val)) := by
  have hb := b.isLt
  have hr := r.isLt
  have hx := x.isLt
  pointwise [k0_pay26]
  rw [lo_word b, row_word b]
  exact slt_words _ _ _ _ (by omega) (by omega)

theorem one_word : k0_pay37 (F := Ideal) 1#1 = (1 : EReal) := by
  unfold k0_pay37
  show ((((Scalar.extui 1#1 : BitVec 32).toInt : ℤ) : ℝ) : EReal) = 1
  rw [show (Scalar.extui 1#1 : BitVec 32).toInt = 1 from by decide]
  norm_num

/-! ## Tiles -/

theorem tile_at (X : Vec Ideal S1x4096x128 .bf16) (j : ℕ) (hj : j < 32) (x : Fin 128) (d : Fin 128) :
    tile X j (ix3 0 x d) = X (ix3 0 ⟨j * 128 + x.val, by have := x.isLt; omega⟩ d) := by
  unfold tile
  pointwise
  congr 1
  simp only [Nat.mod_eq_of_lt hj]

/-! ## The sums -/

section Sums

variable (f : FVec Ideal S256x128 .f32) (g : Fin 256 → Fin 128 → ℝ) (hf : ∀ r x, f (ix2 r x) = ((g r x : ℝ) : EReal))

include hf

theorem half_zero (r : Fin 256) (y : Fin 128) : f (ix2 r y) - f (ix2 r y) = (0 : EReal) := by
  rw [hf]; exact_mod_cast (by rw [← EReal.coe_sub, sub_self, EReal.coe_zero] : ((g r y : ℝ) : EReal) - ((g r y : ℝ) : EReal) = 0)

/-- The products with the summing matrix, the left half: the sum past a column; -/
theorem sum_past (r : Fin 256) (x : Fin 128) :
    (∑ y : Fin 128, f (ix2 r y) * k0_pay10 (F := Ideal) (ix2 ⟨y.val, by omega⟩ ⟨x.val, by omega⟩)
      + ∑ y : Fin 128, (f (ix2 r y) - f (ix2 r y)) * k0_pay10 (F := Ideal) (ix2 ⟨128 + y.val, by omega⟩ ⟨x.val, by omega⟩) : EReal)
    = ((∑ y : Fin 128, if y.val > x.val then g r y else 0 : ℝ) : EReal) := by
  have h0 : (∑ y : Fin 128, (f (ix2 r y) - f (ix2 r y)) * k0_pay10 (F := Ideal) (ix2 ⟨128 + y.val, by omega⟩ ⟨x.val, by omega⟩) : EReal) = 0 :=
    Finset.sum_eq_zero fun y _ => by rw [half_zero f g hf, zero_mul]
  rw [h0, add_zero, ← sum_mul_ite]
  refine Finset.sum_congr rfl fun y _ => ?_
  have hx := x.isLt
  have hy := y.isLt
  rw [tri, hf]
  congr 1
  refine if_congr ?_ rfl rfl
  show x.val < y.val % 128 ∨ 128 ≤ x.val ↔ y.val > x.val
  rw [Nat.mod_eq_of_lt hy]; omega

/-- the right half: the sum of the tile. -/
theorem sum_all (r : Fin 256) (x : Fin 128) :
    (∑ y : Fin 128, f (ix2 r y) * k0_pay10 (F := Ideal) (ix2 ⟨y.val, by omega⟩ ⟨128 + x.val, by omega⟩)
      + ∑ y : Fin 128, (f (ix2 r y) - f (ix2 r y)) * k0_pay10 (F := Ideal) (ix2 ⟨128 + y.val, by omega⟩ ⟨128 + x.val, by omega⟩) : EReal)
    = ((∑ y : Fin 128, g r y : ℝ) : EReal) := by
  have h0 : (∑ y : Fin 128, (f (ix2 r y) - f (ix2 r y)) * k0_pay10 (F := Ideal) (ix2 ⟨128 + y.val, by omega⟩ ⟨128 + x.val, by omega⟩) : EReal) = 0 :=
    Finset.sum_eq_zero fun y _ => by rw [half_zero f g hf, zero_mul]
  rw [h0, add_zero, coe_sum]
  refine Finset.sum_congr rfl fun y _ => ?_
  rw [tri, hf, if_pos (Or.inr (show 128 ≤ 128 + x.val by omega)), mul_one]

end Sums

/-! ## An unmasked tile of the loop -/

section Free

variable (q : FVec Ideal S256x128 .bf16) (k : Vec Ideal S1x128x128 .bf16) (z : Fin 256 → Fin 128 → ℝ)
  (hz : ∀ r x, (∑ d : Fin 128, q (ix2 r d) * k (ix3 0 x d) : EReal) * Ideal.ofBits .f32 0x3DB504F3#32 = ((z r x : ℝ) : EReal))

include hz

theorem score12 (r : Fin 256) (x : Fin 128) : k0_pay12 (F := Ideal) q k (ix2 r x) = ((z r x : ℝ) : EReal) := by
  pointwise [k0_pay12]; exact hz r x
theorem score22 (r : Fin 256) (x : Fin 128) : k0_pay22 (F := Ideal) q k (ix2 r x) = ((z r x : ℝ) : EReal) := by
  pointwise [k0_pay22]; exact hz r x
theorem score32 (r : Fin 256) (x : Fin 128) : k0_pay32 (F := Ideal) q k (ix2 r x) = ((z r x : ℝ) : EReal) := by
  pointwise [k0_pay32]; exact hz r x
theorem score39 (r : Fin 256) (x : Fin 128) : k0_pay39 (F := Ideal) q k (ix2 r x) = ((z r x : ℝ) : EReal) := by
  pointwise [k0_pay39]; exact hz r x

theorem log13 (r : Fin 256) (x : Fin 128) : k0_pay13 (F := Ideal) q k (ix2 r x) = ((Real.log (1 + Real.exp (-|z r x|)) : ℝ) : EReal) := by
  pointwise [k0_pay13]; rw [score12 q k z hz, logTerm_coe]
theorem log23 (r : Fin 256) (x : Fin 128) : k0_pay23 (F := Ideal) q k (ix2 r x) = ((Real.log (1 + Real.exp (-|z r x|)) : ℝ) : EReal) := by
  pointwise [k0_pay23]; rw [score22 q k z hz, logTerm_coe]
theorem log33 (r : Fin 256) (x : Fin 128) : k0_pay33 (F := Ideal) q k (ix2 r x) = ((Real.log (1 + Real.exp (-|z r x|)) : ℝ) : EReal) := by
  pointwise [k0_pay33]; rw [score32 q k z hz, logTerm_coe]
theorem log40 (r : Fin 256) (x : Fin 128) : k0_pay40 (F := Ideal) q k (ix2 r x) = ((Real.log (1 + Real.exp (-|z r x|)) : ℝ) : EReal) := by
  pointwise [k0_pay40]; rw [score39 q k z hz, logTerm_coe]

theorem lb14 (r : Fin 256) (x : Fin 128) : k0_pay14 (F := Ideal) q k (ix2 r x) = ((lbR (z r x) : ℝ) : EReal) := by
  pointwise [k0_pay14]; rw [score12 q k z hz, log13 q k z hz, lb_coe]
theorem lb25 (r : Fin 256) (x : Fin 128) : k0_pay25 (F := Ideal) q k (ix2 r x) = ((lbR (z r x) : ℝ) : EReal) := by
  pointwise [k0_pay25]; rw [score22 q k z hz, log23 q k z hz, lb_coe]
theorem lk24 (r : Fin 256) (x : Fin 128) : k0_pay24 (F := Ideal) q k (ix2 r x) = ((lkR (z r x) : ℝ) : EReal) := by
  pointwise [k0_pay24]; rw [score22 q k z hz, log23 q k z hz, lk_coe]

/-- The masked logarithms of the rest, upper tile; -/
theorem lk16 (b : Fin 16) (r : Fin 256) (x : Fin 128) : k0_pay16 (F := Ideal) (bW b.val) q rows k (ix2 r x)
    = ((if (2 * b.val + 1) * 128 + x.val < b.val * 256 + r.val then lkR (z r x) else 0 : ℝ) : EReal) := by
  pointwise [k0_pay16]
  rw [mask_hi, WordCmp.select_decide, score12 q k z hz, log13 q k z hz, lk_coe, ← EReal.coe_zero, ite_coe]

theorem upper35 (r : Fin 256) (x : Fin 128) : k0_pay35 (F := Ideal) q (k0_pay10 (F := Ideal)) k (ix2 r x)
    = ((lbR (z r x) + ∑ y : Fin 128, (if y.val > x.val then lkR (z r y) else 0) : ℝ) : EReal) := by
  have h := sum_past (fun i => (0 - (max (k0_pay32 (F := Ideal) q k i) 0 + k0_pay33 (F := Ideal) q k i) : EReal)) (fun r x => lkR (z r x))
    (fun r x => by rw [score32 q k z hz, log33 q k z hz, lk_coe]) r x
  pointwise [k0_pay35, k0_pay34]
  rw [h, score32 q k z hz, log33 q k z hz, lb_coe, ← EReal.coe_add]

theorem upper36 (r : Fin 256) (x : Fin 128) : k0_pay36 (F := Ideal) q (k0_pay10 (F := Ideal)) k (ix2 r x)
    = ((∑ y : Fin 128, lkR (z r y) : ℝ) : EReal) := by
  have h := sum_all (fun i => (0 - (max (k0_pay32 (F := Ideal) q k i) 0 + k0_pay33 (F := Ideal) q k i) : EReal)) (fun r x => lkR (z r x))
    (fun r x => by rw [score32 q k z hz, log33 q k z hz, lk_coe]) r x
  pointwise [k0_pay36, k0_pay34]
  exact h

theorem lower42 (r : Fin 256) (x : Fin 128) : k0_pay42 (F := Ideal) q (k0_pay10 (F := Ideal)) 1#1 k (ix2 r x)
    = ((lbR (z r x) + ∑ y : Fin 128, (if y.val > x.val then lkR (z r y) else 0) : ℝ) : EReal) := by
  have h := sum_past (fun i => (0 - (max (k0_pay39 (F := Ideal) q k i) 0 + k0_pay40 (F := Ideal) q k i) : EReal)) (fun r x => lkR (z r x))
    (fun r x => by rw [score39 q k z hz, log40 q k z hz, lk_coe]) r x
  pointwise [k0_pay42, k0_pay41, one_word]
  rw [h, score39 q k z hz, log40 q k z hz, lb_coe, ← EReal.coe_add]

theorem lower43 (r : Fin 256) (x : Fin 128) : k0_pay43 (F := Ideal) q (k0_pay10 (F := Ideal)) 1#1 k (ix2 r x)
    = ((∑ y : Fin 128, lkR (z r y) : ℝ) : EReal) := by
  have h := sum_all (fun i => (0 - (max (k0_pay39 (F := Ideal) q k i) 0 + k0_pay40 (F := Ideal) q k i) : EReal)) (fun r x => lkR (z r x))
    (fun r x => by rw [score39 q k z hz, log40 q k z hz, lk_coe]) r x
  pointwise [k0_pay43, k0_pay41, one_word]
  exact h

end Free

/-! ## A masked tile of the diagonal pair -/

section Masked

variable (l : FVec Ideal S256x128 .f32) (g : Fin 256 → Fin 128 → ℝ) (hl : ∀ r x, l (ix2 r x) = ((g r x : ℝ) : EReal))

include hl

theorem past18 (r : Fin 256) (x : Fin 128) : k0_pay18 (F := Ideal) (k0_pay10 (F := Ideal)) l (ix2 r ⟨x.val, by omega⟩)
    = ((∑ y : Fin 128, (if y.val > x.val then g r y else 0) : ℝ) : EReal) := by
  have h := sum_past l g hl r x
  pointwise [k0_pay18]
  exact h
theorem all18 (r : Fin 256) (x : Fin 128) : k0_pay18 (F := Ideal) (k0_pay10 (F := Ideal)) l (ix2 r ⟨128 + x.val, by omega⟩)
    = ((∑ y : Fin 128, g r y : ℝ) : EReal) := by
  have h := sum_all l g hl r x
  pointwise [k0_pay18]
  exact h

theorem upper19 (e : FVec Ideal S256x128 .f32) (r : Fin 256) (x : Fin 128) : k0_pay19 (F := Ideal) (k0_pay10 (F := Ideal)) e l (ix2 r x)
    = e (ix2 r x) + ((∑ y : Fin 128, (if y.val > x.val then g r y else 0) : ℝ) : EReal) := by
  have h := sum_past l g hl r x
  pointwise [k0_pay19, k0_pay18]
  rw [h]

theorem upper20 (r : Fin 256) (x : Fin 128) : k0_pay20 (F := Ideal) (k0_pay10 (F := Ideal)) l (ix2 r x)
    = ((∑ y : Fin 128, g r y : ℝ) : EReal) := by
  have h := sum_all l g hl r x
  pointwise [k0_pay20, k0_pay18]
  exact h

end Masked

end Cert.KernelIdeal.Value

end
-- ==== Proof.Value.Rows.lean ====
/-
  The rows that the stick-breaking kernel stores at one point of its grid, over the extended reals with real scores:
  each is the sum over all keys of the key's weight times its value, where a key's weight is the share it takes of what
  the later keys left. The masked diagonal pair of tiles opens the sum, each trip of the loop adds a pair, and
  the early exit's test never holds, because a running total of real logarithms is above `-∞`.
-/
module

public import proofs.«01_k».proof.Proof.Value.Tile

@[expose] public section

set_option maxRecDepth 16384

noncomputable section

namespace Cert.KernelIdeal.Value

open Cert.KernelIdeal.Gen Cert.KernelIdeal.Run Cert.StickBreaking
open Idealize.ShloMosaic
open scoped BigOperators

section Rows

variable (q : FVec Ideal S256x128 .bf16) (K V : Vec Ideal S1x4096x128 .bf16) (Z : Fin 256 → ℕ → ℝ) (b : Fin 16)

/-- The logarithm of what key `t` leaves to the earlier keys of row `r`; nothing is taken at a key that is not before the row. -/
def rest (r : Fin 256) (t : ℕ) : ℝ := if t < b.val * 256 + r.val then lkR (Z r t) else 0
/-- The weight of key `t` in row `r`. -/
def weight (r : Fin 256) (t : ℕ) : ℝ := if t < b.val * 256 + r.val then Real.exp (lbR (Z r t) + past (rest Z b r) t) else 0
/-- Entry `d` of the value of key `t`. -/
def valueAt (d : Fin 128) (t : ℕ) : EReal := if h : t < 4096 then V (ix3 0 ⟨t, h⟩ d) else 0
/-- What key `t` adds to entry `d` of row `r`. -/
def term (r : Fin 256) (d : Fin 128) (t : ℕ) : EReal := ((weight Z b r t : ℝ) : EReal) * valueAt V d t

theorem valueAt_tile (j : ℕ) (hj : j < 32) (y d : Fin 128) : tile V j (ix3 0 y d) = valueAt V d (j * 128 + y.val) := by
  have hy := y.isLt
  rw [tile_at V j hj, valueAt, dif_pos (by omega)]

variable (hZ : ∀ (r : Fin 256) (s : ℕ) (hs : s < 4096),
  (∑ d : Fin 128, q (ix2 r d) * K (ix3 0 ⟨s, hs⟩ d) : EReal) * Ideal.ofBits .f32 0x3DB504F3#32 = ((Z r s : ℝ) : EReal))

include hZ

theorem score_tile (j : ℕ) (hj : j < 32) (r : Fin 256) (x : Fin 128) :
    (∑ d : Fin 128, q (ix2 r d) * tile K j (ix3 0 x d) : EReal) * Ideal.ofBits .f32 0x3DB504F3#32 = ((Z r (j * 128 + x.val) : ℝ) : EReal) := by
  have hx := x.isLt
  rw [← hZ r (j * 128 + x.val) (by omega)]
  congr 1
  exact Finset.sum_congr rfl fun d _ => by rw [tile_at K j hj]

/-! ## A trip of the loop -/

section Trip

variable (n : ℕ) (hn : n < b.val) (cc : FVec Ideal S256x128 .f32)
  (hcc : ∀ (r : Fin 256) (x : Fin 128), cc (ix2 r x) = ((from_ (rest Z b r) (2 * n + 2) : ℝ) : EReal))

include hn hcc

theorem rest_free (r : Fin 256) (t : ℕ) (ht : t < b.val * 256) : rest Z b r t = lkR (Z r t) := if_pos (by omega)
theorem weight_free (r : Fin 256) (t : ℕ) (ht : t < b.val * 256) : weight Z b r t = Real.exp (lbR (Z r t) + past (rest Z b r) t) := if_pos (by omega)

theorem tileSum_free (j : ℕ) (hj : (j + 1) * 128 ≤ b.val * 256) (r : Fin 256) :
    (∑ y : Fin 128, lkR (Z r (j * 128 + y.val))) = ∑ y : Fin 128, rest Z b r (j * 128 + y.val) :=
  Finset.sum_congr rfl fun y _ => ((if_pos (by have := y.isLt; omega)).symm : lkR (Z r (j * 128 + y.val)) = rest Z b r (j * 128 + y.val))

theorem tilePast_free (j : ℕ) (hj : (j + 1) * 128 ≤ b.val * 256) (r : Fin 256) (x : Fin 128) :
    (∑ y : Fin 128, if y.val > x.val then lkR (Z r (j * 128 + y.val)) else 0) = ∑ y : Fin 128, if y.val > x.val then rest Z b r (j * 128 + y.val) else 0 :=
  Finset.sum_congr rfl fun y _ => by
    rw [show rest Z b r (j * 128 + y.val) = lkR (Z r (j * 128 + y.val)) from if_pos (by have := y.isLt; omega)]

theorem tot_step (r : Fin 256) (x : Fin 128) :
    stepC q (k0_pay10 (F := Ideal)) K n cc (ix2 r x) = ((from_ (rest Z b r) (2 * n) : ℝ) : EReal) := by
  have hb := b.isLt
  unfold stepC
  pointwise [k0_pay5, k0_pay4]
  rw [hcc, upper36 q _ _ (score_tile q K Z hZ (2 * n + 1) (by omega)), lower43 q _ _ (score_tile q K Z hZ (2 * n) (by omega)),
    tileSum_free q K Z b hZ n hn cc hcc (2 * n + 1) (by omega), tileSum_free q K Z b hZ n hn cc hcc (2 * n) (by omega),
    from_step _ (2 * n) (by omega), from_step _ (2 * n + 1) (by omega), ← EReal.coe_add, ← EReal.coe_add]
  congr 1; ring

theorem acc_step (acc : FVec Ideal S256x128 .f32) (hacc : ∀ (r : Fin 256) (d : Fin 128), acc (ix2 r d) = from_ (term V Z b r d) (2 * n + 2))
    (r : Fin 256) (d : Fin 128) :
    stepAcc q (k0_pay10 (F := Ideal)) K V n cc acc (ix2 r d) = from_ (term V Z b r d) (2 * n) := by
  have hb := b.isLt
  have hu : ∀ y : Fin 128, k0_pay44 (F := Ideal) (k0_pay35 q (k0_pay10 (F := Ideal)) (tile K (2 * n + 1))) cc (ix2 r y)
      * k0_pay31 (tile V (2 * n + 1)) (ix2 y d) = term V Z b r d ((2 * n + 1) * 128 + y.val) := fun y => by
    have hy := y.isLt
    pointwise [k0_pay44, k0_pay31]
    rw [hcc, upper35 q _ _ (score_tile q K Z hZ (2 * n + 1) (by omega)), tilePast_free q K Z b hZ n hn cc hcc (2 * n + 1) (by omega),
      ← EReal.coe_add, Ideal.exp_coe, valueAt_tile V _ (by omega)]
    unfold term
    rw [weight_free q K Z b hZ n hn cc hcc r _ (by omega), past_tile _ _ (by omega), add_assoc]
  have hl : ∀ y : Fin 128, Ideal.exp (k0_pay42 (F := Ideal) q (k0_pay10 (F := Ideal)) 1#1 (tile K (2 * n)) (ix2 r y)
      + k0_pay45 (F := Ideal) (k0_pay36 q (k0_pay10 (F := Ideal)) (tile K (2 * n + 1))) cc (ix2 r y)) * k0_pay37 (F := Ideal) 1#1
      * k0_pay38 (tile V (2 * n)) (ix2 y d) = term V Z b r d ((2 * n) * 128 + y.val) := fun y => by
    have hy := y.isLt
    rw [one_word]
    pointwise [k0_pay45, k0_pay38]
    rw [hcc, lower42 q _ _ (score_tile q K Z hZ (2 * n) (by omega)), tilePast_free q K Z b hZ n hn cc hcc (2 * n) (by omega),
      upper36 q _ _ (score_tile q K Z hZ (2 * n + 1) (by omega)), tileSum_free q K Z b hZ n hn cc hcc (2 * n + 1) (by omega),
      ← EReal.coe_add, ← EReal.coe_add, Ideal.exp_coe, valueAt_tile V _ (by omega)]
    unfold term
    rw [weight_free q K Z b hZ n hn cc hcc r _ (by omega), past_tile _ _ (by omega), from_step _ (2 * n + 1) (by omega)]
    congr 3; ring
  unfold stepAcc
  pointwise [k0_pay3]
  rw [hacc, Finset.sum_congr rfl fun y _ => hu y, Finset.sum_congr rfl fun y _ => hl y,
    from_step _ (2 * n) (by omega), from_step _ (2 * n + 1) (by omega)]
  abel

end Trip

/-- The largest entry of a block of reals is above `-∞`. -/
theorem fold_gt (f : FVec Ideal S256x128 .f32) (c : ℝ) (h : f (ix2 0 0) = (c : EReal)) (m : EReal) :
    (⊥ : EReal) < Finset.fold max m (fun x : Fin 256 × Fin 128 => f (ix2 x.1 x.2)) Finset.univ := by
  rw [Finset.lt_fold_max]
  exact Or.inr ⟨(0, 0), Finset.mem_univ _, by show (⊥ : EReal) < f (ix2 0 0); rw [h]; exact EReal.bot_lt_coe c⟩

theorem goOn_of_gt (mx : EReal) (h : (⊥ : EReal) < mx) : goOn (F := Ideal) mx = 1#1 := by
  show BitVec.ofBool (decide ((Named.named (F := Ideal) κ "gone" (φ := .f32) 0xC2D00000#32 : EReal) < mx)) = 1#1
  rw [show (Named.named (F := Ideal) κ "gone" (φ := .f32) 0xC2D00000#32 : EReal) = ⊥ from rfl, decide_eq_true h]
  rfl

/-- The loop adds every earlier pair. -/
theorem loop_eq : ∀ (n : ℕ) (hn : n ≤ b.val) (mx : EReal) (hmx : (⊥ : EReal) < mx) (cc acc : FVec Ideal S256x128 .f32)
    (hcc : ∀ (r : Fin 256) (x : Fin 128), cc (ix2 r x) = ((from_ (rest Z b r) (2 * n) : ℝ) : EReal))
    (hacc : ∀ (r : Fin 256) (d : Fin 128), acc (ix2 r d) = from_ (term V Z b r d) (2 * n)) (r : Fin 256) (d : Fin 128),
    loopAcc q (k0_pay10 (F := Ideal)) K V n mx cc acc (ix2 r d) = from_ (term V Z b r d) 0
  | 0, _, _, _, _, acc, _, hacc, r, d => hacc r d
  | n + 1, hn, mx, hmx, cc, acc, hcc, hacc, r, d => by
    unfold loopAcc
    rw [if_pos (goOn_of_gt q K Z hZ mx hmx)]
    have hC := tot_step q K Z b hZ n (by omega) cc hcc
    refine loop_eq n (by omega) _ ?_ _ _ hC (acc_step q K V Z b hZ n (by omega) cc hcc acc hacc) r d
    have h := fold_gt q K Z hZ (stepC q (k0_pay10 (F := Ideal)) K n cc) _ (hC 0 0) (Ideal.ofBits FTy.f32 4286578688#32)
    unfold stepC at h
    unfold stepMax
    pointwise [k0_pay6]
    pointwise [k0_pay5] at h
    exact h

/-! ## The diagonal pair -/

theorem term_zero (r : Fin 256) (d : Fin 128) (t : ℕ) (ht : (2 * b.val + 2) * 128 ≤ t) : term V Z b r d t = 0 := by
  have hr := r.isLt
  unfold term weight
  rw [if_neg (by omega), EReal.coe_zero, zero_mul]
theorem rest_zero (r : Fin 256) (t : ℕ) (ht : (2 * b.val + 2) * 128 ≤ t) : rest Z b r t = 0 := by
  have hr := r.isLt
  unfold rest
  rw [if_neg (by omega)]

theorem lk_hi (r : Fin 256) (x : Fin 128) : k0_pay16 (F := Ideal) (bW b.val) q rows (tile K (2 * b.val + 1)) (ix2 r x)
    = ((rest Z b r ((2 * b.val + 1) * 128 + x.val) : ℝ) : EReal) :=
  lk16 q _ _ (score_tile q K Z hZ (2 * b.val + 1) (by omega)) b r x

theorem lk_lo (r : Fin 256) (x : Fin 128) :
    Scalar.select (k0_pay26 (bW b.val) rows cols (loW b.val) (ix2 r x)) (k0_pay24 (F := Ideal) q (tile K (2 * b.val)) (ix2 r x)) (0 : EReal)
    = ((rest Z b r (2 * b.val * 128 + x.val) : ℝ) : EReal) := by
  rw [mask_lo, WordCmp.select_decide, lk24 q _ _ (score_tile q K Z hZ (2 * b.val) (by omega)), ← EReal.coe_zero, ite_coe]; rfl

/-- The logarithms of the rest in the lower tile of the pair, masked. -/
def lowRest : FVec Ideal S256x128 .f32 :=
  select (k0_pay26 (bW b.val) rows cols (loW b.val)) (k0_pay24 (F := Ideal) q (tile K (2 * b.val))) (broadcast S256x128 (Scalar.ofBits .f32 0x00000000#32))

theorem lowRest_at (r : Fin 256) (x : Fin 128) : lowRest q K b (ix2 r x) = ((rest Z b r (2 * b.val * 128 + x.val) : ℝ) : EReal) := by
  rw [← lk_lo q K Z b hZ]
  pointwise [lowRest]

theorem masked27 (r : Fin 256) (x : Fin 128) :
    k0_pay27 (F := Ideal) (bW b.val) (k0_pay10 (F := Ideal)) rows cols (loW b.val) (k0_pay24 q (tile K (2 * b.val))) (ix2 r ⟨x.val, by omega⟩)
      = ((∑ y : Fin 128, (if y.val > x.val then rest Z b r (2 * b.val * 128 + y.val) else 0) : ℝ) : EReal) :=
  past18 (lowRest q K b) (fun r x => rest Z b r (2 * b.val * 128 + x.val)) (lowRest_at q K Z b hZ) r x
theorem masked27' (r : Fin 256) (x : Fin 128) :
    k0_pay27 (F := Ideal) (bW b.val) (k0_pay10 (F := Ideal)) rows cols (loW b.val) (k0_pay24 q (tile K (2 * b.val))) (ix2 r ⟨128 + x.val, by omega⟩)
      = ((∑ y : Fin 128, rest Z b r (2 * b.val * 128 + y.val) : ℝ) : EReal) :=
  all18 (lowRest q K b) (fun r x => rest Z b r (2 * b.val * 128 + x.val)) (lowRest_at q K Z b hZ) r x

theorem pairTot_eq (r : Fin 256) (x : Fin 128) : pairTot (F := Ideal) b.val q K (ix2 r x) = ((from_ (rest Z b r) (2 * b.val) : ℝ) : EReal) := by
  unfold pairTot
  pointwise [k0_pay29, k0_pay8]
  rw [upper20 _ _ (lk_hi q K Z b hZ), masked27' q K Z b hZ, from_step _ (2 * b.val) (by omega), from_step _ (2 * b.val + 1) (by omega),
    from_eq_zero _ _ (fun t ht => rest_zero q K Z b hZ r t ht), ← EReal.coe_add]
  congr 1; ring
theorem pairC_eq (r : Fin 256) (x : Fin 128) : pairC (F := Ideal) b.val q K (ix2 r x) = ((from_ (rest Z b r) (2 * b.val) : ℝ) : EReal) := by
  have h := pairTot_eq q K Z b hZ r x
  unfold pairTot at h
  unfold pairC
  pointwise [k0_pay30]
  exact h

theorem pairAcc_eq (r : Fin 256) (d : Fin 128) : pairAcc (F := Ideal) b.val q K V (ix2 r d) = from_ (term V Z b r d) (2 * b.val) := by
  have hb := b.isLt
  have hu : ∀ y : Fin 128, Ideal.exp (k0_pay19 (F := Ideal) (k0_pay10 (F := Ideal)) (k0_pay14 q (tile K (2 * b.val + 1)))
      (k0_pay16 (bW b.val) q rows (tile K (2 * b.val + 1))) (ix2 r y)) * k0_pay17 (F := Ideal) (k0_pay15 (bW b.val) rows) (ix2 r y)
      * k0_pay11 (tile V (2 * b.val + 1)) (ix2 y d) = term V Z b r d ((2 * b.val + 1) * 128 + y.val) := fun y => by
    rw [upper19 _ _ (lk_hi q K Z b hZ), lb14 q _ _ (score_tile q K Z hZ (2 * b.val + 1) (by omega))]
    pointwise [k0_pay17, k0_pay11]
    rw [mask_hi, WordCmp.select_decide, ← EReal.coe_add, Ideal.exp_coe, valueAt_tile V _ (by omega)]
    unfold term weight
    rw [past_tile _ _ (by omega), from_eq_zero _ _ (fun t ht => rest_zero q K Z b hZ r t ht), add_zero]
    split
    · rfl
    · rw [EReal.coe_zero, zero_mul]
  have hl : ∀ y : Fin 128, Scalar.select (k0_pay26 (bW b.val) rows cols (loW b.val) (ix2 r y)) (Ideal.exp (k0_pay25 (F := Ideal) q (tile K (2 * b.val)) (ix2 r y)
      + k0_pay27 (F := Ideal) (bW b.val) (k0_pay10 (F := Ideal)) rows cols (loW b.val) (k0_pay24 q (tile K (2 * b.val))) (ix2 r ⟨y.val, by omega⟩)
      + k0_pay20 (F := Ideal) (k0_pay10 (F := Ideal)) (k0_pay16 (bW b.val) q rows (tile K (2 * b.val + 1))) (ix2 r y))
      * k0_pay21 (tile V (2 * b.val)) (ix2 y d)) (0 : EReal) = term V Z b r d (2 * b.val * 128 + y.val) := fun y => by
    rw [upper20 _ _ (lk_hi q K Z b hZ), masked27 q K Z b hZ, lb25 q _ _ (score_tile q K Z hZ (2 * b.val) (by omega))]
    pointwise [k0_pay21]
    rw [mask_lo, WordCmp.select_decide, ← EReal.coe_add, ← EReal.coe_add, Ideal.exp_coe, valueAt_tile V _ (by omega)]
    unfold term weight
    rw [past_tile _ _ (by omega), from_step _ (2 * b.val + 1) (by omega), from_eq_zero _ _ (fun t ht => rest_zero q K Z b hZ r t ht), add_zero, ← add_assoc]
    split
    · rfl
    · rw [EReal.coe_zero, zero_mul]
  unfold pairAcc
  pointwise [k0_pay28, k0_pay8, k0_pay9]
  rw [Finset.sum_congr rfl fun y _ => hu y, Finset.sum_congr rfl fun y _ => hl y,
    from_step _ (2 * b.val) (by omega), from_step _ (2 * b.val + 1) (by omega), from_eq_zero _ (2 * b.val + 1 + 1) (fun t ht => term_zero q K V Z b hZ r d t ht)]
  abel

/-- The rows stored. -/
theorem rowsOut_eq (r : Fin 256) (d : Fin 128) : rowsOut (F := Ideal) b.val q K V (ix2 r d) = ∑ t : Fin 4096, term V Z b r d t.val := by
  unfold rowsOut
  rw [← from_zero]
  refine loop_eq q K V Z b hZ b.val le_rfl _ ?_ _ _ (pairC_eq q K Z b hZ) (pairAcc_eq q K V Z b hZ) r d
  have h := fold_gt q K Z hZ (pairTot (F := Ideal) b.val q K) _ (pairTot_eq q K Z b hZ 0 0) (Ideal.ofBits FTy.f32 4286578688#32)
  pointwise [k0_pay1]
  exact h

end Rows

end Cert.KernelIdeal.Value

end
-- ==== Proof.Value.Reference.lean ====
/-
  The stick-breaking reference read at an index over the extended reals, where queries and keys are real: the
  score of a query and a key, the logarithms of what a key takes and leaves, their suffix sums, and the result as
  a weighted sum of the values.
-/
module

public import proofs.«01_k».proof.Proof.Value.Real
public import proofs.«01_k».proof.Proof.Gen.ReferenceIdeal.Run
public import Idealize.ShloMosaic.Lib.Tactic
public import Idealize.ShloMosaic.Lib.WordCmp

@[expose] public section

set_option maxRecDepth 16384

noncomputable section

namespace Cert.ReferenceIdeal.Stick

open Cert.ReferenceIdeal Cert.ReferenceIdeal.Gen Cert.StickBreaking
open Idealize.ShloMosaic
open scoped BigOperators

/-! ## The reference's steps, named -/

section Steps

variable (X : FVec Ideal S8x4096x5760 .bf16)

/-- The queries, a head at a time; -/
def qs : FVec Ideal S8x8x4096x128 .f32 := transpose S8x8x4096x128 [0, 2, 1, 3] (shapeCast _ (extractStridedSlice S8x4096x1024 ![0, 0, 0] (extf .f32 X bitsLt_bf16_f32) slices_S8x4096x5760_S8x4096x1024_0_0_0) shapeCasts_S8x4096x1024_S8x4096x8x128) transposes_S8x4096x8x128_S8x8x4096x128_0_2_1_3
/-- the keys; -/
def ks : FVec Ideal S8x8x4096x128 .f32 := transpose S8x8x4096x128 [0, 2, 1, 3] (shapeCast _ (extractStridedSlice S8x4096x1024 ![0, 0, 1024] (extf .f32 X bitsLt_bf16_f32) slices_S8x4096x5760_S8x4096x1024_0_0_1024) shapeCasts_S8x4096x1024_S8x4096x8x128) transposes_S8x4096x8x128_S8x8x4096x128_0_2_1_3
/-- the values. -/
def vs : FVec Ideal S8x8x4096x128 .f32 := transpose S8x8x4096x128 [0, 2, 1, 3] (shapeCast _ (extractStridedSlice S8x4096x1024 ![0, 0, 2048] (extf .f32 X bitsLt_bf16_f32) slices_S8x4096x5760_S8x4096x1024_0_0_2048) shapeCasts_S8x4096x1024_S8x4096x8x128) transposes_S8x4096x8x128_S8x8x4096x128_0_2_1_3
/-- A block of zeros. -/
def zeros : FVec Ideal S8x8x4096x4096 .f32 := broadcastInDim S8x8x4096x4096 ![] bcast_S_S8x8x4096x4096 (constant S_ .f32 0x00000000#32)
/-- The scores. -/
def scores : FVec Ideal S8x8x4096x4096 .f32 := mulf (Host.dotGeneral dot_S8x8x4096x128_S8x8x4096x128_S8x8x4096x4096_3_3_2_2_01_01 none (qs X) (ks X)) (broadcastInDim S8x8x4096x4096 ![] bcast_S_S8x8x4096x4096 (constant S_ .f32 0x3DB504F3#32))
/-- The logarithm of one plus an exponential. -/
def softplus (Y : FVec Ideal S8x8x4096x4096 .f32) : FVec Ideal S8x8x4096x4096 .f32 :=
  select (cmpf .une (subf Y zeros) (subf Y zeros)) (addf Y zeros) (addf (maximumf Y zeros) (Host.log1p (Host.exp (Host.negf (Host.absf (subf Y zeros))))))
/-- The pairs of a query and an earlier key. -/
def earlier : IVec S8x8x4096x4096 1 := broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- What a key leaves, in logarithms. -/
def keeps : FVec Ideal S8x8x4096x4096 .f32 := select earlier (Host.negf (softplus (scores X))) zeros
/-- The suffix sums of what the keys leave. -/
def suffix : FVec Ideal S8x8x4096x4096 .f32 := Host.reduceWindowAdd ![1, 1, 1, 4096] ![1, 1, 1, 1] ![0, 0, 0, 0] ![0, 0, 0, 4095] (keeps X) (broadcastInDim S_ ![] bcast_S_S_ (constant S_ .f32 0x00000000#32)) reduceWindows_S8x8x4096x4096_S8x8x4096x4096_w1s1p0_0_w1s1p0_0_w1s1p0_0_w4096s1p0_4095 h_S_
/-- The weights. -/
def weights : FVec Ideal S8x8x4096x4096 .f32 := select earlier (Host.exp (addf (Host.negf (softplus (Host.negf (scores X)))) (subf (suffix X) (keeps X)))) zeros
/-- The result. -/
def result : FVec Ideal S8x4096x1024 .f32 := shapeCast _ (transpose S8x4096x8x128 [0, 3, 1, 2] (Host.dotGeneral dot_S8x8x4096x128_S8x8x4096x4096_S8x8x128x4096_2_3_3_2_01_01 none (vs X) (weights X)) transposes_S8x8x128x4096_S8x4096x8x128_0_3_1_2) shapeCasts_S8x4096x8x128_S8x4096x1024

end Steps

theorem res_eq (m : (ℓ : Loc nD τ sig) → Buf (Elt Ideal) ℓ) (c : Dev nD) :
    Value.res_main_v31 (F := Ideal) m c = result (m ((c.tc : Thread nD τ).loc main_arg0)) := rfl

/-! ## At an index -/

theorem earlier_at (b : Fin 8) (h : Fin 8) (t s : Fin 4096) : earlier (ix4 b h t s) = BitVec.ofBool (decide (s.val < t.val)) := by
  have ht := t.isLt
  have hs := s.isLt
  pointwise [earlier]
  exact WordCmp.cmpi_slt_ofNat (by omega) (by omega)

theorem softplus_at (Y : FVec Ideal S8x8x4096x4096 .f32) (y : ℝ) (i : S8x8x4096x4096.Idx) (hy : Y i = (y : EReal)) :
    softplus Y i = ((max y 0 + Real.log (1 + Real.exp (-|y|)) : ℝ) : EReal) := by
  have h0 : zeros i = (0 : EReal) := by pointwise [zeros]
  have hs : (Y i - zeros i : EReal) = (y : EReal) := by rw [h0, hy, sub_zero]
  show Scalar.select (Ideal.cmp .une (Y i - zeros i : EReal) (Y i - zeros i)) (Y i + zeros i : EReal)
    (max (Y i) (zeros i : EReal) + Ideal.log1p (Ideal.exp (-(FloatOps.absf (F := Ideal) (φ := .f32) (Y i - zeros i : EReal))))) = _
  rw [hs, h0, hy, show Ideal.cmp .une (y : EReal) (y : EReal) = 0#1 by simp [Ideal.cmp], WordCmp.select_zero, coe_abs, ← EReal.coe_neg]
  show max (y : EReal) 0 + Ideal.log (1 + Ideal.exp ((-|y| : ℝ) : EReal)) = _
  rw [log_one_add_exp, coe_max_zero, ← EReal.coe_add]

/-! ## A suffix sum -/

theorem foldl_add {ι : Type*} (f : ι → EReal) : ∀ (l : List ι) (a : EReal), l.foldl (fun r n => r + f n) a = a + (l.map f).sum
  | [], a => by simp
  | n :: l, a => by rw [List.foldl_cons, foldl_add f l, List.map_cons, List.sum_cons, add_assoc]

theorem suffix_at (x : FVec Ideal S8x8x4096x4096 .f32) (L : ℕ → ℝ) (b : Fin 8) (h : Fin 8) (t : Fin 4096)
    (hx : ∀ s : Fin 4096, x (ix4 b h t s) = ((L s.val : ℝ) : EReal)) (init : FVec Ideal S_ .f32) (h0 : ∀ i, init i = (0 : EReal))
    (hw : S8x8x4096x4096.ReduceWindows ![1, 1, 1, 4096] ![1, 1, 1, 1] ![0, 0, 0, 0] ![0, 0, 0, 4095] S8x8x4096x4096) (hu : 0 < S_.numel) (s : Fin 4096) :
    Host.reduceWindowAdd (F := Ideal) ![1, 1, 1, 4096] ![1, 1, 1, 1] ![0, 0, 0, 0] ![0, 0, 0, 4095] x init hw hu (ix4 b h t s)
      = ((∑ u ∈ Finset.Ico s.val 4096, L u : ℝ) : EReal) := by
  unfold Host.reduceWindowAdd
  rw [Ideal.hostReduceWindowAdd_def]
  unfold Ideal.hostReduceWindowAdd Host.reduceWindow
  dsimp only
  rw [h0, foldl_add, zero_add, ← Fin.sum_univ_def, ← Equiv.sum_comp (Shape.rowMajor (⟨4, ![1, 1, 1, 4096]⟩ : Shape))]
  simp only [Equiv.symm_apply_apply]
  rw [sum_idx4]
  simp only [Fin.sum_univ_one]
  have key : ∀ w : Fin 4096, (if hin : ∀ a : Fin 4, (![0, 0, 0, 0] : Fin 4 → ℕ) a ≤ ((ix4 b h t s : S8x8x4096x4096.Idx) (a.cast hw.1.symm)).val * (![1, 1, 1, 1] : Fin 4 → ℕ) a + ((ix4 (0 : Fin 1) (0 : Fin 1) (0 : Fin 1) w : (⟨4, ![1, 1, 1, 4096]⟩ : Shape).Idx) a).val
      ∧ ((ix4 b h t s : S8x8x4096x4096.Idx) (a.cast hw.1.symm)).val * (![1, 1, 1, 1] : Fin 4 → ℕ) a + ((ix4 (0 : Fin 1) (0 : Fin 1) (0 : Fin 1) w : (⟨4, ![1, 1, 1, 4096]⟩ : Shape).Idx) a).val - (![0, 0, 0, 0] : Fin 4 → ℕ) a < S8x8x4096x4096.size a
      then x (fun a => ⟨((ix4 b h t s : S8x8x4096x4096.Idx) (a.cast hw.1.symm)).val * (![1, 1, 1, 1] : Fin 4 → ℕ) a + ((ix4 (0 : Fin 1) (0 : Fin 1) (0 : Fin 1) w : (⟨4, ![1, 1, 1, 4096]⟩ : Shape).Idx) a).val - (![0, 0, 0, 0] : Fin 4 → ℕ) a, (hin a).2⟩) else (0 : EReal))
      = ((if s.val + w.val < 4096 then L (s.val + w.val) else 0 : ℝ) : EReal) := fun w => by
    have hb := b.isLt
    have hh := h.isLt
    have ht := t.isLt
    by_cases hlt : s.val + w.val < 4096
    · have hin : ∀ a : Fin 4, (![0, 0, 0, 0] : Fin 4 → ℕ) a ≤ ((ix4 b h t s : S8x8x4096x4096.Idx) (a.cast hw.1.symm)).val * (![1, 1, 1, 1] : Fin 4 → ℕ) a + ((ix4 (0 : Fin 1) (0 : Fin 1) (0 : Fin 1) w : (⟨4, ![1, 1, 1, 4096]⟩ : Shape).Idx) a).val
          ∧ ((ix4 b h t s : S8x8x4096x4096.Idx) (a.cast hw.1.symm)).val * (![1, 1, 1, 1] : Fin 4 → ℕ) a + ((ix4 (0 : Fin 1) (0 : Fin 1) (0 : Fin 1) w : (⟨4, ![1, 1, 1, 4096]⟩ : Shape).Idx) a).val - (![0, 0, 0, 0] : Fin 4 → ℕ) a < S8x8x4096x4096.size a := by
        intro a
        fin_cases a
        · show 0 ≤ b.val * 1 + 0 ∧ b.val * 1 + 0 - 0 < 8; omega
        · show 0 ≤ h.val * 1 + 0 ∧ h.val * 1 + 0 - 0 < 8; omega
        · show 0 ≤ t.val * 1 + 0 ∧ t.val * 1 + 0 - 0 < 4096; omega
        · show 0 ≤ s.val * 1 + w.val ∧ s.val * 1 + w.val - 0 < 4096; omega
      rw [dif_pos hin, if_pos hlt]
      refine Eq.trans (congrArg x ?_) (hx ⟨s.val + w.val, hlt⟩)
      funext a
      apply Fin.ext
      fin_cases a
      · show b.val * 1 + 0 - 0 = b.val; omega
      · show h.val * 1 + 0 - 0 = h.val; omega
      · show t.val * 1 + 0 - 0 = t.val; omega
      · show s.val * 1 + w.val - 0 = s.val + w.val; omega
    · rw [dif_neg, if_neg hlt, EReal.coe_zero]
      intro hin
      have h3 := (hin 3).2
      have h3' : s.val * 1 + w.val - 0 < 4096 := h3
      omega
  refine (Finset.sum_congr rfl fun w _ => key w).trans ?_
  rw [← coe_sum]
  congr 1
  rw [← Finset.sum_filter, Finset.sum_Ico_eq_sum_range, Finset.sum_range]
  have hs := s.isLt
  refine (Finset.sum_bij (fun (u : Fin (4096 - s.val)) _ => (⟨u.val, by have := u.isLt; omega⟩ : Fin 4096)) ?_ ?_ ?_ ?_).symm
  · intro u _; have := u.isLt
    exact Finset.mem_filter.2 ⟨Finset.mem_univ _, by show s.val + u.val < 4096; omega⟩
  · intro u _ u' _ e
    exact Fin.ext (congrArg (fun v : Fin 4096 => v.val) e)
  · intro w hw'
    have hlt := (Finset.mem_filter.1 hw').2
    exact ⟨⟨w.val, by omega⟩, Finset.mem_univ _, rfl⟩
  · intro u _; rfl

/-! ## The result -/

section Result

variable (X : FVec Ideal S8x4096x5760 .bf16) (b h : Fin 8) (Z : ℕ → ℕ → ℝ)
  (hZ : ∀ t s : Fin 4096, (∑ d : Fin 128, X (ix3 b t ⟨h.val * 128 + d.val, q_lt h d⟩) * X (ix3 b s ⟨1024 + (h.val * 128 + d.val), k_lt h d⟩) : EReal)
    * Ideal.ofBits .f32 0x3DB504F3#32 = ((Z t.val s.val : ℝ) : EReal))

/-- What key `s` leaves to query `t`, in logarithms. -/
def keepR (t s : ℕ) : ℝ := if s < t then lkR (Z t s) else 0
/-- Its weight. -/
def weightR (t s : ℕ) : ℝ := if s < t then Real.exp (lbR (Z t s) + past (keepR Z t) s) else 0

include hZ

theorem scores_at (t s : Fin 4096) : scores X (ix4 b h t s) = ((Z t.val s.val : ℝ) : EReal) := by
  rw [← hZ]
  pointwise [scores, qs, ks]

theorem keeps_at (t s : Fin 4096) : keeps X (ix4 b h t s) = ((keepR Z t.val s.val : ℝ) : EReal) := by
  unfold keeps
  show Scalar.select (earlier (ix4 b h t s)) (-(softplus (scores X) (ix4 b h t s)) : EReal) (zeros (ix4 b h t s)) = _
  rw [earlier_at, WordCmp.select_decide, softplus_at _ _ _ (scores_at X b h Z hZ t s), ← EReal.coe_neg,
    (show zeros (ix4 b h t s) = ((0 : ℝ) : EReal) by pointwise [zeros]; exact EReal.coe_zero.symm), ite_coe]
  rfl

theorem suffix_sub (t s : Fin 4096) : (suffix X (ix4 b h t s) - keeps X (ix4 b h t s) : EReal) = ((past (keepR Z t.val) s.val : ℝ) : EReal) := by
  unfold suffix
  rw [suffix_at (keeps X) (keepR Z t.val) b h t (keeps_at X b h Z hZ t) _ (fun i => by pointwise) _ _ s, keeps_at X b h Z hZ t s,
    ← from_s_sub _ _ s.isLt]
  exact (EReal.coe_sub _ _).symm

theorem neg_softplus_neg (z : ℝ) : -(max (-z) 0 + Real.log (1 + Real.exp (-|-z|))) = lbR z := by
  unfold lbR
  rw [abs_neg]
  rcases le_total z 0 with hz | hz
  · rw [max_eq_left (by linarith), min_eq_left hz]; ring
  · rw [max_eq_right (by linarith), min_eq_right hz]; ring

theorem weights_at (t s : Fin 4096) : weights X (ix4 b h t s) = ((weightR Z t.val s.val : ℝ) : EReal) := by
  have hn : Host.negf (scores X) (ix4 b h t s) = ((-(Z t.val s.val) : ℝ) : EReal) := by
    show (-(scores X (ix4 b h t s)) : EReal) = _
    rw [scores_at X b h Z hZ, ← EReal.coe_neg]
  unfold weights
  show Scalar.select (earlier (ix4 b h t s)) (Ideal.exp (-(softplus (Host.negf (scores X)) (ix4 b h t s))
    + (suffix X (ix4 b h t s) - keeps X (ix4 b h t s)))) (zeros (ix4 b h t s)) = _
  rw [earlier_at, WordCmp.select_decide, softplus_at _ _ _ hn, ← EReal.coe_neg, neg_softplus_neg X b h Z hZ, suffix_sub X b h Z hZ,
    ← EReal.coe_add, Ideal.exp_coe, (show zeros (ix4 b h t s) = ((0 : ℝ) : EReal) by pointwise [zeros]; exact EReal.coe_zero.symm), ite_coe]
  rfl

theorem result_at (t : Fin 4096) (d : Fin 128) : result X (ix3 b t ⟨h.val * 128 + d.val, o_lt h d⟩)
    = ∑ s : Fin 4096, ((weightR Z t.val s.val : ℝ) : EReal) * X (ix3 b s ⟨2048 + (h.val * 128 + d.val), v_lt h d⟩) := by
  have hh := h.isLt
  have hd := d.isLt
  have e : ∀ s : Fin 4096, vs X (ix4 b h s d) * weights X (ix4 b h t s)
      = ((weightR Z t.val s.val : ℝ) : EReal) * X (ix3 b s ⟨2048 + (h.val * 128 + d.val), v_lt h d⟩) := fun s => by
    rw [weights_at X b h Z hZ, mul_comm]
    congr 1
    pointwise [vs]
  rw [← Finset.sum_congr rfl fun s _ => e s]
  pointwise [result]

end Result

end Cert.ReferenceIdeal.Stick

end
-- ==== Proof.Value.Array.lean ====
/-
  The result array of the stick-breaking kernel over the extended reals is the reference's result, where the queries
  and the keys are real numbers: each point's block is read at an index as a sum over the keys, and the sum's weights and
  values are the reference's.
-/
module

public import proofs.«01_k».proof.Proof.Value.Rows
public import proofs.«01_k».proof.Proof.Value.Reference
public import proofs.«01_k».proof.Proof.Ideal.Run
public import proofs.«01_k».proof.Proof.Gen.Pre_finite_queries_and_keys
public import Idealize.ShloMosaic.Lib.Pipeline.ValueKit
public import Idealize.ShloMosaic.Lib.Pipeline.Covers

@[expose] public section

set_option maxRecDepth 16384

noncomputable section

namespace Cert.KernelIdeal.Value

open Cert.KernelIdeal Cert.KernelIdeal.Gen Cert.KernelIdeal.Run Cert.StickBreaking
open Idealize.ShloMosaic Idealize.ShloMosaic.TcCoe
open scoped BigOperators

/-! ## The scores are real -/

theorem scale_real : ∃ r : ℝ, Ideal.ofBits .f32 0x3DB504F3#32 = (r : EReal) := by
  show ∃ r : ℝ, Ideal.ieee 8 23 (0x3DB504F3#32) = (r : EReal)
  unfold Ideal.ieee
  dsimp only
  rw [if_neg (by decide), if_neg (by decide)]
  exact ⟨_, rfl⟩

section Scores

variable (X : FVec Ideal S8x4096x5760 .bf16)
  (hX : Cert.Pre_finite_queries_and_keys.fn (F := Ideal) X = fun _ => 1#1)

/-- The score of query `t` and key `s` in head `h` of batch `b`. -/
def scoreE (b h : Fin 8) (t s : Fin 4096) : EReal :=
  (∑ d : Fin 128, X (ix3 b t ⟨h.val * 128 + d.val, q_lt h d⟩) * X (ix3 b s ⟨1024 + (h.val * 128 + d.val), k_lt h d⟩) : EReal)
    * Ideal.ofBits .f32 0x3DB504F3#32

/-- As a real number. -/
def scoreR (b h : Fin 8) (t s : ℕ) : ℝ := (scoreE X b h (Fin.ofNat 4096 t) (Fin.ofNat 4096 s)).toReal

include hX

theorem entry_real (b : Fin 8) (t : Fin 4096) (c : Fin 5760) (hc : c.val < 2048) : ∃ r : ℝ, X (ix3 b t c) = (r : EReal) := by
  have h := congrFun hX (ix3 b t ⟨c.val, hc⟩)
  have e : Cert.Pre_finite_queries_and_keys.fn (F := Ideal) X (ix3 b t ⟨c.val, hc⟩)
      = Ideal.cmp .olt (max (X (ix3 b t c) : EReal) (-(X (ix3 b t c) : EReal))) (Ideal.ofBits .bf16 0x7F80#16) := by
    pointwise [Cert.Pre_finite_queries_and_keys.fn]
    rfl
  rw [e] at h
  have h1 : max (X (ix3 b t c) : EReal) (-(X (ix3 b t c) : EReal)) < ⊤ := by
    by_contra hn
    have ht : max (X (ix3 b t c) : EReal) (-(X (ix3 b t c) : EReal)) = ⊤ := not_lt_top_iff.1 hn
    rw [ht] at h
    simp [Ideal.cmp, Ideal.ofBits, Ideal.ieee] at h
  have h2 := (max_lt_iff.1 h1).1
  have h3 := (max_lt_iff.1 h1).2
  refine ⟨(X (ix3 b t c) : EReal).toReal, (EReal.coe_toReal h2.ne ?_).symm⟩
  intro hb
  rw [hb] at h3
  simp at h3

theorem scoreE_real (b h : Fin 8) (t s : Fin 4096) : scoreE X b h t s = ((scoreR X b h t.val s.val : ℝ) : EReal) := by
  have hr : ∃ r : ℝ, scoreE X b h t s = (r : EReal) := by
    obtain ⟨sc, hs⟩ := scale_real
    have hh := h.isLt
    choose q hq using fun d : Fin 128 => entry_real X hX b t ⟨h.val * 128 + d.val, q_lt h d⟩ (by have := d.isLt; show h.val * 128 + d.val < 2048; omega)
    choose k hk using fun d : Fin 128 => entry_real X hX b s ⟨1024 + (h.val * 128 + d.val), k_lt h d⟩ (by have := d.isLt; show 1024 + (h.val * 128 + d.val) < 2048; omega)
    refine ⟨(∑ d : Fin 128, q d * k d) * sc, ?_⟩
    unfold scoreE
    rw [hs, Finset.sum_congr rfl fun d _ => by rw [hq d, hk d, ← EReal.coe_mul], ← coe_sum, ← EReal.coe_mul]
  obtain ⟨r, hr⟩ := hr
  unfold scoreR
  rw [show Fin.ofNat 4096 t.val = t from Fin.ext (Nat.mod_eq_of_lt t.isLt), show Fin.ofNat 4096 s.val = s from Fin.ext (Nat.mod_eq_of_lt s.isLt), hr, EReal.toReal_coe]

end Scores

/-! ## The result array -/

section Final

variable (m : (ℓ : Loc nD τ sig) → Buf (Elt Ideal) ℓ) (c : Dev nD)

theorem index_0 : ∀ t : Fin grid0.N, win0_0.index t = ![(grid0.coords t 0).val, (grid0.coords t 2).val, (grid0.coords t 1).val] := by decide +kernel
theorem index_1 : ∀ t : Fin grid0.N, win0_1.index t = ![(grid0.coords t 0).val, 0, 8 + (grid0.coords t 1).val] := by decide +kernel
theorem index_2 : ∀ t : Fin grid0.N, win0_2.index t = ![(grid0.coords t 0).val, 0, 16 + (grid0.coords t 1).val] := by decide +kernel
theorem index_3 : ∀ t : Fin grid0.N, win0_3.index t = ![(grid0.coords t 0).val, (grid0.coords t 2).val, (grid0.coords t 1).val] := by decide +kernel

/-- The argument array. -/
abbrev argX : FVec Ideal S8x4096x5760 .bf16 := m ((c : Thread nD τ).loc main_arg0)

/-- The point's batch, head and block of queries. -/
abbrev batch (t : Fin grid0.N) : Fin 8 := grid0.coords t 0
abbrev head (t : Fin grid0.N) : Fin 8 := grid0.coords t 1
abbrev row (t : Fin grid0.N) : Fin 16 := grid0.coords t 2

theorem queries_at (t : Fin grid0.N) (r : Fin 256) (d : Fin 128) : iblk m c 0 t (ix3 (0 : Fin 1) r d)
    = argX m c (ix3 (batch t) ⟨(row t).val * 256 + r.val, row_lt (row t) r⟩ ⟨(head t).val * 128 + d.val, q_lt (head t) d⟩) := by
  blk_ext! [iblk, V, index_0 t, batch, head, row]

theorem keys_at (t : Fin grid0.N) (s : Fin 4096) (d : Fin 128) : iblk m c 1 t (ix3 (0 : Fin 1) s d)
    = argX m c (ix3 (batch t) s ⟨1024 + ((head t).val * 128 + d.val), k_lt (head t) d⟩) := by
  blk_ext! [iblk, V, index_1 t, batch, head, row]

theorem values_at (t : Fin grid0.N) (s : Fin 4096) (d : Fin 128) : iblk m c 2 t (ix3 (0 : Fin 1) s d)
    = argX m c (ix3 (batch t) s ⟨2048 + ((head t).val * 128 + d.val), v_lt (head t) d⟩) := by
  blk_ext! [iblk, V, index_2 t, batch, head, row]

variable (hX : Cert.Pre_finite_queries_and_keys.fn (F := Ideal) (argX m c) = fun _ => 1#1)

include hX

/-- A point's block at an index. -/
theorem block_at (t : Fin grid0.N) (r : Fin 256) (d : Fin 128) : outAt m c t (ix3 (0 : Fin 1) r d)
    = Cert.ReferenceIdeal.Stick.result (argX m c) (ix3 (batch t) ⟨(row t).val * 256 + r.val, row_lt (row t) r⟩
        ⟨(head t).val * 128 + d.val, o_lt (head t) d⟩) := by
  have hb := (batch t).isLt
  have hh := (head t).isLt
  have hr := (row t).isLt
  have hr' := r.isLt
  rw [Cert.ReferenceIdeal.Stick.result_at (argX m c) (batch t) (head t) (scoreR (argX m c) (batch t) (head t)) (scoreE_real (argX m c) hX (batch t) (head t))]
  have e1 : outAt m c t (ix3 (0 : Fin 1) r d) = rowsOut (F := Ideal) (row t).val (k0_pay7 (iblk m c 0 t)) (iblk m c 1 t) (iblk m c 2 t) (ix2 r d) := by
    unfold outAt blockOut
    pointwise [k0_pay2]
  rw [e1, rowsOut_eq (k0_pay7 (iblk m c 0 t)) (iblk m c 1 t) (iblk m c 2 t)
    (fun r' s => scoreR (argX m c) (batch t) (head t) ((row t).val * 256 + r'.val) s) (row t) (fun r' s hs => by
      have hr'' := r'.isLt
      refine Eq.trans ?_ (scoreE_real (argX m c) hX (batch t) (head t) ⟨(row t).val * 256 + r'.val, row_lt (row t) r'⟩ ⟨s, hs⟩)
      unfold scoreE
      congr 1
      refine Finset.sum_congr rfl fun e _ => ?_
      rw [keys_at, show k0_pay7 (F := Ideal) (iblk m c 0 t) (ix2 r' e) = iblk m c 0 t (ix3 (0 : Fin 1) r' e) by pointwise [k0_pay7], queries_at])]
  refine Finset.sum_congr rfl fun s _ => ?_
  have e2 : valueAt (iblk m c 2 t) d s.val = argX m c (ix3 (batch t) s ⟨2048 + ((head t).val * 128 + d.val), v_lt (head t) d⟩) := by
    unfold valueAt
    rw [dif_pos s.isLt]
    exact values_at m c t s d
  unfold term
  rw [e2]
  rfl

theorem final : (dats m 0 c).arrAt 3 (cfg0 (F := Ideal)).N = Cert.ReferenceIdeal.Stick.result (argX m c) := by
  refine (dats m 0 c).arrAt_eq_of_covers 3 _ (by decide +kernel) fun t hf y => ?_
  blk_simp
  rw [after_3]
  obtain ⟨a, r, d, rfl⟩ : ∃ (a : Fin 1) (r : Fin 256) (d : Fin 128), y = ix3 a r d := ⟨y 0, y 1, y 2, eq_ix3 y⟩
  obtain rfl : a = 0 := Subsingleton.elim _ _
  refine Eq.trans (block_at m c hX t r d) (congrArg _ ?_)
  blk_ext [index_3 t, batch, head, row]

end Final

end Cert.KernelIdeal.Value

end
-- ==== Proof.Norm.Spec.lean ====
/-
  What the normalise-and-project call computes at one element, over the extended reals: a row divided by its root mean
  square and scaled, its product with a column of the weights, and for the columns of the heads that are normalised the
  same division over the head's 128 columns. Beside it the one scatter of the call's host code: a block written into a
  vector at a given start.
-/
module

public import Idealize.ShloMosaic.Lib.Pointwise
public import Idealize.ShloMosaic.Lib.Routing.OpsSet

@[expose] public section

set_option maxRecDepth 16384

noncomputable section

namespace Cert.NormProject

open Idealize.ShloMosaic Idealize.ShloMosaic.Routing
open scoped BigOperators

/-! ## One element -/

/-- The reciprocal root of a mean square, `n` the number of entries as a word and the small constant added. -/
def invRms {N : ℕ} (n : BitVec 32) (y : Fin N → EReal) : EReal :=
  Ideal.rsqrt (Ideal.div (∑ e : Fin N, y e * y e) (Ideal.ofBits .f32 n) + Ideal.ofBits .f32 0x358637BD#32)

/-- A normalised row. -/
def normed (x g : Fin 2048 → EReal) (k : Fin 2048) : EReal := x k * invRms 0x45000000#32 x * g k

/-- Its product with column `c` of the weights, which are zero past column 5656. -/
def proj (x g : Fin 2048 → EReal) (w : Fin 2048 → Fin 5656 → EReal) (c : ℕ) : EReal :=
  ∑ k : Fin 2048, normed x g k * (if h : c < 5656 then w k ⟨c, h⟩ else 0)

/-- The heads, of 128 columns each, that are queries; -/
def IsQuery (q : ℕ) : Prop := 24 ≤ q ∧ q < 32
/-- and the ones that are keys of the selected blocks or of the window. -/
def IsKey (q : ℕ) : Prop := q = 36 ∨ q = 37 ∨ q = 40 ∨ q = 41

instance (q : ℕ) : Decidable (IsQuery q) := by unfold IsQuery; infer_instance
instance (q : ℕ) : Decidable (IsKey q) := by unfold IsKey; infer_instance

/-- The gain of entry `e` of head `q`. -/
def gain (qg kg : Fin 128 → EReal) (q : ℕ) (e : Fin 128) : EReal :=
  if IsQuery q then qg e * Ideal.ofBits .f32 0x3DB504F3#32 else if IsKey q then kg e else 1

/-- The element of a row at entry `e` of head `q`. -/
def element (x g : Fin 2048 → EReal) (w : Fin 2048 → Fin 5656 → EReal) (qg kg : Fin 128 → EReal) (q : ℕ) (e : Fin 128) : EReal :=
  if IsQuery q ∨ IsKey q then
    proj x g w (q * 128 + e.val) * invRms 0x43000000#32 (fun e' : Fin 128 => proj x g w (q * 128 + e'.val)) * gain qg kg q e
  else proj x g w (q * 128 + e.val)

theorem row_lt (b : Fin 8) (t : Fin 4096) : b.val * 4096 + t.val < 32768 := by have := b.isLt; have := t.isLt; omega
theorem col_lt (q : Fin 45) (e : Fin 128) : q.val * 128 + e.val < 5760 := by have := q.isLt; have := e.isLt; omega

theorem proj_of_lt (x g : Fin 2048 → EReal) (w : Fin 2048 → Fin 5656 → EReal) (c : ℕ) (h : c < 5656) :
    proj x g w c = ∑ k : Fin 2048, normed x g k * w k ⟨c, h⟩ := by
  unfold proj
  exact Finset.sum_congr rfl fun k _ => by rw [dif_pos h]

theorem proj_of_ge (x g : Fin 2048 → EReal) (w : Fin 2048 → Fin 5656 → EReal) (c : ℕ) (h : ¬c < 5656) : proj x g w c = 0 := by
  unfold proj
  exact Finset.sum_eq_zero fun k _ => by rw [dif_neg h, mul_zero]

/-! ## A block written into a vector -/

section Scatter

variable {N M : ℕ} (d : ScatterDims (shape1 N) (shape1 1) (shape1 M)) (hw : d.updateWindowDims = [0]) (hi : d.insertedWindowDims = [])
  (hs : d.scatterDimsToOperandDims = [0]) (s : ℕ) (hsM : s + M ≤ N) (hN : N < 2 ^ 31) (idx : IVec (shape1 1) 32) (hidx : ∀ i, idx i = BitVec.ofNat 32 s)

include hw hi hs hsM hN hidx

theorem block_lands (k : Fin M) (x : Fin N) : d.resultIdx? (ix1 k) idx = some (ix1 x) ↔ s + k.val = x.val := by
  have hk := k.isLt
  have hx := x.isLt
  have hm : (0 : Fin 1) ∈ d.scatterDimsToOperandDims := by rw [hs]; exact List.mem_singleton.2 rfl
  have hstart : d.start (ix1 k) idx 0 = (s : Int) := by
    unfold ScatterDims.start
    rw [dif_pos hm, hidx, StableHlo.Predicate.toInt_ofNat_small _ (by omega)]
  have hwin : d.window (ix1 k) 0 = k.val := by
    unfold ScatterDims.window
    have hk0 : (0 : Fin (shape1 N).rank) ∈ d.sKept := by
      simp [ScatterDims.sKept, Shape.kept, List.mem_filter, List.mem_finRange, hi]
    rw [dif_pos hk0]
    have e : ∀ X : Fin 1, (ix1 k X).val = k.val := fun X => by
      obtain rfl : X = 0 := Subsingleton.elim _ _
      rfl
    exact e _
  unfold ScatterDims.resultIdx?
  have hall : ∀ a : Fin 1, 0 ≤ d.start (ix1 k) idx a + d.window (ix1 k) a ∧ d.start (ix1 k) idx a + d.window (ix1 k) a < (shape1 N).size a := by
    intro a
    obtain rfl : a = 0 := Subsingleton.elim _ _
    rw [hstart, hwin]
    show 0 ≤ (s : Int) + (k.val : Int) ∧ (s : Int) + (k.val : Int) < (N : Int)
    omega
  rw [dif_pos hall, Option.some.injEq]
  constructor
  · intro h
    have h0 := congrArg Fin.val (congrFun h 0)
    have h1 : (d.start (ix1 k) idx 0 + d.window (ix1 k) 0).toNat = x.val := h0
    rw [hstart, hwin] at h1
    omega
  · intro h
    funext a
    obtain rfl : a = 0 := Subsingleton.elim _ _
    apply Fin.ext
    show (d.start (ix1 k) idx 0 + d.window (ix1 k) 0).toNat = x.val
    rw [hstart, hwin]
    omega

theorem scatter_block {α : Type} (x0 : (shape1 N).Idx → α) (upd : (shape1 M).Idx → α) (x : Fin N) :
    Host.scatter d (fun _ b => b) x0 idx upd (ix1 x)
      = if h : s ≤ x.val ∧ x.val - s < M then upd (ix1 ⟨x.val - s, h.2⟩) else x0 (ix1 x) := by
  by_cases h : s ≤ x.val ∧ x.val - s < M
  · rw [dif_pos h]
    refine scatter_set_hit d x0 idx upd (ix1 x) _ (fun k hk => ?_) (ix1 ⟨x.val - s, h.2⟩)
      ((block_lands d hw hi hs s hsM hN idx hidx ⟨x.val - s, h.2⟩ x).2 (by show s + (x.val - s) = x.val; omega))
    obtain ⟨k', rfl⟩ : ∃ k' : Fin M, k = ix1 k' := ⟨k 0, eq_ix1 k⟩
    have e := (block_lands d hw hi hs s hsM hN idx hidx k' x).1 hk
    exact congrArg upd (congrArg ix1 (Fin.ext (by show k'.val = x.val - s; omega)))
  · rw [dif_neg h]
    refine scatter_set_miss d x0 idx upd (ix1 x) fun k hk => h ?_
    obtain ⟨k', rfl⟩ : ∃ k' : Fin M, k = ix1 k' := ⟨k 0, eq_ix1 k⟩
    have e := (block_lands d hw hi hs s hsM hN idx hidx k' x).1 hk
    have := k'.isLt
    omega

end Scatter

end Cert.NormProject

end
-- ==== Proof.Norm.Tile.lean ====
/-
  The normalise-and-project kernel's stored values at an index over the extended reals.
-/
module

public import proofs.«01_k».proof.Proof.Norm.Spec
public import proofs.«01_k».proof.Proof.Gen.Kernel2Ideal.Value
public import Idealize.ShloMosaic.Lib.Tactic
public import Idealize.ShloMosaic.Lib.WordCmp

@[expose] public section

set_option maxRecDepth 16384

noncomputable section

namespace Cert.Kernel2Ideal.Norm

open Cert.Kernel2Ideal Cert.Kernel2Ideal.Gen Cert.NormProject
open Idealize.ShloMosaic
open scoped BigOperators

section Payloads

variable (x : FVec Ideal S1024x2048 .f32) (g : FVec Ideal S1x2048 .f32) (s : FVec Ideal S1024x2048 .bf16) (w : FVec Ideal S2048x640 .bf16)
  (P : FVec Ideal S1024x640 .f32) (hg hf : FVec Ideal S1x128 .f32) (r : Fin 1024)

theorem pay1_at (k : Fin 2048) : k0_pay1 (F := Ideal) x g (ix2 r k) = normed (fun k' : Fin 2048 => x (ix2 r k')) (fun k' : Fin 2048 => g (ix2 (0 : Fin 1) k')) k := by
  pointwise [k0_pay1, normed, invRms]

/-- A product of a row and a column. -/
def prodAt (j : Fin 640) : EReal := ∑ k : Fin 2048, (s (ix2 r k) * w (ix2 k j) : EReal)

theorem pay2_at (j : Fin 640) : k0_pay2 (F := Ideal) s w (ix2 r j) = prodAt s w r j := by
  pointwise [k0_pay2, prodAt]

theorem pay3_at (j : Fin 640) : k0_pay3 (F := Ideal) s w (ix2 r j) = prodAt s w r j := by
  pointwise [k0_pay3, prodAt]

/-- A head divided by its root mean square where its flag is set. -/
def headOf (y : Fin 128 → EReal) (g f : EReal) (e : Fin 128) : EReal :=
  if Ideal.ofBits .f32 0x3F000000#32 < f then y e * invRms 0x43000000#32 y * g else y e

theorem lane_lt (o : ℕ) (ho : o ≤ 512) (e : Fin 128) : o + e.val < 640 := by have := e.isLt; omega

theorem pay4_at (e : Fin 128) : k0_pay4 (F := Ideal) s w hg hf (ix2 r e)
    = headOf (fun e' : Fin 128 => k0_pay3 (F := Ideal) s w (ix2 r ⟨0 + e'.val, lane_lt 0 (by decide) e'⟩)) (hg (ix2 (0 : Fin 1) e)) (hf (ix2 (0 : Fin 1) e)) e := by
  pointwise [k0_pay4, headOf, invRms]

theorem pay7_at (e : Fin 128) : k0_pay7 (F := Ideal) (k0_pay5 s w) (k0_pay6 s w) hg hf (ix2 r e)
    = headOf (fun e' : Fin 128 => k0_pay3 (F := Ideal) s w (ix2 r ⟨128 + e'.val, lane_lt 128 (by decide) e'⟩)) (hg (ix2 (0 : Fin 1) e)) (hf (ix2 (0 : Fin 1) e)) e := by
  pointwise [k0_pay7, k0_pay6, k0_pay5, headOf, invRms]

theorem pay8_at (e : Fin 128) : k0_pay8 (F := Ideal) P hg hf (ix2 r e)
    = headOf (fun e' : Fin 128 => P (ix2 r ⟨256 + e'.val, lane_lt 256 (by decide) e'⟩)) (hg (ix2 (0 : Fin 1) e)) (hf (ix2 (0 : Fin 1) e)) e := by
  pointwise [k0_pay8, headOf, invRms]

theorem pay11_at (e : Fin 128) : k0_pay11 (F := Ideal) (k0_pay9 P) (k0_pay10 P) (Scalar.ofBits .f32 0x43000000#32) hg hf (ix2 r e)
    = headOf (fun e' : Fin 128 => P (ix2 r ⟨384 + e'.val, lane_lt 384 (by decide) e'⟩)) (hg (ix2 (0 : Fin 1) e)) (hf (ix2 (0 : Fin 1) e)) e := by
  pointwise [k0_pay11, k0_pay10, k0_pay9, headOf, invRms]

theorem pay12_at (e : Fin 128) : k0_pay12 (F := Ideal) P hg hf (ix2 r e)
    = headOf (fun e' : Fin 128 => P (ix2 r ⟨512 + e'.val, lane_lt 512 (by decide) e'⟩)) (hg (ix2 (0 : Fin 1) e)) (hf (ix2 (0 : Fin 1) e)) e := by
  pointwise [k0_pay12, headOf, invRms]

end Payloads

end Cert.Kernel2Ideal.Norm

end
-- ==== Proof.Norm.Host.lean ====
/-
  The normalise-and-project kernel's prepared arguments at an index over the extended reals: the padded weights, the
  heads' gains and the flags of the heads that are normalised.
-/
module

public import proofs.«01_k».proof.Proof.Norm.Spec
public import proofs.«01_k».proof.Proof.Gen.Kernel2Ideal.Value
public import Idealize.ShloMosaic.Lib.Tactic
public import Idealize.ShloMosaic.Lib.WordCmp

@[expose] public section

set_option maxRecDepth 16384

noncomputable section

namespace Cert.Kernel2Ideal.Norm

open Cert.Kernel2Ideal Cert.Kernel2Ideal.Gen Cert.NormProject
open Idealize.ShloMosaic Idealize.ShloMosaic.TcCoe
open scoped BigOperators

/-- The flags' words: one at the heads that are normalised. -/
theorem lit_at : ∀ (q : Fin 45) (e : Fin 128), lit0 ⟨q.val * 128 + e.val, col_lt q e⟩ = if IsQuery q.val ∨ IsKey q.val then 0x3F800000#32 else 0x00000000#32 := by
  decide +kernel

variable (m : (ℓ : Loc nD τ sig) → Buf (Elt Ideal) ℓ) (c : Dev nD)

/-- The arguments. -/
abbrev argX : FVec Ideal S8x4096x2048 .f32 := m ((c : Thread nD τ).loc main_arg0)
abbrev argG : FVec Ideal S1x2048 .f32 := m ((c : Thread nD τ).loc main_arg1)
abbrev argW : FVec Ideal S1x2048x5656 .f32 := m ((c : Thread nD τ).loc main_arg2)
abbrev argQ : FVec Ideal S1x128 .f32 := m ((c : Thread nD τ).loc main_arg3)
abbrev argK : FVec Ideal S1x128 .f32 := m ((c : Thread nD τ).loc main_arg4)

/-- The heads' gains as the host line makes them: ones, the queries' gain at head 24 on, the keys' at heads 36 and 40. -/
def gains (QG KG : FVec Ideal S1x128 .f32) : FVec Ideal S5760 .f32 :=
  Host.scatter scatter_S5760_S1_S256_0_n_0_0 (fun _ b => b)
    (Host.scatter scatter_S5760_S1_S256_0_n_0_0 (fun _ b => b)
      (Host.scatter scatter_S5760_S1_S1024_0_n_0_0 (fun _ b => b)
        (broadcastInDim S5760 ![] bcast_S_S5760 (constant S_ .f32 0x3F800000#32))
        (broadcastInDim S1 ![] bcast_S_S1 (constantI S_ 32 3072#32))
        (shapeCast S1024 (broadcastInDim S8x128 ![0, 1] bcast_S1x128_S8x128_0_1 (shapeCast S1x128 (mulf (shapeCast S128 QG shapeCasts_S1x128_S128) (broadcastInDim S128 ![] bcast_S_S128 (constant S_ .f32 0x3DB504F3#32))) shapeCasts_S128_S1x128)) shapeCasts_S8x128_S1024))
      (broadcastInDim S1 ![] bcast_S_S1 (constantI S_ 32 4608#32))
      (shapeCast S256 (broadcastInDim S2x128 ![0, 1] bcast_S1x128_S2x128_0_1 (shapeCast S1x128 (shapeCast S128 KG shapeCasts_S1x128_S128) shapeCasts_S128_S1x128)) shapeCasts_S2x128_S256))
    (broadcastInDim S1 ![] bcast_S_S1 (constantI S_ 32 5120#32))
    (shapeCast S256 (broadcastInDim S2x128 ![0, 1] bcast_S1x128_S2x128_0_1 (shapeCast S1x128 (shapeCast S128 KG shapeCasts_S1x128_S128) shapeCasts_S128_S1x128)) shapeCasts_S2x128_S256)

theorem ops_eq : [hostOps0 (F := Ideal), hostOps0_1, hostOps0_2].flatten = hostOps0 ++ (hostOps0_1 ++ hostOps0_2) := rfl

theorem V0_eq : V m c main_v0 = shapeCast _ (argX m c) shapeCasts_S8x4096x2048_S32768x2048 := by
  unfold V
  rw [ops_eq]
  simp only [hostOps0, hostOps0_1, hostOps0_2, List.cons_append, List.nil_append]
  entry_read
  rfl

theorem V26_eq : V m c main_v26 = shapeCast _ (shapeCast _ (argG m c) shapeCasts_S1x2048_S2048) shapeCasts_S2048_S1x2048 := by
  unfold V
  rw [ops_eq]
  simp only [hostOps0, hostOps0_1, hostOps0_2, List.cons_append, List.nil_append]
  entry_read
  rfl

theorem V3_eq : V m c main_v3 = truncf .bf16 (pad S2048x5760 ![0, 0] ![0, 104] ![0, 0] (shapeCast _ (argW m c) shapeCasts_S1x2048x5656_S2048x5656)
    (sitofp (F := Ideal) .f32 (constantI S_ 32 0#32)) pads_S2048x5656_S2048x5760_000_01040 h_S_) bitsLt_bf16_f32 := by
  unfold V
  rw [ops_eq]
  simp only [hostOps0, hostOps0_1, hostOps0_2, List.cons_append, List.nil_append]
  entry_read
  rfl

theorem V28_eq : V m c main_v28 = shapeCast S1x5760 (fun i => (FloatOps.ofBits (F := Ideal) .f32 (lit0 (S5760.rowMajor i)) : Ideal .f32)) shapeCasts_S5760_S1x5760 := by
  unfold V
  rw [ops_eq]
  simp only [hostOps0, hostOps0_1, hostOps0_2, List.cons_append, List.nil_append]
  entry_read
  rfl

theorem V27_eq : V m c main_v27 = shapeCast S1x5760 (gains (argQ m c) (argK m c)) shapeCasts_S5760_S1x5760 := by
  unfold V
  rw [ops_eq]
  simp only [hostOps0, hostOps0_1, hostOps0_2, List.cons_append, List.nil_append]
  entry_read
  rfl

theorem V0_at (b : Fin 8) (t : Fin 4096) (k : Fin 2048) :
    (V m c main_v0 : FVec Ideal S32768x2048 .f32) (ix2 ⟨b.val * 4096 + t.val, row_lt b t⟩ k) = argX m c (ix3 b t k) := by
  rw [V0_eq]
  pointwise

theorem V26_at (k : Fin 2048) : (V m c main_v26 : FVec Ideal S1x2048 .f32) (ix2 (0 : Fin 1) k) = argG m c (ix2 (0 : Fin 1) k) := by
  rw [V26_eq]
  pointwise

theorem V3_at (k : Fin 2048) (j : Fin 5760) : (V m c main_v3 : FVec Ideal S2048x5760 .bf16) (ix2 k j)
    = if h : j.val < 5656 then argW m c (ix3 (0 : Fin 1) k ⟨j.val, h⟩) else (0 : EReal) := by
  rw [V3_eq]
  pointwise
  have h0 : (FloatOps.sitofp (F := Ideal) .f32 (0#32) : EReal) = 0 := by
    show (((0#32).toInt : ℝ) : EReal) = 0
    simp
  rw [h0]

theorem flat_at (q : Fin 45) (e : Fin 128) (v : FVec Ideal S5760 .f32) :
    shapeCast S1x5760 v shapeCasts_S5760_S1x5760 (ix2 (0 : Fin 1) ⟨q.val * 128 + e.val, col_lt q e⟩) = v (ix1 ⟨q.val * 128 + e.val, col_lt q e⟩) := by
  pointwise

theorem V28_at (q : Fin 45) (e : Fin 128) : (V m c main_v28 : FVec Ideal S1x5760 .f32) (ix2 (0 : Fin 1) ⟨q.val * 128 + e.val, col_lt q e⟩)
    = Ideal.ofBits .f32 (if IsQuery q.val ∨ IsKey q.val then 0x3F800000#32 else 0x00000000#32) := by
  rw [V28_eq, flat_at, ← lit_at q e]
  refine congrArg (fun i => Ideal.ofBits .f32 (lit0 i)) (Fin.ext ?_)
  exact Shape.rowMajor_val_one _

theorem idx_at (s : BitVec 32) (i : S1.Idx) : broadcastInDim S1 ![] bcast_S_S1 (constantI S_ 32 s) i = s := rfl

theorem tile8_at (y : FVec Ideal S1x128 .f32) (k : Fin 8) (e : Fin 128) (x : Fin 1024) (hx : x.val = k.val * 128 + e.val) :
    shapeCast S1024 (broadcastInDim S8x128 ![0, 1] bcast_S1x128_S8x128_0_1 y) shapeCasts_S8x128_S1024 (ix1 x) = y (ix2 (0 : Fin 1) e) := by
  have hl : k.val * 128 + e.val < 1024 := hx ▸ x.isLt
  obtain rfl : x = ⟨k.val * 128 + e.val, hl⟩ := Fin.ext hx
  pointwise

theorem tile2_at (y : FVec Ideal S1x128 .f32) (k : Fin 2) (e : Fin 128) (x : Fin 256) (hx : x.val = k.val * 128 + e.val) :
    shapeCast S256 (broadcastInDim S2x128 ![0, 1] bcast_S1x128_S2x128_0_1 y) shapeCasts_S2x128_S256 (ix1 x) = y (ix2 (0 : Fin 1) e) := by
  have hl : k.val * 128 + e.val < 256 := hx ▸ x.isLt
  obtain rfl : x = ⟨k.val * 128 + e.val, hl⟩ := Fin.ext hx
  pointwise

theorem gains_at (QG KG : FVec Ideal S1x128 .f32) (q : Fin 45) (e : Fin 128) : gains QG KG (ix1 ⟨q.val * 128 + e.val, col_lt q e⟩)
    = gain (fun e' : Fin 128 => QG (ix2 (0 : Fin 1) e')) (fun e' : Fin 128 => KG (ix2 (0 : Fin 1) e')) q.val e := by
  have hq := q.isLt
  have he := e.isLt
  unfold gains
  rw [scatter_block (N := 5760) (M := 256) scatter_S5760_S1_S256_0_n_0_0 rfl rfl rfl 5120 (by decide) (by decide) _ (idx_at _),
    scatter_block (N := 5760) (M := 256) scatter_S5760_S1_S256_0_n_0_0 rfl rfl rfl 4608 (by decide) (by decide) _ (idx_at _),
    scatter_block (N := 5760) (M := 1024) scatter_S5760_S1_S1024_0_n_0_0 rfl rfl rfl 3072 (by decide) (by decide) _ (idx_at _)]
  dsimp only
  unfold gain
  by_cases hW : 5120 ≤ q.val * 128 + e.val ∧ q.val * 128 + e.val - 5120 < 256
  · rw [dif_pos hW, if_neg (show ¬IsQuery q.val from fun h => by have h' : 24 ≤ q.val ∧ q.val < 32 := h; omega), if_pos (show IsKey q.val from (show q.val = 36 ∨ q.val = 37 ∨ q.val = 40 ∨ q.val = 41 by omega)),
      tile2_at _ ⟨q.val - 40, by omega⟩ e _ (by dsimp only; omega)]
    pointwise
  · rw [dif_neg hW]
    by_cases hS : 4608 ≤ q.val * 128 + e.val ∧ q.val * 128 + e.val - 4608 < 256
    · rw [dif_pos hS, if_neg (show ¬IsQuery q.val from fun h => by have h' : 24 ≤ q.val ∧ q.val < 32 := h; omega), if_pos (show IsKey q.val from (show q.val = 36 ∨ q.val = 37 ∨ q.val = 40 ∨ q.val = 41 by omega)),
        tile2_at _ ⟨q.val - 36, by omega⟩ e _ (by dsimp only; omega)]
      pointwise
    · rw [dif_neg hS]
      by_cases hQ : 3072 ≤ q.val * 128 + e.val ∧ q.val * 128 + e.val - 3072 < 1024
      · rw [dif_pos hQ, if_pos (show IsQuery q.val from (show 24 ≤ q.val ∧ q.val < 32 by omega)), tile8_at _ ⟨q.val - 24, by omega⟩ e _ (by dsimp only; omega)]
        pointwise
      · rw [dif_neg hQ, if_neg (show ¬IsQuery q.val from fun h => by have h' : 24 ≤ q.val ∧ q.val < 32 := h; omega), if_neg (show ¬IsKey q.val from fun h => by have h' : q.val = 36 ∨ q.val = 37 ∨ q.val = 40 ∨ q.val = 41 := h; omega)]
        exact Ideal.ofBits_one_f32

theorem V27_at (q : Fin 45) (e : Fin 128) : (V m c main_v27 : FVec Ideal S1x5760 .f32) (ix2 (0 : Fin 1) ⟨q.val * 128 + e.val, col_lt q e⟩)
    = gain (fun e' : Fin 128 => argQ m c (ix2 (0 : Fin 1) e')) (fun e' : Fin 128 => argK m c (ix2 (0 : Fin 1) e')) q.val e := by
  rw [V27_eq, flat_at, gains_at]

end Cert.Kernel2Ideal.Norm

end
-- ==== Proof.Norm.Reference.lean ====
/-
  The normalise-and-project reference read at an index over the extended reals: its steps named, and its result at
  entry `e` of head `q` of a row.
-/
module

public import proofs.«01_k».proof.Proof.Norm.Spec
public import proofs.«01_k».proof.Proof.Gen.Reference2Ideal.Run
public import Idealize.ShloMosaic.Lib.Tactic
public import Idealize.ShloMosaic.Lib.WordCmp

@[expose] public section

set_option maxRecDepth 16384

noncomputable section

namespace Cert.Reference2Ideal.Norm

open Cert.Reference2Ideal Cert.Reference2Ideal.Gen Cert.NormProject
open Idealize.ShloMosaic
open scoped BigOperators

/-! ## The reference's steps, named -/

section Steps

variable (X : FVec Ideal S8x4096x2048 .f32) (G : FVec Ideal S1x2048 .f32) (W : FVec Ideal S1x2048x5656 .f32)
  (QG KG : FVec Ideal S1x128 .f32)

/-- The normalised rows. -/
def rows : FVec Ideal S8x4096x2048 .f32 :=
  mulf (mulf X (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf X X) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 (shapeCast _ G shapeCasts_S1x2048_S2048)))
/-- Their products with the weights. -/
def prods : FVec Ideal S8x4096x5656 .f32 := Host.dotGeneral dot_S8x4096x2048_S2048x5656_S8x4096x5656_2_0_01_1_n_n none (rows X G) (shapeCast _ W shapeCasts_S1x2048x5656_S2048x5656)
/-- Eight heads divided by their root mean squares and scaled; -/
def heads8 (Y : FVec Ideal S8x4096x8x128 .f32) : FVec Ideal S8x4096x8x128 .f32 :=
  mulf (mulf Y (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf Y Y) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 (shapeCast _ QG shapeCasts_S1x128_S128)))
/-- and two. -/
def heads2 (Y : FVec Ideal S8x4096x2x128 .f32) : FVec Ideal S8x4096x2x128 .f32 :=
  mulf (mulf Y (broadcastInDim S8x4096x2x128 ![0, 1, 2, 3] bcast_S8x4096x2x1_S8x4096x2x128_0_1_2_3 (Host.rsqrt (addf (Host.divf (broadcastInDim S8x4096x2x1 ![0, 1, 2] bcast_S8x4096x2_S8x4096x2x1_0_1_2 (Host.reduceAdd (mulf Y Y) (constant S_ .f32 0x00000000#32) reducesTo_S8x4096x2x128_S8x4096x2_d3 h_S_)) (broadcastInDim S8x4096x2x1 ![] bcast_S_S8x4096x2x1 (constant S_ .f32 0x43000000#32))) (broadcastInDim S8x4096x2x1 ![] bcast_S_S8x4096x2x1 (constant S_ .f32 0x358637BD#32)))))) (broadcastInDim S8x4096x2x128 ![0, 1, 2, 3] bcast_S1x1x1x128_S8x4096x2x128_0_1_2_3 (broadcastInDim S1x1x1x128 ![3] bcast_S128_S1x1x1x128_3 (shapeCast _ KG shapeCasts_S1x128_S128)))
/-- The queries; -/
def queries : FVec Ideal S8x4096x1024 .f32 :=
  shapeCast _ (mulf (heads8 QG (shapeCast _ (extractStridedSlice S8x4096x1024 ![0, 0, 3072] (prods X G W) slices_S8x4096x5656_S8x4096x1024_0_0_3072) shapeCasts_S8x4096x1024_S8x4096x8x128)) (broadcastInDim S8x4096x8x128 ![] bcast_S_S8x4096x8x128 (constant S_ .f32 0x3DB504F3#32))) shapeCasts_S8x4096x8x128_S8x4096x1024
/-- the keys of the selected blocks; -/
def keysS : FVec Ideal S8x4096x256 .f32 :=
  shapeCast _ (heads2 KG (shapeCast _ (extractStridedSlice S8x4096x256 ![0, 0, 4608] (prods X G W) slices_S8x4096x5656_S8x4096x256_0_0_4608) shapeCasts_S8x4096x256_S8x4096x2x128)) shapeCasts_S8x4096x2x128_S8x4096x256
/-- the keys of the window. -/
def keysW : FVec Ideal S8x4096x256 .f32 :=
  shapeCast _ (heads2 KG (shapeCast _ (extractStridedSlice S8x4096x256 ![0, 0, 5120] (prods X G W) slices_S8x4096x5656_S8x4096x256_0_0_5120) shapeCasts_S8x4096x256_S8x4096x2x128)) shapeCasts_S8x4096x2x128_S8x4096x256
/-- Twelve groups of columns side by side. -/
def join (u0 u1 u2 u3 : FVec Ideal S8x4096x1024 .f32) (u4 u5 u6 u7 u8 u9 : FVec Ideal S8x4096x256 .f32)
    (u10 : FVec Ideal S8x4096x24 .f32) (u11 : FVec Ideal S8x4096x104 .f32) : FVec Ideal S8x4096x5760 .f32 :=
  concatenate S8x4096x5760 2 [⟨S8x4096x1024, u0⟩, ⟨S8x4096x1024, u1⟩, ⟨S8x4096x1024, u2⟩, ⟨S8x4096x1024, u3⟩, ⟨S8x4096x256, u4⟩, ⟨S8x4096x256, u5⟩, ⟨S8x4096x256, u6⟩, ⟨S8x4096x256, u7⟩, ⟨S8x4096x256, u8⟩, ⟨S8x4096x256, u9⟩, ⟨S8x4096x24, u10⟩, ⟨S8x4096x104, u11⟩] concatenates_S8x4096x1024_S8x4096x1024_S8x4096x1024_S8x4096x1024_S8x4096x256_S8x4096x256_S8x4096x256_S8x4096x256_S8x4096x256_S8x4096x256_S8x4096x24_S8x4096x104_S8x4096x5760_d2
/-- The columns side by side. -/
def cols : FVec Ideal S8x4096x5760 .f32 :=
  join (extractStridedSlice S8x4096x1024 ![0, 0, 0] (prods X G W) slices_S8x4096x5656_S8x4096x1024_0_0_0)
    (extractStridedSlice S8x4096x1024 ![0, 0, 1024] (prods X G W) slices_S8x4096x5656_S8x4096x1024_0_0_1024)
    (extractStridedSlice S8x4096x1024 ![0, 0, 2048] (prods X G W) slices_S8x4096x5656_S8x4096x1024_0_0_2048)
    (queries X G W QG)
    (extractStridedSlice S8x4096x256 ![0, 0, 4096] (prods X G W) slices_S8x4096x5656_S8x4096x256_0_0_4096)
    (extractStridedSlice S8x4096x256 ![0, 0, 4352] (prods X G W) slices_S8x4096x5656_S8x4096x256_0_0_4352)
    (keysS X G W KG)
    (extractStridedSlice S8x4096x256 ![0, 0, 4864] (prods X G W) slices_S8x4096x5656_S8x4096x256_0_0_4864)
    (keysW X G W KG)
    (extractStridedSlice S8x4096x256 ![0, 0, 5376] (prods X G W) slices_S8x4096x5656_S8x4096x256_0_0_5376)
    (extractStridedSlice S8x4096x24 ![0, 0, 5632] (prods X G W) slices_S8x4096x5656_S8x4096x24_0_0_5632)
    (broadcastInDim S8x4096x104 ![] bcast_S_S8x4096x104 (constant S_ .f32 0x00000000#32))
/-- The result. -/
def result : FVec Ideal S32768x5760 .bf16 := truncf .bf16 (shapeCast _ (cols X G W QG KG) shapeCasts_S8x4096x5760_S32768x5760) bitsLt_bf16_f32

end Steps

theorem res_eq (m : (ℓ : Loc nD τ sig) → Buf (Elt Ideal) ℓ) (c : Dev nD) :
    Value.res_main_v80 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index -/

section At

variable (X : FVec Ideal S8x4096x2048 .f32) (G : FVec Ideal S1x2048 .f32) (W : FVec Ideal S1x2048x5656 .f32)
  (QG KG : FVec Ideal S1x128 .f32) (b : Fin 8) (t : Fin 4096)

/-- A row of the argument, the gains, the weights, and the heads' gains as functions of their indices. -/
abbrev rowX (k : Fin 2048) : EReal := X (ix3 b t k)
abbrev gainX (k : Fin 2048) : EReal := G (ix2 (0 : Fin 1) k)
abbrev weightX (k : Fin 2048) (c : Fin 5656) : EReal := W (ix3 (0 : Fin 1) k c)
abbrev headX (g : FVec Ideal S1x128 .f32) (e : Fin 128) : EReal := g (ix2 (0 : Fin 1) e)

theorem rows_at (k : Fin 2048) : rows X G (ix3 b t k) = normed (rowX X b t) (gainX G) k := by
  pointwise [rows, normed, invRms]

theorem prods_at (c : Fin 5656) : prods X G W (ix3 b t c) = proj (rowX X b t) (gainX G) (weightX W) c.val := by
  rw [proj_of_lt _ _ _ _ c.isLt]
  pointwise [prods]
  exact Finset.sum_congr rfl fun k _ => by rw [rows_at X G b t k]

theorem heads8_at (Y : FVec Ideal S8x4096x8x128 .f32) (h : Fin 8) (e : Fin 128) :
    heads8 QG Y (ix4 b t h e) = Y (ix4 b t h e) * invRms 0x43000000#32 (fun e' : Fin 128 => Y (ix4 b t h e')) * headX QG e := by
  pointwise [heads8, invRms]

theorem heads2_at (Y : FVec Ideal S8x4096x2x128 .f32) (h : Fin 2) (e : Fin 128) :
    heads2 KG Y (ix4 b t h e) = Y (ix4 b t h e) * invRms 0x43000000#32 (fun e' : Fin 128 => Y (ix4 b t h e')) * headX KG e := by
  pointwise [heads2, invRms]

theorem query_lt (h : Fin 8) (e : Fin 128) : 3072 + (h.val * 128 + e.val) < 5656 := by have := h.isLt; have := e.isLt; omega
theorem key_lt (o : ℕ) (ho : o ≤ 5120) (h : Fin 2) (e : Fin 128) : o + (h.val * 128 + e.val) < 5656 := by have := h.isLt; have := e.isLt; omega
theorem in_lt (h : Fin 8) (e : Fin 128) : h.val * 128 + e.val < 1024 := by have := h.isLt; have := e.isLt; omega
theorem in2_lt (h : Fin 2) (e : Fin 128) : h.val * 128 + e.val < 256 := by have := h.isLt; have := e.isLt; omega

theorem queries_at (h : Fin 8) (e : Fin 128) : queries X G W QG (ix3 b t ⟨h.val * 128 + e.val, in_lt h e⟩)
    = proj (rowX X b t) (gainX G) (weightX W) (3072 + (h.val * 128 + e.val))
      * invRms 0x43000000#32 (fun e' : Fin 128 => proj (rowX X b t) (gainX G) (weightX W) (3072 + (h.val * 128 + e'.val)))
      * headX QG e * Ideal.ofBits .f32 0x3DB504F3#32 := by
  rw [← funext fun e' : Fin 128 => prods_at X G W b t ⟨3072 + (h.val * 128 + e'.val), query_lt h e'⟩, ← prods_at X G W b t ⟨3072 + (h.val * 128 + e.val), query_lt h e⟩]
  pointwise [queries]
  rw [heads8_at]
  pointwise

theorem keysS_at (h : Fin 2) (e : Fin 128) : keysS X G W KG (ix3 b t ⟨h.val * 128 + e.val, in2_lt h e⟩)
    = proj (rowX X b t) (gainX G) (weightX W) (4608 + (h.val * 128 + e.val))
      * invRms 0x43000000#32 (fun e' : Fin 128 => proj (rowX X b t) (gainX G) (weightX W) (4608 + (h.val * 128 + e'.val)))
      * headX KG e := by
  rw [← funext fun e' : Fin 128 => prods_at X G W b t ⟨4608 + (h.val * 128 + e'.val), key_lt 4608 (by decide) h e'⟩, ← prods_at X G W b t ⟨4608 + (h.val * 128 + e.val), key_lt 4608 (by decide) h e⟩]
  pointwise [keysS]
  rw [heads2_at]
  pointwise

theorem keysW_at (h : Fin 2) (e : Fin 128) : keysW X G W KG (ix3 b t ⟨h.val * 128 + e.val, in2_lt h e⟩)
    = proj (rowX X b t) (gainX G) (weightX W) (5120 + (h.val * 128 + e.val))
      * invRms 0x43000000#32 (fun e' : Fin 128 => proj (rowX X b t) (gainX G) (weightX W) (5120 + (h.val * 128 + e'.val)))
      * headX KG e := by
  rw [← funext fun e' : Fin 128 => prods_at X G W b t ⟨5120 + (h.val * 128 + e'.val), key_lt 5120 (by decide) h e'⟩, ← prods_at X G W b t ⟨5120 + (h.val * 128 + e.val), key_lt 5120 (by decide) h e⟩]
  pointwise [keysW]
  rw [heads2_at]
  pointwise

variable (u0 u1 u2 u3 : FVec Ideal S8x4096x1024 .f32) (u4 u5 u6 u7 u8 u9 : FVec Ideal S8x4096x256 .f32)
  (u10 : FVec Ideal S8x4096x24 .f32) (u11 : FVec Ideal S8x4096x104 .f32)

theorem join_0 (c : Fin 5760) (h1 : 0 ≤ c.val) (h2 : c.val - 0 < 1024) :
    join u0 u1 u2 u3 u4 u5 u6 u7 u8 u9 u10 u11 (ix3 b t c) = u0 (ix3 b t ⟨c.val - 0, h2⟩) := by
  pointwise [join]
  rw [dif_pos (by omega)]

theorem join_1 (c : Fin 5760) (h1 : 1024 ≤ c.val) (h2 : c.val - 1024 < 1024) :
    join u0 u1 u2 u3 u4 u5 u6 u7 u8 u9 u10 u11 (ix3 b t c) = u1 (ix3 b t ⟨c.val - 1024, h2⟩) := by
  pointwise [join]
  rw [dif_neg (by omega)]
  rw [dif_pos (by omega)]

theorem join_2 (c : Fin 5760) (h1 : 2048 ≤ c.val) (h2 : c.val - 2048 < 1024) :
    join u0 u1 u2 u3 u4 u5 u6 u7 u8 u9 u10 u11 (ix3 b t c) = u2 (ix3 b t ⟨c.val - 2048, h2⟩) := by
  pointwise [join]
  rw [dif_neg (by omega)]
  rw [dif_neg (by omega)]
  rw [dif_pos (by omega)]
  exact congrArg (fun k => u2 (ix3 b t k)) (Fin.ext (by dsimp only; omega))

theorem join_3 (c : Fin 5760) (h1 : 3072 ≤ c.val) (h2 : c.val - 3072 < 1024) :
    join u0 u1 u2 u3 u4 u5 u6 u7 u8 u9 u10 u11 (ix3 b t c) = u3 (ix3 b t ⟨c.val - 3072, h2⟩) := by
  pointwise [join]
  rw [dif_neg (by omega)]
  rw [dif_neg (by omega)]
  rw [dif_neg (by omega)]
  rw [dif_pos (by omega)]
  exact congrArg (fun k => u3 (ix3 b t k)) (Fin.ext (by dsimp only; omega))

theorem join_4 (c : Fin 5760) (h1 : 4096 ≤ c.val) (h2 : c.val - 4096 < 256) :
    join u0 u1 u2 u3 u4 u5 u6 u7 u8 u9 u10 u11 (ix3 b t c) = u4 (ix3 b t ⟨c.val - 4096, h2⟩) := by
  pointwise [join]
  rw [dif_neg (by omega)]
  rw [dif_neg (by omega)]
  rw [dif_neg (by omega)]
  rw [dif_neg (by omega)]
  rw [dif_pos (by omega)]
  exact congrArg (fun k => u4 (ix3 b t k)) (Fin.ext (by dsimp only; omega))

theorem join_5 (c : Fin 5760) (h1 : 4352 ≤ c.val) (h2 : c.val - 4352 < 256) :
    join u0 u1 u2 u3 u4 u5 u6 u7 u8 u9 u10 u11 (ix3 b t c) = u5 (ix3 b t ⟨c.val - 4352, h2⟩) := by
  pointwise [join]
  rw [dif_neg (by omega)]
  rw [dif_neg (by omega)]
  rw [dif_neg (by omega)]
  rw [dif_neg (by omega)]
  rw [dif_neg (by omega)]
  rw [dif_pos (by omega)]
  exact congrArg (fun k => u5 (ix3 b t k)) (Fin.ext (by dsimp only; omega))

theorem join_6 (c : Fin 5760) (h1 : 4608 ≤ c.val) (h2 : c.val - 4608 < 256) :
    join u0 u1 u2 u3 u4 u5 u6 u7 u8 u9 u10 u11 (ix3 b t c) = u6 (ix3 b t ⟨c.val - 4608, h2⟩) := by
  pointwise [join]
  rw [dif_neg (by omega)]
  rw [dif_neg (by omega)]
  rw [dif_neg (by omega)]
  rw [dif_neg (by omega)]
  rw [dif_neg (by omega)]
  rw [dif_neg (by omega)]
  rw [dif_pos (by omega)]
  exact congrArg (fun k => u6 (ix3 b t k)) (Fin.ext (by dsimp only; omega))

theorem join_7 (c : Fin 5760) (h1 : 4864 ≤ c.val) (h2 : c.val - 4864 < 256) :
    join u0 u1 u2 u3 u4 u5 u6 u7 u8 u9 u10 u11 (ix3 b t c) = u7 (ix3 b t ⟨c.val - 4864, h2⟩) := by
  pointwise [join]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun k => u7 (ix3 b t k)) (Fin.ext (by dsimp only; omega))

theorem join_8 (c : Fin 5760) (h1 : 5120 ≤ c.val) (h2 : c.val - 5120 < 256) :
    join u0 u1 u2 u3 u4 u5 u6 u7 u8 u9 u10 u11 (ix3 b t c) = u8 (ix3 b t ⟨c.val - 5120, h2⟩) := by
  pointwise [join]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun k => u8 (ix3 b t k)) (Fin.ext (by dsimp only; omega))

theorem join_9 (c : Fin 5760) (h1 : 5376 ≤ c.val) (h2 : c.val - 5376 < 256) :
    join u0 u1 u2 u3 u4 u5 u6 u7 u8 u9 u10 u11 (ix3 b t c) = u9 (ix3 b t ⟨c.val - 5376, h2⟩) := by
  pointwise [join]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun k => u9 (ix3 b t k)) (Fin.ext (by dsimp only; omega))

theorem join_10 (c : Fin 5760) (h1 : 5632 ≤ c.val) (h2 : c.val - 5632 < 24) :
    join u0 u1 u2 u3 u4 u5 u6 u7 u8 u9 u10 u11 (ix3 b t c) = u10 (ix3 b t ⟨c.val - 5632, h2⟩) := by
  pointwise [join]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun k => u10 (ix3 b t k)) (Fin.ext (by dsimp only; omega))

theorem join_11 (c : Fin 5760) (h1 : 5656 ≤ c.val) (h2 : c.val - 5656 < 104) :
    join u0 u1 u2 u3 u4 u5 u6 u7 u8 u9 u10 u11 (ix3 b t c) = u11 (ix3 b t ⟨c.val - 5656, h2⟩) := by
  pointwise [join]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  exact congrArg (fun k => u11 (ix3 b t k)) (Fin.ext (by dsimp only; omega))

/-- The columns that are not normalised; -/
theorem cols_plain (c : Fin 5760) (hc : c.val < 5656) (h : c.val < 3072 ∨ 4096 ≤ c.val ∧ c.val < 4608 ∨ 4864 ≤ c.val ∧ c.val < 5120 ∨ 5376 ≤ c.val) :
    cols X G W QG KG (ix3 b t c) = proj (rowX X b t) (gainX G) (weightX W) c.val := by
  rw [show proj (rowX X b t) (gainX G) (weightX W) c.val = _ from (prods_at X G W b t ⟨c.val, hc⟩).symm]
  unfold cols
  have hd : (0 ≤ c.val ∧ c.val - 0 < 1024) ∨ (1024 ≤ c.val ∧ c.val - 1024 < 1024) ∨ (2048 ≤ c.val ∧ c.val - 2048 < 1024) ∨ (4096 ≤ c.val ∧ c.val - 4096 < 256) ∨ (4352 ≤ c.val ∧ c.val - 4352 < 256) ∨ (4864 ≤ c.val ∧ c.val - 4864 < 256) ∨ (5376 ≤ c.val ∧ c.val - 5376 < 256) ∨ (5632 ≤ c.val ∧ c.val - 5632 < 24) := by omega
  rcases hd with ⟨h1, h2⟩ | ⟨h1, h2⟩ | ⟨h1, h2⟩ | ⟨h1, h2⟩ | ⟨h1, h2⟩ | ⟨h1, h2⟩ | ⟨h1, h2⟩ | ⟨h1, h2⟩
  · rw [join_0 b t (h1 := h1) (h2 := h2)]
    pointwise
  · rw [join_1 b t (h1 := h1) (h2 := h2)]
    pointwise
    exact congrArg (fun k => prods X G W (ix3 b t k)) (Fin.ext (by dsimp only; omega))
  · rw [join_2 b t (h1 := h1) (h2 := h2)]
    pointwise
    exact congrArg (fun k => prods X G W (ix3 b t k)) (Fin.ext (by dsimp only; omega))
  · rw [join_4 b t (h1 := h1) (h2 := h2)]
    pointwise
    exact congrArg (fun k => prods X G W (ix3 b t k)) (Fin.ext (by dsimp only; omega))
  · rw [join_5 b t (h1 := h1) (h2 := h2)]
    pointwise
    exact congrArg (fun k => prods X G W (ix3 b t k)) (Fin.ext (by dsimp only; omega))
  · rw [join_7 b t (h1 := h1) (h2 := h2)]
    pointwise
    exact congrArg (fun k => prods X G W (ix3 b t k)) (Fin.ext (by dsimp only; omega))
  · rw [join_9 b t (h1 := h1) (h2 := h2)]
    pointwise
    exact congrArg (fun k => prods X G W (ix3 b t k)) (Fin.ext (by dsimp only; omega))
  · rw [join_10 b t (h1 := h1) (h2 := h2)]
    pointwise
    exact congrArg (fun k => prods X G W (ix3 b t k)) (Fin.ext (by dsimp only; omega))

/-- those past the last; -/
theorem cols_past (c : Fin 5760) (hc : ¬c.val < 5656) : cols X G W QG KG (ix3 b t c) = 0 := by
  have := c.isLt
  unfold cols
  rw [join_11 b t (h1 := by omega) (h2 := by omega)]
  pointwise

/-- a query's; -/
theorem cols_query (h : Fin 8) (e : Fin 128) (c : Fin 5760) (hc : c.val = 3072 + (h.val * 128 + e.val)) :
    cols X G W QG KG (ix3 b t c) = queries X G W QG (ix3 b t ⟨h.val * 128 + e.val, in_lt h e⟩) := by
  have := in_lt h e
  unfold cols
  rw [join_3 b t (h1 := by omega) (h2 := by omega)]
  exact congrArg (fun k => queries X G W QG (ix3 b t k)) (Fin.ext (by dsimp only; omega))

/-- a key's of the selected blocks; -/
theorem cols_keyS (h : Fin 2) (e : Fin 128) (c : Fin 5760) (hc : c.val = 4608 + (h.val * 128 + e.val)) :
    cols X G W QG KG (ix3 b t c) = keysS X G W KG (ix3 b t ⟨h.val * 128 + e.val, in2_lt h e⟩) := by
  have := in2_lt h e
  unfold cols
  rw [join_6 b t (h1 := by omega) (h2 := by omega)]
  exact congrArg (fun k => keysS X G W KG (ix3 b t k)) (Fin.ext (by dsimp only; omega))

/-- a key's of the window. -/
theorem cols_keyW (h : Fin 2) (e : Fin 128) (c : Fin 5760) (hc : c.val = 5120 + (h.val * 128 + e.val)) :
    cols X G W QG KG (ix3 b t c) = keysW X G W KG (ix3 b t ⟨h.val * 128 + e.val, in2_lt h e⟩) := by
  have := in2_lt h e
  unfold cols
  rw [join_8 b t (h1 := by omega) (h2 := by omega)]
  exact congrArg (fun k => keysW X G W KG (ix3 b t k)) (Fin.ext (by dsimp only; omega))

/-- The result at entry `e` of head `q` of a row. -/
theorem cols_at (q : Fin 45) (e : Fin 128) : cols X G W QG KG (ix3 b t ⟨q.val * 128 + e.val, col_lt q e⟩)
    = element (rowX X b t) (gainX G) (weightX W) (headX QG) (headX KG) q.val e := by
  have hq := q.isLt
  have he := e.isLt
  unfold element
  by_cases hQ : IsQuery q.val
  · have hQ' : 24 ≤ q.val ∧ q.val < 32 := hQ
    rw [if_pos (Or.inl hQ), gain, if_pos hQ, cols_query X G W QG KG b t ⟨q.val - 24, by omega⟩ e _ (by show q.val * 128 + e.val = 3072 + ((q.val - 24) * 128 + e.val); omega),
      queries_at, mul_assoc _ (headX QG e)]
    have eq : ∀ e' : Fin 128, 3072 + ((q.val - 24) * 128 + e'.val) = q.val * 128 + e'.val := fun e' => by omega
    simp only [eq]
  · by_cases hK : IsKey q.val
    · rw [if_pos (Or.inr hK), gain, if_neg hQ, if_pos hK]
      have hK' : q.val = 36 ∨ q.val = 37 ∨ q.val = 40 ∨ q.val = 41 := hK
      by_cases hS : q.val < 40
      · rw [cols_keyS X G W QG KG b t ⟨q.val - 36, by omega⟩ e _ (by show q.val * 128 + e.val = 4608 + ((q.val - 36) * 128 + e.val); omega), keysS_at]
        have eq : ∀ e' : Fin 128, 4608 + ((q.val - 36) * 128 + e'.val) = q.val * 128 + e'.val := fun e' => by omega
        simp only [eq]
      · rw [cols_keyW X G W QG KG b t ⟨q.val - 40, by omega⟩ e _ (by show q.val * 128 + e.val = 5120 + ((q.val - 40) * 128 + e.val); omega), keysW_at]
        have eq : ∀ e' : Fin 128, 5120 + ((q.val - 40) * 128 + e'.val) = q.val * 128 + e'.val := fun e' => by omega
        simp only [eq]
    · rw [if_neg (not_or.2 ⟨hQ, hK⟩)]
      have hQ' : ¬(24 ≤ q.val ∧ q.val < 32) := hQ
      have hK' : ¬(q.val = 36 ∨ q.val = 37 ∨ q.val = 40 ∨ q.val = 41) := hK
      by_cases hc : q.val * 128 + e.val < 5656
      · exact cols_plain X G W QG KG b t _ hc (by show q.val * 128 + e.val < 3072 ∨ 4096 ≤ q.val * 128 + e.val ∧ q.val * 128 + e.val < 4608 ∨ 4864 ≤ q.val * 128 + e.val ∧ q.val * 128 + e.val < 5120 ∨ 5376 ≤ q.val * 128 + e.val; omega)
      · rw [cols_past X G W QG KG b t _ hc, proj_of_ge _ _ _ _ hc]

theorem result_at (q : Fin 45) (e : Fin 128) : result X G W QG KG (ix2 ⟨b.val * 4096 + t.val, row_lt b t⟩ ⟨q.val * 128 + e.val, col_lt q e⟩)
    = element (rowX X b t) (gainX G) (weightX W) (headX QG) (headX KG) q.val e := by
  rw [← cols_at]
  pointwise [result]

end At

end Cert.Reference2Ideal.Norm

end
-- ==== Proof.Norm.Array.lean ====
/-
  The result array of the normalise-and-project kernel over the extended reals is the reference's result: the normalised
  rows stay in the scratch through a row of points, and each point's block is the rows' products with its columns.
-/
module

public import proofs.«01_k».proof.Proof.Norm.Tile
public import proofs.«01_k».proof.Proof.Norm.Host
public import proofs.«01_k».proof.Proof.Norm.Reference
public import Idealize.ShloMosaic.Lib.Pipeline.ValueKit
public import Idealize.ShloMosaic.Lib.Pipeline.Covers
public import Idealize.ShloMosaic.Lib.Pipeline.ReadBack

@[expose] public section

set_option maxRecDepth 16384

noncomputable section

namespace Cert.Kernel2Ideal.Norm

open Cert.Kernel2Ideal Cert.Kernel2Ideal.Gen Cert.NormProject
open Idealize.ShloMosaic Idealize.ShloMosaic.TcCoe
open scoped BigOperators

variable (m : (ℓ : Loc nD τ sig) → Buf (Elt Ideal) ℓ) (c : Dev nD)

theorem index_0 : ∀ t : Fin grid0.N, win0_0.index t = ![t.val / 9, 0] := by decide +kernel
theorem index_1 : ∀ t : Fin grid0.N, win0_1.index t = ![0, 0] := by decide +kernel
theorem index_2 : ∀ t : Fin grid0.N, win0_2.index t = ![0, t.val % 9] := by decide +kernel
theorem index_3 : ∀ t : Fin grid0.N, win0_3.index t = ![0, t.val % 9] := by decide +kernel
theorem index_4 : ∀ t : Fin grid0.N, win0_4.index t = ![0, t.val % 9] := by decide +kernel
theorem index_5 : ∀ t : Fin grid0.N, win0_5.index t = ![t.val / 9, t.val % 9] := by decide +kernel

/-! ## What a point leaves in the scratch and in its block -/

/-- The scratch after a point. -/
abbrev scratch (n : ℕ) (hn : n < cfg0.N) : FVec Ideal S1024x2048 .bf16 := (outsAt0 (F := Ideal) m c n hn).2

/-- The scratch before a point. -/
abbrev prevS (t : Fin cfg0.N) : FVec Ideal S1024x2048 .bf16 := scratch m c (t.val - 1) (Nat.lt_of_le_of_lt (Nat.sub_le _ _) t.isLt)

theorem scratch_A (t : Fin cfg0.N) (h : t.val % 9 = 0) : scratch m c t.val t.isLt = k0_pay1 (iblk m c 0 t) (iblk m c 1 t) := by
  unfold scratch
  rw [outsAt0_A m c t h (by omega) (by omega)]
  dsimp only
  frame_out

theorem scratch_B (t : Fin cfg0.N) (h : ¬t.val % 9 = 0) : scratch m c t.val t.isLt = prevS m c t := by
  unfold scratch
  by_cases h3 : t.val % 9 ≤ 3
  · rw [outsAt0_B m c t h h3 (by omega)]
    rfl
  · rw [outsAt0_C m c t h h3 (by omega)]
    rfl

theorem tile_A (t : Fin cfg0.N) (h : t.val % 9 = 0) : (outsAt0 (F := Ideal) m c t.val t.isLt).1 = k0_pay2 (scratch m c t.val t.isLt) (iblk m c 2 t) := by
  rw [scratch_A m c t h, outsAt0_A m c t h (by omega) (by omega)]
  dsimp only
  frame_out

theorem tile_B (t : Fin cfg0.N) (h : ¬t.val % 9 = 0) (h3 : t.val % 9 ≤ 3) : (outsAt0 (F := Ideal) m c t.val t.isLt).1 = k0_pay2 (scratch m c t.val t.isLt) (iblk m c 2 t) := by
  rw [scratch_B m c t h, outsAt0_B m c t h h3 (by omega)]
  dsimp only
  frame_out
  simp only [read_unread_whole]

theorem lane640 (p : Fin 5) (e : Fin 128) : p.val * 128 + e.val < 640 := by have := p.isLt; have := e.isLt; omega

theorem headOf_congr {y y' : Fin 128 → EReal} {g g' f f' : EReal} {e : Fin 128} (hy : ∀ e', y e' = y' e') (hg : g = g') (hf : f = f') :
    headOf y g f e = headOf y' g' f' e := by rw [funext hy, hg, hf]

theorem ld_0 (v : Vec Ideal S1x640 .f32) (e : Fin 128) : View.ld (Val := Elt Ideal) (e' := .f32) v (Rect.unit ![0, 0] ![1, 128] inb_S1x640_S1x128_0_0) (ix2 (0 : Fin 1) e) = v (ix2 (0 : Fin 1) ⟨(0 : Fin 5).val * 128 + e.val, lane640 0 e⟩) := by
  pointwise
theorem ld_1 (v : Vec Ideal S1x640 .f32) (e : Fin 128) : View.ld (Val := Elt Ideal) (e' := .f32) v (Rect.unit ![0, 128] ![1, 128] inb_S1x640_S1x128_0_128) (ix2 (0 : Fin 1) e) = v (ix2 (0 : Fin 1) ⟨(1 : Fin 5).val * 128 + e.val, lane640 1 e⟩) := by
  pointwise
theorem ld_2 (v : Vec Ideal S1x640 .f32) (e : Fin 128) : View.ld (Val := Elt Ideal) (e' := .f32) v (Rect.unit ![0, 256] ![1, 128] inb_S1x640_S1x128_0_256) (ix2 (0 : Fin 1) e) = v (ix2 (0 : Fin 1) ⟨(2 : Fin 5).val * 128 + e.val, lane640 2 e⟩) := by
  pointwise
theorem ld_3 (v : Vec Ideal S1x640 .f32) (e : Fin 128) : View.ld (Val := Elt Ideal) (e' := .f32) v (Rect.unit ![0, 384] ![1, 128] inb_S1x640_S1x128_0_384) (ix2 (0 : Fin 1) e) = v (ix2 (0 : Fin 1) ⟨(3 : Fin 5).val * 128 + e.val, lane640 3 e⟩) := by
  pointwise
theorem ld_4 (v : Vec Ideal S1x640 .f32) (e : Fin 128) : View.ld (Val := Elt Ideal) (e' := .f32) v (Rect.unit ![0, 512] ![1, 128] inb_S1x640_S1x128_0_512) (ix2 (0 : Fin 1) e) = v (ix2 (0 : Fin 1) ⟨(4 : Fin 5).val * 128 + e.val, lane640 4 e⟩) := by
  pointwise

theorem tile_C (t : Fin cfg0.N) (h3 : ¬t.val % 9 ≤ 3) (r : Fin 1024) (p : Fin 5) (e : Fin 128) :
    (outsAt0 (F := Ideal) m c t.val t.isLt).1 (ix2 r ⟨p.val * 128 + e.val, lane640 p e⟩)
      = headOf (fun e' : Fin 128 => prodAt (scratch m c t.val t.isLt) (iblk m c 2 t) r ⟨p.val * 128 + e'.val, lane640 p e'⟩)
        ((iblk m c 3 t : FVec Ideal S1x640 .f32) (ix2 (0 : Fin 1) ⟨p.val * 128 + e.val, lane640 p e⟩)) ((iblk m c 4 t : FVec Ideal S1x640 .f32) (ix2 (0 : Fin 1) ⟨p.val * 128 + e.val, lane640 p e⟩)) e := by
  rw [scratch_B m c t (by omega), outsAt0_C m c t (by omega) h3 (by omega)]
  dsimp only
  frame_out
  simp only [read_unread_whole]
  have he := e.isLt
  have hp := p.isLt
  canon_tiles x h
  · have e1 : p.val * 128 + e.val = 512 + (x 1).val := h1
    obtain rfl : p = 4 := Fin.ext (by show p.val = 4; omega)
    have e2 : e = x 1 := Fin.ext (by change 4 * 128 + e.val = 512 + (x 1).val at e1; show e.val = (x 1).val; omega)
    have e3 : r = x 0 := Fin.ext h0
    rw [eq_ix2 x, ← e2, ← e3]
    refine (pay12_at _ _ _ _ _).trans (headOf_congr (fun e' => ?_) (ld_4 _ _) (ld_4 _ _))
    rw [pay3_at]
    exact congrArg _ (Fin.ext (by dsimp only; omega))
  · have e1 : p.val * 128 + e.val = 384 + (x 1).val := h1
    obtain rfl : p = 3 := Fin.ext (by show p.val = 3; omega)
    have e2 : e = x 1 := Fin.ext (by change 3 * 128 + e.val = 384 + (x 1).val at e1; show e.val = (x 1).val; omega)
    have e3 : r = x 0 := Fin.ext h0
    rw [eq_ix2 x, ← e2, ← e3]
    refine (pay11_at _ _ _ _ _).trans (headOf_congr (fun e' => ?_) (ld_3 _ _) (ld_3 _ _))
    rw [pay3_at]
    exact congrArg _ (Fin.ext (by dsimp only; omega))
  · have e1 : p.val * 128 + e.val = 256 + (x 1).val := h1
    obtain rfl : p = 2 := Fin.ext (by show p.val = 2; omega)
    have e2 : e = x 1 := Fin.ext (by change 2 * 128 + e.val = 256 + (x 1).val at e1; show e.val = (x 1).val; omega)
    have e3 : r = x 0 := Fin.ext h0
    rw [eq_ix2 x, ← e2, ← e3]
    refine (pay8_at _ _ _ _ _).trans (headOf_congr (fun e' => ?_) (ld_2 _ _) (ld_2 _ _))
    rw [pay3_at]
    exact congrArg _ (Fin.ext (by dsimp only; omega))
  · have e1 : p.val * 128 + e.val = 128 + (x 1).val := h1
    obtain rfl : p = 1 := Fin.ext (by show p.val = 1; omega)
    have e2 : e = x 1 := Fin.ext (by change 1 * 128 + e.val = 128 + (x 1).val at e1; show e.val = (x 1).val; omega)
    have e3 : r = x 0 := Fin.ext h0
    rw [eq_ix2 x, ← e2, ← e3]
    refine (pay7_at _ _ _ _ _ _).trans (headOf_congr (fun e' => ?_) (ld_1 _ _) (ld_1 _ _))
    rw [pay3_at]
    exact congrArg _ (Fin.ext (by dsimp only; omega))
  · have e1 : p.val * 128 + e.val = (x 1).val := h1
    obtain rfl : p = 0 := Fin.ext (by show p.val = 0; omega)
    have e2 : e = x 1 := Fin.ext (by change 0 * 128 + e.val = (x 1).val at e1; show e.val = (x 1).val; omega)
    have e3 : r = x 0 := Fin.ext h0
    rw [eq_ix2 x, ← e2, ← e3]
    refine (pay4_at _ _ _ _ _ _).trans (headOf_congr (fun e' => ?_) (ld_0 _ _) (ld_0 _ _))
    rw [pay3_at]
    exact congrArg _ (Fin.ext (by dsimp only; omega))

/-! ## The blocks at an index -/

theorem band_lt (t : Fin grid0.N) (r : Fin 1024) : t.val / 9 * 1024 + r.val < 32768 := by
  have h := lt_of_lt_of_eq t.isLt N_0
  have := r.isLt
  omega

theorem strip_lt (t : Fin grid0.N) (j : Fin 640) : t.val % 9 * 640 + j.val < 5760 := by
  have := j.isLt
  omega

theorem head_lt (t : Fin grid0.N) (p : Fin 5) : t.val % 9 * 5 + p.val < 45 := by
  have := p.isLt
  omega

/-- The prepared arguments. -/
abbrev rowsV (R : Fin 32768) (k : Fin 2048) : EReal := (V m c main_v0 : FVec Ideal S32768x2048 .f32) (ix2 R k)
abbrev gainV (k : Fin 2048) : EReal := argG m c (ix2 (0 : Fin 1) k)
abbrev weightV (k : Fin 2048) (j : Fin 5656) : EReal := argW m c (ix3 (0 : Fin 1) k j)
abbrev queryV (e : Fin 128) : EReal := argQ m c (ix2 (0 : Fin 1) e)
abbrev keyV (e : Fin 128) : EReal := argK m c (ix2 (0 : Fin 1) e)

theorem iblk0_at (t : Fin grid0.N) (r : Fin 1024) (k : Fin 2048) : (iblk m c 0 t : FVec Ideal S1024x2048 .f32) (ix2 r k) = rowsV m c ⟨t.val / 9 * 1024 + r.val, band_lt t r⟩ k := by
  blk_ext! [iblk, index_0 t]

theorem iblk1_at (t : Fin grid0.N) (k : Fin 2048) : (iblk m c 1 t : FVec Ideal S1x2048 .f32) (ix2 (0 : Fin 1) k) = gainV m c k := by
  refine Eq.trans ?_ (V26_at m c k)
  blk_ext! [iblk, index_1 t]

theorem iblk2_at (t : Fin grid0.N) (k : Fin 2048) (j : Fin 640) : (iblk m c 2 t : FVec Ideal S2048x640 .bf16) (ix2 k j)
    = (V m c main_v3 : FVec Ideal S2048x5760 .bf16) (ix2 k ⟨t.val % 9 * 640 + j.val, strip_lt t j⟩) := by
  blk_ext! [iblk, index_2 t]

set_option maxRecDepth 200000 in
theorem iblk3_at (t : Fin grid0.N) (j : Fin 640) : (iblk m c 3 t : FVec Ideal S1x640 .f32) (ix2 (0 : Fin 1) j)
    = (V m c main_v27 : FVec Ideal S1x5760 .f32) (ix2 (0 : Fin 1) ⟨t.val % 9 * 640 + j.val, strip_lt t j⟩) := by
  blk_ext! [iblk, index_3 t]

theorem iblk4_at (t : Fin grid0.N) (j : Fin 640) : (iblk m c 4 t : FVec Ideal S1x640 .f32) (ix2 (0 : Fin 1) j)
    = (V m c main_v28 : FVec Ideal S1x5760 .f32) (ix2 (0 : Fin 1) ⟨t.val % 9 * 640 + j.val, strip_lt t j⟩) := by
  blk_ext! [iblk, index_4 t]

/-! ## The scratch holds the normalised rows -/

theorem scratch_at (n : ℕ) : ∀ (hn : n < cfg0.N) (r : Fin 1024) (k : Fin 2048),
    scratch m c n hn (ix2 r k) = normed (rowsV m c ⟨n / 9 * 1024 + r.val, band_lt ⟨n, hn⟩ r⟩) (gainV m c) k := by
  induction n with
  | zero =>
    intro hn r k
    rw [scratch_A m c ⟨0, hn⟩ (Nat.zero_mod 9), pay1_at, funext fun k' => iblk0_at m c ⟨0, hn⟩ r k', funext fun k' => iblk1_at m c ⟨0, hn⟩ k']
  | succ n ih =>
    intro hn r k
    by_cases h : (n + 1) % 9 = 0
    · rw [scratch_A m c ⟨n + 1, hn⟩ h, pay1_at, funext fun k' => iblk0_at m c ⟨n + 1, hn⟩ r k', funext fun k' => iblk1_at m c ⟨n + 1, hn⟩ k']
    · rw [scratch_B m c ⟨n + 1, hn⟩ h]
      have e : (n + 1) / 9 = n / 9 := by omega
      simp only [e]
      exact ih (Nat.lt_of_succ_lt hn) r k

/-- A product of a point's rows and columns. -/
theorem prod_at (t : Fin grid0.N) (r : Fin 1024) (p : Fin 5) (e : Fin 128) :
    prodAt (scratch m c t.val t.isLt) (iblk m c 2 t) r ⟨p.val * 128 + e.val, lane640 p e⟩
      = proj (rowsV m c ⟨t.val / 9 * 1024 + r.val, band_lt t r⟩) (gainV m c) (weightV m c) ((t.val % 9 * 5 + p.val) * 128 + e.val) := by
  unfold prodAt proj
  refine Finset.sum_congr rfl fun k _ => ?_
  rw [scratch_at, iblk2_at, V3_at]
  have ec : t.val % 9 * 640 + (p.val * 128 + e.val) = (t.val % 9 * 5 + p.val) * 128 + e.val := by omega
  simp only [ec]

theorem flat_eq (t : Fin grid0.N) (p : Fin 5) (e : Fin 128) :
    (⟨t.val % 9 * 640 + (⟨p.val * 128 + e.val, lane640 p e⟩ : Fin 640).val, strip_lt t _⟩ : Fin 5760)
      = ⟨(⟨t.val % 9 * 5 + p.val, head_lt t p⟩ : Fin 45).val * 128 + e.val, col_lt ⟨t.val % 9 * 5 + p.val, head_lt t p⟩ e⟩ :=
  Fin.ext (by dsimp only; omega)

theorem half_lt_one : Ideal.ofBits .f32 0x3F000000#32 < Ideal.ofBits .f32 0x3F800000#32 := by
  rw [show Ideal.ofBits .f32 0x3F800000#32 = ((1 : ℝ) : EReal) by rw [Ideal.ofBits_one_f32]; norm_cast]
  rw [show Ideal.ofBits .f32 0x3F000000#32 = ((1 / 2 : ℝ) : EReal) by simp [Ideal.ofBits, Ideal.ieee, -EReal.coe_mul]; norm_num]
  exact EReal.coe_lt_coe_iff.2 (by norm_num)

theorem half_not_lt_zero : ¬Ideal.ofBits .f32 0x3F000000#32 < Ideal.ofBits .f32 0x00000000#32 := by
  rw [show Ideal.ofBits .f32 0x00000000#32 = ((0 : ℝ) : EReal) by rw [Ideal.ofBits_zero_f32]; norm_cast]
  rw [show Ideal.ofBits .f32 0x3F000000#32 = ((1 / 2 : ℝ) : EReal) by simp [Ideal.ofBits, Ideal.ieee, -EReal.coe_mul]; norm_num]
  exact fun h => absurd (EReal.coe_lt_coe_iff.1 h) (by norm_num)

/-- A point's block at an index. -/
theorem block_at (t : Fin grid0.N) (r : Fin 1024) (p : Fin 5) (e : Fin 128) :
    (outsAt0 (F := Ideal) m c t.val t.isLt).1 (ix2 r ⟨p.val * 128 + e.val, lane640 p e⟩)
      = element (rowsV m c ⟨t.val / 9 * 1024 + r.val, band_lt t r⟩) (gainV m c) (weightV m c) (queryV m c) (keyV m c) (t.val % 9 * 5 + p.val) e := by
  have hp := p.isLt
  unfold element
  by_cases h3 : t.val % 9 ≤ 3
  · rw [if_neg (show ¬(IsQuery (t.val % 9 * 5 + p.val) ∨ IsKey (t.val % 9 * 5 + p.val)) from fun h => by
      have h' : (24 ≤ t.val % 9 * 5 + p.val ∧ t.val % 9 * 5 + p.val < 32) ∨ (t.val % 9 * 5 + p.val = 36 ∨ t.val % 9 * 5 + p.val = 37 ∨ t.val % 9 * 5 + p.val = 40 ∨ t.val % 9 * 5 + p.val = 41) := h
      omega), ← prod_at]
    by_cases h0 : t.val % 9 = 0
    · rw [tile_A m c t h0, pay2_at]
    · rw [tile_B m c t h0 h3, pay2_at]
  · rw [tile_C m c t h3, funext fun e' => prod_at m c t r p e', iblk3_at, iblk4_at, flat_eq t p e, V27_at, V28_at]
    unfold headOf
    by_cases h : IsQuery (t.val % 9 * 5 + p.val) ∨ IsKey (t.val % 9 * 5 + p.val)
    · rw [if_pos h, if_pos h, if_pos half_lt_one]
    · rw [if_neg h, if_neg h, if_neg half_not_lt_zero]

/-! ## The result array -/

theorem final : (dats m 0 c).arrAt 5 cfg0.N = Cert.Reference2Ideal.Norm.result (argX m c) (argG m c) (argW m c) (argQ m c) (argK m c) := by
  refine (dats m 0 c).arrAt_eq_of_covers 5 _ (by decide +kernel) fun t hf y => ?_
  blk_simp
  rw [after0_5]
  obtain ⟨r, j, rfl⟩ : ∃ (r : Fin 1024) (j : Fin 640), y = ix2 r j := ⟨y 0, y 1, eq_ix2 y⟩
  obtain ⟨p, e, rfl⟩ : ∃ (p : Fin 5) (e : Fin 128), j = ⟨p.val * 128 + e.val, lane640 p e⟩ :=
    ⟨⟨j.val / 128, by have := j.isLt; omega⟩, ⟨j.val % 128, Nat.mod_lt _ (by decide)⟩, Fin.ext (by dsimp only; omega)⟩
  have hR := band_lt t r
  obtain ⟨b, s, hbs⟩ : ∃ (b : Fin 8) (s : Fin 4096), t.val / 9 * 1024 + r.val = b.val * 4096 + s.val :=
    ⟨⟨(t.val / 9 * 1024 + r.val) / 4096, by omega⟩, ⟨(t.val / 9 * 1024 + r.val) % 4096, Nat.mod_lt _ (by decide)⟩, by dsimp only; omega⟩
  have hrow : rowsV m c ⟨t.val / 9 * 1024 + r.val, band_lt t r⟩ = Cert.Reference2Ideal.Norm.rowX (argX m c) b s := by
    funext k
    have e1 : (⟨t.val / 9 * 1024 + r.val, band_lt t r⟩ : Fin 32768) = ⟨b.val * 4096 + s.val, row_lt b s⟩ := Fin.ext hbs
    rw [e1]
    exact V0_at m c b s k
  refine (block_at m c t r p e).trans ?_
  rw [hrow]
  refine (Cert.Reference2Ideal.Norm.result_at (argX m c) (argG m c) (argW m c) (argQ m c) (argK m c) b s ⟨t.val % 9 * 5 + p.val, head_lt t p⟩ e).symm.trans (congrArg _ ?_)
  have e1 : (⟨b.val * 4096 + s.val, row_lt b s⟩ : Fin 32768) = ⟨t.val / 9 * 1024 + r.val, band_lt t r⟩ := Fin.ext hbs.symm
  rw [e1, ← flat_eq]
  blk_ext [index_5 t]

end Cert.Kernel2Ideal.Norm

end
-- ==== Proof.Mix.Spec.lean ====
/-
  What the gated output projection computes at one element, over the extended reals: the three sparse branches weighted
  by their head's gates and added, this and the stick-breaking output each divided by its root mean square and scaled,
  the two rows side by side, their product with a column of the weights, and the row of the residual added.
-/
module

public import proofs.«01_k».proof.Proof.Norm.Spec

@[expose] public section

set_option maxRecDepth 16384

noncomputable section

namespace Cert.MixOut

open Idealize.ShloMosaic Cert.NormProject
open scoped BigOperators

/-- Column `e` of head `h`. -/
theorem col_lt (h : Fin 8) (e : Fin 128) : h.val * 128 + e.val < 1024 := by have := h.isLt; have := e.isLt; omega
/-- The gate of branch `b` of head `h`. -/
theorem gate_lt (h : Fin 8) (b : Fin 3) : h.val * 3 + b.val < 24 := by have := h.isLt; have := b.isLt; omega

/-- A column of the sum of the three branches, each weighted by its head's gate. -/
def gated (l : Fin 24 → EReal) (u0 u1 u2 : Fin 1024 → EReal) (j : Fin 1024) : EReal :=
  Ideal.logistic (l ⟨j.val / 128 * 3 + 0, by have := j.isLt; omega⟩) * u0 j
    + Ideal.logistic (l ⟨j.val / 128 * 3 + 1, by have := j.isLt; omega⟩) * u1 j
    + Ideal.logistic (l ⟨j.val / 128 * 3 + 2, by have := j.isLt; omega⟩) * u2 j

/-- A row divided by its root mean square and scaled. -/
def scaled (y g : Fin 1024 → EReal) (j : Fin 1024) : EReal := y j * invRms 0x44800000#32 y * g j

/-- The two rows side by side. -/
def beside (u v : Fin 1024 → EReal) (k : Fin 2048) : EReal :=
  if h : k.val < 1024 then u ⟨k.val, h⟩ else v ⟨k.val - 1024, by have := k.isLt; omega⟩

/-- A row's mixture of the heads. -/
def mixed (sb u0 u1 u2 : Fin 1024 → EReal) (l : Fin 24 → EReal) (gs gn : Fin 1024 → EReal) : Fin 2048 → EReal :=
  beside (scaled sb gs) (scaled (gated l u0 u1 u2) gn)

/-- The element of a row at a column. -/
def element (sb u0 u1 u2 : Fin 1024 → EReal) (l : Fin 24 → EReal) (gs gn : Fin 1024 → EReal) (x : EReal) (w : Fin 2048 → EReal) : EReal :=
  x + ∑ k : Fin 2048, mixed sb u0 u1 u2 l gs gn k * w k

/-! ## The gates are finite, so a high and a low part of one add up to it -/

theorem logistic_real (x : EReal) : ∃ r : ℝ, Ideal.logistic x = (r : EReal) := by
  induction x using EReal.rec with
  | bot => exact ⟨0, Ideal.logistic_bot⟩
  | top => exact ⟨1, Ideal.logistic_top⟩
  | coe r => exact ⟨_, Ideal.logistic_coe _⟩

theorem logistic_sub (x : EReal) : Ideal.logistic x - Ideal.logistic x = 0 := by
  obtain ⟨r, hr⟩ := logistic_real x
  rw [hr, ← EReal.coe_sub, sub_self, EReal.coe_zero]

/-- A sum of products with a row that has a single one. -/
theorem sum_single {N : ℕ} (v : Fin N → EReal) (d : Fin N → EReal) (k0 : Fin N) (h1 : d k0 = 1) (h0 : ∀ k, k ≠ k0 → d k = 0) :
    ∑ k : Fin N, v k * d k = v k0 := by
  rw [Finset.sum_eq_single k0 (fun k _ hk => by rw [h0 k hk, mul_zero]) (fun h => absurd (Finset.mem_univ _) h), h1, mul_one]

end Cert.MixOut

end
-- ==== Proof.Mix.Tile.lean ====
/-
  The gated output projection kernel's stored values at an index over the extended reals. The product of the gates with
  a matrix of zeros and ones puts a head's gate in each of its columns.
-/
module

public import proofs.«01_k».proof.Proof.Mix.Spec
public import proofs.«01_k».proof.Proof.Gen.Kernel3Ideal.Value
public import Idealize.ShloMosaic.Lib.Tactic
public import Idealize.ShloMosaic.Lib.WordCmp

@[expose] public section

set_option maxRecDepth 16384

noncomputable section

namespace Cert.Kernel3Ideal.Mix

open Cert.Kernel3Ideal Cert.Kernel3Ideal.Gen Cert.MixOut
open Cert.NormProject (invRms)
open Idealize.ShloMosaic
open scoped BigOperators

section Payloads

variable (r : Fin 512)

theorem pay1_at (y : FVec Ideal S512x1024 .f32) (g : FVec Ideal S1x1024 .f32) (j : Fin 1024) :
    k0_pay1 (F := Ideal) y g (ix2 r j) = scaled (fun j' : Fin 1024 => y (ix2 r j')) (fun j' : Fin 1024 => g (ix2 (0 : Fin 1) j')) j := by
  pointwise [k0_pay1, scaled, invRms]

theorem pay2_at (y : FVec Ideal S512x1024 .f32) (g : FVec Ideal S1x1024 .f32) (j : Fin 1024) :
    k0_pay2 (F := Ideal) y g (ix2 r j) = scaled (fun j' : Fin 1024 => y (ix2 r j')) (fun j' : Fin 1024 => g (ix2 (0 : Fin 1) j')) j := by
  pointwise [k0_pay2, scaled, invRms]

theorem pay3_at (x : FVec Ideal S512x512 .f32) (s : FVec Ideal S512x2048 .bf16) (w : FVec Ideal S2048x512 .bf16) (n : Fin 512) :
    k0_pay3 (F := Ideal) x s w (ix2 r n) = x (ix2 r n) + ∑ k : Fin 2048, (s (ix2 r k) * w (ix2 k n) : EReal) := by
  pointwise [k0_pay3]

/-! ## The gates in their heads' columns -/

variable (l : FVec Ideal S512x128 .bf16)

theorem pay5_at (k : Fin 128) : k0_pay5 (F := Ideal) l (ix2 r k) = Ideal.logistic (l (ix2 r k)) := by
  pointwise [k0_pay5, k0_pay4]

theorem pay6_at (k : Fin 128) : k0_pay6 (F := Ideal) l (ix2 r k) = 0 := by
  rw [← logistic_sub (l (ix2 r k))]
  pointwise [k0_pay6, k0_pay5, k0_pay4]

/-- The word of a column's head. -/
theorem headWord (k : Fin 128) (j : Fin 1024) : k0_pay7 (ix2 k j) = BitVec.ofNat 32 (j.val / 128) := by
  pointwise [k0_pay7]
  revert j
  decide +kernel

theorem branchWord : ∀ (h : Fin 8) (b : Fin 3) (k : Fin 128), IntOp.cmpi .eq (BitVec.ofNat 32 k.val) (IntOp.addi (IntOp.muli (BitVec.ofNat 32 h.val) 3#32) (BitVec.ofNat 32 b.val))
    = BitVec.ofBool (decide (k.val = h.val * 3 + b.val)) := by
  decide +kernel

/-- The matrix of zeros and ones for branch `b`. -/
def spread (b : BitVec 32) : FVec Ideal S128x1024 .bf16 :=
  truncf .bf16 (select (cmpi .eq (iota .tc S128x1024 32 [0] iota_S128x1024_d0_w32) (addi (muli k0_pay7 (broadcast S128x1024 3#32)) (broadcast S128x1024 b)))
    (broadcast S128x1024 (Scalar.ofBits .f32 0x3F800000#32)) (broadcast S128x1024 (Scalar.ofBits .f32 0x00000000#32))) bitsLt_bf16_f32

theorem spread_at (b : Fin 3) (k : Fin 128) (j : Fin 1024) : spread (BitVec.ofNat 32 b.val) (ix2 k j)
    = if k.val = j.val / 128 * 3 + b.val then (1 : EReal) else 0 := by
  unfold spread
  pointwise
  have hj := j.isLt
  rw [headWord, branchWord ⟨j.val / 128, by omega⟩ b k, WordCmp.select_ofBool]
  simp only [decide_eq_true_eq]

theorem logit_lt (k : Fin 24) : k.val < 128 := by have := k.isLt; omega
theorem branch_lt (j : Fin 1024) (b : Fin 3) : j.val / 128 * 3 + b.val < 24 := by have := j.isLt; have := b.isLt; omega

/-- The gates' high and low parts times the matrix, added: the gate of the column's head. -/
theorem gate_at (b : Fin 3) (j : Fin 1024) :
    (∑ k : Fin 128, (k0_pay5 (F := Ideal) l (ix2 r k) * spread (BitVec.ofNat 32 b.val) (ix2 k j) : EReal))
      + (∑ k : Fin 128, (k0_pay6 (F := Ideal) l (ix2 r k) * spread (BitVec.ofNat 32 b.val) (ix2 k j) : EReal))
      = Ideal.logistic (l (ix2 r ⟨j.val / 128 * 3 + b.val, logit_lt ⟨_, branch_lt j b⟩⟩)) := by
  rw [Finset.sum_eq_zero (s := Finset.univ) (f := fun k : Fin 128 => (k0_pay6 (F := Ideal) l (ix2 r k) * spread (BitVec.ofNat 32 b.val) (ix2 k j) : EReal))
    (fun k _ => by rw [pay6_at, zero_mul]), add_zero,
    sum_single (fun k : Fin 128 => k0_pay5 (F := Ideal) l (ix2 r k)) (fun k : Fin 128 => spread (BitVec.ofNat 32 b.val) (ix2 k j)) ⟨j.val / 128 * 3 + b.val, logit_lt ⟨_, branch_lt j b⟩⟩
      (by rw [spread_at, if_pos rfl]) (fun k hk => by rw [spread_at, if_neg fun h => hk (Fin.ext h)])]
  exact pay5_at r l _

/-- The gated sum of the branches as the kernel makes it. -/
def nsaTile (u0 u1 u2 : FVec Ideal S512x1024 .f32) : FVec Ideal S512x1024 .f32 :=
  k0_pay11 (k0_pay5 l) (k0_pay6 l) (iota .tc S128x1024 32 [0] iota_S128x1024_d0_w32) k0_pay7 k0_pay8 k0_pay9 (k0_pay10 l) u0 u1 u2

theorem nsaTile_eq (u0 u1 u2 : FVec Ideal S512x1024 .f32) (j : Fin 1024) : nsaTile l u0 u1 u2 (ix2 r j)
    = ((∑ k : Fin 128, (k0_pay5 (F := Ideal) l (ix2 r k) * spread (BitVec.ofNat 32 (0 : Fin 3).val) (ix2 k j) : EReal))
        + (∑ k : Fin 128, (k0_pay6 (F := Ideal) l (ix2 r k) * spread (BitVec.ofNat 32 (0 : Fin 3).val) (ix2 k j) : EReal))) * u0 (ix2 r j)
      + ((∑ k : Fin 128, (k0_pay5 (F := Ideal) l (ix2 r k) * spread (BitVec.ofNat 32 (1 : Fin 3).val) (ix2 k j) : EReal))
        + (∑ k : Fin 128, (k0_pay6 (F := Ideal) l (ix2 r k) * spread (BitVec.ofNat 32 (1 : Fin 3).val) (ix2 k j) : EReal))) * u1 (ix2 r j)
      + ((∑ k : Fin 128, (k0_pay5 (F := Ideal) l (ix2 r k) * spread (BitVec.ofNat 32 (2 : Fin 3).val) (ix2 k j) : EReal))
        + (∑ k : Fin 128, (k0_pay6 (F := Ideal) l (ix2 r k) * spread (BitVec.ofNat 32 (2 : Fin 3).val) (ix2 k j) : EReal))) * u2 (ix2 r j) := by
  unfold nsaTile spread
  pointwise [k0_pay11, k0_pay10, k0_pay9, k0_pay8]

/-- The logits of a row's gates. -/
abbrev logitsOf (k : Fin 24) : EReal := l (ix2 r ⟨k.val, logit_lt k⟩)

theorem nsaTile_at (u0 u1 u2 : FVec Ideal S512x1024 .f32) (j : Fin 1024) : nsaTile l u0 u1 u2 (ix2 r j)
    = gated (logitsOf r l) (fun j' : Fin 1024 => u0 (ix2 r j')) (fun j' : Fin 1024 => u1 (ix2 r j')) (fun j' : Fin 1024 => u2 (ix2 r j')) j := by
  rw [nsaTile_eq, gate_at, gate_at, gate_at]
  rfl

end Payloads

end Cert.Kernel3Ideal.Mix

end
-- ==== Proof.Mix.Host.lean ====
/-
  The gated output projection kernel's prepared arguments at an index over the extended reals: rows flattened out of
  their batches and the weights.
-/
module

public import proofs.«01_k».proof.Proof.Mix.Spec
public import proofs.«01_k».proof.Proof.Gen.Kernel3Ideal.Value
public import Idealize.ShloMosaic.Lib.Tactic

@[expose] public section

set_option maxRecDepth 16384

noncomputable section

namespace Cert.Kernel3Ideal.Mix

open Cert.Kernel3Ideal Cert.Kernel3Ideal.Gen Cert.MixOut
open Cert.NormProject (row_lt)
open Idealize.ShloMosaic Idealize.ShloMosaic.TcCoe
open scoped BigOperators

variable (m : (ℓ : Loc nD τ sig) → Buf (Elt Ideal) ℓ) (c : Dev nD)

/-- The arguments. -/
abbrev argSB : FVec Ideal S8x4096x1024 .f32 := m ((c : Thread nD τ).loc main_arg0)
abbrev argU0 : FVec Ideal S8x4096x1024 .f32 := m ((c : Thread nD τ).loc main_arg1)
abbrev argU1 : FVec Ideal S8x4096x1024 .f32 := m ((c : Thread nD τ).loc main_arg2)
abbrev argU2 : FVec Ideal S8x4096x1024 .f32 := m ((c : Thread nD τ).loc main_arg3)
abbrev argPR : FVec Ideal S8x4096x5760 .bf16 := m ((c : Thread nD τ).loc main_arg4)
abbrev argGS : FVec Ideal S1x1024 .f32 := m ((c : Thread nD τ).loc main_arg5)
abbrev argGN : FVec Ideal S1x1024 .f32 := m ((c : Thread nD τ).loc main_arg6)
abbrev argW : FVec Ideal S1x2048x2048 .f32 := m ((c : Thread nD τ).loc main_arg7)
abbrev argX : FVec Ideal S8x4096x2048 .f32 := m ((c : Thread nD τ).loc main_arg8)

theorem V0_eq : V m c main_v0 = shapeCast _ (argX m c) shapeCasts_S8x4096x2048_S32768x2048 := by
  unfold V
  simp only [hostOps0]
  entry_read
  rfl
theorem V1_eq : V m c main_v1 = shapeCast _ (argSB m c) shapeCasts_S8x4096x1024_S32768x1024 := by
  unfold V
  simp only [hostOps0]
  entry_read
  rfl
theorem V2_eq : V m c main_v2 = shapeCast _ (argU0 m c) shapeCasts_S8x4096x1024_S32768x1024 := by
  unfold V
  simp only [hostOps0]
  entry_read
  rfl
theorem V3_eq : V m c main_v3 = shapeCast _ (argU1 m c) shapeCasts_S8x4096x1024_S32768x1024 := by
  unfold V
  simp only [hostOps0]
  entry_read
  rfl
theorem V4_eq : V m c main_v4 = shapeCast _ (argU2 m c) shapeCasts_S8x4096x1024_S32768x1024 := by
  unfold V
  simp only [hostOps0]
  entry_read
  rfl
theorem V5_eq : V m c main_v5 = shapeCast _ (argPR m c) shapeCasts_S8x4096x5760_S32768x5760 := by
  unfold V
  simp only [hostOps0]
  entry_read
  rfl
theorem V9_eq : V m c main_v9 = truncf .bf16 (shapeCast _ (argW m c) shapeCasts_S1x2048x2048_S2048x2048) bitsLt_bf16_f32 := by
  unfold V
  simp only [hostOps0]
  entry_read
  rfl
theorem V10_eq : V m c main_v10 = shapeCast _ (shapeCast _ (argGS m c) shapeCasts_S1x1024_S1024) shapeCasts_S1024_S1x1024 := by
  unfold V
  simp only [hostOps0]
  entry_read
  rfl
theorem V11_eq : V m c main_v11 = shapeCast _ (shapeCast _ (argGN m c) shapeCasts_S1x1024_S1024) shapeCasts_S1024_S1x1024 := by
  unfold V
  simp only [hostOps0]
  entry_read
  rfl

theorem V0_at (b : Fin 8) (t : Fin 4096) (k : Fin 2048) :
    (V m c main_v0 : FVec Ideal S32768x2048 .f32) (ix2 ⟨b.val * 4096 + t.val, row_lt b t⟩ k) = argX m c (ix3 b t k) := by
  rw [V0_eq]
  pointwise
theorem V1_at (b : Fin 8) (t : Fin 4096) (k : Fin 1024) :
    (V m c main_v1 : FVec Ideal S32768x1024 .f32) (ix2 ⟨b.val * 4096 + t.val, row_lt b t⟩ k) = argSB m c (ix3 b t k) := by
  rw [V1_eq]
  pointwise
theorem V2_at (b : Fin 8) (t : Fin 4096) (k : Fin 1024) :
    (V m c main_v2 : FVec Ideal S32768x1024 .f32) (ix2 ⟨b.val * 4096 + t.val, row_lt b t⟩ k) = argU0 m c (ix3 b t k) := by
  rw [V2_eq]
  pointwise
theorem V3_at (b : Fin 8) (t : Fin 4096) (k : Fin 1024) :
    (V m c main_v3 : FVec Ideal S32768x1024 .f32) (ix2 ⟨b.val * 4096 + t.val, row_lt b t⟩ k) = argU1 m c (ix3 b t k) := by
  rw [V3_eq]
  pointwise
theorem V4_at (b : Fin 8) (t : Fin 4096) (k : Fin 1024) :
    (V m c main_v4 : FVec Ideal S32768x1024 .f32) (ix2 ⟨b.val * 4096 + t.val, row_lt b t⟩ k) = argU2 m c (ix3 b t k) := by
  rw [V4_eq]
  pointwise
theorem V5_at (b : Fin 8) (t : Fin 4096) (k : Fin 5760) :
    (V m c main_v5 : FVec Ideal S32768x5760 .bf16) (ix2 ⟨b.val * 4096 + t.val, row_lt b t⟩ k) = argPR m c (ix3 b t k) := by
  rw [V5_eq]
  pointwise
theorem V9_at (k n : Fin 2048) : (V m c main_v9 : FVec Ideal S2048x2048 .bf16) (ix2 k n) = argW m c (ix3 (0 : Fin 1) k n) := by
  rw [V9_eq]
  pointwise
theorem V10_at (k : Fin 1024) : (V m c main_v10 : FVec Ideal S1x1024 .f32) (ix2 (0 : Fin 1) k) = argGS m c (ix2 (0 : Fin 1) k) := by
  rw [V10_eq]
  pointwise
theorem V11_at (k : Fin 1024) : (V m c main_v11 : FVec Ideal S1x1024 .f32) (ix2 (0 : Fin 1) k) = argGN m c (ix2 (0 : Fin 1) k) := by
  rw [V11_eq]
  pointwise

end Cert.Kernel3Ideal.Mix

end
-- ==== Proof.Mix.Reference.lean ====
/-
  The gated output projection's reference read at an index over the extended reals: its steps named, and its result at
  a row and a column.
-/
module

public import proofs.«01_k».proof.Proof.Mix.Spec
public import proofs.«01_k».proof.Proof.Gen.Reference3Ideal.Run
public import Idealize.ShloMosaic.Lib.Tactic
public import Idealize.ShloMosaic.Lib.WordCmp

@[expose] public section

set_option maxRecDepth 16384

noncomputable section

namespace Cert.Reference3Ideal.Mix

open Cert.Reference3Ideal Cert.Reference3Ideal.Gen Cert.MixOut
open Cert.NormProject (invRms row_lt)
open Idealize.ShloMosaic
open scoped BigOperators

/-! ## The reference's steps, named -/

/-- The gates' logistic values. -/
def gateOf (PR : FVec Ideal S8x4096x5760 .bf16) : FVec Ideal S8x4096x24 .f32 :=
  Host.divf (broadcastInDim S8x4096x24 ![] bcast_S_S8x4096x24 (constant S_ .f32 0x3F800000#32)) (addf (broadcastInDim S8x4096x24 ![] bcast_S_S8x4096x24 (constant S_ .f32 0x3F800000#32)) (Host.exp (Host.negf (extf .f32 (extractStridedSlice S8x4096x24 ![0, 0, 5632] PR slices_S8x4096x5760_S8x4096x24_0_0_5632) bitsLt_bf16_f32))))
/-- The gates by group, head, row and branch. -/
def gates (PR : FVec Ideal S8x4096x5760 .bf16) : FVec Ideal S8x2x4x4096x3 .f32 :=
  transpose S8x2x4x4096x3 [0, 2, 3, 1, 4] (shapeCast _ (gateOf PR) shapeCasts_S8x4096x24_S8x4096x2x4x3) transposes_S8x4096x2x4x3_S8x2x4x4096x3_0_2_3_1_4
/-- A branch by group, head, row and entry. -/
def heads (U : FVec Ideal S8x4096x1024 .f32) : FVec Ideal S8x2x4x4096x128 .f32 :=
  transpose S8x2x4x4096x128 [0, 2, 3, 1, 4] (shapeCast _ U shapeCasts_S8x4096x1024_S8x4096x2x4x128) transposes_S8x4096x2x4x128_S8x2x4x4096x128_0_2_3_1_4
/-- The gated sum of the branches, a row's heads side by side. -/
def nsa (PR : FVec Ideal S8x4096x5760 .bf16) (U0 U1 U2 : FVec Ideal S8x4096x1024 .f32) : FVec Ideal S8x4096x1024 .f32 :=
  shapeCast _ (transpose S8x4096x2x4x128 [0, 3, 1, 2, 4] (addf (addf (mulf (broadcastInDim S8x2x4x4096x128 ![0, 1, 2, 3, 4] bcast_S8x2x4x4096x1_S8x2x4x4096x128_0_1_2_3_4 (extractStridedSlice S8x2x4x4096x1 ![0, 0, 0, 0, 0] (gates PR) slices_S8x2x4x4096x3_S8x2x4x4096x1_0_0_0_0_0)) (heads U0)) (mulf (broadcastInDim S8x2x4x4096x128 ![0, 1, 2, 3, 4] bcast_S8x2x4x4096x1_S8x2x4x4096x128_0_1_2_3_4 (extractStridedSlice S8x2x4x4096x1 ![0, 0, 0, 0, 1] (gates PR) slices_S8x2x4x4096x3_S8x2x4x4096x1_0_0_0_0_1)) (heads U1))) (mulf (broadcastInDim S8x2x4x4096x128 ![0, 1, 2, 3, 4] bcast_S8x2x4x4096x1_S8x2x4x4096x128_0_1_2_3_4 (extractStridedSlice S8x2x4x4096x1 ![0, 0, 0, 0, 2] (gates PR) slices_S8x2x4x4096x3_S8x2x4x4096x1_0_0_0_0_2)) (heads U2))) transposes_S8x2x4x4096x128_S8x4096x2x4x128_0_3_1_2_4) shapeCasts_S8x4096x2x4x128_S8x4096x1024
/-- Rows divided by their root mean squares and scaled. -/
def norm (Y : FVec Ideal S8x4096x1024 .f32) (G : FVec Ideal S1x1024 .f32) : FVec Ideal S8x4096x1024 .f32 :=
  mulf (mulf Y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Y Y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ G shapeCasts_S1x1024_S1024)))
/-- Two groups of columns side by side. -/
def join (Y Z : FVec Ideal S8x4096x1024 .f32) : FVec Ideal S8x4096x2048 .f32 :=
  concatenate S8x4096x2048 2 [⟨S8x4096x1024, Y⟩, ⟨S8x4096x1024, Z⟩] concatenates_S8x4096x1024_S8x4096x1024_S8x4096x2048_d2
/-- The result. -/
def result (SB U0 U1 U2 : FVec Ideal S8x4096x1024 .f32) (PR : FVec Ideal S8x4096x5760 .bf16) (GS GN : FVec Ideal S1x1024 .f32)
    (W : FVec Ideal S1x2048x2048 .f32) (X : FVec Ideal S8x4096x2048 .f32) : FVec Ideal S32768x2048 .f32 :=
  shapeCast _ (addf X (Host.dotGeneral dot_S8x4096x2048_S2048x2048_S8x4096x2048_2_0_01_1_n_n none (join (norm SB GS) (norm (nsa PR U0 U1 U2) GN)) (shapeCast _ W shapeCasts_S1x2048x2048_S2048x2048))) shapeCasts_S8x4096x2048_S32768x2048

theorem res_eq (m : (ℓ : Loc nD τ sig) → Buf (Elt Ideal) ℓ) (c : Dev nD) :
    Value.res_main_v61 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

/-! ## At an index -/

section At

variable (SB U0 U1 U2 : FVec Ideal S8x4096x1024 .f32) (PR : FVec Ideal S8x4096x5760 .bf16) (GS GN : FVec Ideal S1x1024 .f32)
  (W : FVec Ideal S1x2048x2048 .f32) (X : FVec Ideal S8x4096x2048 .f32) (b : Fin 8) (t : Fin 4096)

/-- A row of an argument, the gates' logits, the gains and a column of the weights as functions of their indices. -/
abbrev rowU (U : FVec Ideal S8x4096x1024 .f32) (j : Fin 1024) : EReal := U (ix3 b t j)
theorem logit_lt (k : Fin 24) : 5632 + k.val < 5760 := by have := k.isLt; omega
abbrev logits (k : Fin 24) : EReal := PR (ix3 b t ⟨5632 + k.val, logit_lt k⟩)
abbrev gains (G : FVec Ideal S1x1024 .f32) (j : Fin 1024) : EReal := G (ix2 (0 : Fin 1) j)
abbrev weights (n : Fin 2048) (k : Fin 2048) : EReal := W (ix3 (0 : Fin 1) k n)

theorem gateOf_at (k : Fin 24) : gateOf PR (ix3 b t k) = Ideal.logistic (logits PR b t k) := by
  unfold Ideal.logistic
  rw [show (1 : EReal) = Ideal.ofBits .f32 0x3F800000#32 from Ideal.ofBits_one_f32.symm]
  pointwise [gateOf]

theorem lane_lt (g : Fin 2) (r : Fin 4) (e : Fin 128) : (g.val * 4 + r.val) * 128 + e.val < 1024 := by
  have := g.isLt; have := r.isLt; have := e.isLt; omega
theorem branch_lt (g : Fin 2) (r : Fin 4) (i : Fin 3) : (g.val * 4 + r.val) * 3 + i.val < 24 := by
  have := g.isLt; have := r.isLt; have := i.isLt; omega

theorem gates_at (g : Fin 2) (r : Fin 4) (i : Fin 3) : gates PR (ix5 b g r t i) = Ideal.logistic (logits PR b t ⟨(g.val * 4 + r.val) * 3 + i.val, branch_lt g r i⟩) := by
  rw [← gateOf_at]
  pointwise [gates]
  exact congrArg (fun k => gateOf PR (ix3 b t k)) (Fin.ext (by dsimp only; omega))

theorem heads_at (U : FVec Ideal S8x4096x1024 .f32) (g : Fin 2) (r : Fin 4) (e : Fin 128) :
    heads U (ix5 b g r t e) = U (ix3 b t ⟨(g.val * 4 + r.val) * 128 + e.val, lane_lt g r e⟩) := by
  pointwise [heads]
  exact congrArg (fun k => U (ix3 b t k)) (Fin.ext (by dsimp only; omega))

theorem nsa_head (g : Fin 2) (r : Fin 4) (e : Fin 128) : nsa PR U0 U1 U2 (ix3 b t ⟨(g.val * 4 + r.val) * 128 + e.val, lane_lt g r e⟩)
    = gates PR (ix5 b g r t (0 : Fin 3)) * heads U0 (ix5 b g r t e) + gates PR (ix5 b g r t (1 : Fin 3)) * heads U1 (ix5 b g r t e)
      + gates PR (ix5 b g r t (2 : Fin 3)) * heads U2 (ix5 b g r t e) := by
  pointwise [nsa]

theorem nsa_at (j : Fin 1024) : nsa PR U0 U1 U2 (ix3 b t j) = gated (logits PR b t) (rowU b t U0) (rowU b t U1) (rowU b t U2) j := by
  obtain ⟨g, r, e, rfl⟩ : ∃ (g : Fin 2) (r : Fin 4) (e : Fin 128), j = ⟨(g.val * 4 + r.val) * 128 + e.val, lane_lt g r e⟩ := by
    have := j.isLt
    exact ⟨⟨j.val / 512, by omega⟩, ⟨j.val / 128 % 4, Nat.mod_lt _ (by decide)⟩, ⟨j.val % 128, Nat.mod_lt _ (by decide)⟩, Fin.ext (by dsimp only; omega)⟩
  have he := e.isLt
  have e1 : ((g.val * 4 + r.val) * 128 + e.val) / 128 = g.val * 4 + r.val := by omega
  rw [nsa_head, heads_at, heads_at, heads_at, gates_at, gates_at, gates_at]
  unfold gated
  simp only [e1]
  rfl

theorem norm_at (Y : FVec Ideal S8x4096x1024 .f32) (G : FVec Ideal S1x1024 .f32) (j : Fin 1024) :
    norm Y G (ix3 b t j) = scaled (rowU b t Y) (gains G) j := by
  pointwise [norm, scaled, invRms]

theorem join_at (Y Z : FVec Ideal S8x4096x1024 .f32) (k : Fin 2048) : join Y Z (ix3 b t k) = beside (rowU b t Y) (rowU b t Z) k := by
  pointwise [join, beside]

theorem result_at (n : Fin 2048) : result SB U0 U1 U2 PR GS GN W X (ix2 ⟨b.val * 4096 + t.val, row_lt b t⟩ n)
    = element (rowU b t SB) (rowU b t U0) (rowU b t U1) (rowU b t U2) (logits PR b t) (gains GS) (gains GN) (X (ix3 b t n)) (weights W n) := by
  unfold element mixed
  rw [← funext fun j => nsa_at U0 U1 U2 PR b t j, ← funext fun j => norm_at b t SB GS j, ← funext fun j => norm_at b t (nsa PR U0 U1 U2) GN j]
  rw [← funext fun k => join_at b t (norm SB GS) (norm (nsa PR U0 U1 U2) GN) k]
  pointwise [result]

end At

end Cert.Reference3Ideal.Mix

end
-- ==== Proof.Mix.Array.lean ====
/-
  The result array of the gated output projection kernel over the extended reals is the reference's result: the mixed
  rows stay in the scratch through a row of points, and each point's block is the residual plus the rows' products with
  its columns.
-/
module

public import proofs.«01_k».proof.Proof.Mix.Tile
public import proofs.«01_k».proof.Proof.Mix.Host
public import proofs.«01_k».proof.Proof.Mix.Reference
public import Idealize.ShloMosaic.Lib.Pipeline.ValueKit
public import Idealize.ShloMosaic.Lib.Pipeline.Covers
public import Idealize.ShloMosaic.Lib.Pipeline.ReadBack

@[expose] public section

set_option maxRecDepth 16384

noncomputable section

namespace Cert.Kernel3Ideal.Mix

open Cert.Kernel3Ideal Cert.Kernel3Ideal.Gen Cert.MixOut
open Cert.NormProject (row_lt)
open Idealize.ShloMosaic Idealize.ShloMosaic.TcCoe
open scoped BigOperators

variable (m : (ℓ : Loc nD τ sig) → Buf (Elt Ideal) ℓ) (c : Dev nD)

theorem index_0 : ∀ t : Fin grid0.N, win0_0.index t = ![t.val / 4, 0] := by decide +kernel
theorem index_1 : ∀ t : Fin grid0.N, win0_1.index t = ![t.val / 4, 0] := by decide +kernel
theorem index_2 : ∀ t : Fin grid0.N, win0_2.index t = ![t.val / 4, 0] := by decide +kernel
theorem index_3 : ∀ t : Fin grid0.N, win0_3.index t = ![t.val / 4, 0] := by decide +kernel
theorem index_4 : ∀ t : Fin grid0.N, win0_4.index t = ![t.val / 4, 44] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, t.val % 4] := by decide +kernel
theorem index_8 : ∀ t : Fin grid0.N, win0_8.index t = ![t.val / 4, t.val % 4] := by decide +kernel
theorem index_9 : ∀ t : Fin grid0.N, win0_9.index t = ![t.val / 4, t.val % 4] := by decide +kernel

/-! ## What a point leaves in the scratch and in its block -/

/-- The scratch after a point. -/
abbrev scratch (n : ℕ) (hn : n < cfg0.N) : FVec Ideal S512x2048 .bf16 := (outsAt0 (F := Ideal) m c n hn).2

/-- The scratch before a point. -/
abbrev prevS (t : Fin cfg0.N) : FVec Ideal S512x2048 .bf16 := scratch m c (t.val - 1) (Nat.lt_of_le_of_lt (Nat.sub_le _ _) t.isLt)

theorem scratch_A (t : Fin cfg0.N) (h : t.val % 4 = 0) (r : Fin 512) (k : Fin 2048) : scratch m c t.val t.isLt (ix2 r k)
    = beside (fun j : Fin 1024 => k0_pay1 (F := Ideal) (iblk m c 0 t) (iblk m c 5 t) (ix2 r j))
        (fun j : Fin 1024 => k0_pay2 (F := Ideal) (nsaTile (iblk m c 4 t) (iblk m c 1 t) (iblk m c 2 t) (iblk m c 3 t)) (iblk m c 6 t) (ix2 r j)) k := by
  unfold scratch
  rw [outsAt0_A m c t h]
  dsimp only
  frame_out
  have hk := k.isLt
  unfold beside
  canon_tiles x hx
  · have e1 : k.val = 1024 + (x 1).val := hx1
    have hlt : k.val - 1024 < 1024 := by omega
    have e2 : x = ix2 r (⟨k.val - 1024, hlt⟩ : Fin 1024) :=
      (eq_ix2 x).trans (congrArg₂ ix2 (Fin.ext hx0.symm) (Fin.ext (by show (x 1).val = k.val - 1024; omega)))
    rw [dif_neg (by omega)]
    exact congrArg (k0_pay2 (F := Ideal) (nsaTile (iblk m c 4 t) (iblk m c 1 t) (iblk m c 2 t) (iblk m c 3 t)) (iblk m c 6 t)) e2
  · have e1 : k.val = (x 1).val := hx1
    have x1_lt' : (x 1).val < 1024 := x1_lt
    have hlt : k.val < 1024 := by omega
    have e2 : x = ix2 r (⟨k.val, hlt⟩ : Fin 1024) :=
      (eq_ix2 x).trans (congrArg₂ ix2 (Fin.ext hx0.symm) (Fin.ext e1.symm))
    rw [dif_pos hlt]
    exact congrArg (k0_pay1 (F := Ideal) (iblk m c 0 t) (iblk m c 5 t)) e2

theorem scratch_B (t : Fin cfg0.N) (h : ¬t.val % 4 = 0) : scratch m c t.val t.isLt = prevS m c t := by
  unfold scratch
  rw [outsAt0_B m c t h]
  rfl

theorem tile_A (t : Fin cfg0.N) (h : t.val % 4 = 0) : (outsAt0 (F := Ideal) m c t.val t.isLt).1 = k0_pay3 (iblk m c 8 t) (scratch m c t.val t.isLt) (iblk m c 7 t) := by
  unfold scratch
  rw [outsAt0_A m c t h]
  dsimp only
  frame_out
  refine congrArg (fun s : FVec Ideal S512x2048 .bf16 => k0_pay3 (F := Ideal) (iblk m c 8 t) s (iblk m c 7 t)) ?_
  rw [View.readCov_eq_canon']
  exact View.ld_unit_lit (Val := Elt Ideal) (S := S512x2048) (e := .bf16) (off := ![0, 0]) inb_S512x2048_S512x2048_0_0 _ (by decide)

theorem tile_B (t : Fin cfg0.N) (h : ¬t.val % 4 = 0) : (outsAt0 (F := Ideal) m c t.val t.isLt).1 = k0_pay3 (iblk m c 8 t) (scratch m c t.val t.isLt) (iblk m c 7 t) := by
  rw [scratch_B m c t h, outsAt0_B m c t h]
  dsimp only
  frame_out
  simp only [read_unread_whole]

/-! ## The blocks at an index -/

theorem band_lt (t : Fin grid0.N) (r : Fin 512) : t.val / 4 * 512 + r.val < 32768 := by
  have h := lt_of_lt_of_eq t.isLt N_0
  have := r.isLt
  omega

theorem strip_lt (t : Fin grid0.N) (n : Fin 512) : t.val % 4 * 512 + n.val < 2048 := by
  have := n.isLt
  omega

theorem gateCol_lt (k : Fin 128) : 5632 + k.val < 5760 := by
  have := k.isLt
  omega

/-- The rows of the prepared arguments. -/
abbrev rowS (R : Fin 32768) (j : Fin 1024) : EReal := (V m c main_v1 : FVec Ideal S32768x1024 .f32) (ix2 R j)
abbrev row0 (R : Fin 32768) (j : Fin 1024) : EReal := (V m c main_v2 : FVec Ideal S32768x1024 .f32) (ix2 R j)
abbrev row1 (R : Fin 32768) (j : Fin 1024) : EReal := (V m c main_v3 : FVec Ideal S32768x1024 .f32) (ix2 R j)
abbrev row2 (R : Fin 32768) (j : Fin 1024) : EReal := (V m c main_v4 : FVec Ideal S32768x1024 .f32) (ix2 R j)
abbrev rowX (R : Fin 32768) (n : Fin 2048) : EReal := (V m c main_v0 : FVec Ideal S32768x2048 .f32) (ix2 R n)
abbrev gateV (R : Fin 32768) (k : Fin 128) : EReal := (V m c main_v5 : FVec Ideal S32768x5760 .bf16) (ix2 R ⟨5632 + k.val, gateCol_lt k⟩)
abbrev gainS (j : Fin 1024) : EReal := argGS m c (ix2 (0 : Fin 1) j)
abbrev gainN (j : Fin 1024) : EReal := argGN m c (ix2 (0 : Fin 1) j)
abbrev weightV (n : Fin 2048) (k : Fin 2048) : EReal := argW m c (ix3 (0 : Fin 1) k n)

theorem iblk0_at (t : Fin grid0.N) (r : Fin 512) (j : Fin 1024) : (iblk m c 0 t : FVec Ideal S512x1024 .f32) (ix2 r j) = rowS m c ⟨t.val / 4 * 512 + r.val, band_lt t r⟩ j := by
  blk_ext! [iblk, index_0 t]

theorem iblk1_at (t : Fin grid0.N) (r : Fin 512) (j : Fin 1024) : (iblk m c 1 t : FVec Ideal S512x1024 .f32) (ix2 r j) = row0 m c ⟨t.val / 4 * 512 + r.val, band_lt t r⟩ j := by
  blk_ext! [iblk, index_1 t]

theorem iblk2_at (t : Fin grid0.N) (r : Fin 512) (j : Fin 1024) : (iblk m c 2 t : FVec Ideal S512x1024 .f32) (ix2 r j) = row1 m c ⟨t.val / 4 * 512 + r.val, band_lt t r⟩ j := by
  blk_ext! [iblk, index_2 t]

theorem iblk3_at (t : Fin grid0.N) (r : Fin 512) (j : Fin 1024) : (iblk m c 3 t : FVec Ideal S512x1024 .f32) (ix2 r j) = row2 m c ⟨t.val / 4 * 512 + r.val, band_lt t r⟩ j := by
  blk_ext! [iblk, index_3 t]

theorem iblk4_at (t : Fin grid0.N) (r : Fin 512) (k : Fin 128) : (iblk m c 4 t : FVec Ideal S512x128 .bf16) (ix2 r k) = gateV m c ⟨t.val / 4 * 512 + r.val, band_lt t r⟩ k := by
  blk_ext! [iblk, index_4 t]

theorem iblk5_at (t : Fin grid0.N) (j : Fin 1024) : (iblk m c 5 t : FVec Ideal S1x1024 .f32) (ix2 (0 : Fin 1) j) = gainS m c j := by
  refine Eq.trans ?_ (V10_at m c j)
  blk_ext! [iblk, index_5 t]

theorem iblk6_at (t : Fin grid0.N) (j : Fin 1024) : (iblk m c 6 t : FVec Ideal S1x1024 .f32) (ix2 (0 : Fin 1) j) = gainN m c j := by
  refine Eq.trans ?_ (V11_at m c j)
  blk_ext! [iblk, index_6 t]

theorem iblk7_at (t : Fin grid0.N) (k : Fin 2048) (n : Fin 512) : (iblk m c 7 t : FVec Ideal S2048x512 .bf16) (ix2 k n) = weightV m c ⟨t.val % 4 * 512 + n.val, strip_lt t n⟩ k := by
  refine Eq.trans ?_ (V9_at m c k ⟨t.val % 4 * 512 + n.val, strip_lt t n⟩)
  blk_ext! [iblk, index_7 t]

theorem iblk8_at (t : Fin grid0.N) (r : Fin 512) (n : Fin 512) : (iblk m c 8 t : FVec Ideal S512x512 .f32) (ix2 r n)
    = rowX m c ⟨t.val / 4 * 512 + r.val, band_lt t r⟩ ⟨t.val % 4 * 512 + n.val, strip_lt t n⟩ := by
  blk_ext! [iblk, index_8 t]

/-! ## The scratch holds the mixed rows -/

/-- The mixture of a row of the prepared arguments. -/
def mixedV (R : Fin 32768) : Fin 2048 → EReal :=
  mixed (rowS m c R) (row0 m c R) (row1 m c R) (row2 m c R) (fun k : Fin 24 => gateV m c R ⟨k.val, logit_lt k⟩) (gainS m c) (gainN m c)

theorem fill_at (t : Fin cfg0.N) (h : t.val % 4 = 0) (r : Fin 512) (k : Fin 2048) :
    scratch m c t.val t.isLt (ix2 r k) = mixedV m c ⟨t.val / 4 * 512 + r.val, band_lt t r⟩ k := by
  rw [scratch_A m c t h]
  unfold mixedV mixed
  refine congrArg₂ (fun u v => beside u v k) (funext fun j => ?_) (funext fun j => ?_)
  · rw [pay1_at, funext fun j' => iblk0_at m c t r j', funext fun j' => iblk5_at m c t j']
  · rw [pay2_at, funext fun j' => iblk6_at m c t j', funext fun j' => nsaTile_at r (iblk m c 4 t) (iblk m c 1 t) (iblk m c 2 t) (iblk m c 3 t) j',
      funext fun j' => iblk1_at m c t r j', funext fun j' => iblk2_at m c t r j', funext fun j' => iblk3_at m c t r j',
      show logitsOf r (iblk m c 4 t) = fun k' : Fin 24 => gateV m c ⟨t.val / 4 * 512 + r.val, band_lt t r⟩ ⟨k'.val, logit_lt k'⟩ from
        funext fun k' : Fin 24 => iblk4_at m c t r ⟨k'.val, logit_lt k'⟩]

theorem scratch_at (n : ℕ) : ∀ (hn : n < cfg0.N) (r : Fin 512) (k : Fin 2048),
    scratch m c n hn (ix2 r k) = mixedV m c ⟨n / 4 * 512 + r.val, band_lt ⟨n, hn⟩ r⟩ k := by
  induction n with
  | zero =>
    intro hn r k
    exact fill_at m c ⟨0, hn⟩ (Nat.zero_mod 4) r k
  | succ n ih =>
    intro hn r k
    by_cases h : (n + 1) % 4 = 0
    · exact fill_at m c ⟨n + 1, hn⟩ h r k
    · rw [scratch_B m c ⟨n + 1, hn⟩ h]
      have e : (n + 1) / 4 = n / 4 := by omega
      simp only [e]
      exact ih (Nat.lt_of_succ_lt hn) r k

/-- A point's block at an index. -/
theorem block_at (t : Fin grid0.N) (r : Fin 512) (n : Fin 512) : (outsAt0 (F := Ideal) m c t.val t.isLt).1 (ix2 r n)
    = rowX m c ⟨t.val / 4 * 512 + r.val, band_lt t r⟩ ⟨t.val % 4 * 512 + n.val, strip_lt t n⟩
      + ∑ k : Fin 2048, mixedV m c ⟨t.val / 4 * 512 + r.val, band_lt t r⟩ k * weightV m c ⟨t.val % 4 * 512 + n.val, strip_lt t n⟩ k := by
  have e : (outsAt0 (F := Ideal) m c t.val t.isLt).1 = k0_pay3 (iblk m c 8 t) (scratch m c t.val t.isLt) (iblk m c 7 t) := by
    by_cases h : t.val % 4 = 0
    · exact tile_A m c t h
    · exact tile_B m c t h
  rw [e, pay3_at, iblk8_at]
  refine congrArg (_ + ·) (Finset.sum_congr rfl fun k _ => ?_)
  rw [scratch_at, iblk7_at]

/-! ## The result array -/

theorem row_eq (b : Fin 8) (s : Fin 4096) (n : Fin 2048) :
    rowX m c ⟨b.val * 4096 + s.val, row_lt b s⟩ n + ∑ k : Fin 2048, mixedV m c ⟨b.val * 4096 + s.val, row_lt b s⟩ k * weightV m c n k
      = Cert.Reference3Ideal.Mix.result (argSB m c) (argU0 m c) (argU1 m c) (argU2 m c) (argPR m c) (argGS m c) (argGN m c) (argW m c) (argX m c)
        (ix2 ⟨b.val * 4096 + s.val, row_lt b s⟩ n) := by
  rw [Cert.Reference3Ideal.Mix.result_at]
  unfold element mixedV rowX rowS row0 row1 row2 gateV
  rw [V0_at, funext fun j => V1_at m c b s j, funext fun j => V2_at m c b s j, funext fun j => V3_at m c b s j, funext fun j => V4_at m c b s j,
    funext fun k : Fin 24 => V5_at m c b s ⟨5632 + (⟨k.val, logit_lt k⟩ : Fin 128).val, gateCol_lt ⟨k.val, logit_lt k⟩⟩]

theorem final : (dats m 0 c).arrAt 9 cfg0.N = Cert.Reference3Ideal.Mix.result (argSB m c) (argU0 m c) (argU1 m c) (argU2 m c) (argPR m c)
    (argGS m c) (argGN m c) (argW m c) (argX m c) := by
  refine (dats m 0 c).arrAt_eq_of_covers 9 _ (by decide +kernel) fun t hf y => ?_
  blk_simp
  rw [after0_9]
  obtain ⟨r, n, rfl⟩ : ∃ (r : Fin 512) (n : Fin 512), y = ix2 r n := ⟨y 0, y 1, eq_ix2 y⟩
  have hR := band_lt t r
  obtain ⟨b, s, hbs⟩ : ∃ (b : Fin 8) (s : Fin 4096), t.val / 4 * 512 + r.val = b.val * 4096 + s.val :=
    ⟨⟨(t.val / 4 * 512 + r.val) / 4096, by omega⟩, ⟨(t.val / 4 * 512 + r.val) % 4096, Nat.mod_lt _ (by decide)⟩, by dsimp only; omega⟩
  have e1 : (⟨t.val / 4 * 512 + r.val, band_lt t r⟩ : Fin 32768) = ⟨b.val * 4096 + s.val, row_lt b s⟩ := Fin.ext hbs
  refine (block_at m c t r n).trans ?_
  rw [e1]
  refine (row_eq m c b s ⟨t.val % 4 * 512 + n.val, strip_lt t n⟩).trans (congrArg _ ?_)
  rw [← e1]
  blk_ext [index_9 t]

end Cert.Kernel3Ideal.Mix

end
-- ==== Proof.Peer.Chain.lean ====
/-
  The routing kernel's body, one head at a time, as rounds: the sixteen greatest scores of either half by repeated
  selection, the candidate sums, and the sixteen greatest of those with the experts they name.
-/
module

public import proofs.«01_k».proof.Proof.Gen.Kernel4Ideal.Skeleton
public import Idealize.ShloMosaic.Lib.Pointwise

@[expose] public section

set_option maxRecDepth 65536
set_option synthInstance.maxSize 4096

noncomputable section

namespace Cert.Kernel4Ideal.Peer

open Idealize.ShloMosaic Idealize.SL.Sem Cert.Kernel4Ideal.Gen

/-- The greatest entry of every column. -/
def kTop (s : FVec Ideal S128x256 .f32) : FVec Ideal S256 .f32 := multiReduction .maximumf [0] S256 s 0xFF800000#32 reduces_S128x256_S256 (.inl rfl) rfl
def kMax (s : FVec Ideal S128x256 .f32) : FVec Ideal S1x256 .f32 := shapeCast S1x256 (kTop s) shapeCasts_S256_S1x256
def kBc (r : FVec Ideal S1x256 .f32) : FVec Ideal S128x256 .f32 := broadcastTo S128x256 r broadcasts_S1x256_S128x256
def kEq (s : FVec Ideal S128x256 .f32) : IVec S128x256 1 := cmpf .oeq s (kBc (kMax s))
/-- The second numbers of the holders of the greatest entry. -/
def kMask (o s : FVec Ideal S128x256 .f32) : FVec Ideal S128x256 .f32 := select (kEq s) o (broadcast S128x256 (Scalar.ofBits .f32 0x7F800000#32))
def kPick256 (o s : FVec Ideal S128x256 .f32) : FVec Ideal S256 .f32 := multiReduction .minimumf [0] S256 (kMask o s) 0x7F800000#32 reduces_S128x256_S256 (.inl rfl) rfl
/-- The least of them. -/
def kPick (o s : FVec Ideal S128x256 .f32) : FVec Ideal S1x256 .f32 := shapeCast S1x256 (kPick256 o s) shapeCasts_S256_S1x256
def kHit (o s : FVec Ideal S128x256 .f32) : IVec S128x256 1 := cmpf .oeq o (kBc (kPick o s))
/-- The entries with the picked one struck out. -/
def kNext (o s : FVec Ideal S128x256 .f32) : FVec Ideal S128x256 .f32 := select (kHit o s) (broadcast S128x256 (Scalar.ofBits .f32 0xFF800000#32)) s
/-- The entries after some rounds. -/
def kSt (o s : FVec Ideal S128x256 .f32) : ℕ → FVec Ideal S128x256 .f32
  | 0 => s
  | n + 1 => kNext o (kSt o s n)

/-- The greatest entry of every column. -/
def cTop (s : FVec Ideal S80x256 .f32) : FVec Ideal S256 .f32 := multiReduction .maximumf [0] S256 s 0xFF800000#32 reduces_S80x256_S256 (.inl rfl) rfl
def cMax (s : FVec Ideal S80x256 .f32) : FVec Ideal S1x256 .f32 := shapeCast S1x256 (cTop s) shapeCasts_S256_S1x256
def cBc (r : FVec Ideal S1x256 .f32) : FVec Ideal S80x256 .f32 := broadcastTo S80x256 r broadcasts_S1x256_S80x256
def cEq (s : FVec Ideal S80x256 .f32) : IVec S80x256 1 := cmpf .oeq s (cBc (cMax s))
/-- The second numbers of the holders of the greatest entry. -/
def cMask (o s : FVec Ideal S80x256 .f32) : FVec Ideal S80x256 .f32 := select (cEq s) o (broadcast S80x256 (Scalar.ofBits .f32 0x7F800000#32))
def cPick256 (o s : FVec Ideal S80x256 .f32) : FVec Ideal S256 .f32 := multiReduction .minimumf [0] S256 (cMask o s) 0x7F800000#32 reduces_S80x256_S256 (.inl rfl) rfl
/-- The least of them. -/
def cPick (o s : FVec Ideal S80x256 .f32) : FVec Ideal S1x256 .f32 := shapeCast S1x256 (cPick256 o s) shapeCasts_S256_S1x256
def cHit (o s : FVec Ideal S80x256 .f32) : IVec S80x256 1 := cmpf .oeq o (cBc (cPick o s))
/-- The entries with the picked one struck out. -/
def cNext (o s : FVec Ideal S80x256 .f32) : FVec Ideal S80x256 .f32 := select (cHit o s) (broadcast S80x256 (Scalar.ofBits .f32 0xFF800000#32)) s
/-- The entries after some rounds. -/
def cSt (o s : FVec Ideal S80x256 .f32) : ℕ → FVec Ideal S80x256 .f32
  | 0 => s
  | n + 1 => cNext o (cSt o s n)

/-- What the picked position carries. -/
def cSel (o s e : FVec Ideal S80x256 .f32) : FVec Ideal S80x256 .f32 := select (cHit o s) e (broadcast S80x256 (Scalar.ofBits .f32 0xBF800000#32))
def cCar256 (o s e : FVec Ideal S80x256 .f32) : FVec Ideal S256 .f32 := multiReduction .maximumf [0] S256 (cSel o s e) 0xFF800000#32 reduces_S80x256_S256 (.inl rfl) rfl
def cCar (o s e : FVec Ideal S80x256 .f32) : FVec Ideal S1x256 .f32 := shapeCast S1x256 (cCar256 o s e) shapeCasts_S256_S1x256

/-- Sixteen rows one under the other. -/
def rows (f : ℕ → FVec Ideal S1x256 .f32) : FVec Ideal S16x256 .f32 :=
  concatenate S16x256 0 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩, ⟨S1x256, f 8⟩, ⟨S1x256, f 9⟩, ⟨S1x256, f 10⟩, ⟨S1x256, f 11⟩, ⟨S1x256, f 12⟩, ⟨S1x256, f 13⟩, ⟨S1x256, f 14⟩, ⟨S1x256, f 15⟩] concatenates_S1x256_S1x256_S1x256_S1x256_S1x256_S1x256_S1x256_S1x256_S1x256_S1x256_S1x256_S1x256_S1x256_S1x256_S1x256_S1x256_S16x256_d0

/-- The greatest sixteen entries of every column, and their second numbers. -/
def kVals (o s : FVec Ideal S128x256 .f32) : FVec Ideal S16x256 .f32 := rows fun n => kMax (kSt o s n)
def kPicks (o s : FVec Ideal S128x256 .f32) : FVec Ideal S16x256 .f32 := rows fun n => kPick o (kSt o s n)
def cVals (o s : FVec Ideal S80x256 .f32) : FVec Ideal S16x256 .f32 := rows fun n => cMax (cSt o s n)
def cCars (o s e : FVec Ideal S80x256 .f32) : FVec Ideal S16x256 .f32 := rows fun n => cCar o (cSt o s n) e

def firstS (A B : FVec Ideal S16x256 .f32) : FVec Ideal S16x256 .f32 :=
  have v434 : FVec Ideal S1x256 .f32 := extractStridedSlice S1x256 ![0, 0] A slices_S16x256_o0_0_S1x256
  have v435 : FVec Ideal S16x256 .f32 := broadcastTo S16x256 v434 broadcasts_S1x256_S16x256
  have v436 : FVec Ideal S16x256 .f32 := addf v435 B
  v436

def rowS1 (A B : FVec Ideal S16x256 .f32) : FVec Ideal S8x256 .f32 :=
  have v444 : FVec Ideal S1x256 .f32 := extractStridedSlice S1x256 ![1, 0] A slices_S16x256_o1_0_S1x256
  have v445 : FVec Ideal S8x256 .f32 := extractStridedSlice S8x256 ![0, 0] B slices_S16x256_o0_0_S8x256
  have v446 : FVec Ideal S8x256 .f32 := broadcastTo S8x256 v444 broadcasts_S1x256_S8x256
  have v447 : FVec Ideal S8x256 .f32 := addf v446 v445
  have cst_158 : Ideal .f32 := Scalar.ofBits .f32 0x41000000#32
  have v448 : FVec Ideal S8x256 .f32 := broadcast S8x256 cst_158
  have v449 : IVec S8x256 1 := cmpf .olt (k0_pay117 (F := Ideal)) v448
  have cst_159 : Ideal .f32 := Scalar.ofBits .f32 0xFF800000#32
  have v450 : FVec Ideal S8x256 .f32 := broadcast S8x256 cst_159
  have v451 : FVec Ideal S8x256 .f32 := select v449 v447 v450
  v451

def rowS2 (A B : FVec Ideal S16x256 .f32) : FVec Ideal S8x256 .f32 :=
  have v460 : FVec Ideal S1x256 .f32 := extractStridedSlice S1x256 ![2, 0] A slices_S16x256_o2_0_S1x256
  have v461 : FVec Ideal S8x256 .f32 := extractStridedSlice S8x256 ![0, 0] B slices_S16x256_o0_0_S8x256
  have v462 : FVec Ideal S8x256 .f32 := broadcastTo S8x256 v460 broadcasts_S1x256_S8x256
  have v463 : FVec Ideal S8x256 .f32 := addf v462 v461
  have cst_162 : Ideal .f32 := Scalar.ofBits .f32 0x40A00000#32
  have v464 : FVec Ideal S8x256 .f32 := broadcast S8x256 cst_162
  have v465 : IVec S8x256 1 := cmpf .olt (k0_pay117 (F := Ideal)) v464
  have cst_163 : Ideal .f32 := Scalar.ofBits .f32 0xFF800000#32
  have v466 : FVec Ideal S8x256 .f32 := broadcast S8x256 cst_163
  have v467 : FVec Ideal S8x256 .f32 := select v465 v463 v466
  v467

def firstE (A B : FVec Ideal S16x256 .f32) : FVec Ideal S16x256 .f32 :=
  have v437 : FVec Ideal S1x256 .f32 := extractStridedSlice S1x256 ![0, 0] A slices_S16x256_o0_0_S1x256
  have cst_157 : Ideal .f32 := Scalar.ofBits .f32 0x43000000#32
  have v438 : FVec Ideal S1x256 .f32 := broadcast S1x256 cst_157
  have v439 : FVec Ideal S1x256 .f32 := mulf v437 v438
  have v440 : FVec Ideal S16x256 .f32 := broadcastTo S16x256 v439 broadcasts_S1x256_S16x256
  have v441 : FVec Ideal S16x256 .f32 := addf v440 B
  v441

def rowE1 (A B : FVec Ideal S16x256 .f32) : FVec Ideal S8x256 .f32 :=
  have v454 : FVec Ideal S1x256 .f32 := extractStridedSlice S1x256 ![1, 0] A slices_S16x256_o1_0_S1x256
  have cst_161 : Ideal .f32 := Scalar.ofBits .f32 0x43000000#32
  have v455 : FVec Ideal S1x256 .f32 := broadcast S1x256 cst_161
  have v456 : FVec Ideal S1x256 .f32 := mulf v454 v455
  have v457 : FVec Ideal S8x256 .f32 := extractStridedSlice S8x256 ![0, 0] B slices_S16x256_o0_0_S8x256
  have v458 : FVec Ideal S8x256 .f32 := broadcastTo S8x256 v456 broadcasts_S1x256_S8x256
  have v459 : FVec Ideal S8x256 .f32 := addf v458 v457
  v459

def rowE2 (A B : FVec Ideal S16x256 .f32) : FVec Ideal S8x256 .f32 :=
  have v470 : FVec Ideal S1x256 .f32 := extractStridedSlice S1x256 ![2, 0] A slices_S16x256_o2_0_S1x256
  have cst_165 : Ideal .f32 := Scalar.ofBits .f32 0x43000000#32
  have v471 : FVec Ideal S1x256 .f32 := broadcast S1x256 cst_165
  have v472 : FVec Ideal S1x256 .f32 := mulf v470 v471
  have v473 : FVec Ideal S8x256 .f32 := extractStridedSlice S8x256 ![0, 0] B slices_S16x256_o0_0_S8x256
  have v474 : FVec Ideal S8x256 .f32 := broadcastTo S8x256 v472 broadcasts_S1x256_S8x256
  have v475 : FVec Ideal S8x256 .f32 := addf v474 v473
  v475

/-- The exponentials over their sum. -/
def gates (R : FVec Ideal S16x256 .f32) : FVec Ideal S16x256 .f32 :=
  have v828 : FVec Ideal S1x256 .f32 := extractStridedSlice S1x256 ![0, 0] R slices_S16x256_o0_0_S1x256
  have v829 : FVec Ideal S16x256 .f32 := broadcastTo S16x256 v828 broadcasts_S1x256_S16x256
  have v830 : FVec Ideal S16x256 .f32 := subf R v829
  have v831 : FVec Ideal S16x256 .f32 := exp v830
  have v832 : FVec Ideal S256 .f32 := multiReduction .add [0] S256 v831 0x00000000#32 reduces_S16x256_S256 (.inl rfl) rfl
  have v833 : FVec Ideal S1x256 .f32 := shapeCast S1x256 v832 shapeCasts_S256_S1x256
  have v834 : FVec Ideal S16x256 .f32 := broadcastTo S16x256 v833 broadcasts_S1x256_S16x256
  have v835 : FVec Ideal S16x256 .f32 := divf v831 v834
  v835

/-- The candidates: their scores, their positions and the experts they name. -/
def candS (A B : FVec Ideal S16x256 .f32) : FVec Ideal S80x256 .f32 := k0_pay137 A B (firstS A B) k0_pay117 (rowS1 A B) (rowS2 A B) (k0_pay126 k0_pay117 (k0_pay124 A) (k0_pay136 B)) (k0_pay129 A B k0_pay117) (k0_pay132 A B k0_pay117) (k0_pay135 A) (k0_pay136 B)
def candP : FVec Ideal S80x256 .f32 := k0_pay138 k0_pay114 k0_pay117 k0_pay119 k0_pay122 (k0_pay127 k0_pay117) (k0_pay130 k0_pay117) (k0_pay133 k0_pay117)
def candE (A B : FVec Ideal S16x256 .f32) : FVec Ideal S80x256 .f32 := k0_pay139 A B (firstE A B) (rowE1 A B) (rowE2 A B) (k0_pay128 A B) (k0_pay131 A B) (k0_pay134 A B)

/-! ## The named values of the body -/

theorem pay10_eq (h : FVec Ideal S256x2048 .bf16) (w : Vec Ideal S1x2048x128 .bf16) (q : Vec Ideal S1x128x128 .bf16) : k0_pay10 (F := Ideal) h w q = (kMax (k0_pay9 h w q)) := by
  unfold k0_pay10
  rfl

theorem pay11_eq (h : FVec Ideal S256x2048 .bf16) (w : Vec Ideal S1x2048x128 .bf16) (q : Vec Ideal S1x128x128 .bf16) (o : FVec Ideal S128x256 .f32) : k0_pay11 (F := Ideal) h o w q = (kPick o (k0_pay9 h w q)) := by
  unfold k0_pay11
  simp only [pay10_eq]
  rfl

theorem pay12_eq (h : FVec Ideal S256x2048 .bf16) (w : Vec Ideal S1x2048x128 .bf16) (q : Vec Ideal S1x128x128 .bf16) (o : FVec Ideal S128x256 .f32) : k0_pay12 (F := Ideal) h o w q = (kSt o (k0_pay9 h w q) 1) := by
  unfold k0_pay12
  simp only [pay11_eq]
  rfl

theorem pay13_eq (h : FVec Ideal S256x2048 .bf16) (w : Vec Ideal S1x2048x128 .bf16) (q : Vec Ideal S1x128x128 .bf16) (o : FVec Ideal S128x256 .f32) : k0_pay13 (F := Ideal) h o w q = (kMax (kSt o (k0_pay9 h w q) 1)) := by
  unfold k0_pay13
  simp only [pay12_eq]
  rfl

theorem pay14_eq (h : FVec Ideal S256x2048 .bf16) (w : Vec Ideal S1x2048x128 .bf16) (q : Vec Ideal S1x128x128 .bf16) (o : FVec Ideal S128x256 .f32) : k0_pay14 (F := Ideal) h o w q = (kPick o (kSt o (k0_pay9 h w q) 1)) := by
  unfold k0_pay14
  simp only [pay12_eq, pay13_eq]
  rfl

theorem pay15_eq (h : FVec Ideal S256x2048 .bf16) (w : Vec Ideal S1x2048x128 .bf16) (q : Vec Ideal S1x128x128 .bf16) (o : FVec Ideal S128x256 .f32) : k0_pay15 (F := Ideal) h o w q = (kSt o (k0_pay9 h w q) 2) := by
  unfold k0_pay15
  simp only [pay12_eq, pay14_eq]
  rfl

theorem pay16_eq (h : FVec Ideal S256x2048 .bf16) (w : Vec Ideal S1x2048x128 .bf16) (q : Vec Ideal S1x128x128 .bf16) (o : FVec Ideal S128x256 .f32) : k0_pay16 (F := Ideal) h o w q = (kMax (kSt o (k0_pay9 h w q) 2)) := by
  unfold k0_pay16
  simp only [pay15_eq]
  rfl

theorem pay17_eq (h : FVec Ideal S256x2048 .bf16) (w : Vec Ideal S1x2048x128 .bf16) (q : Vec Ideal S1x128x128 .bf16) (o : FVec Ideal S128x256 .f32) : k0_pay17 (F := Ideal) h o w q = (kMask o (kSt o (k0_pay9 h w q) 2)) := by
  unfold k0_pay17
  simp only [pay15_eq, pay16_eq]
  rfl

theorem pay18_eq (o : FVec Ideal S128x256 .f32) (s : FVec Ideal S128x256 .f32) : k0_pay18 (F := Ideal) (kMask o (kSt o s 2)) = (kPick o (kSt o s 2)) := by
  unfold k0_pay18
  rfl

theorem pay19_eq (o : FVec Ideal S128x256 .f32) (s : FVec Ideal S128x256 .f32) : k0_pay19 (F := Ideal) o (kSt o s 2) (kMask o (kSt o s 2)) = (kSt o s 3) := by
  unfold k0_pay19
  simp only [pay18_eq]
  rfl

theorem pay20_eq (o : FVec Ideal S128x256 .f32) (s : FVec Ideal S128x256 .f32) : k0_pay20 (F := Ideal) o (kSt o s 2) (kMask o (kSt o s 2)) = (kMax (kSt o s 3)) := by
  unfold k0_pay20
  simp only [pay19_eq]
  rfl

theorem pay21_eq (o : FVec Ideal S128x256 .f32) (s : FVec Ideal S128x256 .f32) : k0_pay21 (F := Ideal) o (kSt o s 2) (kMask o (kSt o s 2)) = (kPick o (kSt o s 3)) := by
  unfold k0_pay21
  simp only [pay19_eq, pay20_eq]
  rfl

theorem pay22_eq (o : FVec Ideal S128x256 .f32) (s : FVec Ideal S128x256 .f32) : k0_pay22 (F := Ideal) o (kSt o s 2) (kMask o (kSt o s 2)) = (kSt o s 4) := by
  unfold k0_pay22
  simp only [pay19_eq, pay21_eq]
  rfl

theorem pay23_eq (o : FVec Ideal S128x256 .f32) (s : FVec Ideal S128x256 .f32) : k0_pay23 (F := Ideal) o (kSt o s 2) (kMask o (kSt o s 2)) = (kMax (kSt o s 4)) := by
  unfold k0_pay23
  simp only [pay22_eq]
  rfl

theorem pay24_eq (o : FVec Ideal S128x256 .f32) (s : FVec Ideal S128x256 .f32) : k0_pay24 (F := Ideal) o (kSt o s 2) (kMask o (kSt o s 2)) = (kPick o (kSt o s 4)) := by
  unfold k0_pay24
  simp only [pay22_eq, pay23_eq]
  rfl

theorem pay25_eq (o : FVec Ideal S128x256 .f32) (s : FVec Ideal S128x256 .f32) : k0_pay25 (F := Ideal) o (kSt o s 2) (kMask o (kSt o s 2)) = (kSt o s 5) := by
  unfold k0_pay25
  simp only [pay22_eq, pay24_eq]
  rfl

theorem pay26_eq (o : FVec Ideal S128x256 .f32) (s : FVec Ideal S128x256 .f32) : k0_pay26 (F := Ideal) o (kSt o s 2) (kMask o (kSt o s 2)) = (kMax (kSt o s 5)) := by
  unfold k0_pay26
  simp only [pay25_eq]
  rfl

theorem pay27_eq (o : FVec Ideal S128x256 .f32) (s : FVec Ideal S128x256 .f32) : k0_pay27 (F := Ideal) o (kSt o s 2) (kMask o (kSt o s 2)) = (kPick o (kSt o s 5)) := by
  unfold k0_pay27
  simp only [pay25_eq, pay26_eq]
  rfl

theorem pay28_eq (o : FVec Ideal S128x256 .f32) (s : FVec Ideal S128x256 .f32) : k0_pay28 (F := Ideal) o (kSt o s 2) (kMask o (kSt o s 2)) = (kSt o s 6) := by
  unfold k0_pay28
  simp only [pay25_eq, pay27_eq]
  rfl

theorem pay29_eq (o : FVec Ideal S128x256 .f32) (s : FVec Ideal S128x256 .f32) : k0_pay29 (F := Ideal) o (kSt o s 2) (kMask o (kSt o s 2)) = (kMax (kSt o s 6)) := by
  unfold k0_pay29
  simp only [pay28_eq]
  rfl

theorem pay30_eq (o : FVec Ideal S128x256 .f32) (s : FVec Ideal S128x256 .f32) : k0_pay30 (F := Ideal) o (kSt o s 2) (kMask o (kSt o s 2)) = (kBc (kMax (kSt o s 6))) := by
  unfold k0_pay30
  simp only [pay29_eq]
  rfl

theorem pay31_eq (o : FVec Ideal S128x256 .f32) (s : FVec Ideal S128x256 .f32) : k0_pay31 (F := Ideal) o (kSt o s 6) (kBc (kMax (kSt o s 6))) = (kPick o (kSt o s 6)) := by
  unfold k0_pay31
  rfl

theorem pay32_eq (o : FVec Ideal S128x256 .f32) (s : FVec Ideal S128x256 .f32) : k0_pay32 (F := Ideal) o (kSt o s 6) (kBc (kMax (kSt o s 6))) = (kSt o s 7) := by
  unfold k0_pay32
  simp only [pay31_eq]
  rfl

theorem pay33_eq (o : FVec Ideal S128x256 .f32) (s : FVec Ideal S128x256 .f32) : k0_pay33 (F := Ideal) o (kSt o s 6) (kBc (kMax (kSt o s 6))) = (kMax (kSt o s 7)) := by
  unfold k0_pay33
  simp only [pay32_eq]
  rfl

theorem pay34_eq (o : FVec Ideal S128x256 .f32) (s : FVec Ideal S128x256 .f32) : k0_pay34 (F := Ideal) o (kSt o s 6) (kBc (kMax (kSt o s 6))) = (kPick o (kSt o s 7)) := by
  unfold k0_pay34
  simp only [pay32_eq, pay33_eq]
  rfl

theorem pay35_eq (o : FVec Ideal S128x256 .f32) (s : FVec Ideal S128x256 .f32) : k0_pay35 (F := Ideal) o (kSt o s 6) (kBc (kMax (kSt o s 6))) = (kSt o s 8) := by
  unfold k0_pay35
  simp only [pay32_eq, pay34_eq]
  rfl

theorem pay36_eq (o : FVec Ideal S128x256 .f32) (s : FVec Ideal S128x256 .f32) : k0_pay36 (F := Ideal) o (kSt o s 6) (kBc (kMax (kSt o s 6))) = (kMax (kSt o s 8)) := by
  unfold k0_pay36
  simp only [pay35_eq]
  rfl

theorem pay37_eq (o : FVec Ideal S128x256 .f32) (s : FVec Ideal S128x256 .f32) : k0_pay37 (F := Ideal) o (kSt o s 6) (kBc (kMax (kSt o s 6))) = (kPick o (kSt o s 8)) := by
  unfold k0_pay37
  simp only [pay35_eq, pay36_eq]
  rfl

theorem pay38_eq (o : FVec Ideal S128x256 .f32) (s : FVec Ideal S128x256 .f32) : k0_pay38 (F := Ideal) o (kSt o s 6) (kBc (kMax (kSt o s 6))) = (kSt o s 9) := by
  unfold k0_pay38
  simp only [pay35_eq, pay37_eq]
  rfl

theorem pay39_eq (o : FVec Ideal S128x256 .f32) (s : FVec Ideal S128x256 .f32) : k0_pay39 (F := Ideal) o (kSt o s 6) (kBc (kMax (kSt o s 6))) = (kMax (kSt o s 9)) := by
  unfold k0_pay39
  simp only [pay38_eq]
  rfl

theorem pay40_eq (o : FVec Ideal S128x256 .f32) (s : FVec Ideal S128x256 .f32) : k0_pay40 (F := Ideal) o (kSt o s 6) (kBc (kMax (kSt o s 6))) = (kPick o (kSt o s 9)) := by
  unfold k0_pay40
  simp only [pay38_eq, pay39_eq]
  rfl

theorem pay41_eq (o : FVec Ideal S128x256 .f32) (s : FVec Ideal S128x256 .f32) : k0_pay41 (F := Ideal) o (kSt o s 6) (kBc (kMax (kSt o s 6))) = (kSt o s 10) := by
  unfold k0_pay41
  simp only [pay38_eq, pay40_eq]
  rfl

theorem pay42_eq (o : FVec Ideal S128x256 .f32) (s : FVec Ideal S128x256 .f32) : k0_pay42 (F := Ideal) (kSt o s 10) = (kMax (kSt o s 10)) := by
  unfold k0_pay42
  rfl

theorem pay43_eq (o : FVec Ideal S128x256 .f32) (s : FVec Ideal S128x256 .f32) : k0_pay43 (F := Ideal) o (kSt o s 10) = (kPick o (kSt o s 10)) := by
  unfold k0_pay43
  simp only [pay42_eq]
  rfl

theorem pay44_eq (o : FVec Ideal S128x256 .f32) (s : FVec Ideal S128x256 .f32) : k0_pay44 (F := Ideal) o (kSt o s 10) = (kSt o s 11) := by
  unfold k0_pay44
  simp only [pay43_eq]
  rfl

theorem pay45_eq (o : FVec Ideal S128x256 .f32) (s : FVec Ideal S128x256 .f32) : k0_pay45 (F := Ideal) o (kSt o s 10) = (kMax (kSt o s 11)) := by
  unfold k0_pay45
  simp only [pay44_eq]
  rfl

theorem pay46_eq (o : FVec Ideal S128x256 .f32) (s : FVec Ideal S128x256 .f32) : k0_pay46 (F := Ideal) o (kSt o s 10) = (kPick o (kSt o s 11)) := by
  unfold k0_pay46
  simp only [pay44_eq, pay45_eq]
  rfl

theorem pay47_eq (o : FVec Ideal S128x256 .f32) (s : FVec Ideal S128x256 .f32) : k0_pay47 (F := Ideal) o (kSt o s 10) = (kSt o s 12) := by
  unfold k0_pay47
  simp only [pay44_eq, pay46_eq]
  rfl

theorem pay48_eq (o : FVec Ideal S128x256 .f32) (s : FVec Ideal S128x256 .f32) : k0_pay48 (F := Ideal) o (kSt o s 10) = (kMax (kSt o s 12)) := by
  unfold k0_pay48
  simp only [pay47_eq]
  rfl

theorem pay49_eq (o : FVec Ideal S128x256 .f32) (s : FVec Ideal S128x256 .f32) : k0_pay49 (F := Ideal) o (kSt o s 10) = (kPick o (kSt o s 12)) := by
  unfold k0_pay49
  simp only [pay47_eq, pay48_eq]
  rfl

theorem pay50_eq (o : FVec Ideal S128x256 .f32) (s : FVec Ideal S128x256 .f32) : k0_pay50 (F := Ideal) o (kSt o s 10) = (kSt o s 13) := by
  unfold k0_pay50
  simp only [pay47_eq, pay49_eq]
  rfl

theorem pay51_eq (o : FVec Ideal S128x256 .f32) (s : FVec Ideal S128x256 .f32) : k0_pay51 (F := Ideal) o (kSt o s 10) = (kMax (kSt o s 13)) := by
  unfold k0_pay51
  simp only [pay50_eq]
  rfl

theorem pay52_eq (o : FVec Ideal S128x256 .f32) (s : FVec Ideal S128x256 .f32) : k0_pay52 (F := Ideal) o (kSt o s 10) = (kPick o (kSt o s 13)) := by
  unfold k0_pay52
  simp only [pay50_eq, pay51_eq]
  rfl

theorem pay53_eq (o : FVec Ideal S128x256 .f32) (s : FVec Ideal S128x256 .f32) : k0_pay53 (F := Ideal) o (kSt o s 10) = (kBc (kPick o (kSt o s 13))) := by
  unfold k0_pay53
  simp only [pay52_eq]
  rfl

theorem pay54_eq (o : FVec Ideal S128x256 .f32) (s : FVec Ideal S128x256 .f32) : k0_pay54 (F := Ideal) o (kSt o s 13) (kBc (kPick o (kSt o s 13))) = (kSt o s 14) := by
  unfold k0_pay54
  rfl

theorem pay55_eq (o : FVec Ideal S128x256 .f32) (s : FVec Ideal S128x256 .f32) : k0_pay55 (F := Ideal) o (kSt o s 13) (kBc (kPick o (kSt o s 13))) = (kMax (kSt o s 14)) := by
  unfold k0_pay55
  simp only [pay54_eq]
  rfl

theorem pay56_eq (o : FVec Ideal S128x256 .f32) (s : FVec Ideal S128x256 .f32) : k0_pay56 (F := Ideal) o (kSt o s 13) (kBc (kPick o (kSt o s 13))) = (kPick o (kSt o s 14)) := by
  unfold k0_pay56
  simp only [pay54_eq, pay55_eq]
  rfl

theorem pay57_eq (o : FVec Ideal S128x256 .f32) (s : FVec Ideal S128x256 .f32) : k0_pay57 (F := Ideal) o (kSt o s 13) (kBc (kPick o (kSt o s 13))) = (kSt o s 15) := by
  unfold k0_pay57
  simp only [pay54_eq, pay56_eq]
  rfl

theorem pay58_eq (o : FVec Ideal S128x256 .f32) (s : FVec Ideal S128x256 .f32) : k0_pay58 (F := Ideal) o (kSt o s 13) (kBc (kPick o (kSt o s 13))) = (kMax (kSt o s 15)) := by
  unfold k0_pay58
  simp only [pay57_eq]
  rfl

theorem pay59_eq (o : FVec Ideal S128x256 .f32) (s : FVec Ideal S128x256 .f32) : k0_pay59 (F := Ideal) o (kMax (kSt o s 0)) (kMax (kSt o s 1)) (kMax (kSt o s 2)) (kMax (kSt o s 3)) (kMax (kSt o s 4)) (kMax (kSt o s 5)) (kMax (kSt o s 6)) (kMax (kSt o s 7)) (kMax (kSt o s 8)) (kMax (kSt o s 9)) (kMax (kSt o s 10)) (kMax (kSt o s 11)) (kMax (kSt o s 12)) (kSt o s 13) (kMax (kSt o s 13)) (kBc (kPick o (kSt o s 13))) = (kVals o s) := by
  unfold k0_pay59
  simp only [pay55_eq, pay58_eq]
  rfl

theorem pay60_eq (o : FVec Ideal S128x256 .f32) (s : FVec Ideal S128x256 .f32) : k0_pay60 (F := Ideal) o (kPick o (kSt o s 0)) (kPick o (kSt o s 1)) (kPick o (kSt o s 2)) (kPick o (kSt o s 3)) (kPick o (kSt o s 4)) (kPick o (kSt o s 5)) (kPick o (kSt o s 6)) (kPick o (kSt o s 7)) (kPick o (kSt o s 8)) (kPick o (kSt o s 9)) (kPick o (kSt o s 10)) (kPick o (kSt o s 11)) (kPick o (kSt o s 12)) (kSt o s 13) (kPick o (kSt o s 13)) (kBc (kPick o (kSt o s 13))) = (kPicks o s) := by
  unfold k0_pay60
  simp only [pay56_eq, pay57_eq, pay58_eq]
  rfl

theorem pay61_eq (h : FVec Ideal S256x2048 .bf16) (w : Vec Ideal S1x2048x128 .bf16) (q : Vec Ideal S1x128x128 .bf16) : k0_pay61 (F := Ideal) h w q = k0_pay9 h w q := rfl

theorem pay62_eq (h : FVec Ideal S256x2048 .bf16) (w : Vec Ideal S1x2048x128 .bf16) (q : Vec Ideal S1x128x128 .bf16) : k0_pay62 (F := Ideal) h w q = (kMax (k0_pay9 h w q)) := by
  unfold k0_pay62
  simp only [pay61_eq]
  rfl

theorem pay63_eq (h : FVec Ideal S256x2048 .bf16) (w : Vec Ideal S1x2048x128 .bf16) (q : Vec Ideal S1x128x128 .bf16) (o : FVec Ideal S128x256 .f32) : k0_pay63 (F := Ideal) h o w q = (kMask o (k0_pay9 h w q)) := by
  unfold k0_pay63
  simp only [pay61_eq, pay62_eq]
  rfl

theorem pay64_eq (o : FVec Ideal S128x256 .f32) (s : FVec Ideal S128x256 .f32) : k0_pay64 (F := Ideal) (kMask o s) = (kPick o s) := by
  unfold k0_pay64
  rfl

theorem pay65_eq (o : FVec Ideal S128x256 .f32) (s : FVec Ideal S128x256 .f32) : k0_pay65 (F := Ideal) o s (kMask o s) = (kSt o s 1) := by
  unfold k0_pay65
  simp only [pay64_eq]
  rfl

theorem pay66_eq (o : FVec Ideal S128x256 .f32) (s : FVec Ideal S128x256 .f32) : k0_pay66 (F := Ideal) o s (kMask o s) = (kMax (kSt o s 1)) := by
  unfold k0_pay66
  simp only [pay65_eq]
  rfl

theorem pay67_eq (o : FVec Ideal S128x256 .f32) (s : FVec Ideal S128x256 .f32) : k0_pay67 (F := Ideal) o s (kMask o s) = (kPick o (kSt o s 1)) := by
  unfold k0_pay67
  simp only [pay65_eq, pay66_eq]
  rfl

theorem pay68_eq (o : FVec Ideal S128x256 .f32) (s : FVec Ideal S128x256 .f32) : k0_pay68 (F := Ideal) o s (kMask o s) = (kSt o s 2) := by
  unfold k0_pay68
  simp only [pay65_eq, pay67_eq]
  rfl

theorem pay69_eq (o : FVec Ideal S128x256 .f32) (s : FVec Ideal S128x256 .f32) : k0_pay69 (F := Ideal) o s (kMask o s) = (kMax (kSt o s 2)) := by
  unfold k0_pay69
  simp only [pay68_eq]
  rfl

theorem pay70_eq (o : FVec Ideal S128x256 .f32) (s : FVec Ideal S128x256 .f32) : k0_pay70 (F := Ideal) o s (kMask o s) = (kPick o (kSt o s 2)) := by
  unfold k0_pay70
  simp only [pay68_eq, pay69_eq]
  rfl

theorem pay71_eq (o : FVec Ideal S128x256 .f32) (s : FVec Ideal S128x256 .f32) : k0_pay71 (F := Ideal) o s (kMask o s) = (kSt o s 3) := by
  unfold k0_pay71
  simp only [pay68_eq, pay70_eq]
  rfl

theorem pay72_eq (o : FVec Ideal S128x256 .f32) (s : FVec Ideal S128x256 .f32) : k0_pay72 (F := Ideal) o s (kMask o s) = (kMax (kSt o s 3)) := by
  unfold k0_pay72
  simp only [pay71_eq]
  rfl

theorem pay73_eq (o : FVec Ideal S128x256 .f32) (s : FVec Ideal S128x256 .f32) : k0_pay73 (F := Ideal) o s (kMask o s) = (kPick o (kSt o s 3)) := by
  unfold k0_pay73
  simp only [pay71_eq, pay72_eq]
  rfl

theorem pay74_eq (o : FVec Ideal S128x256 .f32) (s : FVec Ideal S128x256 .f32) : k0_pay74 (F := Ideal) o s (kMask o s) = (kSt o s 4) := by
  unfold k0_pay74
  simp only [pay71_eq, pay73_eq]
  rfl

theorem pay75_eq (o : FVec Ideal S128x256 .f32) (s : FVec Ideal S128x256 .f32) : k0_pay75 (F := Ideal) o s (kMask o s) = (kMax (kSt o s 4)) := by
  unfold k0_pay75
  simp only [pay74_eq]
  rfl

theorem pay76_eq (o : FVec Ideal S128x256 .f32) (s : FVec Ideal S128x256 .f32) : k0_pay76 (F := Ideal) o s (kMask o s) = (kBc (kMax (kSt o s 4))) := by
  unfold k0_pay76
  simp only [pay75_eq]
  rfl

theorem pay77_eq (o : FVec Ideal S128x256 .f32) (s : FVec Ideal S128x256 .f32) : k0_pay77 (F := Ideal) o (kSt o s 4) (kBc (kMax (kSt o s 4))) = (kPick o (kSt o s 4)) := by
  unfold k0_pay77
  rfl

theorem pay78_eq (o : FVec Ideal S128x256 .f32) (s : FVec Ideal S128x256 .f32) : k0_pay78 (F := Ideal) o (kSt o s 4) (kBc (kMax (kSt o s 4))) = (kSt o s 5) := by
  unfold k0_pay78
  simp only [pay77_eq]
  rfl

theorem pay79_eq (o : FVec Ideal S128x256 .f32) (s : FVec Ideal S128x256 .f32) : k0_pay79 (F := Ideal) o (kSt o s 4) (kBc (kMax (kSt o s 4))) = (kMax (kSt o s 5)) := by
  unfold k0_pay79
  simp only [pay78_eq]
  rfl

theorem pay80_eq (o : FVec Ideal S128x256 .f32) (s : FVec Ideal S128x256 .f32) : k0_pay80 (F := Ideal) o (kSt o s 4) (kBc (kMax (kSt o s 4))) = (kPick o (kSt o s 5)) := by
  unfold k0_pay80
  simp only [pay78_eq, pay79_eq]
  rfl

theorem pay81_eq (o : FVec Ideal S128x256 .f32) (s : FVec Ideal S128x256 .f32) : k0_pay81 (F := Ideal) o (kSt o s 4) (kBc (kMax (kSt o s 4))) = (kSt o s 6) := by
  unfold k0_pay81
  simp only [pay78_eq, pay80_eq]
  rfl

theorem pay82_eq (o : FVec Ideal S128x256 .f32) (s : FVec Ideal S128x256 .f32) : k0_pay82 (F := Ideal) o (kSt o s 4) (kBc (kMax (kSt o s 4))) = (kMax (kSt o s 6)) := by
  unfold k0_pay82
  simp only [pay81_eq]
  rfl

theorem pay83_eq (o : FVec Ideal S128x256 .f32) (s : FVec Ideal S128x256 .f32) : k0_pay83 (F := Ideal) o (kSt o s 4) (kBc (kMax (kSt o s 4))) = (kPick o (kSt o s 6)) := by
  unfold k0_pay83
  simp only [pay81_eq, pay82_eq]
  rfl

theorem pay84_eq (o : FVec Ideal S128x256 .f32) (s : FVec Ideal S128x256 .f32) : k0_pay84 (F := Ideal) o (kSt o s 4) (kBc (kMax (kSt o s 4))) = (kSt o s 7) := by
  unfold k0_pay84
  simp only [pay81_eq, pay83_eq]
  rfl

theorem pay85_eq (o : FVec Ideal S128x256 .f32) (s : FVec Ideal S128x256 .f32) : k0_pay85 (F := Ideal) o (kSt o s 4) (kBc (kMax (kSt o s 4))) = (kMax (kSt o s 7)) := by
  unfold k0_pay85
  simp only [pay84_eq]
  rfl

theorem pay86_eq (o : FVec Ideal S128x256 .f32) (s : FVec Ideal S128x256 .f32) : k0_pay86 (F := Ideal) o (kSt o s 4) (kBc (kMax (kSt o s 4))) = (kPick o (kSt o s 7)) := by
  unfold k0_pay86
  simp only [pay84_eq, pay85_eq]
  rfl

theorem pay87_eq (o : FVec Ideal S128x256 .f32) (s : FVec Ideal S128x256 .f32) : k0_pay87 (F := Ideal) o (kSt o s 4) (kBc (kMax (kSt o s 4))) = (kSt o s 8) := by
  unfold k0_pay87
  simp only [pay84_eq, pay86_eq]
  rfl

theorem pay88_eq (o : FVec Ideal S128x256 .f32) (s : FVec Ideal S128x256 .f32) : k0_pay88 (F := Ideal) (kSt o s 8) = (kMax (kSt o s 8)) := by
  unfold k0_pay88
  rfl

theorem pay89_eq (o : FVec Ideal S128x256 .f32) (s : FVec Ideal S128x256 .f32) : k0_pay89 (F := Ideal) o (kSt o s 8) = (kPick o (kSt o s 8)) := by
  unfold k0_pay89
  simp only [pay88_eq]
  rfl

theorem pay90_eq (o : FVec Ideal S128x256 .f32) (s : FVec Ideal S128x256 .f32) : k0_pay90 (F := Ideal) o (kSt o s 8) = (kSt o s 9) := by
  unfold k0_pay90
  simp only [pay89_eq]
  rfl

theorem pay91_eq (o : FVec Ideal S128x256 .f32) (s : FVec Ideal S128x256 .f32) : k0_pay91 (F := Ideal) o (kSt o s 8) = (kMax (kSt o s 9)) := by
  unfold k0_pay91
  simp only [pay90_eq]
  rfl

theorem pay92_eq (o : FVec Ideal S128x256 .f32) (s : FVec Ideal S128x256 .f32) : k0_pay92 (F := Ideal) o (kSt o s 8) = (kPick o (kSt o s 9)) := by
  unfold k0_pay92
  simp only [pay90_eq, pay91_eq]
  rfl

theorem pay93_eq (o : FVec Ideal S128x256 .f32) (s : FVec Ideal S128x256 .f32) : k0_pay93 (F := Ideal) o (kSt o s 8) = (kSt o s 10) := by
  unfold k0_pay93
  simp only [pay90_eq, pay92_eq]
  rfl

theorem pay94_eq (o : FVec Ideal S128x256 .f32) (s : FVec Ideal S128x256 .f32) : k0_pay94 (F := Ideal) o (kSt o s 8) = (kMax (kSt o s 10)) := by
  unfold k0_pay94
  simp only [pay93_eq]
  rfl

theorem pay95_eq (o : FVec Ideal S128x256 .f32) (s : FVec Ideal S128x256 .f32) : k0_pay95 (F := Ideal) o (kSt o s 8) = (kPick o (kSt o s 10)) := by
  unfold k0_pay95
  simp only [pay93_eq, pay94_eq]
  rfl

theorem pay96_eq (o : FVec Ideal S128x256 .f32) (s : FVec Ideal S128x256 .f32) : k0_pay96 (F := Ideal) o (kSt o s 8) = (kSt o s 11) := by
  unfold k0_pay96
  simp only [pay93_eq, pay95_eq]
  rfl

theorem pay97_eq (o : FVec Ideal S128x256 .f32) (s : FVec Ideal S128x256 .f32) : k0_pay97 (F := Ideal) o (kSt o s 8) = (kMax (kSt o s 11)) := by
  unfold k0_pay97
  simp only [pay96_eq]
  rfl

theorem pay98_eq (o : FVec Ideal S128x256 .f32) (s : FVec Ideal S128x256 .f32) : k0_pay98 (F := Ideal) o (kSt o s 8) = (kPick o (kSt o s 11)) := by
  unfold k0_pay98
  simp only [pay96_eq, pay97_eq]
  rfl

theorem pay99_eq (o : FVec Ideal S128x256 .f32) (s : FVec Ideal S128x256 .f32) : k0_pay99 (F := Ideal) o (kSt o s 8) = (kBc (kPick o (kSt o s 11))) := by
  unfold k0_pay99
  simp only [pay98_eq]
  rfl

theorem pay100_eq (o : FVec Ideal S128x256 .f32) (s : FVec Ideal S128x256 .f32) : k0_pay100 (F := Ideal) o (kSt o s 11) (kBc (kPick o (kSt o s 11))) = (kSt o s 12) := by
  unfold k0_pay100
  rfl

theorem pay101_eq (o : FVec Ideal S128x256 .f32) (s : FVec Ideal S128x256 .f32) : k0_pay101 (F := Ideal) o (kSt o s 11) (kBc (kPick o (kSt o s 11))) = (kMax (kSt o s 12)) := by
  unfold k0_pay101
  simp only [pay100_eq]
  rfl

theorem pay102_eq (o : FVec Ideal S128x256 .f32) (s : FVec Ideal S128x256 .f32) : k0_pay102 (F := Ideal) o (kSt o s 11) (kBc (kPick o (kSt o s 11))) = (kPick o (kSt o s 12)) := by
  unfold k0_pay102
  simp only [pay100_eq, pay101_eq]
  rfl

theorem pay103_eq (o : FVec Ideal S128x256 .f32) (s : FVec Ideal S128x256 .f32) : k0_pay103 (F := Ideal) o (kSt o s 11) (kBc (kPick o (kSt o s 11))) = (kSt o s 13) := by
  unfold k0_pay103
  simp only [pay100_eq, pay102_eq]
  rfl

theorem pay104_eq (o : FVec Ideal S128x256 .f32) (s : FVec Ideal S128x256 .f32) : k0_pay104 (F := Ideal) o (kSt o s 11) (kBc (kPick o (kSt o s 11))) = (kMax (kSt o s 13)) := by
  unfold k0_pay104
  simp only [pay103_eq]
  rfl

theorem pay105_eq (o : FVec Ideal S128x256 .f32) (s : FVec Ideal S128x256 .f32) : k0_pay105 (F := Ideal) o (kSt o s 11) (kBc (kPick o (kSt o s 11))) = (kPick o (kSt o s 13)) := by
  unfold k0_pay105
  simp only [pay103_eq, pay104_eq]
  rfl

theorem pay106_eq (o : FVec Ideal S128x256 .f32) (s : FVec Ideal S128x256 .f32) : k0_pay106 (F := Ideal) o (kSt o s 11) (kBc (kPick o (kSt o s 11))) = (kSt o s 14) := by
  unfold k0_pay106
  simp only [pay103_eq, pay105_eq]
  rfl

theorem pay107_eq (o : FVec Ideal S128x256 .f32) (s : FVec Ideal S128x256 .f32) : k0_pay107 (F := Ideal) o (kSt o s 11) (kBc (kPick o (kSt o s 11))) = (kMax (kSt o s 14)) := by
  unfold k0_pay107
  simp only [pay106_eq]
  rfl

theorem pay108_eq (o : FVec Ideal S128x256 .f32) (s : FVec Ideal S128x256 .f32) : k0_pay108 (F := Ideal) o (kSt o s 11) (kBc (kPick o (kSt o s 11))) = (kPick o (kSt o s 14)) := by
  unfold k0_pay108
  simp only [pay106_eq, pay107_eq]
  rfl

theorem pay109_eq (o : FVec Ideal S128x256 .f32) (s : FVec Ideal S128x256 .f32) : k0_pay109 (F := Ideal) o (kSt o s 11) (kBc (kPick o (kSt o s 11))) = (kSt o s 15) := by
  unfold k0_pay109
  simp only [pay106_eq, pay108_eq]
  rfl

theorem pay110_eq (o : FVec Ideal S128x256 .f32) (s : FVec Ideal S128x256 .f32) : k0_pay110 (F := Ideal) o (kSt o s 11) (kBc (kPick o (kSt o s 11))) = (kMax (kSt o s 15)) := by
  unfold k0_pay110
  simp only [pay109_eq]
  rfl

theorem pay111_eq (o : FVec Ideal S128x256 .f32) (s : FVec Ideal S128x256 .f32) : k0_pay111 (F := Ideal) o (kSt o s 11) (kBc (kPick o (kSt o s 11))) = (kMask o (kSt o s 15)) := by
  unfold k0_pay111
  simp only [pay109_eq, pay110_eq]
  rfl

theorem pay112_eq (o : FVec Ideal S128x256 .f32) (s : FVec Ideal S128x256 .f32) : k0_pay112 (F := Ideal) (kMax (kSt o s 0)) (kMax (kSt o s 1)) (kMax (kSt o s 2)) (kMax (kSt o s 3)) (kMax (kSt o s 4)) (kMax (kSt o s 5)) (kMax (kSt o s 6)) (kMax (kSt o s 7)) (kMax (kSt o s 8)) (kMax (kSt o s 9)) (kMax (kSt o s 10)) (kMax (kSt o s 11)) (kMax (kSt o s 12)) (kMax (kSt o s 13)) (kMax (kSt o s 14)) (kMax (kSt o s 15)) = (kVals o s) := by
  unfold k0_pay112
  rfl

theorem pay113_eq (o : FVec Ideal S128x256 .f32) (s : FVec Ideal S128x256 .f32) : k0_pay113 (F := Ideal) (kPick o (kSt o s 0)) (kPick o (kSt o s 1)) (kPick o (kSt o s 2)) (kPick o (kSt o s 3)) (kPick o (kSt o s 4)) (kPick o (kSt o s 5)) (kPick o (kSt o s 6)) (kPick o (kSt o s 7)) (kPick o (kSt o s 8)) (kPick o (kSt o s 9)) (kPick o (kSt o s 10)) (kPick o (kSt o s 11)) (kPick o (kSt o s 12)) (kPick o (kSt o s 13)) (kPick o (kSt o s 14)) (kMask o (kSt o s 15)) = (kPicks o s) := by
  unfold k0_pay113
  rfl

theorem pay115_eq (o : FVec Ideal S128x256 .f32) (s : FVec Ideal S128x256 .f32) (A : FVec Ideal S16x256 .f32) : k0_pay115 (F := Ideal) A (kMax (kSt o s 0)) (kMax (kSt o s 1)) (kMax (kSt o s 2)) (kMax (kSt o s 3)) (kMax (kSt o s 4)) (kMax (kSt o s 5)) (kMax (kSt o s 6)) (kMax (kSt o s 7)) (kMax (kSt o s 8)) (kMax (kSt o s 9)) (kMax (kSt o s 10)) (kMax (kSt o s 11)) (kMax (kSt o s 12)) (kMax (kSt o s 13)) (kMax (kSt o s 14)) (kMax (kSt o s 15)) = firstS A (kVals o s) := by
  unfold k0_pay115
  simp only [pay112_eq]
  rfl

theorem pay116_eq (o : FVec Ideal S128x256 .f32) (s : FVec Ideal S128x256 .f32) (A : FVec Ideal S16x256 .f32) : k0_pay116 (F := Ideal) A (kPick o (kSt o s 0)) (kPick o (kSt o s 1)) (kPick o (kSt o s 2)) (kPick o (kSt o s 3)) (kPick o (kSt o s 4)) (kPick o (kSt o s 5)) (kPick o (kSt o s 6)) (kPick o (kSt o s 7)) (kPick o (kSt o s 8)) (kPick o (kSt o s 9)) (kPick o (kSt o s 10)) (kPick o (kSt o s 11)) (kPick o (kSt o s 12)) (kPick o (kSt o s 13)) (kPick o (kSt o s 14)) (kMask o (kSt o s 15)) = firstE A (kPicks o s) := by
  unfold k0_pay116
  simp only [pay113_eq]
  rfl

theorem pay118_eq (o : FVec Ideal S128x256 .f32) (s : FVec Ideal S128x256 .f32) (A : FVec Ideal S16x256 .f32) : k0_pay118 (F := Ideal) A (kMax (kSt o s 0)) (kMax (kSt o s 1)) (kMax (kSt o s 2)) (kMax (kSt o s 3)) (kMax (kSt o s 4)) (kMax (kSt o s 5)) (kMax (kSt o s 6)) (kMax (kSt o s 7)) (kMax (kSt o s 8)) (kMax (kSt o s 9)) (kMax (kSt o s 10)) (kMax (kSt o s 11)) (kMax (kSt o s 12)) (kMax (kSt o s 13)) (kMax (kSt o s 14)) (kMax (kSt o s 15)) = rowS1 A (kVals o s) := by
  unfold k0_pay118
  simp only [pay112_eq]
  rfl

theorem pay120_eq (o : FVec Ideal S128x256 .f32) (s : FVec Ideal S128x256 .f32) (A : FVec Ideal S16x256 .f32) : k0_pay120 (F := Ideal) A (kPick o (kSt o s 0)) (kPick o (kSt o s 1)) (kPick o (kSt o s 2)) (kPick o (kSt o s 3)) (kPick o (kSt o s 4)) (kPick o (kSt o s 5)) (kPick o (kSt o s 6)) (kPick o (kSt o s 7)) (kPick o (kSt o s 8)) (kPick o (kSt o s 9)) (kPick o (kSt o s 10)) (kPick o (kSt o s 11)) (kPick o (kSt o s 12)) (kPick o (kSt o s 13)) (kPick o (kSt o s 14)) (kMask o (kSt o s 15)) = rowE1 A (kPicks o s) := by
  unfold k0_pay120
  simp only [pay113_eq]
  rfl

theorem pay121_eq (o : FVec Ideal S128x256 .f32) (s : FVec Ideal S128x256 .f32) (A : FVec Ideal S16x256 .f32) : k0_pay121 (F := Ideal) A (kMax (kSt o s 0)) (kMax (kSt o s 1)) (kMax (kSt o s 2)) (kMax (kSt o s 3)) (kMax (kSt o s 4)) (kMax (kSt o s 5)) (kMax (kSt o s 6)) (kMax (kSt o s 7)) (kMax (kSt o s 8)) (kMax (kSt o s 9)) (kMax (kSt o s 10)) (kMax (kSt o s 11)) (kMax (kSt o s 12)) (kMax (kSt o s 13)) (kMax (kSt o s 14)) (kMax (kSt o s 15)) = rowS2 A (kVals o s) := by
  unfold k0_pay121
  simp only [pay112_eq]
  rfl

theorem pay123_eq (o : FVec Ideal S128x256 .f32) (s : FVec Ideal S128x256 .f32) (A : FVec Ideal S16x256 .f32) : k0_pay123 (F := Ideal) A (kPick o (kSt o s 0)) (kPick o (kSt o s 1)) (kPick o (kSt o s 2)) (kPick o (kSt o s 3)) (kPick o (kSt o s 4)) (kPick o (kSt o s 5)) (kPick o (kSt o s 6)) (kPick o (kSt o s 7)) (kPick o (kSt o s 8)) (kPick o (kSt o s 9)) (kPick o (kSt o s 10)) (kPick o (kSt o s 11)) (kPick o (kSt o s 12)) (kPick o (kSt o s 13)) (kPick o (kSt o s 14)) (kMask o (kSt o s 15)) = rowE2 A (kPicks o s) := by
  unfold k0_pay123
  simp only [pay113_eq]
  rfl

theorem pay125_eq (o : FVec Ideal S128x256 .f32) (s : FVec Ideal S128x256 .f32) : k0_pay125 (F := Ideal) (kMax (kSt o s 0)) (kMax (kSt o s 1)) (kMax (kSt o s 2)) (kMax (kSt o s 3)) (kMax (kSt o s 4)) (kMax (kSt o s 5)) (kMax (kSt o s 6)) (kMax (kSt o s 7)) (kMax (kSt o s 8)) (kMax (kSt o s 9)) (kMax (kSt o s 10)) (kMax (kSt o s 11)) (kMax (kSt o s 12)) (kMax (kSt o s 13)) (kMax (kSt o s 14)) (kMax (kSt o s 15)) = k0_pay136 (kVals o s) := by
  unfold k0_pay125
  simp only [pay112_eq]
  rfl

theorem pay141_eq (s : FVec Ideal S80x256 .f32) : k0_pay141 (F := Ideal) (cTop s) = (cMax s) := by
  unfold k0_pay141
  rfl

theorem pay142_eq (o : FVec Ideal S80x256 .f32) (s : FVec Ideal S80x256 .f32) : k0_pay142 (F := Ideal) s o (cTop s) = (cHit o s) := by
  unfold k0_pay142
  simp only [pay141_eq]
  rfl

theorem pay143_eq (o : FVec Ideal S80x256 .f32) (s : FVec Ideal S80x256 .f32) (e : FVec Ideal S80x256 .f32) : k0_pay143 (F := Ideal) s o e (cTop s) = (cCar o s e) := by
  unfold k0_pay143
  simp only [pay142_eq]
  rfl

theorem pay144_eq (o : FVec Ideal S80x256 .f32) (s : FVec Ideal S80x256 .f32) : k0_pay144 (F := Ideal) s o (cTop s) = (cSt o s 1) := by
  unfold k0_pay144
  simp only [pay142_eq]
  rfl

theorem pay145_eq (o : FVec Ideal S80x256 .f32) (s : FVec Ideal S80x256 .f32) : k0_pay145 (F := Ideal) s o (cTop s) = (cMax (cSt o s 1)) := by
  unfold k0_pay145
  simp only [pay144_eq]
  rfl

theorem pay146_eq (o : FVec Ideal S80x256 .f32) (s : FVec Ideal S80x256 .f32) : k0_pay146 (F := Ideal) s o (cTop s) = (cHit o (cSt o s 1)) := by
  unfold k0_pay146
  simp only [pay144_eq, pay145_eq]
  rfl

theorem pay147_eq (o : FVec Ideal S80x256 .f32) (s : FVec Ideal S80x256 .f32) (e : FVec Ideal S80x256 .f32) : k0_pay147 (F := Ideal) s o e (cTop s) = (cCar o (cSt o s 1) e) := by
  unfold k0_pay147
  simp only [pay146_eq]
  rfl

theorem pay148_eq (o : FVec Ideal S80x256 .f32) (s : FVec Ideal S80x256 .f32) : k0_pay148 (F := Ideal) s o (cTop s) = (cSt o s 2) := by
  unfold k0_pay148
  simp only [pay144_eq, pay146_eq]
  rfl

theorem pay149_eq (o : FVec Ideal S80x256 .f32) (s : FVec Ideal S80x256 .f32) : k0_pay149 (F := Ideal) s o (cTop s) = (cMax (cSt o s 2)) := by
  unfold k0_pay149
  simp only [pay148_eq]
  rfl

theorem pay150_eq (o : FVec Ideal S80x256 .f32) (s : FVec Ideal S80x256 .f32) : k0_pay150 (F := Ideal) s o (cTop s) = (cHit o (cSt o s 2)) := by
  unfold k0_pay150
  simp only [pay148_eq, pay149_eq]
  rfl

theorem pay151_eq (o : FVec Ideal S80x256 .f32) (s : FVec Ideal S80x256 .f32) (e : FVec Ideal S80x256 .f32) : k0_pay151 (F := Ideal) s o e (cTop s) = (cCar256 o (cSt o s 2) e) := by
  unfold k0_pay151
  simp only [pay150_eq]
  rfl

theorem pay152_eq (o : FVec Ideal S80x256 .f32) (s : FVec Ideal S80x256 .f32) (e : FVec Ideal S80x256 .f32) : k0_pay152 (F := Ideal) (cCar256 o (cSt o s 2) e) = (cCar o (cSt o s 2) e) := by
  unfold k0_pay152
  rfl

theorem pay153_eq (o : FVec Ideal S80x256 .f32) (s : FVec Ideal S80x256 .f32) : k0_pay153 (F := Ideal) (cSt o s 2) (cHit o (cSt o s 2)) = (cSt o s 3) := by
  unfold k0_pay153
  rfl

theorem pay154_eq (o : FVec Ideal S80x256 .f32) (s : FVec Ideal S80x256 .f32) : k0_pay154 (F := Ideal) (cSt o s 2) (cHit o (cSt o s 2)) = (cMax (cSt o s 3)) := by
  unfold k0_pay154
  simp only [pay153_eq]
  rfl

theorem pay155_eq (o : FVec Ideal S80x256 .f32) (s : FVec Ideal S80x256 .f32) : k0_pay155 (F := Ideal) o (cSt o s 2) (cHit o (cSt o s 2)) = (cHit o (cSt o s 3)) := by
  unfold k0_pay155
  simp only [pay153_eq, pay154_eq]
  rfl

theorem pay156_eq (o : FVec Ideal S80x256 .f32) (s : FVec Ideal S80x256 .f32) (e : FVec Ideal S80x256 .f32) : k0_pay156 (F := Ideal) o e (cSt o s 2) (cHit o (cSt o s 2)) = (cCar o (cSt o s 3) e) := by
  unfold k0_pay156
  simp only [pay155_eq]
  rfl

theorem pay157_eq (o : FVec Ideal S80x256 .f32) (s : FVec Ideal S80x256 .f32) : k0_pay157 (F := Ideal) o (cSt o s 2) (cHit o (cSt o s 2)) = (cSt o s 4) := by
  unfold k0_pay157
  simp only [pay153_eq, pay155_eq]
  rfl

theorem pay158_eq (o : FVec Ideal S80x256 .f32) (s : FVec Ideal S80x256 .f32) : k0_pay158 (F := Ideal) o (cSt o s 2) (cHit o (cSt o s 2)) = (cMax (cSt o s 4)) := by
  unfold k0_pay158
  simp only [pay157_eq]
  rfl

theorem pay159_eq (o : FVec Ideal S80x256 .f32) (s : FVec Ideal S80x256 .f32) : k0_pay159 (F := Ideal) o (cSt o s 2) (cHit o (cSt o s 2)) = (cHit o (cSt o s 4)) := by
  unfold k0_pay159
  simp only [pay157_eq, pay158_eq]
  rfl

theorem pay160_eq (o : FVec Ideal S80x256 .f32) (s : FVec Ideal S80x256 .f32) (e : FVec Ideal S80x256 .f32) : k0_pay160 (F := Ideal) o e (cSt o s 2) (cHit o (cSt o s 2)) = (cCar o (cSt o s 4) e) := by
  unfold k0_pay160
  simp only [pay159_eq]
  rfl

theorem pay161_eq (o : FVec Ideal S80x256 .f32) (s : FVec Ideal S80x256 .f32) : k0_pay161 (F := Ideal) o (cSt o s 2) (cHit o (cSt o s 2)) = (cSt o s 5) := by
  unfold k0_pay161
  simp only [pay157_eq, pay159_eq]
  rfl

theorem pay162_eq (o : FVec Ideal S80x256 .f32) (s : FVec Ideal S80x256 .f32) : k0_pay162 (F := Ideal) o (cSt o s 2) (cHit o (cSt o s 2)) = (cMax (cSt o s 5)) := by
  unfold k0_pay162
  simp only [pay161_eq]
  rfl

theorem pay163_eq (o : FVec Ideal S80x256 .f32) (s : FVec Ideal S80x256 .f32) : k0_pay163 (F := Ideal) o (cSt o s 2) (cHit o (cSt o s 2)) = (cBc (cPick o (cSt o s 5))) := by
  unfold k0_pay163
  simp only [pay161_eq, pay162_eq]
  rfl

theorem pay164_eq (o : FVec Ideal S80x256 .f32) (s : FVec Ideal S80x256 .f32) : k0_pay164 (F := Ideal) o (cBc (cPick o (cSt o s 5))) = (cHit o (cSt o s 5)) := by
  unfold k0_pay164
  rfl

theorem pay165_eq (o : FVec Ideal S80x256 .f32) (s : FVec Ideal S80x256 .f32) (e : FVec Ideal S80x256 .f32) : k0_pay165 (F := Ideal) o e (cBc (cPick o (cSt o s 5))) = (cCar o (cSt o s 5) e) := by
  unfold k0_pay165
  simp only [pay164_eq]
  rfl

theorem pay166_eq (o : FVec Ideal S80x256 .f32) (s : FVec Ideal S80x256 .f32) : k0_pay166 (F := Ideal) o (cSt o s 5) (cBc (cPick o (cSt o s 5))) = (cSt o s 6) := by
  unfold k0_pay166
  simp only [pay164_eq]
  rfl

theorem pay167_eq (o : FVec Ideal S80x256 .f32) (s : FVec Ideal S80x256 .f32) : k0_pay167 (F := Ideal) o (cSt o s 5) (cBc (cPick o (cSt o s 5))) = (cMax (cSt o s 6)) := by
  unfold k0_pay167
  simp only [pay166_eq]
  rfl

theorem pay168_eq (o : FVec Ideal S80x256 .f32) (s : FVec Ideal S80x256 .f32) : k0_pay168 (F := Ideal) o (cSt o s 5) (cBc (cPick o (cSt o s 5))) = (cHit o (cSt o s 6)) := by
  unfold k0_pay168
  simp only [pay166_eq, pay167_eq]
  rfl

theorem pay169_eq (o : FVec Ideal S80x256 .f32) (s : FVec Ideal S80x256 .f32) (e : FVec Ideal S80x256 .f32) : k0_pay169 (F := Ideal) o e (cSt o s 5) (cBc (cPick o (cSt o s 5))) = (cCar o (cSt o s 6) e) := by
  unfold k0_pay169
  simp only [pay168_eq]
  rfl

theorem pay170_eq (o : FVec Ideal S80x256 .f32) (s : FVec Ideal S80x256 .f32) : k0_pay170 (F := Ideal) o (cSt o s 5) (cBc (cPick o (cSt o s 5))) = (cSt o s 7) := by
  unfold k0_pay170
  simp only [pay166_eq, pay168_eq]
  rfl

theorem pay171_eq (o : FVec Ideal S80x256 .f32) (s : FVec Ideal S80x256 .f32) : k0_pay171 (F := Ideal) o (cSt o s 5) (cBc (cPick o (cSt o s 5))) = (cMax (cSt o s 7)) := by
  unfold k0_pay171
  simp only [pay170_eq]
  rfl

theorem pay172_eq (o : FVec Ideal S80x256 .f32) (s : FVec Ideal S80x256 .f32) : k0_pay172 (F := Ideal) o (cSt o s 5) (cBc (cPick o (cSt o s 5))) = (cHit o (cSt o s 7)) := by
  unfold k0_pay172
  simp only [pay170_eq, pay171_eq]
  rfl

theorem pay173_eq (o : FVec Ideal S80x256 .f32) (s : FVec Ideal S80x256 .f32) (e : FVec Ideal S80x256 .f32) : k0_pay173 (F := Ideal) o e (cSt o s 5) (cBc (cPick o (cSt o s 5))) = (cCar o (cSt o s 7) e) := by
  unfold k0_pay173
  simp only [pay172_eq]
  rfl

theorem pay174_eq (o : FVec Ideal S80x256 .f32) (s : FVec Ideal S80x256 .f32) : k0_pay174 (F := Ideal) o (cSt o s 5) (cBc (cPick o (cSt o s 5))) = (cSt o s 8) := by
  unfold k0_pay174
  simp only [pay170_eq, pay172_eq]
  rfl

theorem pay175_eq (o : FVec Ideal S80x256 .f32) (s : FVec Ideal S80x256 .f32) : k0_pay175 (F := Ideal) o (cSt o s 5) (cBc (cPick o (cSt o s 5))) = (cMax (cSt o s 8)) := by
  unfold k0_pay175
  simp only [pay174_eq]
  rfl

theorem pay176_eq (o : FVec Ideal S80x256 .f32) (s : FVec Ideal S80x256 .f32) : k0_pay176 (F := Ideal) o (cSt o s 5) (cBc (cPick o (cSt o s 5))) = (cEq (cSt o s 8)) := by
  unfold k0_pay176
  simp only [pay174_eq, pay175_eq]
  rfl

theorem pay177_eq (o : FVec Ideal S80x256 .f32) (s : FVec Ideal S80x256 .f32) : k0_pay177 (F := Ideal) o (cEq (cSt o s 8)) (Scalar.ofBits .f32 0x7F800000#32) = (cHit o (cSt o s 8)) := by
  unfold k0_pay177
  rfl

theorem pay178_eq (o : FVec Ideal S80x256 .f32) (s : FVec Ideal S80x256 .f32) (e : FVec Ideal S80x256 .f32) : k0_pay178 (F := Ideal) o e (cEq (cSt o s 8)) (Scalar.ofBits .f32 0x7F800000#32) = (cCar o (cSt o s 8) e) := by
  unfold k0_pay178
  simp only [pay177_eq]
  rfl

theorem pay179_eq (o : FVec Ideal S80x256 .f32) (s : FVec Ideal S80x256 .f32) : k0_pay179 (F := Ideal) o (cSt o s 8) (cEq (cSt o s 8)) (Scalar.ofBits .f32 0x7F800000#32) = (cSt o s 9) := by
  unfold k0_pay179
  simp only [pay177_eq]
  rfl

theorem pay180_eq (o : FVec Ideal S80x256 .f32) (s : FVec Ideal S80x256 .f32) : k0_pay180 (F := Ideal) o (cSt o s 8) (cEq (cSt o s 8)) (Scalar.ofBits .f32 0x7F800000#32) = (cMax (cSt o s 9)) := by
  unfold k0_pay180
  simp only [pay179_eq]
  rfl

theorem pay181_eq (o : FVec Ideal S80x256 .f32) (s : FVec Ideal S80x256 .f32) : k0_pay181 (F := Ideal) o (cSt o s 8) (cEq (cSt o s 8)) (Scalar.ofBits .f32 0x7F800000#32) = (cHit o (cSt o s 9)) := by
  unfold k0_pay181
  simp only [pay179_eq, pay180_eq]
  rfl

theorem pay182_eq (o : FVec Ideal S80x256 .f32) (s : FVec Ideal S80x256 .f32) (e : FVec Ideal S80x256 .f32) : k0_pay182 (F := Ideal) o e (cSt o s 8) (cEq (cSt o s 8)) (Scalar.ofBits .f32 0x7F800000#32) = (cCar o (cSt o s 9) e) := by
  unfold k0_pay182
  simp only [pay181_eq]
  rfl

theorem pay183_eq (o : FVec Ideal S80x256 .f32) (s : FVec Ideal S80x256 .f32) : k0_pay183 (F := Ideal) o (cSt o s 8) (cEq (cSt o s 8)) (Scalar.ofBits .f32 0x7F800000#32) = (cSt o s 10) := by
  unfold k0_pay183
  simp only [pay179_eq, pay181_eq]
  rfl

theorem pay184_eq (o : FVec Ideal S80x256 .f32) (s : FVec Ideal S80x256 .f32) : k0_pay184 (F := Ideal) o (cSt o s 8) (cEq (cSt o s 8)) (Scalar.ofBits .f32 0x7F800000#32) = (cMax (cSt o s 10)) := by
  unfold k0_pay184
  simp only [pay183_eq]
  rfl

theorem pay185_eq (o : FVec Ideal S80x256 .f32) (s : FVec Ideal S80x256 .f32) : k0_pay185 (F := Ideal) o (cSt o s 8) (cEq (cSt o s 8)) (Scalar.ofBits .f32 0x7F800000#32) = (cHit o (cSt o s 10)) := by
  unfold k0_pay185
  simp only [pay183_eq, pay184_eq]
  rfl

theorem pay186_eq (o : FVec Ideal S80x256 .f32) (s : FVec Ideal S80x256 .f32) (e : FVec Ideal S80x256 .f32) : k0_pay186 (F := Ideal) o e (cSt o s 8) (cEq (cSt o s 8)) (Scalar.ofBits .f32 0x7F800000#32) = (cCar o (cSt o s 10) e) := by
  unfold k0_pay186
  simp only [pay185_eq]
  rfl

theorem pay187_eq (o : FVec Ideal S80x256 .f32) (s : FVec Ideal S80x256 .f32) : k0_pay187 (F := Ideal) o (cSt o s 8) (cEq (cSt o s 8)) (Scalar.ofBits .f32 0x7F800000#32) = (cSt o s 11) := by
  unfold k0_pay187
  simp only [pay183_eq, pay185_eq]
  rfl

theorem pay188_eq (o : FVec Ideal S80x256 .f32) (s : FVec Ideal S80x256 .f32) : k0_pay188 (F := Ideal) (cSt o s 11) = (cMax (cSt o s 11)) := by
  unfold k0_pay188
  rfl

theorem pay189_eq (o : FVec Ideal S80x256 .f32) (s : FVec Ideal S80x256 .f32) : k0_pay189 (F := Ideal) o (cSt o s 11) = (cHit o (cSt o s 11)) := by
  unfold k0_pay189
  simp only [pay188_eq]
  rfl

theorem pay190_eq (o : FVec Ideal S80x256 .f32) (s : FVec Ideal S80x256 .f32) (e : FVec Ideal S80x256 .f32) : k0_pay190 (F := Ideal) o e (cSt o s 11) = (cCar o (cSt o s 11) e) := by
  unfold k0_pay190
  simp only [pay189_eq]
  rfl

theorem pay191_eq (o : FVec Ideal S80x256 .f32) (s : FVec Ideal S80x256 .f32) : k0_pay191 (F := Ideal) o (cSt o s 11) = (cSt o s 12) := by
  unfold k0_pay191
  simp only [pay189_eq]
  rfl

theorem pay192_eq (o : FVec Ideal S80x256 .f32) (s : FVec Ideal S80x256 .f32) : k0_pay192 (F := Ideal) o (cSt o s 11) = (cMax (cSt o s 12)) := by
  unfold k0_pay192
  simp only [pay191_eq]
  rfl

theorem pay193_eq (o : FVec Ideal S80x256 .f32) (s : FVec Ideal S80x256 .f32) : k0_pay193 (F := Ideal) o (cSt o s 11) = (cHit o (cSt o s 12)) := by
  unfold k0_pay193
  simp only [pay191_eq, pay192_eq]
  rfl

theorem pay194_eq (o : FVec Ideal S80x256 .f32) (s : FVec Ideal S80x256 .f32) (e : FVec Ideal S80x256 .f32) : k0_pay194 (F := Ideal) o e (cSt o s 11) = (cCar o (cSt o s 12) e) := by
  unfold k0_pay194
  simp only [pay193_eq]
  rfl

theorem pay195_eq (o : FVec Ideal S80x256 .f32) (s : FVec Ideal S80x256 .f32) : k0_pay195 (F := Ideal) o (cSt o s 11) = (cSt o s 13) := by
  unfold k0_pay195
  simp only [pay191_eq, pay193_eq]
  rfl

theorem pay196_eq (o : FVec Ideal S80x256 .f32) (s : FVec Ideal S80x256 .f32) : k0_pay196 (F := Ideal) o (cSt o s 11) = (cMax (cSt o s 13)) := by
  unfold k0_pay196
  simp only [pay195_eq]
  rfl

theorem pay197_eq (o : FVec Ideal S80x256 .f32) (s : FVec Ideal S80x256 .f32) : k0_pay197 (F := Ideal) o (cSt o s 11) = (cHit o (cSt o s 13)) := by
  unfold k0_pay197
  simp only [pay195_eq, pay196_eq]
  rfl

theorem pay198_eq (o : FVec Ideal S80x256 .f32) (s : FVec Ideal S80x256 .f32) (e : FVec Ideal S80x256 .f32) : k0_pay198 (F := Ideal) o e (cSt o s 11) = (cSel o (cSt o s 13) e) := by
  unfold k0_pay198
  simp only [pay197_eq]
  rfl

theorem pay199_eq (o : FVec Ideal S80x256 .f32) (s : FVec Ideal S80x256 .f32) (e : FVec Ideal S80x256 .f32) : k0_pay199 (F := Ideal) (cSel o (cSt o s 13) e) = (cCar o (cSt o s 13) e) := by
  unfold k0_pay199
  rfl

theorem pay200_eq (o : FVec Ideal S80x256 .f32) (s : FVec Ideal S80x256 .f32) : k0_pay200 (F := Ideal) (cSt o s 13) (cHit o (cSt o s 13)) = (cSt o s 14) := by
  unfold k0_pay200
  rfl

theorem pay201_eq (o : FVec Ideal S80x256 .f32) (s : FVec Ideal S80x256 .f32) : k0_pay201 (F := Ideal) (cSt o s 13) (cHit o (cSt o s 13)) = (cMax (cSt o s 14)) := by
  unfold k0_pay201
  simp only [pay200_eq]
  rfl

theorem pay202_eq (o : FVec Ideal S80x256 .f32) (s : FVec Ideal S80x256 .f32) : k0_pay202 (F := Ideal) o (cSt o s 13) (cHit o (cSt o s 13)) = (cHit o (cSt o s 14)) := by
  unfold k0_pay202
  simp only [pay200_eq, pay201_eq]
  rfl

theorem pay203_eq (o : FVec Ideal S80x256 .f32) (s : FVec Ideal S80x256 .f32) (e : FVec Ideal S80x256 .f32) : k0_pay203 (F := Ideal) o e (cSt o s 13) (cHit o (cSt o s 13)) = (cCar o (cSt o s 14) e) := by
  unfold k0_pay203
  simp only [pay202_eq]
  rfl

theorem pay204_eq (o : FVec Ideal S80x256 .f32) (s : FVec Ideal S80x256 .f32) : k0_pay204 (F := Ideal) o (cSt o s 13) (cHit o (cSt o s 13)) = (cSt o s 15) := by
  unfold k0_pay204
  simp only [pay200_eq, pay202_eq]
  rfl

theorem pay205_eq (o : FVec Ideal S80x256 .f32) (s : FVec Ideal S80x256 .f32) : k0_pay205 (F := Ideal) o (cSt o s 13) (cHit o (cSt o s 13)) = (cMax (cSt o s 15)) := by
  unfold k0_pay205
  simp only [pay204_eq]
  rfl

theorem pay206_eq (o : FVec Ideal S80x256 .f32) (s : FVec Ideal S80x256 .f32) (e : FVec Ideal S80x256 .f32) : k0_pay206 (F := Ideal) o e (cSt o s 13) (cHit o (cSt o s 13)) = (cCar o (cSt o s 15) e) := by
  unfold k0_pay206
  simp only [pay204_eq, pay205_eq]
  rfl

theorem pay207_eq (o : FVec Ideal S80x256 .f32) (s : FVec Ideal S80x256 .f32) : k0_pay207 (F := Ideal) o (cMax (cSt o s 0)) (cMax (cSt o s 1)) (cMax (cSt o s 2)) (cMax (cSt o s 3)) (cMax (cSt o s 4)) (cMax (cSt o s 5)) (cMax (cSt o s 6)) (cMax (cSt o s 7)) (cMax (cSt o s 8)) (cMax (cSt o s 9)) (cMax (cSt o s 10)) (cMax (cSt o s 11)) (cMax (cSt o s 12)) (cSt o s 13) (cMax (cSt o s 13)) (cHit o (cSt o s 13)) = gates (cVals o s) := by
  unfold k0_pay207
  simp only [pay201_eq, pay205_eq]
  rfl

theorem pay137_eq (A B : FVec Ideal S16x256 .f32) : k0_pay137 (F := Ideal) A B (firstS A B) k0_pay117 (rowS1 A B) (rowS2 A B) (k0_pay126 k0_pay117 (k0_pay124 A) (k0_pay136 B)) (k0_pay129 A B k0_pay117) (k0_pay132 A B k0_pay117) (k0_pay135 A) (k0_pay136 B) = candS A B := rfl
theorem pay138_eq : k0_pay138 (F := Ideal) k0_pay114 k0_pay117 k0_pay119 k0_pay122 (k0_pay127 k0_pay117) (k0_pay130 k0_pay117) (k0_pay133 k0_pay117) = candP := rfl
theorem pay139_eq (A B : FVec Ideal S16x256 .f32) : k0_pay139 (F := Ideal) A B (firstE A B) (rowE1 A B) (rowE2 A B) (k0_pay128 A B) (k0_pay131 A B) (k0_pay134 A B) = candE A B := rfl
theorem pay140_eq (A B : FVec Ideal S16x256 .f32) : k0_pay140 (F := Ideal) A B (firstS A B) k0_pay117 (rowS1 A B) (rowS2 A B) (k0_pay126 k0_pay117 (k0_pay124 A) (k0_pay136 B)) (k0_pay129 A B k0_pay117) (k0_pay132 A B k0_pay117) (k0_pay135 A) (k0_pay136 B) = cTop (candS A B) := rfl

theorem pay5_eq (o s e : FVec Ideal S80x256 .f32) : k0_pay5 (F := Ideal) (cCar o s e) (cCar o (cSt o s 1) e) (cCar o (cSt o s 2) e) (cCar o (cSt o s 3) e) (cCar o (cSt o s 4) e) (cCar o (cSt o s 5) e) (cCar o (cSt o s 6) e) (cCar o (cSt o s 7) e) (cCar o (cSt o s 8) e) (cCar o (cSt o s 9) e) (cCar o (cSt o s 10) e) (cCar o (cSt o s 11) e) (cCar o (cSt o s 12) e) (cCar o (cSt o s 13) e) (cCar o (cSt o s 14) e) (cCar o (cSt o s 15) e) = shapeCast S16x256 (cCars o s e) shapeCasts_S16x256_S16x256 := rfl

end Cert.Kernel4Ideal.Peer

end
-- ==== Proof.Peer.Trip.lean ====
/-
  One trip of the routing kernel's loop over the heads: the two pieces it leaves, the experts and the gates of one head.
-/
module

public import proofs.«01_k».proof.Proof.Peer.Chain
public import proofs.«01_k».proof.Proof.Gen.Kernel4Ideal.Loops
public import Idealize.ShloMosaic.Lib.Pipeline.Value

@[expose] public section

set_option maxRecDepth 65536
set_option synthInstance.maxSize 4096

noncomputable section

namespace Cert.Kernel4Ideal.Peer

open Idealize.ShloMosaic Idealize.SL.Sem Cert.Kernel4Ideal.Gen

/-- The scores of a head's first half; -/
def S0 (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : FVec Ideal S128x256 .f32 :=
  k0_pay9 (k0_pay2 v0 v12) (View.readAt (Elt Ideal) arg3.view (Rect.unit (s := S16x2048x128) (k0_off1 k 0#32) S1x2048x128.size (k0_off1_inb k 0)).toLoadRect X_arg3)
    (View.readAt (Elt Ideal) arg4.view (Rect.unit (s := S16x128x128) (k0_off2 k 0#32) S1x128x128.size (k0_off2_inb k 0)).toLoadRect X_arg4)
/-- and of its second. -/
def S1 (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : FVec Ideal S128x256 .f32 :=
  k0_pay9 (k0_pay2 v0 v12) (View.readAt (Elt Ideal) arg3.view (Rect.unit (s := S16x2048x128) (k0_off1 k 1#32) S1x2048x128.size (k0_off1_inb k 1)).toLoadRect X_arg3)
    (View.readAt (Elt Ideal) arg4.view (Rect.unit (s := S16x128x128) (k0_off2 k 1#32) S1x128x128.size (k0_off2_inb k 1)).toLoadRect X_arg4)
def cS (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : FVec Ideal S80x256 .f32 := candS (kVals k0_pay4 (S0 arg3 arg4 v0 v12 X_arg3 X_arg4 k)) (kVals k0_pay4 (S1 arg3 arg4 v0 v12 X_arg3 X_arg4 k))
def cE (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : FVec Ideal S80x256 .f32 := candE (kPicks k0_pay4 (S0 arg3 arg4 v0 v12 X_arg3 X_arg4 k)) (kPicks k0_pay4 (S1 arg3 arg4 v0 v12 X_arg3 X_arg4 k))

theorem r1_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_1 (F := Ideal) arg3 arg4 v0 v12 X_arg3 X_arg4 k = (kPick k0_pay4 (S0 arg3 arg4 v0 v12 X_arg3 X_arg4 k)) := by
  unfold trip_k0_t1.sl.r_1
  exact pay11_eq _ _ _ _

theorem r2_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_2 (F := Ideal) arg3 arg4 v0 v12 X_arg3 X_arg4 k = (kMax (kSt k0_pay4 (S0 arg3 arg4 v0 v12 X_arg3 X_arg4 k) 1)) := by
  unfold trip_k0_t1.sl.r_2
  exact pay13_eq _ _ _ _

theorem r3_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_3 (F := Ideal) arg3 arg4 v0 v12 X_arg3 X_arg4 k = (kPick k0_pay4 (kSt k0_pay4 (S0 arg3 arg4 v0 v12 X_arg3 X_arg4 k) 1)) := by
  unfold trip_k0_t1.sl.r_3
  exact pay14_eq _ _ _ _

theorem r4_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_4 (F := Ideal) arg3 arg4 v0 v12 X_arg3 X_arg4 k = (kSt k0_pay4 (S0 arg3 arg4 v0 v12 X_arg3 X_arg4 k) 2) := by
  unfold trip_k0_t1.sl.r_4
  exact pay15_eq _ _ _ _

theorem r5_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_5 (F := Ideal) arg3 arg4 v0 v12 X_arg3 X_arg4 k = (kMax (kSt k0_pay4 (S0 arg3 arg4 v0 v12 X_arg3 X_arg4 k) 2)) := by
  unfold trip_k0_t1.sl.r_5
  exact pay16_eq _ _ _ _

theorem r6_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_6 (F := Ideal) arg3 arg4 v0 v12 X_arg3 X_arg4 k = (kMask k0_pay4 (kSt k0_pay4 (S0 arg3 arg4 v0 v12 X_arg3 X_arg4 k) 2)) := by
  unfold trip_k0_t1.sl.r_6
  exact pay17_eq _ _ _ _

theorem r7_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_7 (F := Ideal) arg3 arg4 v0 v12 X_arg3 X_arg4 k = (kPick k0_pay4 (kSt k0_pay4 (S0 arg3 arg4 v0 v12 X_arg3 X_arg4 k) 2)) := by
  unfold trip_k0_t1.sl.r_7
  rw [r6_eq]
  exact pay18_eq _ _

theorem r8_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_8 (F := Ideal) arg3 arg4 v0 v12 X_arg3 X_arg4 k = (kMax (kSt k0_pay4 (S0 arg3 arg4 v0 v12 X_arg3 X_arg4 k) 3)) := by
  unfold trip_k0_t1.sl.r_8
  rw [r4_eq, r6_eq]
  exact pay20_eq _ _

theorem r9_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_9 (F := Ideal) arg3 arg4 v0 v12 X_arg3 X_arg4 k = (kPick k0_pay4 (kSt k0_pay4 (S0 arg3 arg4 v0 v12 X_arg3 X_arg4 k) 3)) := by
  unfold trip_k0_t1.sl.r_9
  rw [r4_eq, r6_eq]
  exact pay21_eq _ _

theorem r10_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_10 (F := Ideal) arg3 arg4 v0 v12 X_arg3 X_arg4 k = (kMax (kSt k0_pay4 (S0 arg3 arg4 v0 v12 X_arg3 X_arg4 k) 4)) := by
  unfold trip_k0_t1.sl.r_10
  rw [r4_eq, r6_eq]
  exact pay23_eq _ _

theorem r11_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_11 (F := Ideal) arg3 arg4 v0 v12 X_arg3 X_arg4 k = (kPick k0_pay4 (kSt k0_pay4 (S0 arg3 arg4 v0 v12 X_arg3 X_arg4 k) 4)) := by
  unfold trip_k0_t1.sl.r_11
  rw [r4_eq, r6_eq]
  exact pay24_eq _ _

theorem r12_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_12 (F := Ideal) arg3 arg4 v0 v12 X_arg3 X_arg4 k = (kMax (kSt k0_pay4 (S0 arg3 arg4 v0 v12 X_arg3 X_arg4 k) 5)) := by
  unfold trip_k0_t1.sl.r_12
  rw [r4_eq, r6_eq]
  exact pay26_eq _ _

theorem r13_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_13 (F := Ideal) arg3 arg4 v0 v12 X_arg3 X_arg4 k = (kPick k0_pay4 (kSt k0_pay4 (S0 arg3 arg4 v0 v12 X_arg3 X_arg4 k) 5)) := by
  unfold trip_k0_t1.sl.r_13
  rw [r4_eq, r6_eq]
  exact pay27_eq _ _

theorem r14_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_14 (F := Ideal) arg3 arg4 v0 v12 X_arg3 X_arg4 k = (kSt k0_pay4 (S0 arg3 arg4 v0 v12 X_arg3 X_arg4 k) 6) := by
  unfold trip_k0_t1.sl.r_14
  rw [r4_eq, r6_eq]
  exact pay28_eq _ _

theorem r15_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_15 (F := Ideal) arg3 arg4 v0 v12 X_arg3 X_arg4 k = (kMax (kSt k0_pay4 (S0 arg3 arg4 v0 v12 X_arg3 X_arg4 k) 6)) := by
  unfold trip_k0_t1.sl.r_15
  rw [r4_eq, r6_eq]
  exact pay29_eq _ _

theorem r16_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_16 (F := Ideal) arg3 arg4 v0 v12 X_arg3 X_arg4 k = (kBc (kMax (kSt k0_pay4 (S0 arg3 arg4 v0 v12 X_arg3 X_arg4 k) 6))) := by
  unfold trip_k0_t1.sl.r_16
  rw [r4_eq, r6_eq]
  exact pay30_eq _ _

theorem r17_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_17 (F := Ideal) arg3 arg4 v0 v12 X_arg3 X_arg4 k = (kPick k0_pay4 (kSt k0_pay4 (S0 arg3 arg4 v0 v12 X_arg3 X_arg4 k) 6)) := by
  unfold trip_k0_t1.sl.r_17
  rw [r14_eq, r16_eq]
  exact pay31_eq _ _

theorem r18_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_18 (F := Ideal) arg3 arg4 v0 v12 X_arg3 X_arg4 k = (kMax (kSt k0_pay4 (S0 arg3 arg4 v0 v12 X_arg3 X_arg4 k) 7)) := by
  unfold trip_k0_t1.sl.r_18
  rw [r14_eq, r16_eq]
  exact pay33_eq _ _

theorem r19_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_19 (F := Ideal) arg3 arg4 v0 v12 X_arg3 X_arg4 k = (kPick k0_pay4 (kSt k0_pay4 (S0 arg3 arg4 v0 v12 X_arg3 X_arg4 k) 7)) := by
  unfold trip_k0_t1.sl.r_19
  rw [r14_eq, r16_eq]
  exact pay34_eq _ _

theorem r20_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_20 (F := Ideal) arg3 arg4 v0 v12 X_arg3 X_arg4 k = (kMax (kSt k0_pay4 (S0 arg3 arg4 v0 v12 X_arg3 X_arg4 k) 8)) := by
  unfold trip_k0_t1.sl.r_20
  rw [r14_eq, r16_eq]
  exact pay36_eq _ _

theorem r21_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_21 (F := Ideal) arg3 arg4 v0 v12 X_arg3 X_arg4 k = (kPick k0_pay4 (kSt k0_pay4 (S0 arg3 arg4 v0 v12 X_arg3 X_arg4 k) 8)) := by
  unfold trip_k0_t1.sl.r_21
  rw [r14_eq, r16_eq]
  exact pay37_eq _ _

theorem r22_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_22 (F := Ideal) arg3 arg4 v0 v12 X_arg3 X_arg4 k = (kMax (kSt k0_pay4 (S0 arg3 arg4 v0 v12 X_arg3 X_arg4 k) 9)) := by
  unfold trip_k0_t1.sl.r_22
  rw [r14_eq, r16_eq]
  exact pay39_eq _ _

theorem r23_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_23 (F := Ideal) arg3 arg4 v0 v12 X_arg3 X_arg4 k = (kPick k0_pay4 (kSt k0_pay4 (S0 arg3 arg4 v0 v12 X_arg3 X_arg4 k) 9)) := by
  unfold trip_k0_t1.sl.r_23
  rw [r14_eq, r16_eq]
  exact pay40_eq _ _

theorem r24_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_24 (F := Ideal) arg3 arg4 v0 v12 X_arg3 X_arg4 k = (kSt k0_pay4 (S0 arg3 arg4 v0 v12 X_arg3 X_arg4 k) 10) := by
  unfold trip_k0_t1.sl.r_24
  rw [r14_eq, r16_eq]
  exact pay41_eq _ _

theorem r25_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_25 (F := Ideal) arg3 arg4 v0 v12 X_arg3 X_arg4 k = (kMax (kSt k0_pay4 (S0 arg3 arg4 v0 v12 X_arg3 X_arg4 k) 10)) := by
  unfold trip_k0_t1.sl.r_25
  rw [r24_eq]
  exact pay42_eq _ _

theorem r26_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_26 (F := Ideal) arg3 arg4 v0 v12 X_arg3 X_arg4 k = (kPick k0_pay4 (kSt k0_pay4 (S0 arg3 arg4 v0 v12 X_arg3 X_arg4 k) 10)) := by
  unfold trip_k0_t1.sl.r_26
  rw [r24_eq]
  exact pay43_eq _ _

theorem r27_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_27 (F := Ideal) arg3 arg4 v0 v12 X_arg3 X_arg4 k = (kMax (kSt k0_pay4 (S0 arg3 arg4 v0 v12 X_arg3 X_arg4 k) 11)) := by
  unfold trip_k0_t1.sl.r_27
  rw [r24_eq]
  exact pay45_eq _ _

theorem r28_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_28 (F := Ideal) arg3 arg4 v0 v12 X_arg3 X_arg4 k = (kPick k0_pay4 (kSt k0_pay4 (S0 arg3 arg4 v0 v12 X_arg3 X_arg4 k) 11)) := by
  unfold trip_k0_t1.sl.r_28
  rw [r24_eq]
  exact pay46_eq _ _

theorem r29_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_29 (F := Ideal) arg3 arg4 v0 v12 X_arg3 X_arg4 k = (kMax (kSt k0_pay4 (S0 arg3 arg4 v0 v12 X_arg3 X_arg4 k) 12)) := by
  unfold trip_k0_t1.sl.r_29
  rw [r24_eq]
  exact pay48_eq _ _

theorem r30_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_30 (F := Ideal) arg3 arg4 v0 v12 X_arg3 X_arg4 k = (kPick k0_pay4 (kSt k0_pay4 (S0 arg3 arg4 v0 v12 X_arg3 X_arg4 k) 12)) := by
  unfold trip_k0_t1.sl.r_30
  rw [r24_eq]
  exact pay49_eq _ _

theorem r31_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_31 (F := Ideal) arg3 arg4 v0 v12 X_arg3 X_arg4 k = (kSt k0_pay4 (S0 arg3 arg4 v0 v12 X_arg3 X_arg4 k) 13) := by
  unfold trip_k0_t1.sl.r_31
  rw [r24_eq]
  exact pay50_eq _ _

theorem r32_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_32 (F := Ideal) arg3 arg4 v0 v12 X_arg3 X_arg4 k = (kMax (kSt k0_pay4 (S0 arg3 arg4 v0 v12 X_arg3 X_arg4 k) 13)) := by
  unfold trip_k0_t1.sl.r_32
  rw [r24_eq]
  exact pay51_eq _ _

theorem r33_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_33 (F := Ideal) arg3 arg4 v0 v12 X_arg3 X_arg4 k = (kPick k0_pay4 (kSt k0_pay4 (S0 arg3 arg4 v0 v12 X_arg3 X_arg4 k) 13)) := by
  unfold trip_k0_t1.sl.r_33
  rw [r24_eq]
  exact pay52_eq _ _

theorem r34_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_34 (F := Ideal) arg3 arg4 v0 v12 X_arg3 X_arg4 k = (kBc (kPick k0_pay4 (kSt k0_pay4 (S0 arg3 arg4 v0 v12 X_arg3 X_arg4 k) 13))) := by
  unfold trip_k0_t1.sl.r_34
  rw [r24_eq]
  exact pay53_eq _ _

theorem r35_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_35 (F := Ideal) arg3 arg4 v0 v12 X_arg3 X_arg4 k = (kVals k0_pay4 (S0 arg3 arg4 v0 v12 X_arg3 X_arg4 k)) := by
  unfold trip_k0_t1.sl.r_35
  rw [r2_eq, r5_eq, r8_eq, r10_eq, r12_eq, r15_eq, r18_eq, r20_eq, r22_eq, r25_eq, r27_eq, r29_eq, r31_eq, r32_eq, r34_eq]
  exact pay59_eq _ _

theorem r36_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_36 (F := Ideal) arg3 arg4 v0 v12 X_arg3 X_arg4 k = (kPicks k0_pay4 (S0 arg3 arg4 v0 v12 X_arg3 X_arg4 k)) := by
  unfold trip_k0_t1.sl.r_36
  rw [r1_eq, r3_eq, r7_eq, r9_eq, r11_eq, r13_eq, r17_eq, r19_eq, r21_eq, r23_eq, r26_eq, r28_eq, r30_eq, r31_eq, r33_eq, r34_eq]
  exact pay60_eq _ _

theorem r37_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_37 (F := Ideal) arg3 arg4 v0 v12 X_arg3 X_arg4 k = (S1 arg3 arg4 v0 v12 X_arg3 X_arg4 k) := by
  unfold trip_k0_t1.sl.r_37
  exact pay61_eq _ _ _

theorem r38_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_38 (F := Ideal) arg3 arg4 v0 v12 X_arg3 X_arg4 k = (kMax (S1 arg3 arg4 v0 v12 X_arg3 X_arg4 k)) := by
  unfold trip_k0_t1.sl.r_38
  exact pay62_eq _ _ _

theorem r39_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_39 (F := Ideal) arg3 arg4 v0 v12 X_arg3 X_arg4 k = (kMask k0_pay4 (S1 arg3 arg4 v0 v12 X_arg3 X_arg4 k)) := by
  unfold trip_k0_t1.sl.r_39
  exact pay63_eq _ _ _ _

theorem r40_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_40 (F := Ideal) arg3 arg4 v0 v12 X_arg3 X_arg4 k = (kPick k0_pay4 (S1 arg3 arg4 v0 v12 X_arg3 X_arg4 k)) := by
  unfold trip_k0_t1.sl.r_40
  rw [r39_eq]
  exact pay64_eq _ _

theorem r41_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_41 (F := Ideal) arg3 arg4 v0 v12 X_arg3 X_arg4 k = (kMax (kSt k0_pay4 (S1 arg3 arg4 v0 v12 X_arg3 X_arg4 k) 1)) := by
  unfold trip_k0_t1.sl.r_41
  rw [r37_eq, r39_eq]
  exact pay66_eq _ _

theorem r42_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_42 (F := Ideal) arg3 arg4 v0 v12 X_arg3 X_arg4 k = (kPick k0_pay4 (kSt k0_pay4 (S1 arg3 arg4 v0 v12 X_arg3 X_arg4 k) 1)) := by
  unfold trip_k0_t1.sl.r_42
  rw [r37_eq, r39_eq]
  exact pay67_eq _ _

theorem r43_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_43 (F := Ideal) arg3 arg4 v0 v12 X_arg3 X_arg4 k = (kMax (kSt k0_pay4 (S1 arg3 arg4 v0 v12 X_arg3 X_arg4 k) 2)) := by
  unfold trip_k0_t1.sl.r_43
  rw [r37_eq, r39_eq]
  exact pay69_eq _ _

theorem r44_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_44 (F := Ideal) arg3 arg4 v0 v12 X_arg3 X_arg4 k = (kPick k0_pay4 (kSt k0_pay4 (S1 arg3 arg4 v0 v12 X_arg3 X_arg4 k) 2)) := by
  unfold trip_k0_t1.sl.r_44
  rw [r37_eq, r39_eq]
  exact pay70_eq _ _

theorem r45_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_45 (F := Ideal) arg3 arg4 v0 v12 X_arg3 X_arg4 k = (kMax (kSt k0_pay4 (S1 arg3 arg4 v0 v12 X_arg3 X_arg4 k) 3)) := by
  unfold trip_k0_t1.sl.r_45
  rw [r37_eq, r39_eq]
  exact pay72_eq _ _

theorem r46_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_46 (F := Ideal) arg3 arg4 v0 v12 X_arg3 X_arg4 k = (kPick k0_pay4 (kSt k0_pay4 (S1 arg3 arg4 v0 v12 X_arg3 X_arg4 k) 3)) := by
  unfold trip_k0_t1.sl.r_46
  rw [r37_eq, r39_eq]
  exact pay73_eq _ _

theorem r47_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_47 (F := Ideal) arg3 arg4 v0 v12 X_arg3 X_arg4 k = (kSt k0_pay4 (S1 arg3 arg4 v0 v12 X_arg3 X_arg4 k) 4) := by
  unfold trip_k0_t1.sl.r_47
  rw [r37_eq, r39_eq]
  exact pay74_eq _ _

theorem r48_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_48 (F := Ideal) arg3 arg4 v0 v12 X_arg3 X_arg4 k = (kMax (kSt k0_pay4 (S1 arg3 arg4 v0 v12 X_arg3 X_arg4 k) 4)) := by
  unfold trip_k0_t1.sl.r_48
  rw [r37_eq, r39_eq]
  exact pay75_eq _ _

theorem r49_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_49 (F := Ideal) arg3 arg4 v0 v12 X_arg3 X_arg4 k = (kBc (kMax (kSt k0_pay4 (S1 arg3 arg4 v0 v12 X_arg3 X_arg4 k) 4))) := by
  unfold trip_k0_t1.sl.r_49
  rw [r37_eq, r39_eq]
  exact pay76_eq _ _

theorem r50_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_50 (F := Ideal) arg3 arg4 v0 v12 X_arg3 X_arg4 k = (kPick k0_pay4 (kSt k0_pay4 (S1 arg3 arg4 v0 v12 X_arg3 X_arg4 k) 4)) := by
  unfold trip_k0_t1.sl.r_50
  rw [r47_eq, r49_eq]
  exact pay77_eq _ _

theorem r51_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_51 (F := Ideal) arg3 arg4 v0 v12 X_arg3 X_arg4 k = (kMax (kSt k0_pay4 (S1 arg3 arg4 v0 v12 X_arg3 X_arg4 k) 5)) := by
  unfold trip_k0_t1.sl.r_51
  rw [r47_eq, r49_eq]
  exact pay79_eq _ _

theorem r52_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_52 (F := Ideal) arg3 arg4 v0 v12 X_arg3 X_arg4 k = (kPick k0_pay4 (kSt k0_pay4 (S1 arg3 arg4 v0 v12 X_arg3 X_arg4 k) 5)) := by
  unfold trip_k0_t1.sl.r_52
  rw [r47_eq, r49_eq]
  exact pay80_eq _ _

theorem r53_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_53 (F := Ideal) arg3 arg4 v0 v12 X_arg3 X_arg4 k = (kMax (kSt k0_pay4 (S1 arg3 arg4 v0 v12 X_arg3 X_arg4 k) 6)) := by
  unfold trip_k0_t1.sl.r_53
  rw [r47_eq, r49_eq]
  exact pay82_eq _ _

theorem r54_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_54 (F := Ideal) arg3 arg4 v0 v12 X_arg3 X_arg4 k = (kPick k0_pay4 (kSt k0_pay4 (S1 arg3 arg4 v0 v12 X_arg3 X_arg4 k) 6)) := by
  unfold trip_k0_t1.sl.r_54
  rw [r47_eq, r49_eq]
  exact pay83_eq _ _

theorem r55_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_55 (F := Ideal) arg3 arg4 v0 v12 X_arg3 X_arg4 k = (kMax (kSt k0_pay4 (S1 arg3 arg4 v0 v12 X_arg3 X_arg4 k) 7)) := by
  unfold trip_k0_t1.sl.r_55
  rw [r47_eq, r49_eq]
  exact pay85_eq _ _

theorem r56_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_56 (F := Ideal) arg3 arg4 v0 v12 X_arg3 X_arg4 k = (kPick k0_pay4 (kSt k0_pay4 (S1 arg3 arg4 v0 v12 X_arg3 X_arg4 k) 7)) := by
  unfold trip_k0_t1.sl.r_56
  rw [r47_eq, r49_eq]
  exact pay86_eq _ _

theorem r57_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_57 (F := Ideal) arg3 arg4 v0 v12 X_arg3 X_arg4 k = (kSt k0_pay4 (S1 arg3 arg4 v0 v12 X_arg3 X_arg4 k) 8) := by
  unfold trip_k0_t1.sl.r_57
  rw [r47_eq, r49_eq]
  exact pay87_eq _ _

theorem r58_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_58 (F := Ideal) arg3 arg4 v0 v12 X_arg3 X_arg4 k = (kMax (kSt k0_pay4 (S1 arg3 arg4 v0 v12 X_arg3 X_arg4 k) 8)) := by
  unfold trip_k0_t1.sl.r_58
  rw [r57_eq]
  exact pay88_eq _ _

theorem r59_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_59 (F := Ideal) arg3 arg4 v0 v12 X_arg3 X_arg4 k = (kPick k0_pay4 (kSt k0_pay4 (S1 arg3 arg4 v0 v12 X_arg3 X_arg4 k) 8)) := by
  unfold trip_k0_t1.sl.r_59
  rw [r57_eq]
  exact pay89_eq _ _

theorem r60_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_60 (F := Ideal) arg3 arg4 v0 v12 X_arg3 X_arg4 k = (kMax (kSt k0_pay4 (S1 arg3 arg4 v0 v12 X_arg3 X_arg4 k) 9)) := by
  unfold trip_k0_t1.sl.r_60
  rw [r57_eq]
  exact pay91_eq _ _

theorem r61_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_61 (F := Ideal) arg3 arg4 v0 v12 X_arg3 X_arg4 k = (kPick k0_pay4 (kSt k0_pay4 (S1 arg3 arg4 v0 v12 X_arg3 X_arg4 k) 9)) := by
  unfold trip_k0_t1.sl.r_61
  rw [r57_eq]
  exact pay92_eq _ _

theorem r62_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_62 (F := Ideal) arg3 arg4 v0 v12 X_arg3 X_arg4 k = (kMax (kSt k0_pay4 (S1 arg3 arg4 v0 v12 X_arg3 X_arg4 k) 10)) := by
  unfold trip_k0_t1.sl.r_62
  rw [r57_eq]
  exact pay94_eq _ _

theorem r63_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_63 (F := Ideal) arg3 arg4 v0 v12 X_arg3 X_arg4 k = (kPick k0_pay4 (kSt k0_pay4 (S1 arg3 arg4 v0 v12 X_arg3 X_arg4 k) 10)) := by
  unfold trip_k0_t1.sl.r_63
  rw [r57_eq]
  exact pay95_eq _ _

theorem r64_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_64 (F := Ideal) arg3 arg4 v0 v12 X_arg3 X_arg4 k = (kSt k0_pay4 (S1 arg3 arg4 v0 v12 X_arg3 X_arg4 k) 11) := by
  unfold trip_k0_t1.sl.r_64
  rw [r57_eq]
  exact pay96_eq _ _

theorem r65_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_65 (F := Ideal) arg3 arg4 v0 v12 X_arg3 X_arg4 k = (kMax (kSt k0_pay4 (S1 arg3 arg4 v0 v12 X_arg3 X_arg4 k) 11)) := by
  unfold trip_k0_t1.sl.r_65
  rw [r57_eq]
  exact pay97_eq _ _

theorem r66_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_66 (F := Ideal) arg3 arg4 v0 v12 X_arg3 X_arg4 k = (kPick k0_pay4 (kSt k0_pay4 (S1 arg3 arg4 v0 v12 X_arg3 X_arg4 k) 11)) := by
  unfold trip_k0_t1.sl.r_66
  rw [r57_eq]
  exact pay98_eq _ _

theorem r67_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_67 (F := Ideal) arg3 arg4 v0 v12 X_arg3 X_arg4 k = (kBc (kPick k0_pay4 (kSt k0_pay4 (S1 arg3 arg4 v0 v12 X_arg3 X_arg4 k) 11))) := by
  unfold trip_k0_t1.sl.r_67
  rw [r57_eq]
  exact pay99_eq _ _

theorem r68_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_68 (F := Ideal) arg3 arg4 v0 v12 X_arg3 X_arg4 k = (kMax (kSt k0_pay4 (S1 arg3 arg4 v0 v12 X_arg3 X_arg4 k) 12)) := by
  unfold trip_k0_t1.sl.r_68
  rw [r64_eq, r67_eq]
  exact pay101_eq _ _

theorem r69_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_69 (F := Ideal) arg3 arg4 v0 v12 X_arg3 X_arg4 k = (kPick k0_pay4 (kSt k0_pay4 (S1 arg3 arg4 v0 v12 X_arg3 X_arg4 k) 12)) := by
  unfold trip_k0_t1.sl.r_69
  rw [r64_eq, r67_eq]
  exact pay102_eq _ _

theorem r70_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_70 (F := Ideal) arg3 arg4 v0 v12 X_arg3 X_arg4 k = (kMax (kSt k0_pay4 (S1 arg3 arg4 v0 v12 X_arg3 X_arg4 k) 13)) := by
  unfold trip_k0_t1.sl.r_70
  rw [r64_eq, r67_eq]
  exact pay104_eq _ _

theorem r71_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_71 (F := Ideal) arg3 arg4 v0 v12 X_arg3 X_arg4 k = (kPick k0_pay4 (kSt k0_pay4 (S1 arg3 arg4 v0 v12 X_arg3 X_arg4 k) 13)) := by
  unfold trip_k0_t1.sl.r_71
  rw [r64_eq, r67_eq]
  exact pay105_eq _ _

theorem r72_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_72 (F := Ideal) arg3 arg4 v0 v12 X_arg3 X_arg4 k = (kMax (kSt k0_pay4 (S1 arg3 arg4 v0 v12 X_arg3 X_arg4 k) 14)) := by
  unfold trip_k0_t1.sl.r_72
  rw [r64_eq, r67_eq]
  exact pay107_eq _ _

theorem r73_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_73 (F := Ideal) arg3 arg4 v0 v12 X_arg3 X_arg4 k = (kPick k0_pay4 (kSt k0_pay4 (S1 arg3 arg4 v0 v12 X_arg3 X_arg4 k) 14)) := by
  unfold trip_k0_t1.sl.r_73
  rw [r64_eq, r67_eq]
  exact pay108_eq _ _

theorem r74_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_74 (F := Ideal) arg3 arg4 v0 v12 X_arg3 X_arg4 k = (kMax (kSt k0_pay4 (S1 arg3 arg4 v0 v12 X_arg3 X_arg4 k) 15)) := by
  unfold trip_k0_t1.sl.r_74
  rw [r64_eq, r67_eq]
  exact pay110_eq _ _

theorem r75_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_75 (F := Ideal) arg3 arg4 v0 v12 X_arg3 X_arg4 k = (kMask k0_pay4 (kSt k0_pay4 (S1 arg3 arg4 v0 v12 X_arg3 X_arg4 k) 15)) := by
  unfold trip_k0_t1.sl.r_75
  rw [r64_eq, r67_eq]
  exact pay111_eq _ _

theorem r76_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_76 (F := Ideal) arg3 arg4 v0 v12 X_arg3 X_arg4 k = (kVals k0_pay4 (S1 arg3 arg4 v0 v12 X_arg3 X_arg4 k)) := by
  unfold trip_k0_t1.sl.r_76
  rw [r38_eq, r41_eq, r43_eq, r45_eq, r48_eq, r51_eq, r53_eq, r55_eq, r58_eq, r60_eq, r62_eq, r65_eq, r68_eq, r70_eq, r72_eq, r74_eq]
  exact pay112_eq _ _

theorem r77_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_77 (F := Ideal) arg3 arg4 v0 v12 X_arg3 X_arg4 k = (kPicks k0_pay4 (S1 arg3 arg4 v0 v12 X_arg3 X_arg4 k)) := by
  unfold trip_k0_t1.sl.r_77
  rw [r40_eq, r42_eq, r44_eq, r46_eq, r50_eq, r52_eq, r54_eq, r56_eq, r59_eq, r61_eq, r63_eq, r66_eq, r69_eq, r71_eq, r73_eq, r75_eq]
  exact pay113_eq _ _

theorem r78_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_78 (F := Ideal) arg3 arg4 v0 v12 X_arg3 X_arg4 k = (firstS (kVals k0_pay4 (S0 arg3 arg4 v0 v12 X_arg3 X_arg4 k)) (kVals k0_pay4 (S1 arg3 arg4 v0 v12 X_arg3 X_arg4 k))) := by
  unfold trip_k0_t1.sl.r_78
  rw [r35_eq, r38_eq, r41_eq, r43_eq, r45_eq, r48_eq, r51_eq, r53_eq, r55_eq, r58_eq, r60_eq, r62_eq, r65_eq, r68_eq, r70_eq, r72_eq, r74_eq]
  exact pay115_eq _ _ _

theorem r79_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_79 (F := Ideal) arg3 arg4 v0 v12 X_arg3 X_arg4 k = (firstE (kPicks k0_pay4 (S0 arg3 arg4 v0 v12 X_arg3 X_arg4 k)) (kPicks k0_pay4 (S1 arg3 arg4 v0 v12 X_arg3 X_arg4 k))) := by
  unfold trip_k0_t1.sl.r_79
  rw [r36_eq, r40_eq, r42_eq, r44_eq, r46_eq, r50_eq, r52_eq, r54_eq, r56_eq, r59_eq, r61_eq, r63_eq, r66_eq, r69_eq, r71_eq, r73_eq, r75_eq]
  exact pay116_eq _ _ _

theorem r80_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_80 (F := Ideal) arg3 arg4 v0 v12 X_arg3 X_arg4 k = (rowS1 (kVals k0_pay4 (S0 arg3 arg4 v0 v12 X_arg3 X_arg4 k)) (kVals k0_pay4 (S1 arg3 arg4 v0 v12 X_arg3 X_arg4 k))) := by
  unfold trip_k0_t1.sl.r_80
  rw [r35_eq, r38_eq, r41_eq, r43_eq, r45_eq, r48_eq, r51_eq, r53_eq, r55_eq, r58_eq, r60_eq, r62_eq, r65_eq, r68_eq, r70_eq, r72_eq, r74_eq]
  exact pay118_eq _ _ _

theorem r81_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_81 (F := Ideal) arg3 arg4 v0 v12 X_arg3 X_arg4 k = (rowE1 (kPicks k0_pay4 (S0 arg3 arg4 v0 v12 X_arg3 X_arg4 k)) (kPicks k0_pay4 (S1 arg3 arg4 v0 v12 X_arg3 X_arg4 k))) := by
  unfold trip_k0_t1.sl.r_81
  rw [r36_eq, r40_eq, r42_eq, r44_eq, r46_eq, r50_eq, r52_eq, r54_eq, r56_eq, r59_eq, r61_eq, r63_eq, r66_eq, r69_eq, r71_eq, r73_eq, r75_eq]
  exact pay120_eq _ _ _

theorem r82_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_82 (F := Ideal) arg3 arg4 v0 v12 X_arg3 X_arg4 k = (rowS2 (kVals k0_pay4 (S0 arg3 arg4 v0 v12 X_arg3 X_arg4 k)) (kVals k0_pay4 (S1 arg3 arg4 v0 v12 X_arg3 X_arg4 k))) := by
  unfold trip_k0_t1.sl.r_82
  rw [r35_eq, r38_eq, r41_eq, r43_eq, r45_eq, r48_eq, r51_eq, r53_eq, r55_eq, r58_eq, r60_eq, r62_eq, r65_eq, r68_eq, r70_eq, r72_eq, r74_eq]
  exact pay121_eq _ _ _

theorem r83_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_83 (F := Ideal) arg3 arg4 v0 v12 X_arg3 X_arg4 k = (rowE2 (kPicks k0_pay4 (S0 arg3 arg4 v0 v12 X_arg3 X_arg4 k)) (kPicks k0_pay4 (S1 arg3 arg4 v0 v12 X_arg3 X_arg4 k))) := by
  unfold trip_k0_t1.sl.r_83
  rw [r36_eq, r40_eq, r42_eq, r44_eq, r46_eq, r50_eq, r52_eq, r54_eq, r56_eq, r59_eq, r61_eq, r63_eq, r66_eq, r69_eq, r71_eq, r73_eq, r75_eq]
  exact pay123_eq _ _ _

theorem r84_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_84 (F := Ideal) arg3 arg4 v0 v12 X_arg3 X_arg4 k = (k0_pay124 (kVals k0_pay4 (S0 arg3 arg4 v0 v12 X_arg3 X_arg4 k))) := by
  unfold trip_k0_t1.sl.r_84
  rw [r35_eq]

theorem r85_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_85 (F := Ideal) arg3 arg4 v0 v12 X_arg3 X_arg4 k = (k0_pay136 (kVals k0_pay4 (S1 arg3 arg4 v0 v12 X_arg3 X_arg4 k))) := by
  unfold trip_k0_t1.sl.r_85
  rw [r38_eq, r41_eq, r43_eq, r45_eq, r48_eq, r51_eq, r53_eq, r55_eq, r58_eq, r60_eq, r62_eq, r65_eq, r68_eq, r70_eq, r72_eq, r74_eq]
  exact pay125_eq _ _

theorem r86_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_86 (F := Ideal) arg3 arg4 v0 v12 X_arg3 X_arg4 k = (k0_pay126 k0_pay117 (k0_pay124 (kVals k0_pay4 (S0 arg3 arg4 v0 v12 X_arg3 X_arg4 k))) (k0_pay136 (kVals k0_pay4 (S1 arg3 arg4 v0 v12 X_arg3 X_arg4 k)))) := by
  unfold trip_k0_t1.sl.r_86
  rw [r84_eq, r85_eq]

theorem r87_eq  : trip_k0_t1.sl.r_87 (F := Ideal)  = (k0_pay127 k0_pay117) := by
  unfold trip_k0_t1.sl.r_87
  rfl

theorem r88_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_88 (F := Ideal) arg3 arg4 v0 v12 X_arg3 X_arg4 k = (k0_pay128 (kPicks k0_pay4 (S0 arg3 arg4 v0 v12 X_arg3 X_arg4 k)) (kPicks k0_pay4 (S1 arg3 arg4 v0 v12 X_arg3 X_arg4 k))) := by
  unfold trip_k0_t1.sl.r_88
  rw [r36_eq, r77_eq]

theorem r89_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_89 (F := Ideal) arg3 arg4 v0 v12 X_arg3 X_arg4 k = (k0_pay129 (kVals k0_pay4 (S0 arg3 arg4 v0 v12 X_arg3 X_arg4 k)) (kVals k0_pay4 (S1 arg3 arg4 v0 v12 X_arg3 X_arg4 k)) k0_pay117) := by
  unfold trip_k0_t1.sl.r_89
  rw [r35_eq, r76_eq]

theorem r90_eq  : trip_k0_t1.sl.r_90 (F := Ideal)  = (k0_pay130 k0_pay117) := by
  unfold trip_k0_t1.sl.r_90
  rfl

theorem r91_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_91 (F := Ideal) arg3 arg4 v0 v12 X_arg3 X_arg4 k = (k0_pay131 (kPicks k0_pay4 (S0 arg3 arg4 v0 v12 X_arg3 X_arg4 k)) (kPicks k0_pay4 (S1 arg3 arg4 v0 v12 X_arg3 X_arg4 k))) := by
  unfold trip_k0_t1.sl.r_91
  rw [r36_eq, r77_eq]

theorem r92_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_92 (F := Ideal) arg3 arg4 v0 v12 X_arg3 X_arg4 k = (k0_pay132 (kVals k0_pay4 (S0 arg3 arg4 v0 v12 X_arg3 X_arg4 k)) (kVals k0_pay4 (S1 arg3 arg4 v0 v12 X_arg3 X_arg4 k)) k0_pay117) := by
  unfold trip_k0_t1.sl.r_92
  rw [r35_eq, r76_eq]

theorem r93_eq  : trip_k0_t1.sl.r_93 (F := Ideal)  = (k0_pay133 k0_pay117) := by
  unfold trip_k0_t1.sl.r_93
  rfl

theorem r94_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_94 (F := Ideal) arg3 arg4 v0 v12 X_arg3 X_arg4 k = (k0_pay134 (kPicks k0_pay4 (S0 arg3 arg4 v0 v12 X_arg3 X_arg4 k)) (kPicks k0_pay4 (S1 arg3 arg4 v0 v12 X_arg3 X_arg4 k))) := by
  unfold trip_k0_t1.sl.r_94
  rw [r36_eq, r77_eq]

theorem r95_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_95 (F := Ideal) arg3 arg4 v0 v12 X_arg3 X_arg4 k = (k0_pay135 (kVals k0_pay4 (S0 arg3 arg4 v0 v12 X_arg3 X_arg4 k))) := by
  unfold trip_k0_t1.sl.r_95
  rw [r35_eq]

theorem r96_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_96 (F := Ideal) arg3 arg4 v0 v12 X_arg3 X_arg4 k = (k0_pay136 (kVals k0_pay4 (S1 arg3 arg4 v0 v12 X_arg3 X_arg4 k))) := by
  unfold trip_k0_t1.sl.r_96
  rw [r76_eq]

theorem r97_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_97 (F := Ideal) arg3 arg4 v0 v12 X_arg3 X_arg4 k = (cS arg3 arg4 v0 v12 X_arg3 X_arg4 k) := by
  unfold trip_k0_t1.sl.r_97
  rw [r35_eq, r76_eq, r78_eq, r80_eq, r82_eq, r86_eq, r89_eq, r92_eq, r95_eq, r96_eq]
  exact pay137_eq _ _

theorem r98_eq  : trip_k0_t1.sl.r_98 (F := Ideal)  = candP := by
  unfold trip_k0_t1.sl.r_98
  rw [r87_eq, r90_eq, r93_eq]
  exact pay138_eq

theorem r99_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_99 (F := Ideal) arg3 arg4 v0 v12 X_arg3 X_arg4 k = (cE arg3 arg4 v0 v12 X_arg3 X_arg4 k) := by
  unfold trip_k0_t1.sl.r_99
  rw [r36_eq, r77_eq, r79_eq, r81_eq, r83_eq, r88_eq, r91_eq, r94_eq]
  exact pay139_eq _ _

theorem r100_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_100 (F := Ideal) arg3 arg4 v0 v12 X_arg3 X_arg4 k = (cTop (cS arg3 arg4 v0 v12 X_arg3 X_arg4 k)) := by
  unfold trip_k0_t1.sl.r_100
  rw [r35_eq, r76_eq, r78_eq, r80_eq, r82_eq, r86_eq, r89_eq, r92_eq, r95_eq, r96_eq]
  exact pay140_eq _ _

theorem r101_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_101 (F := Ideal) arg3 arg4 v0 v12 X_arg3 X_arg4 k = (cMax (cS arg3 arg4 v0 v12 X_arg3 X_arg4 k)) := by
  unfold trip_k0_t1.sl.r_101
  rw [r100_eq]
  exact pay141_eq _

theorem r102_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_102 (F := Ideal) arg3 arg4 v0 v12 X_arg3 X_arg4 k = (cCar candP (cS arg3 arg4 v0 v12 X_arg3 X_arg4 k) (cE arg3 arg4 v0 v12 X_arg3 X_arg4 k)) := by
  unfold trip_k0_t1.sl.r_102
  rw [r97_eq, r98_eq, r99_eq, r100_eq]
  exact pay143_eq _ _ _

theorem r103_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_103 (F := Ideal) arg3 arg4 v0 v12 X_arg3 X_arg4 k = (cMax (cSt candP (cS arg3 arg4 v0 v12 X_arg3 X_arg4 k) 1)) := by
  unfold trip_k0_t1.sl.r_103
  rw [r97_eq, r98_eq, r100_eq]
  exact pay145_eq _ _

theorem r104_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_104 (F := Ideal) arg3 arg4 v0 v12 X_arg3 X_arg4 k = (cCar candP (cSt candP (cS arg3 arg4 v0 v12 X_arg3 X_arg4 k) 1) (cE arg3 arg4 v0 v12 X_arg3 X_arg4 k)) := by
  unfold trip_k0_t1.sl.r_104
  rw [r97_eq, r98_eq, r99_eq, r100_eq]
  exact pay147_eq _ _ _

theorem r105_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_105 (F := Ideal) arg3 arg4 v0 v12 X_arg3 X_arg4 k = (cSt candP (cS arg3 arg4 v0 v12 X_arg3 X_arg4 k) 2) := by
  unfold trip_k0_t1.sl.r_105
  rw [r97_eq, r98_eq, r100_eq]
  exact pay148_eq _ _

theorem r106_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_106 (F := Ideal) arg3 arg4 v0 v12 X_arg3 X_arg4 k = (cMax (cSt candP (cS arg3 arg4 v0 v12 X_arg3 X_arg4 k) 2)) := by
  unfold trip_k0_t1.sl.r_106
  rw [r97_eq, r98_eq, r100_eq]
  exact pay149_eq _ _

theorem r107_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_107 (F := Ideal) arg3 arg4 v0 v12 X_arg3 X_arg4 k = (cHit candP (cSt candP (cS arg3 arg4 v0 v12 X_arg3 X_arg4 k) 2)) := by
  unfold trip_k0_t1.sl.r_107
  rw [r97_eq, r98_eq, r100_eq]
  exact pay150_eq _ _

theorem r108_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_108 (F := Ideal) arg3 arg4 v0 v12 X_arg3 X_arg4 k = (cCar256 candP (cSt candP (cS arg3 arg4 v0 v12 X_arg3 X_arg4 k) 2) (cE arg3 arg4 v0 v12 X_arg3 X_arg4 k)) := by
  unfold trip_k0_t1.sl.r_108
  rw [r97_eq, r98_eq, r99_eq, r100_eq]
  exact pay151_eq _ _ _

theorem r109_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_109 (F := Ideal) arg3 arg4 v0 v12 X_arg3 X_arg4 k = (cCar candP (cSt candP (cS arg3 arg4 v0 v12 X_arg3 X_arg4 k) 2) (cE arg3 arg4 v0 v12 X_arg3 X_arg4 k)) := by
  unfold trip_k0_t1.sl.r_109
  rw [r108_eq]
  exact pay152_eq _ _ _

theorem r110_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_110 (F := Ideal) arg3 arg4 v0 v12 X_arg3 X_arg4 k = (cMax (cSt candP (cS arg3 arg4 v0 v12 X_arg3 X_arg4 k) 3)) := by
  unfold trip_k0_t1.sl.r_110
  rw [r105_eq, r107_eq]
  exact pay154_eq _ _

theorem r111_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_111 (F := Ideal) arg3 arg4 v0 v12 X_arg3 X_arg4 k = (cCar candP (cSt candP (cS arg3 arg4 v0 v12 X_arg3 X_arg4 k) 3) (cE arg3 arg4 v0 v12 X_arg3 X_arg4 k)) := by
  unfold trip_k0_t1.sl.r_111
  rw [r98_eq, r99_eq, r105_eq, r107_eq]
  exact pay156_eq _ _ _

theorem r112_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_112 (F := Ideal) arg3 arg4 v0 v12 X_arg3 X_arg4 k = (cMax (cSt candP (cS arg3 arg4 v0 v12 X_arg3 X_arg4 k) 4)) := by
  unfold trip_k0_t1.sl.r_112
  rw [r98_eq, r105_eq, r107_eq]
  exact pay158_eq _ _

theorem r113_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_113 (F := Ideal) arg3 arg4 v0 v12 X_arg3 X_arg4 k = (cCar candP (cSt candP (cS arg3 arg4 v0 v12 X_arg3 X_arg4 k) 4) (cE arg3 arg4 v0 v12 X_arg3 X_arg4 k)) := by
  unfold trip_k0_t1.sl.r_113
  rw [r98_eq, r99_eq, r105_eq, r107_eq]
  exact pay160_eq _ _ _

theorem r114_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_114 (F := Ideal) arg3 arg4 v0 v12 X_arg3 X_arg4 k = (cSt candP (cS arg3 arg4 v0 v12 X_arg3 X_arg4 k) 5) := by
  unfold trip_k0_t1.sl.r_114
  rw [r98_eq, r105_eq, r107_eq]
  exact pay161_eq _ _

theorem r115_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_115 (F := Ideal) arg3 arg4 v0 v12 X_arg3 X_arg4 k = (cMax (cSt candP (cS arg3 arg4 v0 v12 X_arg3 X_arg4 k) 5)) := by
  unfold trip_k0_t1.sl.r_115
  rw [r98_eq, r105_eq, r107_eq]
  exact pay162_eq _ _

theorem r116_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_116 (F := Ideal) arg3 arg4 v0 v12 X_arg3 X_arg4 k = (cBc (cPick candP (cSt candP (cS arg3 arg4 v0 v12 X_arg3 X_arg4 k) 5))) := by
  unfold trip_k0_t1.sl.r_116
  rw [r98_eq, r105_eq, r107_eq]
  exact pay163_eq _ _

theorem r117_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_117 (F := Ideal) arg3 arg4 v0 v12 X_arg3 X_arg4 k = (cCar candP (cSt candP (cS arg3 arg4 v0 v12 X_arg3 X_arg4 k) 5) (cE arg3 arg4 v0 v12 X_arg3 X_arg4 k)) := by
  unfold trip_k0_t1.sl.r_117
  rw [r98_eq, r99_eq, r116_eq]
  exact pay165_eq _ _ _

theorem r118_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_118 (F := Ideal) arg3 arg4 v0 v12 X_arg3 X_arg4 k = (cMax (cSt candP (cS arg3 arg4 v0 v12 X_arg3 X_arg4 k) 6)) := by
  unfold trip_k0_t1.sl.r_118
  rw [r98_eq, r114_eq, r116_eq]
  exact pay167_eq _ _

theorem r119_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_119 (F := Ideal) arg3 arg4 v0 v12 X_arg3 X_arg4 k = (cCar candP (cSt candP (cS arg3 arg4 v0 v12 X_arg3 X_arg4 k) 6) (cE arg3 arg4 v0 v12 X_arg3 X_arg4 k)) := by
  unfold trip_k0_t1.sl.r_119
  rw [r98_eq, r99_eq, r114_eq, r116_eq]
  exact pay169_eq _ _ _

theorem r120_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_120 (F := Ideal) arg3 arg4 v0 v12 X_arg3 X_arg4 k = (cMax (cSt candP (cS arg3 arg4 v0 v12 X_arg3 X_arg4 k) 7)) := by
  unfold trip_k0_t1.sl.r_120
  rw [r98_eq, r114_eq, r116_eq]
  exact pay171_eq _ _

theorem r121_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_121 (F := Ideal) arg3 arg4 v0 v12 X_arg3 X_arg4 k = (cCar candP (cSt candP (cS arg3 arg4 v0 v12 X_arg3 X_arg4 k) 7) (cE arg3 arg4 v0 v12 X_arg3 X_arg4 k)) := by
  unfold trip_k0_t1.sl.r_121
  rw [r98_eq, r99_eq, r114_eq, r116_eq]
  exact pay173_eq _ _ _

theorem r122_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_122 (F := Ideal) arg3 arg4 v0 v12 X_arg3 X_arg4 k = (cSt candP (cS arg3 arg4 v0 v12 X_arg3 X_arg4 k) 8) := by
  unfold trip_k0_t1.sl.r_122
  rw [r98_eq, r114_eq, r116_eq]
  exact pay174_eq _ _

theorem r123_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_123 (F := Ideal) arg3 arg4 v0 v12 X_arg3 X_arg4 k = (cMax (cSt candP (cS arg3 arg4 v0 v12 X_arg3 X_arg4 k) 8)) := by
  unfold trip_k0_t1.sl.r_123
  rw [r98_eq, r114_eq, r116_eq]
  exact pay175_eq _ _

theorem r124_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_124 (F := Ideal) arg3 arg4 v0 v12 X_arg3 X_arg4 k = (cEq (cSt candP (cS arg3 arg4 v0 v12 X_arg3 X_arg4 k) 8)) := by
  unfold trip_k0_t1.sl.r_124
  rw [r98_eq, r114_eq, r116_eq]
  exact pay176_eq _ _

theorem r125_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_125 (F := Ideal) arg3 arg4 v0 v12 X_arg3 X_arg4 k = (cCar candP (cSt candP (cS arg3 arg4 v0 v12 X_arg3 X_arg4 k) 8) (cE arg3 arg4 v0 v12 X_arg3 X_arg4 k)) := by
  unfold trip_k0_t1.sl.r_125
  rw [r98_eq, r99_eq, r124_eq]
  exact pay178_eq _ _ _

theorem r126_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_126 (F := Ideal) arg3 arg4 v0 v12 X_arg3 X_arg4 k = (cMax (cSt candP (cS arg3 arg4 v0 v12 X_arg3 X_arg4 k) 9)) := by
  unfold trip_k0_t1.sl.r_126
  rw [r98_eq, r122_eq, r124_eq]
  exact pay180_eq _ _

theorem r127_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_127 (F := Ideal) arg3 arg4 v0 v12 X_arg3 X_arg4 k = (cCar candP (cSt candP (cS arg3 arg4 v0 v12 X_arg3 X_arg4 k) 9) (cE arg3 arg4 v0 v12 X_arg3 X_arg4 k)) := by
  unfold trip_k0_t1.sl.r_127
  rw [r98_eq, r99_eq, r122_eq, r124_eq]
  exact pay182_eq _ _ _

theorem r128_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_128 (F := Ideal) arg3 arg4 v0 v12 X_arg3 X_arg4 k = (cMax (cSt candP (cS arg3 arg4 v0 v12 X_arg3 X_arg4 k) 10)) := by
  unfold trip_k0_t1.sl.r_128
  rw [r98_eq, r122_eq, r124_eq]
  exact pay184_eq _ _

theorem r129_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_129 (F := Ideal) arg3 arg4 v0 v12 X_arg3 X_arg4 k = (cCar candP (cSt candP (cS arg3 arg4 v0 v12 X_arg3 X_arg4 k) 10) (cE arg3 arg4 v0 v12 X_arg3 X_arg4 k)) := by
  unfold trip_k0_t1.sl.r_129
  rw [r98_eq, r99_eq, r122_eq, r124_eq]
  exact pay186_eq _ _ _

theorem r130_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_130 (F := Ideal) arg3 arg4 v0 v12 X_arg3 X_arg4 k = (cSt candP (cS arg3 arg4 v0 v12 X_arg3 X_arg4 k) 11) := by
  unfold trip_k0_t1.sl.r_130
  rw [r98_eq, r122_eq, r124_eq]
  exact pay187_eq _ _

theorem r131_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_131 (F := Ideal) arg3 arg4 v0 v12 X_arg3 X_arg4 k = (cMax (cSt candP (cS arg3 arg4 v0 v12 X_arg3 X_arg4 k) 11)) := by
  unfold trip_k0_t1.sl.r_131
  rw [r130_eq]
  exact pay188_eq _ _

theorem r132_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_132 (F := Ideal) arg3 arg4 v0 v12 X_arg3 X_arg4 k = (cCar candP (cSt candP (cS arg3 arg4 v0 v12 X_arg3 X_arg4 k) 11) (cE arg3 arg4 v0 v12 X_arg3 X_arg4 k)) := by
  unfold trip_k0_t1.sl.r_132
  rw [r98_eq, r99_eq, r130_eq]
  exact pay190_eq _ _ _

theorem r133_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_133 (F := Ideal) arg3 arg4 v0 v12 X_arg3 X_arg4 k = (cMax (cSt candP (cS arg3 arg4 v0 v12 X_arg3 X_arg4 k) 12)) := by
  unfold trip_k0_t1.sl.r_133
  rw [r98_eq, r130_eq]
  exact pay192_eq _ _

theorem r134_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_134 (F := Ideal) arg3 arg4 v0 v12 X_arg3 X_arg4 k = (cCar candP (cSt candP (cS arg3 arg4 v0 v12 X_arg3 X_arg4 k) 12) (cE arg3 arg4 v0 v12 X_arg3 X_arg4 k)) := by
  unfold trip_k0_t1.sl.r_134
  rw [r98_eq, r99_eq, r130_eq]
  exact pay194_eq _ _ _

theorem r135_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_135 (F := Ideal) arg3 arg4 v0 v12 X_arg3 X_arg4 k = (cSt candP (cS arg3 arg4 v0 v12 X_arg3 X_arg4 k) 13) := by
  unfold trip_k0_t1.sl.r_135
  rw [r98_eq, r130_eq]
  exact pay195_eq _ _

theorem r136_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_136 (F := Ideal) arg3 arg4 v0 v12 X_arg3 X_arg4 k = (cMax (cSt candP (cS arg3 arg4 v0 v12 X_arg3 X_arg4 k) 13)) := by
  unfold trip_k0_t1.sl.r_136
  rw [r98_eq, r130_eq]
  exact pay196_eq _ _

theorem r137_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_137 (F := Ideal) arg3 arg4 v0 v12 X_arg3 X_arg4 k = (cHit candP (cSt candP (cS arg3 arg4 v0 v12 X_arg3 X_arg4 k) 13)) := by
  unfold trip_k0_t1.sl.r_137
  rw [r98_eq, r130_eq]
  exact pay197_eq _ _

theorem r138_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_138 (F := Ideal) arg3 arg4 v0 v12 X_arg3 X_arg4 k = (cSel candP (cSt candP (cS arg3 arg4 v0 v12 X_arg3 X_arg4 k) 13) (cE arg3 arg4 v0 v12 X_arg3 X_arg4 k)) := by
  unfold trip_k0_t1.sl.r_138
  rw [r98_eq, r99_eq, r130_eq]
  exact pay198_eq _ _ _

theorem r139_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_139 (F := Ideal) arg3 arg4 v0 v12 X_arg3 X_arg4 k = (cCar candP (cSt candP (cS arg3 arg4 v0 v12 X_arg3 X_arg4 k) 13) (cE arg3 arg4 v0 v12 X_arg3 X_arg4 k)) := by
  unfold trip_k0_t1.sl.r_139
  rw [r138_eq]
  exact pay199_eq _ _ _

theorem r140_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_140 (F := Ideal) arg3 arg4 v0 v12 X_arg3 X_arg4 k = (cCar candP (cSt candP (cS arg3 arg4 v0 v12 X_arg3 X_arg4 k) 14) (cE arg3 arg4 v0 v12 X_arg3 X_arg4 k)) := by
  unfold trip_k0_t1.sl.r_140
  rw [r98_eq, r99_eq, r135_eq, r137_eq]
  exact pay203_eq _ _ _

theorem r141_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_141 (F := Ideal) arg3 arg4 v0 v12 X_arg3 X_arg4 k = (cCar candP (cSt candP (cS arg3 arg4 v0 v12 X_arg3 X_arg4 k) 15) (cE arg3 arg4 v0 v12 X_arg3 X_arg4 k)) := by
  unfold trip_k0_t1.sl.r_141
  rw [r98_eq, r99_eq, r135_eq, r137_eq]
  exact pay206_eq _ _ _

theorem r142_eq (arg3 : Memref sig .tc .vmem S16x2048x128 .bf16) (arg4 : Memref sig .tc .vmem S16x128x128 .bf16) (v0 : Vec Ideal S256x2048 .f32) (v12 : Vec Ideal S1x2048 .f32)
    (X_arg3 : BufTy.Contents (Elt Ideal) arg3.view.ty) (X_arg4 : BufTy.Contents (Elt Ideal) arg4.view.ty) (k : Fin k0_t1_loop.trips) : trip_k0_t1.sl.r_142 (F := Ideal) arg3 arg4 v0 v12 X_arg3 X_arg4 k = (gates (cVals candP (cS arg3 arg4 v0 v12 X_arg3 X_arg4 k))) := by
  unfold trip_k0_t1.sl.r_142
  rw [r98_eq, r101_eq, r103_eq, r106_eq, r110_eq, r112_eq, r115_eq, r118_eq, r120_eq, r123_eq, r126_eq, r128_eq, r131_eq, r133_eq, r135_eq, r136_eq, r137_eq]
  exact pay207_eq _ _

theorem trip_experts (𝒱 : Variants) (c : Dev nD) (bd : Option 𝒱.V) (i : grid0.Coords) (arg1 : Memref sig .tc .vmem S256x2048 .f32) (harg1 : arg1.IsWhole) (arg2 : Memref sig .tc .vmem S1x2048 .f32) (harg2 : arg2.IsWhole) (arg3 : Memref sig .tc .vmem S16x2048x128 .bf16) (harg3 : arg3.IsWhole) (arg4 : Memref sig .tc .vmem S16x128x128 .bf16) (harg4 : arg4.IsWhole) (arg5 : Memref sig .tc .vmem S2048x256 .bf16) (harg5 : arg5.IsWhole) (arg6 : Memref sig .tc .vmem S256x128 .i32) (harg6 : arg6.IsWhole) (arg7 : Memref sig .tc .vmem S256x128 .f32) (harg7 : arg7.IsWhole) (arg8 : Memref sig .tc .vmem S128x256 .f32) (harg8 : arg8.IsWhole) (arg9 : Memref sig .tc .vmem S128x256 .f32) (harg9 : arg9.IsWhole) (v0 : Vec Ideal S256x2048 .f32) (v12 : Vec Ideal S1x2048 .f32) (X_arg3 : BufTy.Contents (Elt Ideal) arg3.view.ty) (X_arg4 : BufTy.Contents (Elt Ideal) arg4.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 v0 v12 X_arg3 X_arg4 k).1
      = [⟨Rect.unit (s := S128x256) (k0_off3 k) S16x256.size (k0_off3_inb k), cCars candP (cS arg3 arg4 v0 v12 X_arg3 X_arg4 k) (cE arg3 arg4 v0 v12 X_arg3 X_arg4 k)⟩] := by
  unfold trip_k0_t1
  dsimp only
  rw [r102_eq, r104_eq, r109_eq, r111_eq, r113_eq, r117_eq, r119_eq, r121_eq, r125_eq, r127_eq, r129_eq, r132_eq, r134_eq, r139_eq, r140_eq, r141_eq, pay5_eq, shapeCast_self]

theorem trip_gates (𝒱 : Variants) (c : Dev nD) (bd : Option 𝒱.V) (i : grid0.Coords) (arg1 : Memref sig .tc .vmem S256x2048 .f32) (harg1 : arg1.IsWhole) (arg2 : Memref sig .tc .vmem S1x2048 .f32) (harg2 : arg2.IsWhole) (arg3 : Memref sig .tc .vmem S16x2048x128 .bf16) (harg3 : arg3.IsWhole) (arg4 : Memref sig .tc .vmem S16x128x128 .bf16) (harg4 : arg4.IsWhole) (arg5 : Memref sig .tc .vmem S2048x256 .bf16) (harg5 : arg5.IsWhole) (arg6 : Memref sig .tc .vmem S256x128 .i32) (harg6 : arg6.IsWhole) (arg7 : Memref sig .tc .vmem S256x128 .f32) (harg7 : arg7.IsWhole) (arg8 : Memref sig .tc .vmem S128x256 .f32) (harg8 : arg8.IsWhole) (arg9 : Memref sig .tc .vmem S128x256 .f32) (harg9 : arg9.IsWhole) (v0 : Vec Ideal S256x2048 .f32) (v12 : Vec Ideal S1x2048 .f32) (X_arg3 : BufTy.Contents (Elt Ideal) arg3.view.ty) (X_arg4 : BufTy.Contents (Elt Ideal) arg4.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 v0 v12 X_arg3 X_arg4 k).2.1
      = [⟨Rect.unit (s := S128x256) (k0_off3 k) S16x256.size (k0_off3_inb k), gates (cVals candP (cS arg3 arg4 v0 v12 X_arg3 X_arg4 k))⟩] := by
  unfold trip_k0_t1
  dsimp only
  rw [r142_eq]
  unfold k0_pay6
  rw [shapeCast_self]

end Cert.Kernel4Ideal.Peer

end
-- ==== Proof.Peer.Order.lean ====
/-
  Selection by rank. Positions are ordered by their value, the greater first, and by a second number among equals; a
  position's rank counts those before it. Repeatedly taking the greatest value, the least second number among its
  holders, and striking that position out meets the positions in rank order; so does a stable sort.
-/
module

public import Idealize.ShloMosaic.Lib.Pointwise
public import Idealize.ShloMosaic.Lib.SortFacts

@[expose] public section

noncomputable section

namespace Cert.PeerRoute

open Idealize.ShloMosaic
open scoped BigOperators Classical

/-! ## Rank -/

section Rank

variable {N : ℕ} (s ord : Fin N → EReal)

/-- Position `p` comes before position `q`. -/
def Before (p q : Fin N) : Prop := s q < s p ∨ (s p = s q ∧ ord p < ord q)

/-- How many positions come before `p`. -/
def rank (p : Fin N) : ℕ := (Finset.univ.filter fun q => Before s ord q p).card

variable {s ord}

theorem Before.irrefl (p : Fin N) : ¬Before s ord p p := by
  rintro (h | ⟨_, h⟩) <;> exact lt_irrefl _ h

theorem Before.trans {p q r : Fin N} (h : Before s ord p q) (h' : Before s ord q r) : Before s ord p r := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem Before.total (ho : Function.Injective ord) {p q : Fin N} (h : p ≠ q) : Before s ord p q ∨ Before s ord q p := by
  rcases lt_trichotomy (s p) (s q) with h1 | h1 | h1
  · exact Or.inr (Or.inl h1)
  · rcases lt_trichotomy (ord p) (ord q) with h2 | h2 | h2
    · exact Or.inl (Or.inr ⟨h1, h2⟩)
    · exact absurd (ho h2) h
    · exact Or.inr (Or.inr ⟨h1.symm, h2⟩)
  · exact Or.inl (Or.inl h1)

theorem rank_lt_of_before {p q : Fin N} (h : Before s ord p q) : rank s ord p < rank s ord q := by
  unfold rank
  refine Finset.card_lt_card ⟨fun r hr => ?_, fun hs => ?_⟩
  · simp only [Finset.mem_filter, Finset.mem_univ, true_and] at hr ⊢
    exact hr.trans h
  · have := hs (Finset.mem_filter.2 ⟨Finset.mem_univ p, h⟩)
    simp only [Finset.mem_filter, Finset.mem_univ, true_and] at this
    exact Before.irrefl p this

theorem rank_lt (p : Fin N) : rank s ord p < N := by
  unfold rank
  refine lt_of_lt_of_eq (Finset.card_lt_card (t := Finset.univ) ⟨fun r _ => Finset.mem_univ r, fun hs => ?_⟩) (Finset.card_fin N)
  have := hs (Finset.mem_univ p)
  simp only [Finset.mem_filter, Finset.mem_univ, true_and] at this
  exact Before.irrefl p this

theorem rank_injective (ho : Function.Injective ord) : Function.Injective (rank s ord) := by
  intro p q h
  by_contra hne
  rcases Before.total (s := s) ho hne with h1 | h1
  · have := rank_lt_of_before h1; omega
  · have := rank_lt_of_before h1; omega

theorem exists_rank (ho : Function.Injective ord) {n : ℕ} (hn : n < N) : ∃ p : Fin N, rank s ord p = n := by
  have hi : Function.Injective (fun p : Fin N => (⟨rank s ord p, rank_lt p⟩ : Fin N)) := fun p q h => rank_injective ho (congrArg Fin.val h)
  obtain ⟨p, hp⟩ := (Finite.injective_iff_surjective.1 hi) ⟨n, hn⟩
  exact ⟨p, congrArg Fin.val hp⟩

theorem before_of_rank_lt (ho : Function.Injective ord) {p q : Fin N} (h : rank s ord p < rank s ord q) : Before s ord p q := by
  rcases Before.total (s := s) ho (p := p) (q := q) (by rintro rfl; exact lt_irrefl _ h) with h1 | h1
  · exact h1
  · have := rank_lt_of_before h1; omega

end Rank

/-! ## Selection in rounds -/

section Rounds

variable {N : ℕ}

/-- The greatest value. -/
def greatest (s : Fin N → EReal) : EReal := Finset.univ.sup s

/-- The least second number among the holders of the greatest value. -/
def holder (s ord : Fin N → EReal) : EReal := Finset.univ.inf fun p => if s p = greatest s then ord p else ⊤

/-- The values after `n` rounds. -/
def after (s ord : Fin N → EReal) : ℕ → Fin N → EReal
  | 0 => s
  | n + 1 => fun p => if ord p = holder (after s ord n) ord then ⊥ else after s ord n p

variable {s ord : Fin N → EReal} (ho : Function.Injective ord) {K : ℕ} (hK : ∀ p, s p = ⊥ → K ≤ rank s ord p)

include ho hK

theorem round_eq {n : ℕ} (hn : n < K) (hs : ∀ p, after s ord n p = if rank s ord p < n then ⊥ else s p) {p0 : Fin N} (hp0 : rank s ord p0 = n) :
    greatest (after s ord n) = s p0 ∧ holder (after s ord n) ord = ord p0 := by
  have h0 : after s ord n p0 = s p0 := by rw [hs, if_neg (by omega)]
  have hne : s p0 ≠ ⊥ := fun h => by have := hK p0 h; omega
  have hb : ∀ p, ¬rank s ord p < n → p = p0 ∨ Before s ord p0 p := fun p hp => by
    by_cases h : p = p0
    · exact Or.inl h
    · exact Or.inr (before_of_rank_lt ho (by
        have : rank s ord p ≠ rank s ord p0 := fun e => h (rank_injective ho e)
        omega))
  have hg : greatest (after s ord n) = s p0 := by
    refine le_antisymm (Finset.sup_le fun p _ => ?_) (h0 ▸ Finset.le_sup (f := after s ord n) (Finset.mem_univ p0))
    rw [hs]
    split_ifs with h
    · exact bot_le
    · rcases hb p h with rfl | h1 | ⟨h1, _⟩
      · exact le_rfl
      · exact h1.le
      · exact h1.ge
  refine ⟨hg, le_antisymm ?_ (Finset.le_inf fun p _ => ?_)⟩
  · refine (Finset.inf_le (Finset.mem_univ p0)).trans (le_of_eq ?_)
    rw [if_pos (h0.trans hg.symm)]
  · rw [hg]
    split_ifs with h
    · rw [hs] at h
      split_ifs at h with h2
      · exact absurd h.symm hne
      · rcases hb p h2 with rfl | h1 | ⟨h1, h3⟩
        · exact le_rfl
        · exact absurd h (ne_of_lt h1)
        · exact h3.le
    · exact le_top

theorem after_eq (hKN : K ≤ N) : ∀ n, n ≤ K → ∀ p, after s ord n p = if rank s ord p < n then ⊥ else s p
  | 0, _, p => by rw [if_neg (by omega)]; rfl
  | n + 1, hn, p => by
      have ih := after_eq hKN n (by omega)
      obtain ⟨p0, hp0⟩ := exists_rank (s := s) ho (n := n) (by omega)
      show (if ord p = holder (after s ord n) ord then ⊥ else after s ord n p) = _
      rw [(round_eq ho hK (by omega) ih hp0).2]
      by_cases h : ord p = ord p0
      · rw [if_pos h, if_pos (by rw [ho h]; omega)]
      · rw [if_neg h, ih]
        have hne : rank s ord p ≠ n := fun e => h (congrArg ord (rank_injective ho (e.trans hp0.symm)))
        by_cases h2 : rank s ord p < n
        · rw [if_pos h2, if_pos (by omega)]
        · rw [if_neg h2, if_neg (by omega)]

/-- Round `n` finds the value and the second number of the position of rank `n`. -/
theorem round_finds (hKN : K ≤ N) {n : ℕ} (hn : n < K) {p0 : Fin N} (hp0 : rank s ord p0 = n) :
    greatest (after s ord n) = s p0 ∧ holder (after s ord n) ord = ord p0 :=
  round_eq ho hK hn (after_eq ho hK hKN n hn.le) hp0

end Rounds

/-- What a selected position carries is the greatest of what the positions of its second number carry and a number
    no greater. -/
theorem carried {N : ℕ} {ord : Fin N → EReal} (ho : Function.Injective ord) (e : Fin N → EReal) (z : EReal) (p0 : Fin N) (hz : z ≤ e p0) :
    greatest (fun p => if ord p = ord p0 then e p else z) = e p0 := by
  refine le_antisymm (Finset.sup_le fun p _ => ?_) ?_
  · by_cases h : ord p = ord p0
    · rw [if_pos h, ho h]
    · rw [if_neg h]; exact hz
  · refine le_trans (le_of_eq ?_) (Finset.le_sup (f := fun p => if ord p = ord p0 then e p else z) (Finset.mem_univ p0))
    show _ = if ord p0 = ord p0 then e p0 else z
    rw [if_pos rfl]

/-! ## A stable sort -/

section Stable

variable {N : ℕ}

/-- A position's own number. -/
def own (p : Fin N) : EReal := ((p.val : ℝ) : EReal)

theorem own_lt {p q : Fin N} : own p < own q ↔ p < q := by
  unfold own
  rw [EReal.coe_lt_coe_iff, Nat.cast_lt]
  exact Iff.rfl

theorem own_injective : Function.Injective (own (N := N)) := fun p q h => by
  rcases lt_trichotomy p q with h1 | h1 | h1
  · exact absurd h (own_lt.2 h1).ne
  · exact h1
  · exact absurd h (own_lt.2 h1).ne'

variable (s : Fin N → EReal)

/-- Greater values first. -/
def greaterFirst (p q : Fin N) : Bool := decide (s q < s p)

theorem pairwise_insert (a : Fin N) : ∀ l : List (Fin N), l.Pairwise (Before s own) → (∀ b ∈ l, a < b) →
    (insertBefore (greaterFirst s) a l).Pairwise (Before s own)
  | [], _, _ => by unfold insertBefore; exact List.pairwise_singleton _ _
  | b :: l, hl, ha => by
      have hl' := List.pairwise_cons.1 hl
      unfold insertBefore
      by_cases h : s a < s b
      · rw [if_pos (by unfold greaterFirst; exact decide_eq_true h)]
        refine List.pairwise_cons.2 ⟨fun c hc => ?_, pairwise_insert a l hl'.2 fun c hc => ha c (List.mem_cons_of_mem _ hc)⟩
        rcases List.mem_cons.1 ((perm_insertBefore (greaterFirst s) a l).mem_iff.1 hc) with rfl | hc
        · exact Or.inl h
        · exact hl'.1 c hc
      · rw [if_neg (by unfold greaterFirst; simpa using h)]
        refine List.pairwise_cons.2 ⟨fun c hc => ?_, hl⟩
        have hab : s b ≤ s a := not_lt.1 h
        have hcb : s c ≤ s b := by
          rcases List.mem_cons.1 hc with rfl | hc
          · exact le_rfl
          · rcases hl'.1 c hc with h1 | ⟨h1, _⟩
            · exact h1.le
            · exact h1.ge
        rcases lt_or_eq_of_le (hcb.trans hab) with h1 | h1
        · exact Or.inl h1
        · exact Or.inr ⟨h1.symm, own_lt.2 (ha c hc)⟩

theorem pairwise_sort : ∀ l : List (Fin N), l.Pairwise (· < ·) → (stableSort (greaterFirst s) l).Pairwise (Before s own)
  | [], _ => by unfold stableSort; exact List.Pairwise.nil
  | a :: l, hl => by
      have hl' := List.pairwise_cons.1 hl
      unfold stableSort
      exact pairwise_insert s a _ (pairwise_sort l hl'.2) fun b hb => hl'.1 b ((perm_stableSort _ l).mem_iff.1 hb)

/-- The stable sort puts at place `k` the position of rank `k`. -/
theorem rank_sortedFrom (k : Fin N) : rank s own (sortedFrom (greaterFirst s) k) = k.val := by
  have hp : ∀ a b : Fin (sortPositions N (greaterFirst s)).length, a < b →
      Before s own ((sortPositions N (greaterFirst s)).get a) ((sortPositions N (greaterFirst s)).get b) :=
    List.pairwise_iff_get.mp (pairwise_sort s (List.finRange N) (List.pairwise_lt_finRange N))
  have hm : StrictMono (fun i : Fin N => (⟨rank s own (sortedFrom (greaterFirst s) i), rank_lt _⟩ : Fin N)) := by
    intro i j hij
    refine Fin.mk_lt_mk.2 (rank_lt_of_before ?_)
    unfold sortedFrom
    exact hp _ _ (by simp only [Fin.lt_def, Fin.val_cast]; exact hij)
  have h := Subsingleton.elim (StrictMono.orderIsoOfSurjective _ hm (Finite.injective_iff_surjective.1 hm.injective)) (OrderIso.refl (Fin N))
  exact congrArg Fin.val (congrArg (fun e : Fin N ≃o Fin N => e k) h)

end Stable

end Cert.PeerRoute

end
-- ==== Proof.Peer.Prune.lean ====
/-
  The best sums of two descending lists of sixteen lie under a staircase: a sum's rank is at least the number of the sums
  above and to the left of it, so eighty rows that hold the staircase and nothing else give the same first sixteen.
-/
module

public import proofs.«01_k».proof.Proof.Peer.Order

@[expose] public section

noncomputable section

namespace Cert.PeerRoute

open Idealize.ShloMosaic
open scoped BigOperators

/-! ## The eighty rows -/

/-- The place of a row in the sixteen by sixteen table. -/
def place (r : ℕ) : ℕ := if r < 16 then r else if r < 72 then (1 + (r - 16) / 8) * 16 + (r - 16) % 8 else (8 + (r - 72)) * 16

/-- The rows that hold a sum. -/
def live (r : ℕ) : Bool := decide (r < 16 ∨ 72 ≤ r ∨ (r - 16) % 8 < 16 / (2 + (r - 16) / 8))

theorem place_lt : ∀ r : Fin 80, place r.val < 256 := by decide +kernel

theorem place_injective : ∀ r r' : Fin 80, place r.val = place r'.val → r = r' := by decide +kernel

theorem stair : ∀ q : Fin 256, (Finset.univ.filter fun q' : Fin 256 => q'.val / 16 ≤ q.val / 16 ∧ q'.val % 16 ≤ q.val % 16).card ≤ 16 →
    ∃ r : Fin 80, live r.val = true ∧ place r.val = q.val := by decide +kernel

theorem live_first : ∀ r : Fin 80, r.val < 16 → live r.val = true := by decide +kernel

open scoped Classical

/-! ## Descending lists -/

theorem real_ne_bot {v : EReal} (h : ∃ x : ℝ, v = (x : EReal)) : v ≠ ⊥ := by
  obtain ⟨x, rfl⟩ := h
  exact EReal.coe_ne_bot x

section Lists

variable (a b : Fin 16 → EReal) (ha : Antitone a) (hb : Antitone b) (ra : ∀ i, ∃ x : ℝ, a i = (x : EReal)) (rb : ∀ i, ∃ x : ℝ, b i = (x : EReal))

theorem hi_lt (q : Fin 256) : q.val / 16 < 16 := by have := q.isLt; omega
theorem lo_lt (q : Fin 256) : q.val % 16 < 16 := Nat.mod_lt _ (by decide)

/-- The table of sums. -/
def table (q : Fin 256) : EReal := a ⟨q.val / 16, hi_lt q⟩ + b ⟨q.val % 16, lo_lt q⟩

include ra rb in
theorem table_real (q : Fin 256) : ∃ x : ℝ, table a b q = (x : EReal) := by
  obtain ⟨x, hx⟩ := ra ⟨q.val / 16, hi_lt q⟩
  obtain ⟨y, hy⟩ := rb ⟨q.val % 16, lo_lt q⟩
  exact ⟨x + y, by unfold table; rw [hx, hy, EReal.coe_add]⟩

/-- The rows' sums. -/
def rowSum (r : Fin 80) : EReal := if live r.val = true then table a b ⟨place r.val, place_lt r⟩ else ⊥

/-- The rows' places. -/
def rowPlace (r : Fin 80) : EReal := own (⟨place r.val, place_lt r⟩ : Fin 256)

theorem rowPlace_injective : Function.Injective rowPlace := fun r r' h =>
  place_injective r r' (congrArg Fin.val (own_injective h))

include ha hb in
theorem table_before {q q' : Fin 256} (h1 : q'.val / 16 ≤ q.val / 16) (h2 : q'.val % 16 ≤ q.val % 16) (hne : q' ≠ q) :
    Before (table a b) own q' q := by
  have hle : table a b q ≤ table a b q' := add_le_add (ha (Fin.mk_le_mk.2 h1)) (hb (Fin.mk_le_mk.2 h2))
  rcases hle.lt_or_eq with h | h
  · exact Or.inl h
  · refine Or.inr ⟨h.symm, own_lt.2 (Fin.lt_def.2 ?_)⟩
    have : q'.val ≠ q.val := fun e => hne (Fin.ext e)
    omega

include ha hb in
theorem under_stair {q : Fin 256} (h : rank (table a b) own q < 16) : ∃ r : Fin 80, live r.val = true ∧ place r.val = q.val := by
  refine stair q ?_
  have hsub : (Finset.univ.filter fun q' : Fin 256 => q'.val / 16 ≤ q.val / 16 ∧ q'.val % 16 ≤ q.val % 16)
      ⊆ insert q (Finset.univ.filter fun q' => Before (table a b) own q' q) := fun q' hq' => by
    have hq := (Finset.mem_filter.1 hq').2
    by_cases e : q' = q
    · exact Finset.mem_insert.2 (Or.inl e)
    · exact Finset.mem_insert.2 (Or.inr (Finset.mem_filter.2 ⟨Finset.mem_univ _, table_before a b ha hb hq.1 hq.2 e⟩))
  have h1 := Finset.card_le_card hsub
  have h2 := Finset.card_insert_le q (Finset.univ.filter fun q' => Before (table a b) own q' q)
  unfold rank at h
  omega

include ra rb in
theorem rowSum_bot {r : Fin 80} (h : rowSum a b r = ⊥) : ¬live r.val = true := fun hl => by
  unfold rowSum at h
  rw [if_pos hl] at h
  exact real_ne_bot (table_real a b ra rb _) h

include ra rb in
theorem dead_rank (r : Fin 80) (h : rowSum a b r = ⊥) : 16 ≤ rank (rowSum a b) rowPlace r := by
  have hsub : (Finset.univ.image fun i : Fin 16 => (⟨i.val, lt_trans i.isLt (by decide)⟩ : Fin 80))
      ⊆ Finset.univ.filter fun r' => Before (rowSum a b) rowPlace r' r := fun r' hr' => by
    obtain ⟨i, _, rfl⟩ := Finset.mem_image.1 hr'
    refine Finset.mem_filter.2 ⟨Finset.mem_univ _, Or.inl ?_⟩
    rw [h, bot_lt_iff_ne_bot]
    intro h'
    exact rowSum_bot a b ra rb h' (live_first _ i.isLt)
  have h1 := Finset.card_le_card hsub
  have hin : Function.Injective (fun i : Fin 16 => (⟨i.val, lt_trans i.isLt (by decide)⟩ : Fin 80)) := fun i j e =>
    Fin.ext (congrArg (fun x : Fin 80 => x.val) e)
  rw [Finset.card_image_of_injective _ hin, Finset.card_fin] at h1
  exact h1

include ha hb ra rb in
/-- A sum among the first sixteen of the table is held by a row, at the same rank. -/
theorem held {q : Fin 256} (h : rank (table a b) own q < 16) :
    ∃ r : Fin 80, live r.val = true ∧ place r.val = q.val ∧ rank (rowSum a b) rowPlace r = rank (table a b) own q := by
  obtain ⟨r, hl, hp⟩ := under_stair a b ha hb h
  refine ⟨r, hl, hp, ?_⟩
  have hq : (⟨place r.val, place_lt r⟩ : Fin 256) = q := Fin.ext hp
  have hr : rowSum a b r = table a b q := by unfold rowSum; rw [if_pos hl, hq]
  have hin : Function.Injective (fun r' : Fin 80 => (⟨place r'.val, place_lt r'⟩ : Fin 256)) := fun x y e =>
    place_injective x y (congrArg Fin.val e)
  have hset : (Finset.univ.filter fun r' => Before (rowSum a b) rowPlace r' r).image (fun r' : Fin 80 => (⟨place r'.val, place_lt r'⟩ : Fin 256))
      = Finset.univ.filter fun q' => Before (table a b) own q' q := by
    ext q'
    constructor
    · intro hm
      obtain ⟨r', hr', rfl⟩ := Finset.mem_image.1 hm
      have hb' := (Finset.mem_filter.1 hr').2
      refine Finset.mem_filter.2 ⟨Finset.mem_univ _, ?_⟩
      have hl' : live r'.val = true := by
        by_contra hn
        have e : rowSum a b r' = ⊥ := if_neg hn
        rcases hb' with hb' | ⟨hb', _⟩
        · rw [e] at hb'; exact not_lt_bot hb'
        · exact rowSum_bot a b ra rb (hb'.symm.trans e) hl
      have e : rowSum a b r' = table a b ⟨place r'.val, place_lt r'⟩ := if_pos hl'
      unfold Before at hb' ⊢
      rw [e, hr] at hb'
      unfold rowPlace at hb'
      rw [hq] at hb'
      exact hb'
    · intro hm
      have hb' := (Finset.mem_filter.1 hm).2
      obtain ⟨r', hl', hp'⟩ := under_stair a b ha hb (lt_trans (rank_lt_of_before hb') h)
      have hq' : (⟨place r'.val, place_lt r'⟩ : Fin 256) = q' := Fin.ext hp'
      refine Finset.mem_image.2 ⟨r', Finset.mem_filter.2 ⟨Finset.mem_univ _, ?_⟩, hq'⟩
      have e : rowSum a b r' = table a b q' := by unfold rowSum; rw [if_pos hl', hq']
      unfold Before
      rw [e, hr]
      unfold rowPlace
      rw [hq, hq']
      exact hb'
  unfold rank
  rw [← hset, Finset.card_image_of_injective _ hin]

end Lists

/-! ## The first sixteen of a column -/

/-- The position of rank `n`. -/
def nth {N : ℕ} (s : Fin N → EReal) (n : Fin N) : Fin N := sortedFrom (greaterFirst s) n

theorem rank_nth {N : ℕ} (s : Fin N → EReal) (n : Fin N) : rank s own (nth s n) = n.val := rank_sortedFrom s n

theorem nth_antitone {N : ℕ} (s : Fin N → EReal) : Antitone fun n => s (nth s n) := fun n n' h => by
  rcases h.lt_or_eq with h | rfl
  · rcases before_of_rank_lt own_injective (p := nth s n) (q := nth s n') (s := s) (by rw [rank_nth, rank_nth]; exact h) with h | ⟨h, _⟩
    · exact h.le
    · exact h.ge
  · exact le_rfl

theorem picks {N : ℕ} (s : Fin N → EReal) (hr : ∀ p, ∃ x : ℝ, s p = (x : EReal)) (n : Fin N) :
    greatest (after s own n.val) = s (nth s n) ∧ holder (after s own n.val) own = own (nth s n) :=
  round_finds own_injective (K := N) (fun p h => absurd h (real_ne_bot (hr p))) le_rfl n.isLt (rank_nth s n)

end Cert.PeerRoute

end
-- ==== Proof.Peer.Spec.lean ====
/-
  The routing of one token's head: the best sixteen keys of each half, the best sixteen of their sums, the experts they
  name and the gates their sums give.
-/
module

public import proofs.«01_k».proof.Proof.Peer.Prune

@[expose] public section

noncomputable section

namespace Cert.PeerRoute

open Idealize.ShloMosaic
open scoped BigOperators

theorem wide (n : Fin 16) : n.val < 128 := by have := n.isLt; omega
theorem wider (n : Fin 16) : n.val < 256 := by have := n.isLt; omega

/-- A half's score of a key. -/
def scoreOf (h : Fin 2048 → EReal) (w : Fin 2048 → Fin 128 → EReal) (q : Fin 128 → Fin 128 → EReal) (n : Fin 128) : EReal :=
  ∑ d : Fin 128, (q n d * ∑ a : Fin 2048, h a * w a d : EReal)

/-- The key at a rank, and its score. -/
def topKey (s : Fin 128 → EReal) (i : Fin 16) : Fin 128 := nth s ⟨i.val, wide i⟩
def topScore (s : Fin 128 → EReal) (i : Fin 16) : EReal := s (topKey s i)

theorem topScore_antitone (s : Fin 128 → EReal) : Antitone (topScore s) := fun i j h =>
  nth_antitone s (show (⟨i.val, wide i⟩ : Fin 128) ≤ ⟨j.val, wide j⟩ from h)

section

variable (s0 s1 : Fin 128 → EReal)

/-- The sums of the two halves' best scores. -/
def sums (q : Fin 256) : EReal := table (topScore s0) (topScore s1) q

/-- The place of the sum at a rank, and the sum. -/
def bestPlace (n : Fin 16) : Fin 256 := nth (sums s0 s1) ⟨n.val, wider n⟩
def bestSum (n : Fin 16) : EReal := sums s0 s1 (bestPlace s0 s1 n)

/-- The expert a place names. -/
def expertAt (q : Fin 256) : ℕ := (topKey s0 ⟨q.val / 16, hi_lt q⟩).val * 128 + (topKey s1 ⟨q.val % 16, lo_lt q⟩).val
def expert (n : Fin 16) : ℕ := expertAt s0 s1 (bestPlace s0 s1 n)

theorem expertAt_lt (q : Fin 256) : expertAt s0 s1 q < 16384 := by
  have h0 := (topKey s0 ⟨q.val / 16, hi_lt q⟩).isLt
  have h1 := (topKey s1 ⟨q.val % 16, lo_lt q⟩).isLt
  unfold expertAt
  omega

/-- The gate of a sum. -/
def gate (n : Fin 16) : EReal :=
  Ideal.div (Ideal.exp (bestSum s0 s1 n - bestSum s0 s1 0)) (∑ n' : Fin 16, Ideal.exp (bestSum s0 s1 n' - bestSum s0 s1 0))

theorem bestSum_antitone : Antitone (bestSum s0 s1) := fun i j h =>
  nth_antitone (sums s0 s1) (show (⟨i.val, wider i⟩ : Fin 256) ≤ ⟨j.val, wider j⟩ from h)

variable (h0 : ∀ p, ∃ x : ℝ, s0 p = (x : EReal)) (h1 : ∀ p, ∃ x : ℝ, s1 p = (x : EReal)) (n : Fin 16)

include h0 h1

/-- A row holds the sum of a rank and finds it in its round. -/
theorem row_found : ∃ r : Fin 80, place r.val = (bestPlace s0 s1 n).val
    ∧ greatest (after (rowSum (topScore s0) (topScore s1)) rowPlace n.val) = bestSum s0 s1 n
    ∧ holder (after (rowSum (topScore s0) (topScore s1)) rowPlace n.val) rowPlace = rowPlace r := by
  have hn := n.isLt
  have hk : rank (sums s0 s1) own (bestPlace s0 s1 n) = n.val := rank_nth (sums s0 s1) _
  have ra : ∀ i, ∃ x : ℝ, topScore s0 i = (x : EReal) := fun i => h0 _
  have rb : ∀ i, ∃ x : ℝ, topScore s1 i = (x : EReal) := fun i => h1 _
  obtain ⟨r, hl, hp, hr⟩ := held (topScore s0) (topScore s1) (topScore_antitone s0) (topScore_antitone s1) ra rb
    (q := bestPlace s0 s1 n) (lt_of_eq_of_lt hk hn)
  have hf := round_finds (s := rowSum (topScore s0) (topScore s1)) (ord := rowPlace) rowPlace_injective (K := 16)
    (fun p h => dead_rank (topScore s0) (topScore s1) ra rb p h) (by decide) hn (p0 := r) (hr.trans hk)
  refine ⟨r, hp, hf.1.trans ?_, hf.2⟩
  unfold rowSum
  rw [if_pos hl]
  exact congrArg (table (topScore s0) (topScore s1)) (Fin.ext hp)

end

end Cert.PeerRoute

end
-- ==== Proof.Peer.Columns.lean ====
/-
  The rounds of a column, one entry at a time: what each round finds and strikes out.
-/
module

public import proofs.«01_k».proof.Proof.Peer.Chain
public import proofs.«01_k».proof.Proof.Peer.Spec
public import Idealize.ShloMosaic.Lib.Tactic
public import Idealize.ShloMosaic.Lib.WordCmp

@[expose] public section

set_option maxRecDepth 65536

noncomputable section

namespace Cert.Kernel4Ideal.Peer

open Idealize.ShloMosaic Idealize.SL.Sem Cert.Kernel4Ideal.Gen Cert.PeerRoute
open scoped BigOperators Classical

theorem ninf : Ideal.ofBits .f32 0xFF800000#32 = ⊥ := by simp [Ideal.ofBits, Ideal.ieee]
theorem pinf : Ideal.ofBits .f32 0x7F800000#32 = ⊤ := by simp [Ideal.ofBits, Ideal.ieee]

theorem fold_max {N : ℕ} (f : Fin N → EReal) : Finset.fold max (Ideal.ofBits .f32 0xFF800000#32) f Finset.univ = greatest f := by
  rw [ninf]; rfl

theorem fold_min {N : ℕ} (f : Fin N → EReal) : Finset.fold min (Ideal.ofBits .f32 0x7F800000#32) f Finset.univ = Finset.univ.inf f := by
  rw [pinf]; rfl

section

variable (o s e : FVec Ideal S128x256 .f32) (l : Fin 256) (p : Fin 128)

theorem kMax_at : kMax s (ix2 0 l) = greatest (fun p => s (ix2 p l)) := by
  pointwise [kMax, kTop]
  exact fold_max _

theorem kMask_at : kMask o s (ix2 p l) = if s (ix2 p l) = greatest (fun p => s (ix2 p l)) then o (ix2 p l) else ⊤ := by
  pointwise [kMask, kEq, kBc]
  rw [kMax_at, pinf]

theorem kPick_at : kPick o s (ix2 0 l) = holder (fun p => s (ix2 p l)) (fun p => o (ix2 p l)) := by
  pointwise [kPick, kPick256]
  rw [fold_min]
  unfold holder
  exact congrArg _ (funext fun p => kMask_at o s l p)

theorem kNext_at : kNext o s (ix2 p l) = if o (ix2 p l) = holder (fun p => s (ix2 p l)) (fun p => o (ix2 p l)) then ⊥ else s (ix2 p l) := by
  pointwise [kNext, kHit, kBc]
  rw [kPick_at, ninf]

theorem kSt_at (n : ℕ) : ∀ p : Fin 128, kSt o s n (ix2 p l) = after (fun p => s (ix2 p l)) (fun p => o (ix2 p l)) n p := by
  induction n with
  | zero => intro p; rfl
  | succ n ih =>
    intro p
    show kNext o (kSt o s n) (ix2 p l) = _
    rw [kNext_at, funext ih, ih p]
    rfl

end

section

variable (o s e : FVec Ideal S80x256 .f32) (l : Fin 256) (p : Fin 80)

theorem cMax_at : cMax s (ix2 0 l) = greatest (fun p => s (ix2 p l)) := by
  pointwise [cMax, cTop]
  exact fold_max _

theorem cMask_at : cMask o s (ix2 p l) = if s (ix2 p l) = greatest (fun p => s (ix2 p l)) then o (ix2 p l) else ⊤ := by
  pointwise [cMask, cEq, cBc]
  rw [cMax_at, pinf]

theorem cPick_at : cPick o s (ix2 0 l) = holder (fun p => s (ix2 p l)) (fun p => o (ix2 p l)) := by
  pointwise [cPick, cPick256]
  rw [fold_min]
  unfold holder
  exact congrArg _ (funext fun p => cMask_at o s l p)

theorem cNext_at : cNext o s (ix2 p l) = if o (ix2 p l) = holder (fun p => s (ix2 p l)) (fun p => o (ix2 p l)) then ⊥ else s (ix2 p l) := by
  pointwise [cNext, cHit, cBc]
  rw [cPick_at, ninf]

theorem cSt_at (n : ℕ) : ∀ p : Fin 80, cSt o s n (ix2 p l) = after (fun p => s (ix2 p l)) (fun p => o (ix2 p l)) n p := by
  induction n with
  | zero => intro p; rfl
  | succ n ih =>
    intro p
    show cNext o (cSt o s n) (ix2 p l) = _
    rw [cNext_at, funext ih, ih p]
    rfl

end

theorem minus_one : Ideal.ofBits .f32 0xBF800000#32 = ((-1 : ℝ) : EReal) := by
  simp [Ideal.ofBits, Ideal.ieee, -EReal.coe_mul]
  norm_num

theorem cCar_at (o s e : FVec Ideal S80x256 .f32) (l : Fin 256) : cCar o s e (ix2 0 l)
    = greatest (fun p => if o (ix2 p l) = holder (fun p => s (ix2 p l)) (fun p => o (ix2 p l)) then e (ix2 p l) else ((-1 : ℝ) : EReal)) := by
  pointwise [cCar, cCar256]
  rw [fold_max]
  refine congrArg _ (funext fun p => ?_)
  pointwise [cSel, cHit, cBc]
  rw [cPick_at, minus_one]

theorem rows_at (f : ℕ → FVec Ideal S1x256 .f32) (l : Fin 256) : ∀ i : Fin 16, rows f (ix2 i l) = f i.val (ix2 0 l) := by
  intro i
  fin_cases i <;> pointwise [rows]

theorem own_word {N : ℕ} (hN : N ≤ 256) (p : Fin N) : (FloatOps.sitofp (F := Ideal) .f32 (BitVec.ofNat 32 p.val) : EReal) = own p := by
  have hp := p.isLt
  have e : (BitVec.ofNat 32 p.val).toInt = (p.val : ℤ) := by
    rw [BitVec.toInt_eq_toNat_of_lt (by rw [BitVec.toNat_ofNat]; omega), BitVec.toNat_ofNat, Nat.mod_eq_of_lt (by omega)]
  show (((BitVec.ofNat 32 p.val).toInt : ℝ) : EReal) = own p
  rw [e]
  unfold own
  simp

theorem pay4_at (l : Fin 256) (p : Fin 128) : (k0_pay4 (F := Ideal)) (ix2 p l) = own p := by
  pointwise [k0_pay4]
  exact own_word (by decide) p

theorem pay117_at (l : Fin 256) (p : Fin 8) : (k0_pay117 (F := Ideal)) (ix2 p l) = own p := by
  pointwise [k0_pay117]
  exact own_word (by decide) p

theorem pay114_at (l : Fin 256) (p : Fin 16) : (k0_pay114 (F := Ideal)) (ix2 p l) = own p := by
  pointwise [k0_pay114]
  exact own_word (by decide) p

section Selected

variable (s : FVec Ideal S128x256 .f32) (l : Fin 256) (hr : ∀ p : Fin 128, ∃ x : ℝ, s (ix2 p l) = (x : EReal)) (n : Fin 16)

include hr

theorem kVals_at : kVals k0_pay4 s (ix2 n l) = s (ix2 (nth (fun p => s (ix2 p l)) ⟨n.val, wide n⟩) l) := by
  unfold kVals
  rw [rows_at, kMax_at, funext (kSt_at k0_pay4 s l n.val), funext (pay4_at l)]
  exact (picks (fun p : Fin 128 => s (ix2 p l)) hr ⟨n.val, wide n⟩).1

theorem kPicks_at : kPicks k0_pay4 s (ix2 n l) = own (nth (fun p : Fin 128 => s (ix2 p l)) ⟨n.val, wide n⟩) := by
  unfold kPicks
  rw [rows_at, kPick_at, funext (kSt_at k0_pay4 s l n.val), funext (pay4_at l)]
  exact (picks (fun p : Fin 128 => s (ix2 p l)) hr ⟨n.val, wide n⟩).2

end Selected

end Cert.Kernel4Ideal.Peer

end
-- ==== Proof.Peer.Candidates.lean ====
/-
  The eighty candidate rows at an index: their sums, their places in the table of sums and the numbers they carry.
-/
module

public import proofs.«01_k».proof.Proof.Peer.Columns

@[expose] public section

set_option maxRecDepth 65536

noncomputable section

namespace Cert.Kernel4Ideal.Peer

open Idealize.ShloMosaic Idealize.SL.Sem Cert.Kernel4Ideal.Gen Cert.PeerRoute
open scoped BigOperators Classical

theorem lit_8 : Ideal.ofBits .f32 0x41000000#32 = (((8 : ℕ) : ℝ) : EReal) := by
  simp [Ideal.ofBits, Ideal.ieee, -EReal.coe_mul]
  norm_num

theorem lit_5 : Ideal.ofBits .f32 0x40A00000#32 = (((5 : ℕ) : ℝ) : EReal) := by
  simp [Ideal.ofBits, Ideal.ieee, -EReal.coe_mul]
  norm_num

theorem lit_4 : Ideal.ofBits .f32 0x40800000#32 = (((4 : ℕ) : ℝ) : EReal) := by
  simp [Ideal.ofBits, Ideal.ieee, -EReal.coe_mul]
  norm_num

theorem lit_3 : Ideal.ofBits .f32 0x40400000#32 = (((3 : ℕ) : ℝ) : EReal) := by
  simp [Ideal.ofBits, Ideal.ieee, -EReal.coe_mul]
  norm_num

theorem lit_2 : Ideal.ofBits .f32 0x40000000#32 = (((2 : ℕ) : ℝ) : EReal) := by
  simp [Ideal.ofBits, Ideal.ieee, -EReal.coe_mul]
  norm_num

theorem lit_16 : Ideal.ofBits .f32 0x41800000#32 = (((16 : ℕ) : ℝ) : EReal) := by
  simp [Ideal.ofBits, Ideal.ieee, -EReal.coe_mul]
  norm_num

theorem lit_32 : Ideal.ofBits .f32 0x42000000#32 = (((32 : ℕ) : ℝ) : EReal) := by
  simp [Ideal.ofBits, Ideal.ieee, -EReal.coe_mul]
  norm_num

theorem lit_48 : Ideal.ofBits .f32 0x42400000#32 = (((48 : ℕ) : ℝ) : EReal) := by
  simp [Ideal.ofBits, Ideal.ieee, -EReal.coe_mul]
  norm_num

theorem lit_64 : Ideal.ofBits .f32 0x42800000#32 = (((64 : ℕ) : ℝ) : EReal) := by
  simp [Ideal.ofBits, Ideal.ieee, -EReal.coe_mul]
  norm_num

theorem lit_80 : Ideal.ofBits .f32 0x42A00000#32 = (((80 : ℕ) : ℝ) : EReal) := by
  simp [Ideal.ofBits, Ideal.ieee, -EReal.coe_mul]
  norm_num

theorem lit_96 : Ideal.ofBits .f32 0x42C00000#32 = (((96 : ℕ) : ℝ) : EReal) := by
  simp [Ideal.ofBits, Ideal.ieee, -EReal.coe_mul]
  norm_num

theorem lit_112 : Ideal.ofBits .f32 0x42E00000#32 = (((112 : ℕ) : ℝ) : EReal) := by
  simp [Ideal.ofBits, Ideal.ieee, -EReal.coe_mul]
  norm_num

theorem lit_128 : Ideal.ofBits .f32 0x43000000#32 = (((128 : ℕ) : ℝ) : EReal) := by
  simp [Ideal.ofBits, Ideal.ieee, -EReal.coe_mul]
  norm_num

theorem own_lt_lit {N : ℕ} (p : Fin N) (k : ℕ) : own p < (((k : ℕ) : ℝ) : EReal) ↔ p.val < k := by
  unfold own
  rw [EReal.coe_lt_coe_iff, Nat.cast_lt]

/-- A block of sixteen rows over eight blocks of eight. -/
def stack (f0 : FVec Ideal S16x256 .f32) (f1 f2 f3 f4 f5 f6 f7 f8 : FVec Ideal S8x256 .f32) : FVec Ideal S80x256 .f32 :=
  concatenate S80x256 0 [⟨S16x256, f0⟩, ⟨S8x256, f1⟩, ⟨S8x256, f2⟩, ⟨S8x256, f3⟩, ⟨S8x256, f4⟩, ⟨S8x256, f5⟩, ⟨S8x256, f6⟩, ⟨S8x256, f7⟩, ⟨S8x256, f8⟩]
    concatenates_S16x256_S8x256_S8x256_S8x256_S8x256_S8x256_S8x256_S8x256_S8x256_S80x256_d0

theorem row_of {o N : ℕ} (h : o + N ≤ 80) (p : Fin N) : o + p.val < 80 := by have := p.isLt; omega

section

variable (f0 : FVec Ideal S16x256 .f32) (f1 f2 f3 f4 f5 f6 f7 f8 : FVec Ideal S8x256 .f32) (l : Fin 256)

theorem stack_0 : ∀ p : Fin 16, stack f0 f1 f2 f3 f4 f5 f6 f7 f8 (ix2 ⟨0 + p.val, row_of (by decide) p⟩ l) = f0 (ix2 p l) := by
  intro p
  fin_cases p <;> pointwise [stack]

theorem stack_1 : ∀ p : Fin 8, stack f0 f1 f2 f3 f4 f5 f6 f7 f8 (ix2 ⟨16 + p.val, row_of (by decide) p⟩ l) = f1 (ix2 p l) := by
  intro p
  fin_cases p <;> pointwise [stack]

theorem stack_2 : ∀ p : Fin 8, stack f0 f1 f2 f3 f4 f5 f6 f7 f8 (ix2 ⟨24 + p.val, row_of (by decide) p⟩ l) = f2 (ix2 p l) := by
  intro p
  fin_cases p <;> pointwise [stack]

theorem stack_3 : ∀ p : Fin 8, stack f0 f1 f2 f3 f4 f5 f6 f7 f8 (ix2 ⟨32 + p.val, row_of (by decide) p⟩ l) = f3 (ix2 p l) := by
  intro p
  fin_cases p <;> pointwise [stack]

theorem stack_4 : ∀ p : Fin 8, stack f0 f1 f2 f3 f4 f5 f6 f7 f8 (ix2 ⟨40 + p.val, row_of (by decide) p⟩ l) = f4 (ix2 p l) := by
  intro p
  fin_cases p <;> pointwise [stack]

theorem stack_5 : ∀ p : Fin 8, stack f0 f1 f2 f3 f4 f5 f6 f7 f8 (ix2 ⟨48 + p.val, row_of (by decide) p⟩ l) = f5 (ix2 p l) := by
  intro p
  fin_cases p <;> pointwise [stack]

theorem stack_6 : ∀ p : Fin 8, stack f0 f1 f2 f3 f4 f5 f6 f7 f8 (ix2 ⟨56 + p.val, row_of (by decide) p⟩ l) = f6 (ix2 p l) := by
  intro p
  fin_cases p <;> pointwise [stack]

theorem stack_7 : ∀ p : Fin 8, stack f0 f1 f2 f3 f4 f5 f6 f7 f8 (ix2 ⟨64 + p.val, row_of (by decide) p⟩ l) = f7 (ix2 p l) := by
  intro p
  fin_cases p <;> pointwise [stack]

theorem stack_8 : ∀ p : Fin 8, stack f0 f1 f2 f3 f4 f5 f6 f7 f8 (ix2 ⟨72 + p.val, row_of (by decide) p⟩ l) = f8 (ix2 p l) := by
  intro p
  fin_cases p <;> pointwise [stack]

end

section

variable (A B : FVec Ideal S16x256 .f32) (l : Fin 256)

/-- A short block of sums: a row of the first list added to the head of the second, the tail struck out. -/
def strip (a : FVec Ideal S1x256 .f32) (w : BitVec 32) : FVec Ideal S8x256 .f32 :=
  select (cmpf .olt (k0_pay117 (F := Ideal)) (broadcast S8x256 (Scalar.ofBits .f32 w))) (addf (broadcastTo S8x256 a broadcasts_S1x256_S8x256) (k0_pay136 B))
    (broadcast S8x256 (Scalar.ofBits .f32 0xFF800000#32))

theorem strip_at (a : FVec Ideal S1x256 .f32) (w : BitVec 32) (k : ℕ) (hw : Ideal.ofBits .f32 w = ((k : ℝ) : EReal)) (p : Fin 8) :
    strip B a w (ix2 p l) = if p.val < k then a (ix2 0 l) + B (ix2 ⟨0 + p.val, by have := p.isLt; omega⟩ l) else ⊥ := by
  pointwise [strip, k0_pay136]
  rw [pay117_at, hw, ninf]
  simp only [own_lt_lit]

/-- A short block of carried numbers. -/
def carry (a : FVec Ideal S1x256 .f32) : FVec Ideal S8x256 .f32 :=
  addf (broadcastTo S8x256 (mulf a (broadcast S1x256 (Scalar.ofBits .f32 0x43000000#32))) broadcasts_S1x256_S8x256) (k0_pay136 B)

theorem carry_at (a : FVec Ideal S1x256 .f32) (p : Fin 8) :
    carry B a (ix2 p l) = a (ix2 0 l) * (((128 : ℕ) : ℝ) : EReal) + B (ix2 ⟨0 + p.val, by have := p.isLt; omega⟩ l) := by
  pointwise [carry, k0_pay136]
  rw [lit_128]

/-- A short block of places. -/
def spot (w : BitVec 32) : FVec Ideal S8x256 .f32 := addf (broadcast S8x256 (Scalar.ofBits .f32 w)) k0_pay117

theorem spot_at (w : BitVec 32) (k : ℕ) (hw : Ideal.ofBits .f32 w = ((k : ℝ) : EReal)) (p : Fin 8) : spot w (ix2 p l) = ((k : ℝ) : EReal) + own p := by
  pointwise [spot]
  rw [pay117_at, hw]

theorem slice_1 : extractStridedSlice S1x256 ![1, 0] A slices_S16x256_o1_0_S1x256 (ix2 0 l) = A (ix2 1 l) := by
  pointwise

theorem slice_2 : extractStridedSlice S1x256 ![2, 0] A slices_S16x256_o2_0_S1x256 (ix2 0 l) = A (ix2 2 l) := by
  pointwise

theorem slice_3 : extractStridedSlice S1x256 ![3, 0] A slices_S16x256_o3_0_S1x256 (ix2 0 l) = A (ix2 3 l) := by
  pointwise

theorem slice_4 : extractStridedSlice S1x256 ![4, 0] A slices_S16x256_o4_0_S1x256 (ix2 0 l) = A (ix2 4 l) := by
  pointwise

theorem slice_5 : extractStridedSlice S1x256 ![5, 0] A slices_S16x256_o5_0_S1x256 (ix2 0 l) = A (ix2 5 l) := by
  pointwise

theorem slice_6 : extractStridedSlice S1x256 ![6, 0] A slices_S16x256_o6_0_S1x256 (ix2 0 l) = A (ix2 6 l) := by
  pointwise

theorem slice_7 : extractStridedSlice S1x256 ![7, 0] A slices_S16x256_o7_0_S1x256 (ix2 0 l) = A (ix2 7 l) := by
  pointwise

/-- The last block. -/
def tailS : FVec Ideal S8x256 .f32 := addf (extractStridedSlice S8x256 ![8, 0] A slices_S16x256_o8_0_S8x256)
  (broadcastTo S8x256 (extractStridedSlice S1x256 ![0, 0] B slices_S16x256_o0_0_S1x256) broadcasts_S1x256_S8x256)
def tailE : FVec Ideal S8x256 .f32 := addf (mulf (extractStridedSlice S8x256 ![8, 0] A slices_S16x256_o8_0_S8x256) (broadcast S8x256 (Scalar.ofBits .f32 0x43000000#32)))
  (broadcastTo S8x256 (extractStridedSlice S1x256 ![0, 0] B slices_S16x256_o0_0_S1x256) broadcasts_S1x256_S8x256)
def tailP : FVec Ideal S8x256 .f32 := mulf (spot 0x41000000#32) (broadcast S8x256 (Scalar.ofBits .f32 0x41800000#32))

theorem candS_eq : candS A B = stack (firstS A B) (strip B (extractStridedSlice S1x256 ![1, 0] A slices_S16x256_o1_0_S1x256) 0x41000000#32) (strip B (extractStridedSlice S1x256 ![2, 0] A slices_S16x256_o2_0_S1x256) 0x40A00000#32) (strip B (extractStridedSlice S1x256 ![3, 0] A slices_S16x256_o3_0_S1x256) 0x40800000#32) (strip B (extractStridedSlice S1x256 ![4, 0] A slices_S16x256_o4_0_S1x256) 0x40400000#32) (strip B (extractStridedSlice S1x256 ![5, 0] A slices_S16x256_o5_0_S1x256) 0x40000000#32) (strip B (extractStridedSlice S1x256 ![6, 0] A slices_S16x256_o6_0_S1x256) 0x40000000#32) (strip B (extractStridedSlice S1x256 ![7, 0] A slices_S16x256_o7_0_S1x256) 0x40000000#32) (tailS A B) := rfl

theorem candE_eq : candE A B = stack (firstE A B) (carry B (extractStridedSlice S1x256 ![1, 0] A slices_S16x256_o1_0_S1x256)) (carry B (extractStridedSlice S1x256 ![2, 0] A slices_S16x256_o2_0_S1x256)) (carry B (extractStridedSlice S1x256 ![3, 0] A slices_S16x256_o3_0_S1x256)) (carry B (extractStridedSlice S1x256 ![4, 0] A slices_S16x256_o4_0_S1x256)) (carry B (extractStridedSlice S1x256 ![5, 0] A slices_S16x256_o5_0_S1x256)) (carry B (extractStridedSlice S1x256 ![6, 0] A slices_S16x256_o6_0_S1x256)) (carry B (extractStridedSlice S1x256 ![7, 0] A slices_S16x256_o7_0_S1x256)) (tailE A B) := rfl

theorem candP_eq : candP = stack k0_pay114 (spot 0x41800000#32) (spot 0x42000000#32) (spot 0x42400000#32) (spot 0x42800000#32) (spot 0x42A00000#32) (spot 0x42C00000#32) (spot 0x42E00000#32) tailP := rfl

theorem candS_0 (p : Fin 16) : candS A B (ix2 ⟨0 + p.val, row_of (by decide) p⟩ l) = A (ix2 0 l) + B (ix2 p l) := by
  rw [candS_eq, stack_0]
  pointwise [firstS]

theorem candE_0 (p : Fin 16) : candE A B (ix2 ⟨0 + p.val, row_of (by decide) p⟩ l) = A (ix2 0 l) * (((128 : ℕ) : ℝ) : EReal) + B (ix2 p l) := by
  rw [candE_eq, stack_0]
  pointwise [firstE]
  rw [lit_128]

theorem candP_0 (p : Fin 16) : candP (ix2 ⟨0 + p.val, row_of (by decide) p⟩ l) = own p := by
  rw [candP_eq, stack_0]
  exact pay114_at l p

theorem candS_1 (p : Fin 8) : candS A B (ix2 ⟨16 + p.val, row_of (by decide) p⟩ l)
    = if p.val < 8 then A (ix2 1 l) + B (ix2 ⟨0 + p.val, by have := p.isLt; omega⟩ l) else ⊥ := by
  rw [candS_eq, stack_1, strip_at B l _ _ 8 lit_8, slice_1]

theorem candE_1 (p : Fin 8) : candE A B (ix2 ⟨16 + p.val, row_of (by decide) p⟩ l)
    = A (ix2 1 l) * (((128 : ℕ) : ℝ) : EReal) + B (ix2 ⟨0 + p.val, by have := p.isLt; omega⟩ l) := by
  rw [candE_eq, stack_1, carry_at, slice_1]

theorem candP_1 (p : Fin 8) : candP (ix2 ⟨16 + p.val, row_of (by decide) p⟩ l) = ((((16 : ℕ) : ℝ) : EReal)) + own p := by
  rw [candP_eq, stack_1, spot_at l _ 16 lit_16]

theorem candS_2 (p : Fin 8) : candS A B (ix2 ⟨24 + p.val, row_of (by decide) p⟩ l)
    = if p.val < 5 then A (ix2 2 l) + B (ix2 ⟨0 + p.val, by have := p.isLt; omega⟩ l) else ⊥ := by
  rw [candS_eq, stack_2, strip_at B l _ _ 5 lit_5, slice_2]

theorem candE_2 (p : Fin 8) : candE A B (ix2 ⟨24 + p.val, row_of (by decide) p⟩ l)
    = A (ix2 2 l) * (((128 : ℕ) : ℝ) : EReal) + B (ix2 ⟨0 + p.val, by have := p.isLt; omega⟩ l) := by
  rw [candE_eq, stack_2, carry_at, slice_2]

theorem candP_2 (p : Fin 8) : candP (ix2 ⟨24 + p.val, row_of (by decide) p⟩ l) = ((((32 : ℕ) : ℝ) : EReal)) + own p := by
  rw [candP_eq, stack_2, spot_at l _ 32 lit_32]

theorem candS_3 (p : Fin 8) : candS A B (ix2 ⟨32 + p.val, row_of (by decide) p⟩ l)
    = if p.val < 4 then A (ix2 3 l) + B (ix2 ⟨0 + p.val, by have := p.isLt; omega⟩ l) else ⊥ := by
  rw [candS_eq, stack_3, strip_at B l _ _ 4 lit_4, slice_3]

theorem candE_3 (p : Fin 8) : candE A B (ix2 ⟨32 + p.val, row_of (by decide) p⟩ l)
    = A (ix2 3 l) * (((128 : ℕ) : ℝ) : EReal) + B (ix2 ⟨0 + p.val, by have := p.isLt; omega⟩ l) := by
  rw [candE_eq, stack_3, carry_at, slice_3]

theorem candP_3 (p : Fin 8) : candP (ix2 ⟨32 + p.val, row_of (by decide) p⟩ l) = ((((48 : ℕ) : ℝ) : EReal)) + own p := by
  rw [candP_eq, stack_3, spot_at l _ 48 lit_48]

theorem candS_4 (p : Fin 8) : candS A B (ix2 ⟨40 + p.val, row_of (by decide) p⟩ l)
    = if p.val < 3 then A (ix2 4 l) + B (ix2 ⟨0 + p.val, by have := p.isLt; omega⟩ l) else ⊥ := by
  rw [candS_eq, stack_4, strip_at B l _ _ 3 lit_3, slice_4]

theorem candE_4 (p : Fin 8) : candE A B (ix2 ⟨40 + p.val, row_of (by decide) p⟩ l)
    = A (ix2 4 l) * (((128 : ℕ) : ℝ) : EReal) + B (ix2 ⟨0 + p.val, by have := p.isLt; omega⟩ l) := by
  rw [candE_eq, stack_4, carry_at, slice_4]

theorem candP_4 (p : Fin 8) : candP (ix2 ⟨40 + p.val, row_of (by decide) p⟩ l) = ((((64 : ℕ) : ℝ) : EReal)) + own p := by
  rw [candP_eq, stack_4, spot_at l _ 64 lit_64]

theorem candS_5 (p : Fin 8) : candS A B (ix2 ⟨48 + p.val, row_of (by decide) p⟩ l)
    = if p.val < 2 then A (ix2 5 l) + B (ix2 ⟨0 + p.val, by have := p.isLt; omega⟩ l) else ⊥ := by
  rw [candS_eq, stack_5, strip_at B l _ _ 2 lit_2, slice_5]

theorem candE_5 (p : Fin 8) : candE A B (ix2 ⟨48 + p.val, row_of (by decide) p⟩ l)
    = A (ix2 5 l) * (((128 : ℕ) : ℝ) : EReal) + B (ix2 ⟨0 + p.val, by have := p.isLt; omega⟩ l) := by
  rw [candE_eq, stack_5, carry_at, slice_5]

theorem candP_5 (p : Fin 8) : candP (ix2 ⟨48 + p.val, row_of (by decide) p⟩ l) = ((((80 : ℕ) : ℝ) : EReal)) + own p := by
  rw [candP_eq, stack_5, spot_at l _ 80 lit_80]

theorem candS_6 (p : Fin 8) : candS A B (ix2 ⟨56 + p.val, row_of (by decide) p⟩ l)
    = if p.val < 2 then A (ix2 6 l) + B (ix2 ⟨0 + p.val, by have := p.isLt; omega⟩ l) else ⊥ := by
  rw [candS_eq, stack_6, strip_at B l _ _ 2 lit_2, slice_6]

theorem candE_6 (p : Fin 8) : candE A B (ix2 ⟨56 + p.val, row_of (by decide) p⟩ l)
    = A (ix2 6 l) * (((128 : ℕ) : ℝ) : EReal) + B (ix2 ⟨0 + p.val, by have := p.isLt; omega⟩ l) := by
  rw [candE_eq, stack_6, carry_at, slice_6]

theorem candP_6 (p : Fin 8) : candP (ix2 ⟨56 + p.val, row_of (by decide) p⟩ l) = ((((96 : ℕ) : ℝ) : EReal)) + own p := by
  rw [candP_eq, stack_6, spot_at l _ 96 lit_96]

theorem candS_7 (p : Fin 8) : candS A B (ix2 ⟨64 + p.val, row_of (by decide) p⟩ l)
    = if p.val < 2 then A (ix2 7 l) + B (ix2 ⟨0 + p.val, by have := p.isLt; omega⟩ l) else ⊥ := by
  rw [candS_eq, stack_7, strip_at B l _ _ 2 lit_2, slice_7]

theorem candE_7 (p : Fin 8) : candE A B (ix2 ⟨64 + p.val, row_of (by decide) p⟩ l)
    = A (ix2 7 l) * (((128 : ℕ) : ℝ) : EReal) + B (ix2 ⟨0 + p.val, by have := p.isLt; omega⟩ l) := by
  rw [candE_eq, stack_7, carry_at, slice_7]

theorem candP_7 (p : Fin 8) : candP (ix2 ⟨64 + p.val, row_of (by decide) p⟩ l) = ((((112 : ℕ) : ℝ) : EReal)) + own p := by
  rw [candP_eq, stack_7, spot_at l _ 112 lit_112]

theorem candS_8 (p : Fin 8) : candS A B (ix2 ⟨72 + p.val, row_of (by decide) p⟩ l) = A (ix2 ⟨8 + p.val, by have := p.isLt; omega⟩ l) + B (ix2 0 l) := by
  rw [candS_eq, stack_8]
  pointwise [tailS]

theorem candE_8 (p : Fin 8) : candE A B (ix2 ⟨72 + p.val, row_of (by decide) p⟩ l)
    = A (ix2 ⟨8 + p.val, by have := p.isLt; omega⟩ l) * (((128 : ℕ) : ℝ) : EReal) + B (ix2 0 l) := by
  rw [candE_eq, stack_8]
  pointwise [tailE]
  rw [lit_128]

theorem candP_8 (p : Fin 8) : candP (ix2 ⟨72 + p.val, row_of (by decide) p⟩ l) = ((((8 : ℕ) : ℝ) : EReal) + own p) * (((16 : ℕ) : ℝ) : EReal) := by
  rw [candP_eq, stack_8]
  pointwise [tailP]
  rw [spot_at l _ 8 lit_8, lit_16]

end

/-! ## All the rows -/

/-- A row is in the first block, in one of the seven short ones or in the last. -/
theorem by_block {P : Fin 80 → Prop} (h0 : ∀ p : Fin 16, P ⟨0 + p.val, row_of (by decide) p⟩)
    (h1 : ∀ p : Fin 8, P ⟨16 + p.val, row_of (by decide) p⟩)
    (h2 : ∀ p : Fin 8, P ⟨24 + p.val, row_of (by decide) p⟩)
    (h3 : ∀ p : Fin 8, P ⟨32 + p.val, row_of (by decide) p⟩)
    (h4 : ∀ p : Fin 8, P ⟨40 + p.val, row_of (by decide) p⟩)
    (h5 : ∀ p : Fin 8, P ⟨48 + p.val, row_of (by decide) p⟩)
    (h6 : ∀ p : Fin 8, P ⟨56 + p.val, row_of (by decide) p⟩)
    (h7 : ∀ p : Fin 8, P ⟨64 + p.val, row_of (by decide) p⟩)
    (h8 : ∀ p : Fin 8, P ⟨72 + p.val, row_of (by decide) p⟩) (r : Fin 80) : P r := by
  have hr := r.isLt
  by_cases c0 : r.val < 16
  · have := h0 ⟨r.val, c0⟩
    rwa [show (⟨0 + r.val, by omega⟩ : Fin 80) = r from Fin.ext (Nat.zero_add _)] at this
  by_cases c1 : r.val < 24
  · have := h1 ⟨r.val - 16, by omega⟩
    rwa [show (⟨16 + (r.val - 16), by omega⟩ : Fin 80) = r from Fin.ext (by dsimp only; omega)] at this
  by_cases c2 : r.val < 32
  · have := h2 ⟨r.val - 24, by omega⟩
    rwa [show (⟨24 + (r.val - 24), by omega⟩ : Fin 80) = r from Fin.ext (by dsimp only; omega)] at this
  by_cases c3 : r.val < 40
  · have := h3 ⟨r.val - 32, by omega⟩
    rwa [show (⟨32 + (r.val - 32), by omega⟩ : Fin 80) = r from Fin.ext (by dsimp only; omega)] at this
  by_cases c4 : r.val < 48
  · have := h4 ⟨r.val - 40, by omega⟩
    rwa [show (⟨40 + (r.val - 40), by omega⟩ : Fin 80) = r from Fin.ext (by dsimp only; omega)] at this
  by_cases c5 : r.val < 56
  · have := h5 ⟨r.val - 48, by omega⟩
    rwa [show (⟨48 + (r.val - 48), by omega⟩ : Fin 80) = r from Fin.ext (by dsimp only; omega)] at this
  by_cases c6 : r.val < 64
  · have := h6 ⟨r.val - 56, by omega⟩
    rwa [show (⟨56 + (r.val - 56), by omega⟩ : Fin 80) = r from Fin.ext (by dsimp only; omega)] at this
  by_cases c7 : r.val < 72
  · have := h7 ⟨r.val - 64, by omega⟩
    rwa [show (⟨64 + (r.val - 64), by omega⟩ : Fin 80) = r from Fin.ext (by dsimp only; omega)] at this
  · have := h8 ⟨r.val - 72, by omega⟩
    rwa [show (⟨72 + (r.val - 72), by omega⟩ : Fin 80) = r from Fin.ext (by dsimp only; omega)] at this

theorem rowSum_live {a b : Fin 16 → EReal} {r : Fin 80} (hl : live r.val = true) (i j : Fin 16) (hp : place r.val = i.val * 16 + j.val) :
    rowSum a b r = a i + b j := by
  have hi := i.isLt
  have hj := j.isLt
  unfold rowSum table
  rw [if_pos hl]
  congr 2
  · exact Fin.ext (by dsimp only; omega)
  · exact Fin.ext (by dsimp only; omega)

theorem rowSum_dead {a b : Fin 16 → EReal} {r : Fin 80} (hl : live r.val = false) : rowSum a b r = ⊥ := by
  unfold rowSum
  rw [if_neg (by rw [hl]; decide)]

/-- What a row carries. -/
def rowNum (a b : Fin 16 → EReal) (r : Fin 80) : EReal :=
  a ⟨place r.val / 16, by have := place_lt r; omega⟩ * (((128 : ℕ) : ℝ) : EReal) + b ⟨place r.val % 16, Nat.mod_lt _ (by decide)⟩

theorem rowNum_eq {a b : Fin 16 → EReal} {r : Fin 80} (i j : Fin 16) (hp : place r.val = i.val * 16 + j.val) :
    rowNum a b r = a i * (((128 : ℕ) : ℝ) : EReal) + b j := by
  have hi := i.isLt
  have hj := j.isLt
  unfold rowNum
  congr 2
  · congr 1
    exact Fin.ext (by dsimp only; omega)
  · exact Fin.ext (by dsimp only; omega)

theorem rowPlace_eq {r : Fin 80} (n : ℕ) (h : place r.val = n) : rowPlace r = ((n : ℝ) : EReal) := by
  unfold rowPlace own
  exact congrArg (fun k : ℕ => ((k : ℝ) : EReal)) h

theorem live_0 : ∀ p : Fin 16, live (0 + p.val) = true ∧ place (0 + p.val) = (0 : Fin 16).val * 16 + p.val := by decide +kernel
theorem live_1 : ∀ p : Fin 8, live (16 + p.val) = decide (p.val < 8) ∧ place (16 + p.val) = (1 : Fin 16).val * 16 + (0 + p.val) := by decide +kernel
theorem live_2 : ∀ p : Fin 8, live (24 + p.val) = decide (p.val < 5) ∧ place (24 + p.val) = (2 : Fin 16).val * 16 + (0 + p.val) := by decide +kernel
theorem live_3 : ∀ p : Fin 8, live (32 + p.val) = decide (p.val < 4) ∧ place (32 + p.val) = (3 : Fin 16).val * 16 + (0 + p.val) := by decide +kernel
theorem live_4 : ∀ p : Fin 8, live (40 + p.val) = decide (p.val < 3) ∧ place (40 + p.val) = (4 : Fin 16).val * 16 + (0 + p.val) := by decide +kernel
theorem live_5 : ∀ p : Fin 8, live (48 + p.val) = decide (p.val < 2) ∧ place (48 + p.val) = (5 : Fin 16).val * 16 + (0 + p.val) := by decide +kernel
theorem live_6 : ∀ p : Fin 8, live (56 + p.val) = decide (p.val < 2) ∧ place (56 + p.val) = (6 : Fin 16).val * 16 + (0 + p.val) := by decide +kernel
theorem live_7 : ∀ p : Fin 8, live (64 + p.val) = decide (p.val < 2) ∧ place (64 + p.val) = (7 : Fin 16).val * 16 + (0 + p.val) := by decide +kernel
theorem live_8 : ∀ p : Fin 8, live (72 + p.val) = true ∧ place (72 + p.val) = (8 + p.val) * 16 + (0 : Fin 16).val := by decide +kernel

section

variable (A B : FVec Ideal S16x256 .f32) (l : Fin 256)

theorem candS_at : ∀ r : Fin 80, candS A B (ix2 r l) = rowSum (fun i => A (ix2 i l)) (fun i => B (ix2 i l)) r := by
  refine by_block (P := fun r => candS A B (ix2 r l) = rowSum (fun i => A (ix2 i l)) (fun i => B (ix2 i l)) r) ?_ ?_ ?_ ?_ ?_ ?_ ?_ ?_ ?_
  · intro p
    rw [candS_0, rowSum_live (live_0 p).1 0 p (live_0 p).2]
  · intro p
    rw [candS_1]
    by_cases h : p.val < 8
    · rw [if_pos h, rowSum_live ((live_1 p).1.trans (decide_eq_true h)) 1 ⟨0 + p.val, by have := p.isLt; omega⟩ (live_1 p).2]
    · rw [if_neg h, rowSum_dead ((live_1 p).1.trans (decide_eq_false h))]
  · intro p
    rw [candS_2]
    by_cases h : p.val < 5
    · rw [if_pos h, rowSum_live ((live_2 p).1.trans (decide_eq_true h)) 2 ⟨0 + p.val, by have := p.isLt; omega⟩ (live_2 p).2]
    · rw [if_neg h, rowSum_dead ((live_2 p).1.trans (decide_eq_false h))]
  · intro p
    rw [candS_3]
    by_cases h : p.val < 4
    · rw [if_pos h, rowSum_live ((live_3 p).1.trans (decide_eq_true h)) 3 ⟨0 + p.val, by have := p.isLt; omega⟩ (live_3 p).2]
    · rw [if_neg h, rowSum_dead ((live_3 p).1.trans (decide_eq_false h))]
  · intro p
    rw [candS_4]
    by_cases h : p.val < 3
    · rw [if_pos h, rowSum_live ((live_4 p).1.trans (decide_eq_true h)) 4 ⟨0 + p.val, by have := p.isLt; omega⟩ (live_4 p).2]
    · rw [if_neg h, rowSum_dead ((live_4 p).1.trans (decide_eq_false h))]
  · intro p
    rw [candS_5]
    by_cases h : p.val < 2
    · rw [if_pos h, rowSum_live ((live_5 p).1.trans (decide_eq_true h)) 5 ⟨0 + p.val, by have := p.isLt; omega⟩ (live_5 p).2]
    · rw [if_neg h, rowSum_dead ((live_5 p).1.trans (decide_eq_false h))]
  · intro p
    rw [candS_6]
    by_cases h : p.val < 2
    · rw [if_pos h, rowSum_live ((live_6 p).1.trans (decide_eq_true h)) 6 ⟨0 + p.val, by have := p.isLt; omega⟩ (live_6 p).2]
    · rw [if_neg h, rowSum_dead ((live_6 p).1.trans (decide_eq_false h))]
  · intro p
    rw [candS_7]
    by_cases h : p.val < 2
    · rw [if_pos h, rowSum_live ((live_7 p).1.trans (decide_eq_true h)) 7 ⟨0 + p.val, by have := p.isLt; omega⟩ (live_7 p).2]
    · rw [if_neg h, rowSum_dead ((live_7 p).1.trans (decide_eq_false h))]
  · intro p
    rw [candS_8, rowSum_live (live_8 p).1 ⟨8 + p.val, by have := p.isLt; omega⟩ 0 (live_8 p).2]

theorem candE_at : ∀ r : Fin 80, candE A B (ix2 r l) = rowNum (fun i => A (ix2 i l)) (fun i => B (ix2 i l)) r := by
  refine by_block (P := fun r => candE A B (ix2 r l) = rowNum (fun i => A (ix2 i l)) (fun i => B (ix2 i l)) r) ?_ ?_ ?_ ?_ ?_ ?_ ?_ ?_ ?_
  · intro p
    rw [candE_0, rowNum_eq 0 p (live_0 p).2]
  · intro p
    rw [candE_1, rowNum_eq 1 ⟨0 + p.val, by have := p.isLt; omega⟩ (live_1 p).2]
  · intro p
    rw [candE_2, rowNum_eq 2 ⟨0 + p.val, by have := p.isLt; omega⟩ (live_2 p).2]
  · intro p
    rw [candE_3, rowNum_eq 3 ⟨0 + p.val, by have := p.isLt; omega⟩ (live_3 p).2]
  · intro p
    rw [candE_4, rowNum_eq 4 ⟨0 + p.val, by have := p.isLt; omega⟩ (live_4 p).2]
  · intro p
    rw [candE_5, rowNum_eq 5 ⟨0 + p.val, by have := p.isLt; omega⟩ (live_5 p).2]
  · intro p
    rw [candE_6, rowNum_eq 6 ⟨0 + p.val, by have := p.isLt; omega⟩ (live_6 p).2]
  · intro p
    rw [candE_7, rowNum_eq 7 ⟨0 + p.val, by have := p.isLt; omega⟩ (live_7 p).2]
  · intro p
    rw [candE_8, rowNum_eq ⟨8 + p.val, by have := p.isLt; omega⟩ 0 (live_8 p).2]

theorem candP_at : ∀ r : Fin 80, candP (ix2 r l) = rowPlace r := by
  refine by_block (P := fun r => candP (ix2 r l) = rowPlace r) ?_ ?_ ?_ ?_ ?_ ?_ ?_ ?_ ?_
  · intro p
    rw [candP_0, rowPlace_eq p.val ((live_0 p).2.trans (by simp))]
    rfl
  · intro p
    rw [candP_1, rowPlace_eq (16 + p.val) ((live_1 p).2.trans (by simp))]
    unfold own
    push_cast
    rfl
  · intro p
    rw [candP_2, rowPlace_eq (32 + p.val) ((live_2 p).2.trans (by simp))]
    unfold own
    push_cast
    rfl
  · intro p
    rw [candP_3, rowPlace_eq (48 + p.val) ((live_3 p).2.trans (by simp))]
    unfold own
    push_cast
    rfl
  · intro p
    rw [candP_4, rowPlace_eq (64 + p.val) ((live_4 p).2.trans (by simp))]
    unfold own
    push_cast
    rfl
  · intro p
    rw [candP_5, rowPlace_eq (80 + p.val) ((live_5 p).2.trans (by simp))]
    unfold own
    push_cast
    rfl
  · intro p
    rw [candP_6, rowPlace_eq (96 + p.val) ((live_6 p).2.trans (by simp))]
    unfold own
    push_cast
    rfl
  · intro p
    rw [candP_7, rowPlace_eq (112 + p.val) ((live_7 p).2.trans (by simp))]
    unfold own
    push_cast
    rfl
  · intro p
    rw [candP_8, rowPlace_eq ((8 + p.val) * 16) ((live_8 p).2.trans (by simp))]
    unfold own
    push_cast
    rfl

end

end Cert.Kernel4Ideal.Peer

end
-- ==== Proof.Peer.Select.lean ====
/-
  The sixteen rows a head writes are the routing of every column.
-/
module

public import proofs.«01_k».proof.Proof.Peer.Candidates

@[expose] public section

set_option maxRecDepth 65536

noncomputable section

namespace Cert.Kernel4Ideal.Peer

open Idealize.ShloMosaic Idealize.SL.Sem Cert.Kernel4Ideal.Gen Cert.PeerRoute
open scoped BigOperators Classical

theorem gates_at (R : FVec Ideal S16x256 .f32) (l : Fin 256) (n : Fin 16) : gates R (ix2 n l)
    = Ideal.div (Ideal.exp (R (ix2 n l) - R (ix2 0 l))) (∑ n' : Fin 16, Ideal.exp (R (ix2 n' l) - R (ix2 0 l))) := by
  pointwise [gates]

/-- A column. -/
abbrev col {N : ℕ} (s : FVec Ideal ⟨2, ![N, 256]⟩ .f32) (l : Fin 256) (p : Fin N) : EReal := s (ix2 p l)

section

variable (s0 s1 : FVec Ideal S128x256 .f32) (l : Fin 256)
  (h0 : ∀ p : Fin 128, ∃ x : ℝ, s0 (ix2 p l) = (x : EReal)) (h1 : ∀ p : Fin 128, ∃ x : ℝ, s1 (ix2 p l) = (x : EReal)) (n : Fin 16)

include h0 h1

theorem sums_col (r : Fin 80) : candS (kVals k0_pay4 s0) (kVals k0_pay4 s1) (ix2 r l) = rowSum (topScore (col s0 l)) (topScore (col s1 l)) r := by
  rw [candS_at, funext fun i => kVals_at s0 l h0 i, funext fun i => kVals_at s1 l h1 i]
  rfl

theorem nums_col (r : Fin 80) (q : Fin 256) (hq : place r.val = q.val) : candE (kPicks k0_pay4 s0) (kPicks k0_pay4 s1) (ix2 r l)
    = (((expertAt (col s0 l) (col s1 l) q : ℕ) : ℝ) : EReal) := by
  rw [candE_at, funext fun i => kPicks_at s0 l h0 i, funext fun i => kPicks_at s1 l h1 i,
    rowNum_eq ⟨q.val / 16, hi_lt q⟩ ⟨q.val % 16, lo_lt q⟩ (by dsimp only; omega)]
  unfold own expertAt topKey
  push_cast
  rfl

theorem sums_at : cVals candP (candS (kVals k0_pay4 s0) (kVals k0_pay4 s1)) (ix2 n l) = bestSum (col s0 l) (col s1 l) n := by
  unfold cVals
  rw [rows_at, cMax_at, funext (cSt_at candP _ l n.val), funext (candP_at l), funext (sums_col s0 s1 l h0 h1)]
  obtain ⟨r, hp, hg, hh⟩ := row_found (col s0 l) (col s1 l) h0 h1 n
  exact hg

theorem gates_col : gates (cVals candP (candS (kVals k0_pay4 s0) (kVals k0_pay4 s1))) (ix2 n l) = gate (col s0 l) (col s1 l) n := by
  rw [gates_at, funext fun n' => congrArg Ideal.exp (congrArg₂ (· - ·) (sums_at s0 s1 l h0 h1 n') (sums_at s0 s1 l h0 h1 0)),
    sums_at s0 s1 l h0 h1 n, sums_at s0 s1 l h0 h1 0]
  rfl

theorem experts_at : cCars candP (candS (kVals k0_pay4 s0) (kVals k0_pay4 s1)) (candE (kPicks k0_pay4 s0) (kPicks k0_pay4 s1)) (ix2 n l)
    = (((expert (col s0 l) (col s1 l) n : ℕ) : ℝ) : EReal) := by
  unfold cCars
  rw [rows_at, cCar_at, funext (cSt_at candP _ l n.val), funext (candP_at l), funext (sums_col s0 s1 l h0 h1)]
  obtain ⟨r, hp, hg, hh⟩ := row_found (col s0 l) (col s1 l) h0 h1 n
  have hv := nums_col s0 s1 l h0 h1 r (bestPlace (col s0 l) (col s1 l) n) hp
  simp only [candP_at]
  rw [hh]
  refine (carried rowPlace_injective (fun p => candE (kPicks k0_pay4 s0) (kPicks k0_pay4 s1) (ix2 p l)) _ r ?_).trans hv
  rw [hv, EReal.coe_le_coe_iff]
  have : (0 : ℝ) ≤ ((expertAt (col s0 l) (col s1 l) (bestPlace (col s0 l) (col s1 l) n) : ℕ) : ℝ) := Nat.cast_nonneg _
  linarith

end

end Cert.Kernel4Ideal.Peer

end
-- ==== Proof.Peer.Tile.lean ====
/-
  What one grid point stores: the normalised tokens, and for every head the routing of its scores.
-/
module

public import proofs.«01_k».proof.Proof.Gen.Kernel4Ideal.Value
public import proofs.«01_k».proof.Proof.Norm.Spec
public import proofs.«01_k».proof.Proof.Peer.Trip
public import proofs.«01_k».proof.Proof.Peer.Select
public import Idealize.ShloMosaic.Lib.Pipeline.ValueKit
public import Idealize.ShloMosaic.Lib.Pipeline.Covers
public import Idealize.ShloMosaic.Lib.Pipeline.ReadBack
public import Idealize.ShloMosaic.Lib.WholeRead

@[expose] public section

set_option maxRecDepth 65536

noncomputable section

namespace Cert.Kernel4Ideal.Peer

open Idealize.ShloMosaic Idealize.ShloMosaic.TcCoe Idealize.SL.Sem Cert.Kernel4Ideal Cert.Kernel4Ideal.Gen Cert.PeerRoute Cert.NormProject
open scoped BigOperators

/-! ## The loop's offsets -/

theorem trips_eq : k0_t1_loop.trips = 8 := by decide +kernel
theorem off1_0 : ∀ k : Fin k0_t1_loop.trips, k0_off1 k 0#32 = ![2 * k.val + 0, 0, 0] := by decide +kernel
theorem off1_1 : ∀ k : Fin k0_t1_loop.trips, k0_off1 k 1#32 = ![2 * k.val + 1, 0, 0] := by decide +kernel
theorem off2_0 : ∀ k : Fin k0_t1_loop.trips, k0_off2 k 0#32 = ![2 * k.val + 0, 0, 0] := by decide +kernel
theorem off2_1 : ∀ k : Fin k0_t1_loop.trips, k0_off2 k 1#32 = ![2 * k.val + 1, 0, 0] := by decide +kernel
theorem off3_eq : ∀ k : Fin k0_t1_loop.trips, k0_off3 k = ![k.val * 16, 0] := by decide +kernel

theorem half_lt (k : Fin k0_t1_loop.trips) (p : Fin 2) : 2 * k.val + p.val < 16 := by
  have h := lt_of_lt_of_eq k.isLt trips_eq
  have := p.isLt
  omega

theorem slot_lt (k : Fin k0_t1_loop.trips) (n : Fin 16) : k.val * 16 + n.val < 128 := by
  have h := lt_of_lt_of_eq k.isLt trips_eq
  have := n.isLt
  omega

/-! ## The scores -/

section Scores

variable (x : Vec Ideal S256x2048 .f32) (g : Vec Ideal S1x2048 .f32)

theorem pay1_at (l : Fin 256) (a : Fin 2048) : k0_pay1 (F := Ideal) x g (ix2 l a) = normed (fun a' : Fin 2048 => x (ix2 l a')) (fun a' : Fin 2048 => g (ix2 (0 : Fin 1) a')) a := by
  pointwise [k0_pay1, normed, invRms]

theorem pay3_at (l : Fin 256) (a : Fin 2048) : k0_pay3 (F := Ideal) x g (ix2 a l) = normed (fun a' : Fin 2048 => x (ix2 l a')) (fun a' : Fin 2048 => g (ix2 (0 : Fin 1) a')) a := by
  pointwise [k0_pay3]
  exact pay1_at x g l a

theorem pay9_at (w : Vec Ideal S1x2048x128 .bf16) (q : Vec Ideal S1x128x128 .bf16) (n : Fin 128) (l : Fin 256) : k0_pay9 (F := Ideal) (k0_pay2 x g) w q (ix2 n l)
    = ∑ d : Fin 128, (q (ix3 (0 : Fin 1) n d) * ∑ a : Fin 2048, k0_pay1 (F := Ideal) x g (ix2 l a) * w (ix3 (0 : Fin 1) a d) : EReal) := by
  pointwise [k0_pay9, k0_pay2]

/-- The score of one half of one head, from a point's blocks. -/
def halfScore (B3 : Vec Ideal S16x2048x128 .bf16) (B4 : Vec Ideal S16x128x128 .bf16) (k : Fin k0_t1_loop.trips) (p : Fin 2) (l : Fin 256) : Fin 128 → EReal :=
  scoreOf (fun a => normed (fun a' : Fin 2048 => x (ix2 l a')) (fun a' : Fin 2048 => g (ix2 (0 : Fin 1) a')) a)
    (fun a d => B3 (ix3 ⟨2 * k.val + p.val, half_lt k p⟩ a d)) (fun n d => B4 (ix3 ⟨2 * k.val + p.val, half_lt k p⟩ n d))

variable (B3 : Vec Ideal S16x2048x128 .bf16) (B4 : Vec Ideal S16x128x128 .bf16)
variable (arg3 : Memref sig .tc .vmem S16x2048x128 .bf16) (harg3 : arg3.IsWhole) (arg4 : Memref sig .tc .vmem S16x128x128 .bf16) (harg4 : arg4.IsWhole)

theorem read3 (k : Fin k0_t1_loop.trips) (off : Fin 3 → ℕ) (inb) (p : Fin 2) (ho : off = ![2 * k.val + p.val, 0, 0]) (a : Fin 2048) (d : Fin 128) :
    View.readAt (Elt Ideal) arg3.view (Rect.unit (s := S16x2048x128) off S1x2048x128.size inb).toLoadRect (harg3.unread B3) (ix3 (0 : Fin 1) a d)
      = B3 (ix3 ⟨2 * k.val + p.val, half_lt k p⟩ a d) := by
  subst ho
  rw [Memref.IsWhole.readAt_unread]
  refine congrArg B3 (funext fun j => Fin.ext ?_)
  fin_cases j <;> simp [LoadRect.idx, ix3, Rect.unit]

theorem read4 (k : Fin k0_t1_loop.trips) (off : Fin 3 → ℕ) (inb) (p : Fin 2) (ho : off = ![2 * k.val + p.val, 0, 0]) (a : Fin 128) (d : Fin 128) :
    View.readAt (Elt Ideal) arg4.view (Rect.unit (s := S16x128x128) off S1x128x128.size inb).toLoadRect (harg4.unread B4) (ix3 (0 : Fin 1) a d)
      = B4 (ix3 ⟨2 * k.val + p.val, half_lt k p⟩ a d) := by
  subst ho
  rw [Memref.IsWhole.readAt_unread]
  refine congrArg B4 (funext fun j => Fin.ext ?_)
  fin_cases j <;> simp [LoadRect.idx, ix3, Rect.unit]

theorem S0_at (k : Fin k0_t1_loop.trips) (n : Fin 128) (l : Fin 256) :
    S0 arg3 arg4 x g (harg3.unread B3) (harg4.unread B4) k (ix2 n l) = halfScore x g B3 B4 k 0 l n := by
  unfold S0 halfScore scoreOf
  rw [pay9_at]
  refine Finset.sum_congr rfl fun d _ => congrArg₂ (· * ·) (read4 B4 arg4 harg4 k _ _ 0 (off2_0 k) n d) (Finset.sum_congr rfl fun a _ => ?_)
  exact congrArg₂ (· * ·) (pay1_at x g l a) (read3 B3 arg3 harg3 k _ _ 0 (off1_0 k) a d)

theorem S1_at (k : Fin k0_t1_loop.trips) (n : Fin 128) (l : Fin 256) :
    S1 arg3 arg4 x g (harg3.unread B3) (harg4.unread B4) k (ix2 n l) = halfScore x g B3 B4 k 1 l n := by
  unfold S1 halfScore scoreOf
  rw [pay9_at]
  refine Finset.sum_congr rfl fun d _ => congrArg₂ (· * ·) (read4 B4 arg4 harg4 k _ _ 1 (off2_1 k) n d) (Finset.sum_congr rfl fun a _ => ?_)
  exact congrArg₂ (· * ·) (pay1_at x g l a) (read3 B3 arg3 harg3 k _ _ 1 (off1_1 k) a d)

end Scores

/-! ## The scratch after the loop -/

section Heads

variable (L : ℕ → List (View.Piece (Elt Ideal) S128x256 .f32)) (W : Fin k0_t1_loop.trips → FVec Ideal S16x256 .f32)

theorem canon_heads (hs : ∀ k : Fin k0_t1_loop.trips, L (k.val + 1) = (⟨Rect.unit (s := S128x256) (k0_off3 k) S16x256.size (k0_off3_inb k), W k⟩ : View.Piece (Elt Ideal) S128x256 .f32) :: L k.val)
    (N : ℕ) (hN : N ≤ k0_t1_loop.trips) (k : Fin k0_t1_loop.trips) (hk : k.val < N) (n : Fin 16) (l : Fin 256) :
    View.canon (L N) (ix2 ⟨k.val * 16 + n.val, slot_lt k n⟩ l) = W k (ix2 n l) := by
  induction N with
  | zero => omega
  | succ N ih =>
    rw [hs ⟨N, hN⟩]
    by_cases he : k.val = N
    · obtain rfl : k = ⟨N, hN⟩ := Fin.ext he
      have e : (ix2 ⟨N * 16 + n.val, slot_lt ⟨N, hN⟩ n⟩ l : S128x256.Idx) = (Rect.unit (s := S128x256) (k0_off3 ⟨N, hN⟩) S16x256.size (k0_off3_inb ⟨N, hN⟩)).emb (ix2 n l) := by
        have ho := off3_eq ⟨N, hN⟩
        refine funext fun j => Fin.ext ?_
        fin_cases j
        · have h0 : k0_off3 ⟨N, hN⟩ 0 = N * 16 := congrFun ho 0
          simp [Rect.emb, ix2, Rect.unit, h0]
        · have h1 : k0_off3 ⟨N, hN⟩ 1 = 0 := congrFun ho 1
          simp [Rect.emb, ix2, Rect.unit, h1]
      exact (congrArg _ e).trans (View.canon_cons_emb _ _ _ _)
    · refine (View.canon_cons_of_not_mem _ _ fun hm => ?_).trans (ih (by omega) (by omega))
      have h := (Rect.mem_set_unit (s := S128x256) (inb := k0_off3_inb ⟨N, hN⟩) |>.1 hm) 0
      have h0 : k0_off3 ⟨N, hN⟩ 0 = N * 16 := congrFun (off3_eq ⟨N, hN⟩) 0
      rw [h0] at h
      have hn := n.isLt
      have h1 : N * 16 ≤ k.val * 16 + n.val := h.1
      omega

end Heads

/-! ## What a point stores -/

theorem toInt_nat (v : ℕ) (hv : v < 16384) : Ideal.fptosi 32 (((v : ℕ) : ℝ) : EReal) = BitVec.ofNat 32 v := by
  unfold Ideal.fptosi
  rw [Ideal.toIntClamped_coe, if_pos (Nat.cast_nonneg v), Int.floor_natCast, min_eq_right (by norm_num; omega), max_eq_right (by norm_num), BitVec.ofInt_natCast]

theorem pay7_at (v : Vec Ideal S128x256 .f32) (l : Fin 256) (j : Fin 128) : k0_pay7 (F := Ideal) v (ix2 l j) = Ideal.fptosi 32 (v (ix2 j l)) := by
  pointwise [k0_pay7]
  rfl

theorem pay8_at (v : Vec Ideal S128x256 .f32) (l : Fin 256) (j : Fin 128) : k0_pay8 (F := Ideal) v (ix2 l j) = v (ix2 j l) := by
  pointwise [k0_pay8]

variable (m : (ℓ : Loc nD τ sig) → Buf (Elt Ideal) ℓ) (c : Dev nD) (t : Fin cfg0.N)

theorem tokens_tile : (outsAt0 (F := Ideal) m c t).1 = k0_pay3 (iblk m c 0 t) (iblk m c 1 t) := by
  unfold outsAt0
  dsimp only
  frame_out

/-- The scores of a point's token. -/
abbrev ptScore (k : Fin k0_t1_loop.trips) (p : Fin 2) (l : Fin 256) : Fin 128 → EReal := halfScore (iblk m c 0 t) (iblk m c 1 t) (iblk m c 2 t) (iblk m c 3 t) k p l

theorem whole_idx (j : Fin 128) (l : Fin 256) : (Rect.unit (s := S128x256) ![0, 0] ![128, 256] inb_S128x256_S128x256_0_0).toLoadRect.idx (ix2 j l) = ix2 j l := by
  refine funext fun a => Fin.ext ?_
  fin_cases a <;> simp [LoadRect.idx, ix2, Rect.unit]

/-- What the trips before the `N`th leave in the two scratches. -/
abbrev ptPieces (N : ℕ) := pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) ((hs0_2 t).unread (iblk m c 2 t)) ((hs0_3 t).unread (iblk m c 3 t)) N

theorem pieces_experts (k : Fin k0_t1_loop.trips) : (ptPieces m c t (k.val + 1)).1
    = (⟨Rect.unit (s := S128x256) (k0_off3 k) S16x256.size (k0_off3_inb k), cCars candP (cS (ms0_2 t) (ms0_3 t) (iblk m c 0 t) (iblk m c 1 t) ((hs0_2 t).unread (iblk m c 2 t)) ((hs0_3 t).unread (iblk m c 3 t)) k)
        (cE (ms0_2 t) (ms0_3 t) (iblk m c 0 t) (iblk m c 1 t) ((hs0_2 t).unread (iblk m c 2 t)) ((hs0_3 t).unread (iblk m c 3 t)) k)⟩ : View.Piece (Elt Ideal) S128x256 .f32) :: (ptPieces m c t k.val).1 := by
  unfold ptPieces
  rw [pb_k0_t1_succ]
  unfold tripL_k0_t1
  dsimp only
  rw [trip_experts]
  rfl

theorem pieces_gates (k : Fin k0_t1_loop.trips) : (ptPieces m c t (k.val + 1)).2
    = (⟨Rect.unit (s := S128x256) (k0_off3 k) S16x256.size (k0_off3_inb k), gates (cVals candP (cS (ms0_2 t) (ms0_3 t) (iblk m c 0 t) (iblk m c 1 t) ((hs0_2 t).unread (iblk m c 2 t)) ((hs0_3 t).unread (iblk m c 3 t)) k))⟩ : View.Piece (Elt Ideal) S128x256 .f32) :: (ptPieces m c t k.val).2 := by
  unfold ptPieces
  rw [pb_k0_t1_succ]
  unfold tripL_k0_t1
  dsimp only
  rw [trip_gates]
  rfl

theorem col0 (k : Fin k0_t1_loop.trips) (l : Fin 256) : col (S0 (ms0_2 t) (ms0_3 t) (iblk m c 0 t) (iblk m c 1 t) ((hs0_2 t).unread (iblk m c 2 t)) ((hs0_3 t).unread (iblk m c 3 t)) k) l = ptScore m c t k 0 l :=
  funext fun n => S0_at (iblk m c 0 t) (iblk m c 1 t) (iblk m c 2 t) (iblk m c 3 t) (ms0_2 t) (hs0_2 t) (ms0_3 t) (hs0_3 t) k n l

theorem col1 (k : Fin k0_t1_loop.trips) (l : Fin 256) : col (S1 (ms0_2 t) (ms0_3 t) (iblk m c 0 t) (iblk m c 1 t) ((hs0_2 t).unread (iblk m c 2 t)) ((hs0_3 t).unread (iblk m c 3 t)) k) l = ptScore m c t k 1 l :=
  funext fun n => S1_at (iblk m c 0 t) (iblk m c 1 t) (iblk m c 2 t) (iblk m c 3 t) (ms0_2 t) (hs0_2 t) (ms0_3 t) (hs0_3 t) k n l

theorem trips_word : Scf.trips (0#32) (Scalar.addi 0#32 8#32) 1#32 = k0_t1_loop.trips := by decide +kernel

theorem experts_tile (k : Fin k0_t1_loop.trips) (l : Fin 256) (h0 : ∀ n, ∃ r : ℝ, ptScore m c t k 0 l n = r) (h1 : ∀ n, ∃ r : ℝ, ptScore m c t k 1 l n = r) (n : Fin 16) :
    (outsAt0 (F := Ideal) m c t).2.1 (ix2 l ⟨k.val * 16 + n.val, slot_lt k n⟩) = BitVec.ofNat 32 (expert (ptScore m c t k 0 l) (ptScore m c t k 1 l) n) := by
  unfold outsAt0
  dsimp only
  frame_out
  refine (pay7_at _ l _).trans ?_
  rw [View.readCov_eq_canon']
  refine (congrArg (Ideal.fptosi 32) ((congrArg _ (whole_idx _ l)).trans (canon_heads (fun N => (ptPieces m c t N).1) _ (pieces_experts m c t) _ (le_of_eq trips_word) k (lt_of_lt_of_eq k.isLt trips_word.symm) n l))).trans ?_
  rw [← col0 m c t k l] at h0
  rw [← col1 m c t k l] at h1
  rw [← col0 m c t k l, ← col1 m c t k l]
  exact (congrArg (Ideal.fptosi 32) (experts_at _ _ l h0 h1 n)).trans (toInt_nat _ (expertAt_lt _ _ _))

theorem gates_tile (k : Fin k0_t1_loop.trips) (l : Fin 256) (h0 : ∀ n, ∃ r : ℝ, ptScore m c t k 0 l n = r) (h1 : ∀ n, ∃ r : ℝ, ptScore m c t k 1 l n = r) (n : Fin 16) :
    (outsAt0 (F := Ideal) m c t).2.2 (ix2 l ⟨k.val * 16 + n.val, slot_lt k n⟩) = gate (ptScore m c t k 0 l) (ptScore m c t k 1 l) n := by
  unfold outsAt0
  dsimp only
  frame_out
  refine (pay8_at _ l _).trans ?_
  rw [View.readCov_eq_canon']
  refine ((congrArg _ (whole_idx _ l)).trans (canon_heads (fun N => (ptPieces m c t N).2) _ (pieces_gates m c t) _ (le_of_eq trips_word) k (lt_of_lt_of_eq k.isLt trips_word.symm) n l)).trans ?_
  rw [← col0 m c t k l] at h0
  rw [← col1 m c t k l] at h1
  rw [← col0 m c t k l, ← col1 m c t k l]
  exact gates_col _ _ l h0 h1 n

end Cert.Kernel4Ideal.Peer

end
-- ==== Proof.Peer.Host.lean ====
/-
  The routing kernel's prepared arguments at an index over the extended reals: the tokens as rows, the gains, the
  query weights a half at a time and the keys a half at a time.
-/
module

public import proofs.«01_k».proof.Proof.Norm.Spec
public import proofs.«01_k».proof.Proof.Gen.Kernel4Ideal.Value
public import Idealize.ShloMosaic.Lib.Tactic
public import Idealize.ShloMosaic.Lib.WordCmp

@[expose] public section

set_option maxRecDepth 16384

noncomputable section

namespace Cert.Kernel4Ideal.Peer

open Cert.Kernel4Ideal Cert.Kernel4Ideal.Gen Cert.NormProject
open Idealize.ShloMosaic Idealize.ShloMosaic.TcCoe
open scoped BigOperators

variable (m : (ℓ : Loc nD τ sig) → Buf (Elt Ideal) ℓ) (c : Dev nD)

/-- The arguments. -/
abbrev argX : FVec Ideal S8x4096x2048 .f32 := m ((c : Thread nD τ).loc main_arg0)
abbrev argG : FVec Ideal S1x2048 .f32 := m ((c : Thread nD τ).loc main_arg1)
abbrev argW : FVec Ideal S1x2048x2048 .f32 := m ((c : Thread nD τ).loc main_arg2)
abbrev argK : FVec Ideal S1x8x2x128x128 .f32 := m ((c : Thread nD τ).loc main_arg3)

theorem V0_eq : V m c main_v0 = shapeCast _ (argX m c) shapeCasts_S8x4096x2048_S32768x2048 := by
  unfold V; simp only [hostOps0]; entry_read; rfl

theorem V9_eq : V m c main_v9 = shapeCast _ (shapeCast _ (argG m c) shapeCasts_S1x2048_S2048) shapeCasts_S2048_S1x2048 := by
  unfold V; simp only [hostOps0]; entry_read; rfl

theorem V6_eq : V m c main_v6 = truncf .bf16 (transpose S16x2048x128 [1, 0, 2] (shapeCast _ (shapeCast _ (argW m c) shapeCasts_S1x2048x2048_S2048x2048) shapeCasts_S2048x2048_S2048x16x128) transposes_S2048x16x128_S16x2048x128_1_0_2) bitsLt_bf16_f32 := by
  unfold V; simp only [hostOps0]; entry_read; rfl

theorem V8_eq : V m c main_v8 = truncf .bf16 (shapeCast _ (shapeCast _ (argK m c) shapeCasts_S1x8x2x128x128_S8x2x128x128) shapeCasts_S8x2x128x128_S16x128x128) bitsLt_bf16_f32 := by
  unfold V; simp only [hostOps0]; entry_read; rfl

theorem half16 (h : Fin 8) (p : Fin 2) : h.val * 2 + p.val < 16 := by have := h.isLt; have := p.isLt; omega
theorem col2048 (h : Fin 8) (p : Fin 2) (d : Fin 128) : (h.val * 2 + p.val) * 128 + d.val < 2048 := by
  have := h.isLt; have := p.isLt; have := d.isLt; omega

theorem V0_at (b : Fin 8) (s : Fin 4096) (k : Fin 2048) : (V m c main_v0 : FVec Ideal S32768x2048 .f32) (ix2 ⟨b.val * 4096 + s.val, row_lt b s⟩ k) = argX m c (ix3 b s k) := by
  rw [V0_eq]; pointwise

theorem V9_at (k : Fin 2048) : (V m c main_v9 : FVec Ideal S1x2048 .f32) (ix2 (0 : Fin 1) k) = argG m c (ix2 (0 : Fin 1) k) := by
  rw [V9_eq]; pointwise

theorem V6_at (h : Fin 8) (p : Fin 2) (a : Fin 2048) (d : Fin 128) : (V m c main_v6 : FVec Ideal S16x2048x128 .bf16) (ix3 ⟨h.val * 2 + p.val, half16 h p⟩ a d)
    = argW m c (ix3 (0 : Fin 1) a ⟨(h.val * 2 + p.val) * 128 + d.val, col2048 h p d⟩) := by
  rw [V6_eq]; pointwise

theorem V8_at (h : Fin 8) (p : Fin 2) (n : Fin 128) (d : Fin 128) : (V m c main_v8 : FVec Ideal S16x128x128 .bf16) (ix3 ⟨h.val * 2 + p.val, half16 h p⟩ n d)
    = argK m c (ix5 (0 : Fin 1) h p n d) := by
  rw [V8_eq]; pointwise

end Cert.Kernel4Ideal.Peer

end
-- ==== Proof.Peer.Reference.lean ====
/-
  The routing reference read at an index over the extended reals: its steps named, then each step at a token, a head
  and a rank.
-/
module

public import proofs.«01_k».proof.Proof.Norm.Spec
public import proofs.«01_k».proof.Proof.Peer.Spec
public import proofs.«01_k».proof.Proof.Gen.Reference4Ideal.Run
public import Idealize.ShloMosaic.Lib.Tactic
public import Idealize.ShloMosaic.Lib.WordCmp

@[expose] public section

set_option maxRecDepth 16384

noncomputable section

namespace Cert.Reference4Ideal.Peer

open Cert.Reference4Ideal Cert.Reference4Ideal.Gen Cert.NormProject Cert.PeerRoute
open Idealize.ShloMosaic
open scoped BigOperators

/-! ## The reference's steps, named -/

section Steps

variable (X : FVec Ideal S8x4096x2048 .f32) (G : FVec Ideal S1x2048 .f32) (W : FVec Ideal S1x2048x2048 .f32) (K : FVec Ideal S1x8x2x128x128 .f32)

/-- The normalised tokens. -/
def rows : FVec Ideal S32768x2048 .f32 :=
  (shapeCast _ (mulf (mulf X (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf X X) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 (shapeCast _ G shapeCasts_S1x2048_S2048)))) shapeCasts_S8x4096x2048_S32768x2048)
/-- The scores of the keys. -/
def scores : FVec Ideal S32768x8x2x128 .f32 :=
  (transpose S32768x8x2x128 [3, 0, 1, 2] (Host.dotGeneral dot_S8x2x128x128_S32768x8x2x128_S8x2x128x32768_3_3_2_0_01_12 none (shapeCast _ K shapeCasts_S1x8x2x128x128_S8x2x128x128) (shapeCast _ (Host.dotGeneral dot_S32768x2048_S2048x2048_S32768x2048_1_0_0_1_n_n none (rows X G) (shapeCast _ W shapeCasts_S1x2048x2048_S2048x2048)) shapeCasts_S32768x2048_S32768x8x2x128)) transposes_S8x2x128x32768_S32768x8x2x128_3_0_1_2)
/-- The best keys of each half. -/
def tops (T : FVec Ideal S32768x8x2x128 .f32) : FVec Ideal S32768x8x2x16 .f32 × IVec S32768x8x2x16 32 :=
  Host.topK S32768x8x2x16 3 (FloatOps.cmpfTotal (F := Ideal) (φ := .f32) .gt) T sliceFits_S32768x8x2x128_S32768x8x2x16
/-- The sums of the two halves' best scores, -/
def pairs (V : FVec Ideal S32768x8x2x16 .f32) : FVec Ideal S32768x8x256 .f32 :=
  (shapeCast _ (addf (broadcastInDim S32768x8x16x16 ![0, 1, 2, 3] bcast_S32768x8x16x1_S32768x8x16x16_0_1_2_3 (broadcastInDim S32768x8x16x1 ![0, 1, 2] bcast_S32768x8x16_S32768x8x16x1_0_1_2 (shapeCast _ (extractStridedSlice S32768x8x1x16 ![0, 0, 0, 0] V slices_S32768x8x2x16_S32768x8x1x16_0_0_0_0) shapeCasts_S32768x8x1x16_S32768x8x16))) (broadcastInDim S32768x8x16x16 ![0, 1, 2, 3] bcast_S32768x8x1x16_S32768x8x16x16_0_1_2_3 (broadcastInDim S32768x8x1x16 ![0, 1, 3] bcast_S32768x8x16_S32768x8x1x16_0_1_3 (shapeCast _ (extractStridedSlice S32768x8x1x16 ![0, 0, 1, 0] V slices_S32768x8x2x16_S32768x8x1x16_0_0_1_0) shapeCasts_S32768x8x1x16_S32768x8x16)))) shapeCasts_S32768x8x16x16_S32768x8x256)
/-- and the experts they name. -/
def names (I : IVec S32768x8x2x16 32) : IVec S32768x8x256 32 :=
  (shapeCast _ (addi (broadcastInDim S32768x8x16x16 ![0, 1, 2, 3] bcast_S32768x8x16x1_S32768x8x16x16_0_1_2_3 (muli (broadcastInDim S32768x8x16x1 ![0, 1, 2] bcast_S32768x8x16_S32768x8x16x1_0_1_2 (shapeCast _ (extractStridedSlice S32768x8x1x16 ![0, 0, 0, 0] I slices_S32768x8x2x16_S32768x8x1x16_0_0_0_0) shapeCasts_S32768x8x1x16_S32768x8x16)) (broadcastInDim S32768x8x16x1 ![] bcast_S_S32768x8x16x1 (constantI S_ 32 128#32)))) (broadcastInDim S32768x8x16x16 ![0, 1, 2, 3] bcast_S32768x8x1x16_S32768x8x16x16_0_1_2_3 (broadcastInDim S32768x8x1x16 ![0, 1, 3] bcast_S32768x8x16_S32768x8x1x16_0_1_3 (shapeCast _ (extractStridedSlice S32768x8x1x16 ![0, 0, 1, 0] I slices_S32768x8x2x16_S32768x8x1x16_0_0_1_0) shapeCasts_S32768x8x1x16_S32768x8x16)))) shapeCasts_S32768x8x16x16_S32768x8x256)
/-- The best sums. -/
def best (P : FVec Ideal S32768x8x256 .f32) : FVec Ideal S32768x8x16 .f32 × IVec S32768x8x16 32 :=
  Host.topK S32768x8x16 2 (FloatOps.cmpfTotal (F := Ideal) (φ := .f32) .gt) P sliceFits_S32768x8x256_S32768x8x16
/-- The places, counted from the end where negative, -/
def wrapped (J : IVec S32768x8x16 32) : IVec S32768x8x16x1 32 :=
  (shapeCast _ (select (cmpi .slt J (broadcastInDim S32768x8x16 ![] bcast_S_S32768x8x16 (constantI S_ 32 0#32))) (addi J (broadcastInDim S32768x8x16 ![] bcast_S_S32768x8x16 (constantI S_ 32 256#32))) J) shapeCasts_S32768x8x16_S32768x8x16x1)
/-- whether each lies in the table, -/
def inside (J : IVec S32768x8x16 32) : IVec S32768x8x16 1 :=
  (Host.reduce IntOp.andi (andi (cmpi .sge (wrapped J) (broadcastInDim S32768x8x16x1 ![] bcast_S_S32768x8x16x1 (constantI S_ 32 0#32))) (cmpi .sle (wrapped J) (broadcastInDim S32768x8x16x1 ![0, 1, 2, 3] bcast_S1x1x1x1_S32768x8x16x1_0_1_2_3 (broadcastInDim S1x1x1x1 ![3] bcast_S1_S1x1x1x1_3 (constantI S1 32 255#32))))) (constantI S_ 1 1#1) reducesTo_S32768x8x16x1_S32768x8x16_d3 h_S_)
/-- and the experts at the places. -/
def taken (E : IVec S32768x8x256 32) (J : IVec S32768x8x16 32) : IVec S32768x8x16 32 :=
  select (inside J) (Host.gather gather_S32768x8x256_S32768x8x16x1_S32768x8x16_n_2_01_01_2_3_111 E (wrapped J)) (broadcastInDim S32768x8x16 ![] bcast_S_S32768x8x16 (constantI S_ 32 2147483648#32))
/-- The exponentials of the best sums less the greatest, -/
def exps (B : FVec Ideal S32768x8x16 .f32) : FVec Ideal S32768x8x16 .f32 :=
  (Host.exp (subf B (broadcastInDim S32768x8x16 ![0, 1, 2] bcast_S32768x8x1_S32768x8x16_0_1_2 (broadcastInDim S32768x8x1 ![0, 1] bcast_S32768x8_S32768x8x1_0_1 (maximumf (broadcastInDim S32768x8 ![] bcast_S_S32768x8 (constant S_ .f32 0xFF800000#32)) (Host.reduce FloatOps.maximumf B (constant S_ .f32 0xFF800000#32) reducesTo_S32768x8x16_S32768x8_d2 h_S_))))))
/-- and their shares. -/
def shares (B : FVec Ideal S32768x8x16 .f32) : FVec Ideal S32768x8x16 .f32 :=
  Host.divf (exps B) (broadcastInDim S32768x8x16 ![0, 1, 2] bcast_S32768x8x1_S32768x8x16_0_1_2 (broadcastInDim S32768x8x1 ![0, 1] bcast_S32768x8_S32768x8x1_0_1 (Host.reduceAdd (exps B) (constant S_ .f32 0x00000000#32) reducesTo_S32768x8x16_S32768x8_d2 h_S_)))

/-- The three results. -/
def tokensT : FVec Ideal S2048x32768 .bf16 := truncf .bf16 (transpose S2048x32768 [1, 0] (rows X G) transposes_S32768x2048_S2048x32768_1_0) bitsLt_bf16_f32
def experts : IVec S32768x128 32 :=
  shapeCast _ (taken (names (tops (scores X G W K)).2) (best (pairs (tops (scores X G W K)).1)).2) shapeCasts_S32768x8x16_S32768x128
def gates : FVec Ideal S32768x128 .f32 :=
  shapeCast _ (shares (best (pairs (tops (scores X G W K)).1)).1) shapeCasts_S32768x8x16_S32768x128

end Steps

theorem res57_eq (m : (ℓ : Loc nD τ sig) → Buf (Elt Ideal) ℓ) (c : Dev nD) :
    Value.res_main_v57 (F := Ideal) m c = experts (m ((c.tc : Thread nD τ).loc main_arg0)) (m ((c.tc : Thread nD τ).loc main_arg1))
      (m ((c.tc : Thread nD τ).loc main_arg2)) (m ((c.tc : Thread nD τ).loc main_arg3)) := rfl

theorem res58_eq (m : (ℓ : Loc nD τ sig) → Buf (Elt Ideal) ℓ) (c : Dev nD) :
    Value.res_main_v58 (F := Ideal) m c = gates (m ((c.tc : Thread nD τ).loc main_arg0)) (m ((c.tc : Thread nD τ).loc main_arg1))
      (m ((c.tc : Thread nD τ).loc main_arg2)) (m ((c.tc : Thread nD τ).loc main_arg3)) := rfl

/-! ## The scores -/

section At

variable (X : FVec Ideal S8x4096x2048 .f32) (G : FVec Ideal S1x2048 .f32) (W : FVec Ideal S1x2048x2048 .f32) (K : FVec Ideal S1x8x2x128x128 .f32)
  (b : Fin 8) (s : Fin 4096)

theorem col2048 (h : Fin 8) (p : Fin 2) (d : Fin 128) : (h.val * 2 + p.val) * 128 + d.val < 2048 := by
  have := h.isLt; have := p.isLt; have := d.isLt; omega

/-- A token's normalised entries. -/
abbrev token (a : Fin 2048) : EReal := normed (fun a' : Fin 2048 => X (ix3 b s a')) (fun a' : Fin 2048 => G (ix2 (0 : Fin 1) a')) a

/-- A token's scores by one half of one head. -/
abbrev score (h : Fin 8) (p : Fin 2) : Fin 128 → EReal :=
  scoreOf (token X G b s) (fun a d => W (ix3 (0 : Fin 1) a ⟨(h.val * 2 + p.val) * 128 + d.val, col2048 h p d⟩)) (fun n d => K (ix5 (0 : Fin 1) h p n d))

theorem rows_at (a : Fin 2048) : rows X G (ix2 ⟨b.val * 4096 + s.val, row_lt b s⟩ a) = token X G b s a := by
  pointwise [rows, token, normed, invRms]

theorem scores_at (h : Fin 8) (p : Fin 2) (n : Fin 128) : scores X G W K (ix4 ⟨b.val * 4096 + s.val, row_lt b s⟩ h p n) = score X G W K b s h p n := by
  unfold score scoreOf
  pointwise [scores]
  refine Finset.sum_congr rfl fun d _ => congrArg₂ (· * ·) rfl (Finset.sum_congr rfl fun a _ => congrArg₂ (· * ·) (rows_at X G b s a) (congrArg W ?_))
  exact congrArg (ix3 (0 : Fin 1) a) (Fin.ext (by dsimp only; omega))

end At

/-! ## The best keys -/

variable (R : Fin 32768) (h : Fin 8)

theorem along4 (p : Fin 2) (n k : Fin 128) : Shape.Idx.along (s := S32768x8x2x128) (ix4 R h p n) 3 k = ix4 R h p k := by
  funext a
  fin_cases a <;> rfl

theorem along3 (n k : Fin 256) : Shape.Idx.along (s := S32768x8x256) (ix3 R h n) 2 k = ix3 R h k := by
  funext a
  fin_cases a <;> rfl

theorem before_eq {N : ℕ} (f : Fin N → EReal) : (fun k k' => FloatOps.cmpfTotal (F := Ideal) (φ := .f32) .gt (f k) (f k') == 1#1) = greaterFirst f := by
  funext k k'
  unfold greaterFirst
  show (Ideal.cmpTotal .gt (f k) (f k') == 1#1) = _
  by_cases hlt : f k' < f k <;> simp [Ideal.cmpTotal, CmpDirection.ordered, Ideal.cmp, hlt]

theorem slice4 {α : Type} (x : S32768x8x2x128.Idx → α) (p : Fin 2) (i : Fin 16) :
    extractStridedSlice S32768x8x2x16 (fun _ => 0) x sliceFits_S32768x8x2x128_S32768x8x2x16 (ix4 R h p i) = x (ix4 R h p ⟨i.val, wide i⟩) := by
  unfold extractStridedSlice
  refine congrArg x (funext fun a => Fin.ext ?_)
  fin_cases a <;> simp [ix4]

theorem slice3 {α : Type} (x : S32768x8x256.Idx → α) (i : Fin 16) :
    extractStridedSlice S32768x8x16 (fun _ => 0) x sliceFits_S32768x8x256_S32768x8x16 (ix3 R h i) = x (ix3 R h ⟨i.val, wider i⟩) := by
  unfold extractStridedSlice
  refine congrArg x (funext fun a => Fin.ext ?_)
  fin_cases a <;> simp [ix3]

theorem sorted4 (T : FVec Ideal S32768x8x2x128 .f32) (p : Fin 2) (i : Fin 128) :
    sortedFrom (fun k k' => FloatOps.cmpfTotal (F := Ideal) (φ := .f32) .gt (T (Shape.Idx.along (s := S32768x8x2x128) (ix4 R h p i) 3 k)) (T (Shape.Idx.along (s := S32768x8x2x128) (ix4 R h p i) 3 k')) == 1#1) i
      = nth (fun n => T (ix4 R h p n)) i := by
  unfold nth
  rw [← before_eq]
  exact congrArg (fun f : Fin 128 → Fin 128 → Bool => sortedFrom f i) (funext fun k => funext fun k' => congrArg₂ (fun x y => FloatOps.cmpfTotal (F := Ideal) (φ := .f32) .gt (T x) (T y) == 1#1) (along4 R h p i k) (along4 R h p i k'))

theorem sorted3 (P : FVec Ideal S32768x8x256 .f32) (i : Fin 256) :
    sortedFrom (fun k k' => FloatOps.cmpfTotal (F := Ideal) (φ := .f32) .gt (P (Shape.Idx.along (s := S32768x8x256) (ix3 R h i) 2 k)) (P (Shape.Idx.along (s := S32768x8x256) (ix3 R h i) 2 k')) == 1#1) i
      = nth (fun n => P (ix3 R h n)) i := by
  unfold nth
  rw [← before_eq]
  exact congrArg (fun f : Fin 256 → Fin 256 → Bool => sortedFrom f i) (funext fun k => funext fun k' => congrArg₂ (fun x y => FloatOps.cmpfTotal (F := Ideal) (φ := .f32) .gt (P x) (P y) == 1#1) (along3 R h i k) (along3 R h i k'))

theorem tops_at (T : FVec Ideal S32768x8x2x128 .f32) (p : Fin 2) (i : Fin 16) :
    (tops T).1 (ix4 R h p i) = topScore (fun n => T (ix4 R h p n)) i ∧ (tops T).2 (ix4 R h p i) = BitVec.ofNat 32 (topKey (fun n => T (ix4 R h p n)) i).val := by
  unfold tops Host.topK Host.sort2
  dsimp only
  rw [dif_pos (show 3 < S32768x8x2x128.rank by decide), slice4, slice4]
  dsimp only
  have hs := sorted4 R h T p ⟨i.val, wide i⟩
  refine ⟨?_, ?_⟩
  · refine (congrArg (fun k => T (Shape.Idx.along (s := S32768x8x2x128) (ix4 R h p ⟨i.val, wide i⟩) 3 k)) hs).trans ?_
    rw [along4]
    rfl
  · refine (congrArg (fun k => BitVec.ofNat 32 (Shape.Idx.along (s := S32768x8x2x128) (ix4 R h p ⟨i.val, wide i⟩) 3 k 3).val) hs).trans ?_
    rw [along4]
    rfl

theorem best_at (P : FVec Ideal S32768x8x256 .f32) (i : Fin 16) :
    (best P).1 (ix3 R h i) = P (ix3 R h (nth (fun n => P (ix3 R h n)) ⟨i.val, wider i⟩)) ∧ (best P).2 (ix3 R h i) = BitVec.ofNat 32 (nth (fun n => P (ix3 R h n)) ⟨i.val, wider i⟩).val := by
  unfold best Host.topK Host.sort2
  dsimp only
  rw [dif_pos (show 2 < S32768x8x256.rank by decide), slice3, slice3]
  dsimp only
  have hs := sorted3 R h P ⟨i.val, wider i⟩
  refine ⟨?_, ?_⟩
  · refine (congrArg (fun k => P (Shape.Idx.along (s := S32768x8x256) (ix3 R h ⟨i.val, wider i⟩) 2 k)) hs).trans ?_
    rw [along3]
  · refine (congrArg (fun k => BitVec.ofNat 32 (Shape.Idx.along (s := S32768x8x256) (ix3 R h ⟨i.val, wider i⟩) 2 k 2).val) hs).trans ?_
    rw [along3]
    rfl

/-! ## Their sums -/

theorem place_eq (q : Fin 256) : q = (⟨(⟨q.val / 16, hi_lt q⟩ : Fin 16).val * 16 + (⟨q.val % 16, lo_lt q⟩ : Fin 16).val, by dsimp only; omega⟩ : Fin 256) :=
  Fin.ext (by dsimp only; omega)

theorem mul16 (i j : Fin 16) : i.val * 16 + j.val < 256 := by have := i.isLt; have := j.isLt; omega

theorem pairs_ij (V : FVec Ideal S32768x8x2x16 .f32) (i j : Fin 16) : pairs V (ix3 R h ⟨i.val * 16 + j.val, mul16 i j⟩) = V (ix4 R h 0 i) + V (ix4 R h 1 j) := by
  pointwise [pairs]

theorem names_ij (I : IVec S32768x8x2x16 32) (i j : Fin 16) : names I (ix3 R h ⟨i.val * 16 + j.val, mul16 i j⟩) = I (ix4 R h 0 i) * 128#32 + I (ix4 R h 1 j) := by
  pointwise [names]
  rfl

section Sums

variable (T : FVec Ideal S32768x8x2x128 .f32)

theorem pairs_at (q : Fin 256) : pairs (tops T).1 (ix3 R h q) = sums (fun n => T (ix4 R h 0 n)) (fun n => T (ix4 R h 1 n)) q := by
  refine (congrArg (fun q' => pairs (tops T).1 (ix3 R h q')) (place_eq q)).trans ?_
  refine (pairs_ij R h _ _ _).trans ?_
  rw [(tops_at R h T 0 _).1, (tops_at R h T 1 _).1]
  rfl

theorem names_at (q : Fin 256) : names (tops T).2 (ix3 R h q) = BitVec.ofNat 32 (expertAt (fun n => T (ix4 R h 0 n)) (fun n => T (ix4 R h 1 n)) q) := by
  refine (congrArg (fun q' => names (tops T).2 (ix3 R h q')) (place_eq q)).trans ?_
  refine (names_ij R h _ _ _).trans ?_
  rw [(tops_at R h T 0 _).2, (tops_at R h T 1 _).2]
  unfold expertAt
  rw [BitVec.ofNat_add, BitVec.ofNat_mul]

theorem bestSum_at (n : Fin 16) : (best (pairs (tops T).1)).1 (ix3 R h n) = bestSum (fun n => T (ix4 R h 0 n)) (fun n => T (ix4 R h 1 n)) n := by
  rw [(best_at R h _ n).1, pairs_at]
  unfold bestSum bestPlace
  rw [funext (pairs_at R h T)]

theorem bestPlace_at (n : Fin 16) : (best (pairs (tops T).1)).2 (ix3 R h n) = BitVec.ofNat 32 (bestPlace (fun n => T (ix4 R h 0 n)) (fun n => T (ix4 R h 1 n)) n).val := by
  rw [(best_at R h _ n).2]
  unfold bestPlace
  rw [funext (pairs_at R h T)]

end Sums

end Cert.Reference4Ideal.Peer

end
-- ==== Proof.Peer.Taken.lean ====
/-
  The routing reference's experts at the places of the best sums.
-/
module

public import proofs.«01_k».proof.Proof.Peer.Reference

@[expose] public section

set_option maxRecDepth 16384

noncomputable section

namespace Cert.Reference4Ideal.Peer

open Cert.Reference4Ideal Cert.Reference4Ideal.Gen Cert.NormProject Cert.PeerRoute
open Idealize.ShloMosaic
open scoped BigOperators

variable (R : Fin 32768) (h : Fin 8)

theorem wrap_word : ∀ q : Fin 256, Scalar.select (IntOp.cmpi .slt (BitVec.ofNat 32 q.val) 0#32) (IntOp.addi (BitVec.ofNat 32 q.val) 256#32) (BitVec.ofNat 32 q.val) = BitVec.ofNat 32 q.val := by
  decide +kernel

theorem inside_word : ∀ q : Fin 256, IntOp.andi (IntOp.andi (IntOp.cmpi .sge (BitVec.ofNat 32 q.val) 0#32) (IntOp.cmpi .sle (BitVec.ofNat 32 q.val) 255#32)) 1#1 = 1#1 := by
  decide +kernel

theorem place_word : ∀ q : Fin 256, min (BitVec.ofNat 32 q.val).toInt.toNat (256 - 1) = q.val := by
  decide +kernel

/-- The dimension numbers of the taking. -/
abbrev takeDims3 := gather_S32768x8x256_S32768x8x16x1_S32768x8x16_n_2_01_01_2_3_111

section Taken

variable (J : IVec S32768x8x16 32) (n : Fin 16) (q : Fin 256) (hq : J (ix3 R h n) = BitVec.ofNat 32 q.val)

include hq

theorem wrapped_at (z : Fin 1) : wrapped J (ix4 R h n z) = BitVec.ofNat 32 q.val := by
  obtain rfl : z = 0 := Subsingleton.elim _ _
  pointwise [wrapped]
  rw [hq]
  exact wrap_word q

theorem inside_at : inside J (ix3 R h n) = 1#1 := by
  pointwise [inside]
  rw [Finset.univ_unique, Finset.fold_singleton, wrapped_at R h J n q hq]
  exact inside_word q

theorem gather_at (E : IVec S32768x8x256 32) : Host.gather gather_S32768x8x256_S32768x8x16x1_S32768x8x16_n_2_01_01_2_3_111 E (wrapped J) (ix3 R h n) = E (ix3 R h q) := by
  unfold Host.gather
  refine congrArg E (funext fun a => Fin.ext ?_)
  show GatherDims.start _ _ _ a + GatherDims.batchCoord _ _ a + GatherDims.offCoord _ _ a = _
  have hb : ∀ a : Fin 3, a = 0 ∨ a = 1 → GatherDims.start takeDims3 (ix3 R h n) (wrapped J) a + GatherDims.batchCoord takeDims3 (ix3 R h n) a + GatherDims.offCoord takeDims3 (ix3 R h n) a = GatherDims.batchCoord takeDims3 (ix3 R h n) a := fun a ha => by
    have hm : a ∈ takeDims3.operandBatchingDims := show a ∈ [0, 1] by rcases ha with rfl | rfl <;> decide
    rw [GatherDims.start_batching _ _ _ _ hm, GatherDims.offCoord_eq_zero _ _ _ (fun h => ((GatherDims.mem_sKept _ _).mp h).2 hm)]
    omega
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · refine (hb 0 (Or.inl rfl)).trans ?_
    unfold GatherDims.batchCoord
    rw [dif_pos (show (0 : Fin 3) ∈ takeDims3.operandBatchingDims from (show (0 : Fin 3) ∈ [0, 1] by decide))]
    rfl
  · refine (hb 1 (Or.inr rfl)).trans ?_
    unfold GatherDims.batchCoord
    rw [dif_pos (show (1 : Fin 3) ∈ takeDims3.operandBatchingDims from (show (1 : Fin 3) ∈ [0, 1] by decide))]
    rfl
  · show GatherDims.start takeDims3 (ix3 R h n) (wrapped J) (2 : Fin 3) + GatherDims.batchCoord takeDims3 (ix3 R h n) (2 : Fin 3) + GatherDims.offCoord takeDims3 (ix3 R h n) (2 : Fin 3) = q.val
    have hc : (2 : Fin 3) ∈ takeDims3.collapsedSliceDims := show (2 : Fin 3) ∈ [2] by decide
    rw [GatherDims.batchCoord_eq_zero _ _ _ (show (2 : Fin 3) ∉ [0, 1] by decide), GatherDims.offCoord_eq_zero _ _ _ (fun h => ((GatherDims.mem_sKept _ _).mp h).1 hc)]
    simp only [Nat.add_zero]
    unfold GatherDims.start
    have hm : (2 : Fin 3) ∈ takeDims3.startIndexMap := show (2 : Fin 3) ∈ [2] by decide
    rw [dif_pos hm]
    have hsi : takeDims3.siIdx (ix3 R h n) ⟨List.idxOf (2 : Fin 3) takeDims3.startIndexMap, List.idxOf_lt_length_iff.2 hm⟩ = ix4 R h n (0 : Fin 1) := by
      funext b; refine Fin.ext ?_
      match b with
      | ⟨0, _⟩ => rfl
      | ⟨1, _⟩ => rfl
      | ⟨2, _⟩ => rfl
      | ⟨3, _⟩ => rfl
    rw [hsi, wrapped_at R h J n q hq]
    exact place_word q

theorem taken_at (E : IVec S32768x8x256 32) : taken E J (ix3 R h n) = E (ix3 R h q) := by
  unfold taken select
  rw [inside_at R h J n q hq, gather_at R h J n q hq]
  rfl

end Taken

end Cert.Reference4Ideal.Peer

end
-- ==== Proof.Peer.Shares.lean ====
/-
  The routing reference's shares of the best sums, and its three results at an index.
-/
module

public import proofs.«01_k».proof.Proof.Peer.Taken

@[expose] public section

set_option maxRecDepth 16384

noncomputable section

namespace Cert.Reference4Ideal.Peer

open Cert.Reference4Ideal Cert.Reference4Ideal.Gen Cert.NormProject Cert.PeerRoute
open Idealize.ShloMosaic
open scoped BigOperators

variable (R : Fin 32768) (h : Fin 8)

theorem maxes_at (B : FVec Ideal S32768x8x16 .f32) : Host.reduce FloatOps.maximumf B (constant S_ .f32 0xFF800000#32) reducesTo_S32768x8x16_S32768x8_d2 h_S_ (ix2 R h)
    = Finset.fold max (Ideal.ofBits .f32 0xFF800000#32) (fun n : Fin 16 => B (ix3 R h n)) Finset.univ := by
  pointwise

theorem less_at (B : FVec Ideal S32768x8x16 .f32) (M : FVec Ideal S32768x8 .f32) (n : Fin 16) :
    Host.exp (subf B (broadcastInDim S32768x8x16 ![0, 1, 2] bcast_S32768x8x1_S32768x8x16_0_1_2 (broadcastInDim S32768x8x1 ![0, 1] bcast_S32768x8_S32768x8x1_0_1 (maximumf (broadcastInDim S32768x8 ![] bcast_S_S32768x8 (constant S_ .f32 0xFF800000#32)) M)))) (ix3 R h n)
      = Ideal.exp (B (ix3 R h n) - max (Ideal.ofBits .f32 0xFF800000#32) (M (ix2 R h))) := by
  pointwise

theorem ninf_word : Ideal.ofBits .f32 0xFF800000#32 = ⊥ := by simp [Ideal.ofBits, Ideal.ieee]

theorem exps_at (B : FVec Ideal S32768x8x16 .f32) (hB : Antitone fun n : Fin 16 => B (ix3 R h n)) (n : Fin 16) : exps B (ix3 R h n) = Ideal.exp (B (ix3 R h n) - B (ix3 R h 0)) := by
  unfold exps
  refine (less_at R h B _ n).trans ?_
  have e : max (Ideal.ofBits .f32 0xFF800000#32) (Finset.fold max (Ideal.ofBits .f32 0xFF800000#32) (fun n : Fin 16 => B (ix3 R h n)) Finset.univ) = B (ix3 R h 0) := by
    rw [ninf_word, max_eq_right bot_le]
    exact le_antisymm (Finset.sup_le (s := Finset.univ) (f := fun n : Fin 16 => B (ix3 R h n)) fun n _ => hB (Fin.zero_le n))
      (Finset.le_sup (s := Finset.univ) (f := fun n : Fin 16 => B (ix3 R h n)) (Finset.mem_univ 0))
  rw [maxes_at, e]

theorem total_at (E : FVec Ideal S32768x8x16 .f32) (n : Fin 16) :
    Host.divf E (broadcastInDim S32768x8x16 ![0, 1, 2] bcast_S32768x8x1_S32768x8x16_0_1_2 (broadcastInDim S32768x8x1 ![0, 1] bcast_S32768x8_S32768x8x1_0_1 (Host.reduceAdd E (constant S_ .f32 0x00000000#32) reducesTo_S32768x8x16_S32768x8_d2 h_S_))) (ix3 R h n)
      = Ideal.div (E (ix3 R h n)) (∑ n' : Fin 16, E (ix3 R h n')) := by
  pointwise

/-! ## The results -/

section Results

variable (T : FVec Ideal S32768x8x2x128 .f32)

theorem shares_at (n : Fin 16) : shares (best (pairs (tops T).1)).1 (ix3 R h n) = gate (fun n => T (ix4 R h 0 n)) (fun n => T (ix4 R h 1 n)) n := by
  have hB : (fun n : Fin 16 => (best (pairs (tops T).1)).1 (ix3 R h n)) = bestSum (fun n => T (ix4 R h 0 n)) (fun n => T (ix4 R h 1 n)) := funext (bestSum_at R h T)
  have hA : Antitone fun n : Fin 16 => (best (pairs (tops T).1)).1 (ix3 R h n) := hB ▸ bestSum_antitone _ _
  unfold shares
  refine (total_at R h _ n).trans ?_
  unfold gate
  rw [exps_at R h _ hA, bestSum_at, bestSum_at]
  refine congrArg _ (Finset.sum_congr rfl fun n' _ => ?_)
  rw [exps_at R h _ hA, bestSum_at, bestSum_at]

theorem slot_lt (n : Fin 16) : h.val * 16 + n.val < 128 := by have := h.isLt; have := n.isLt; omega

theorem flat_gates (v : FVec Ideal S32768x8x16 .f32) (n : Fin 16) : shapeCast S32768x128 v shapeCasts_S32768x8x16_S32768x128 (ix2 R ⟨h.val * 16 + n.val, slot_lt h n⟩) = v (ix3 R h n) := by
  pointwise

theorem flat_experts (v : IVec S32768x8x16 32) (n : Fin 16) : shapeCast S32768x128 v shapeCasts_S32768x8x16_S32768x128 (ix2 R ⟨h.val * 16 + n.val, slot_lt h n⟩) = v (ix3 R h n) := by
  pointwise

end Results

variable (X : FVec Ideal S8x4096x2048 .f32) (G : FVec Ideal S1x2048 .f32) (W : FVec Ideal S1x2048x2048 .f32) (K : FVec Ideal S1x8x2x128x128 .f32)
  (b : Fin 8) (s : Fin 4096) (n : Fin 16)

theorem gates_at : gates X G W K (ix2 ⟨b.val * 4096 + s.val, row_lt b s⟩ ⟨h.val * 16 + n.val, slot_lt h n⟩) = gate (score X G W K b s h 0) (score X G W K b s h 1) n := by
  unfold gates
  refine (flat_gates _ h _ n).trans ((shares_at _ h _ n).trans ?_)
  rw [funext (scores_at X G W K b s h 0), funext (scores_at X G W K b s h 1)]

theorem experts_at : experts X G W K (ix2 ⟨b.val * 4096 + s.val, row_lt b s⟩ ⟨h.val * 16 + n.val, slot_lt h n⟩) = BitVec.ofNat 32 (expert (score X G W K b s h 0) (score X G W K b s h 1) n) := by
  unfold experts
  refine (flat_experts _ h _ n).trans ((taken_at _ h _ n _ (bestPlace_at _ h _ n) _).trans ((names_at _ h _ _).trans ?_))
  rw [funext (scores_at X G W K b s h 0), funext (scores_at X G W K b s h 1)]
  rfl

theorem tokensT_at (a : Fin 2048) : tokensT X G (ix2 a ⟨b.val * 4096 + s.val, row_lt b s⟩) = token X G b s a := by
  pointwise [tokensT]
  exact rows_at X G b s a

end Cert.Reference4Ideal.Peer

end
-- ==== Proof.Peer.Array.lean ====
/-
  The routing kernel's blocks at an index over the extended reals: its scores are the reference's, and its three result
  arrays are the reference's three results.
-/
module

public import proofs.«01_k».proof.Proof.Peer.Tile
public import proofs.«01_k».proof.Proof.Peer.Host
public import proofs.«01_k».proof.Proof.Peer.Shares

@[expose] public section

set_option maxRecDepth 16384

noncomputable section

namespace Cert.Kernel4Ideal.Peer

open Cert.Kernel4Ideal Cert.Kernel4Ideal.Gen Cert.NormProject Cert.PeerRoute
open Idealize.ShloMosaic Idealize.ShloMosaic.TcCoe
open scoped BigOperators

variable (m : (ℓ : Loc nD τ sig) → Buf (Elt Ideal) ℓ) (c : Dev nD)

/-! ## Where the blocks lie -/

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0, 0] := by decide +kernel
theorem index_3 : ∀ t : Fin grid0.N, win0_3.index t = ![0, 0, 0] := by decide +kernel
theorem index_4 : ∀ t : Fin grid0.N, win0_4.index t = ![0, t.val] := by decide +kernel
theorem index_5 : ∀ t : Fin grid0.N, win0_5.index t = ![t.val, 0] := by decide +kernel
theorem index_6 : ∀ t : Fin grid0.N, win0_6.index t = ![t.val, 0] := by decide +kernel

theorem points : grid0.N = 128 := by decide +kernel

theorem band_lt (t : Fin grid0.N) (l : Fin 256) : t.val * 256 + l.val < 32768 := by
  have := lt_of_lt_of_eq t.isLt points; have := l.isLt; omega

/-! ## The blocks read -/

theorem iblk0_at (t : Fin grid0.N) (l : Fin 256) (k : Fin 2048) : (iblk m c 0 t : FVec Ideal S256x2048 .f32) (ix2 l k)
    = (V m c main_v0 : FVec Ideal S32768x2048 .f32) (ix2 ⟨t.val * 256 + l.val, band_lt t l⟩ k) := by
  blk_ext! [iblk, index_0 t]

theorem iblk1_at (t : Fin grid0.N) (k : Fin 2048) : (iblk m c 1 t : FVec Ideal S1x2048 .f32) (ix2 (0 : Fin 1) k)
    = (V m c main_v9 : FVec Ideal S1x2048 .f32) (ix2 (0 : Fin 1) k) := by
  blk_ext! [iblk, index_1 t]

theorem iblk2_at (t : Fin grid0.N) (q : Fin 16) (a : Fin 2048) (d : Fin 128) : (iblk m c 2 t : FVec Ideal S16x2048x128 .bf16) (ix3 q a d)
    = (V m c main_v6 : FVec Ideal S16x2048x128 .bf16) (ix3 q a d) := by
  blk_ext! [iblk, index_2 t]

theorem iblk3_at (t : Fin grid0.N) (q : Fin 16) (n d : Fin 128) : (iblk m c 3 t : FVec Ideal S16x128x128 .bf16) (ix3 q n d)
    = (V m c main_v8 : FVec Ideal S16x128x128 .bf16) (ix3 q n d) := by
  blk_ext! [iblk, index_3 t]

section Point

variable (t : Fin grid0.N) (l : Fin 256) (b : Fin 8) (s : Fin 4096) (hbs : t.val * 256 + l.val = b.val * 4096 + s.val)
include hbs

theorem token_at (a : Fin 2048) : normed (fun a' => (iblk m c 0 t : FVec Ideal S256x2048 .f32) (ix2 l a')) (fun a' => (iblk m c 1 t : FVec Ideal S1x2048 .f32) (ix2 (0 : Fin 1) a')) a
    = Cert.Reference4Ideal.Peer.token (argX m c) (argG m c) b s a := by
  have e1 : (⟨t.val * 256 + l.val, band_lt t l⟩ : Fin 32768) = ⟨b.val * 4096 + s.val, row_lt b s⟩ := Fin.ext hbs
  rw [funext (iblk0_at m c t l), funext (iblk1_at m c t), e1, funext (V0_at m c b s), funext (V9_at m c)]

theorem ptScore_at (k : Fin k0_t1_loop.trips) (h : Fin 8) (hk : k.val = h.val) (p : Fin 2) : ptScore m c t k p l
    = Cert.Reference4Ideal.Peer.score (argX m c) (argG m c) (argW m c) (argK m c) b s h p := by
  have e1 : (⟨2 * k.val + p.val, half_lt k p⟩ : Fin 16) = ⟨h.val * 2 + p.val, half16 h p⟩ := Fin.ext (by dsimp only; omega)
  funext n
  show scoreOf _ _ _ n = scoreOf _ _ _ n
  rw [funext (token_at m c t l b s hbs), e1, funext fun a => funext fun d => (iblk2_at m c t _ a d).trans (V6_at m c h p a d),
    funext fun n => funext fun d => (iblk3_at m c t _ n d).trans (V8_at m c h p n d)]

end Point

/-! ## The result arrays -/

theorem final4 : (dats m 0 c).arrAt 4 cfg0.N = Cert.Reference4Ideal.Peer.tokensT (argX m c) (argG m c) := by
  refine (dats m 0 c).arrAt_eq_of_covers 4 _ (by decide +kernel) fun t hf y => ?_
  blk_simp
  rw [after0_4]
  obtain ⟨a, l, rfl⟩ : ∃ (a : Fin 2048) (l : Fin 256), y = ix2 a l := ⟨y 0, y 1, eq_ix2 y⟩
  have hR := band_lt t l
  obtain ⟨b, s, hbs⟩ : ∃ (b : Fin 8) (s : Fin 4096), t.val * 256 + l.val = b.val * 4096 + s.val :=
    ⟨⟨(t.val * 256 + l.val) / 4096, by omega⟩, ⟨(t.val * 256 + l.val) % 4096, Nat.mod_lt _ (by decide)⟩, by dsimp only; omega⟩
  refine (congrFun (tokens_tile m c t) (ix2 a l)).trans ((pay3_at _ _ l a).trans ((token_at m c t l b s hbs a).trans ?_))
  refine (Cert.Reference4Ideal.Peer.tokensT_at (argX m c) (argG m c) b s a).symm.trans (congrArg _ ?_)
  have e1 : (⟨b.val * 4096 + s.val, row_lt b s⟩ : Fin 32768) = ⟨t.val * 256 + l.val, band_lt t l⟩ := Fin.ext hbs.symm
  rw [e1]
  blk_ext [index_4 t]

section Real

variable (hreal : ∀ b s h p n, ∃ r : ℝ, Cert.Reference4Ideal.Peer.score (argX m c) (argG m c) (argW m c) (argK m c) b s h p n = r)
include hreal

theorem final5 : (dats m 0 c).arrAt 5 cfg0.N = Cert.Reference4Ideal.Peer.experts (argX m c) (argG m c) (argW m c) (argK m c) := by
  refine (dats m 0 c).arrAt_eq_of_covers 5 _ (by decide +kernel) fun t hf y => ?_
  blk_simp
  rw [after0_5]
  obtain ⟨l, j, rfl⟩ : ∃ (l : Fin 256) (j : Fin 128), y = ix2 l j := ⟨y 0, y 1, eq_ix2 y⟩
  obtain ⟨k, n, rfl⟩ : ∃ (k : Fin k0_t1_loop.trips) (n : Fin 16), j = ⟨k.val * 16 + n.val, slot_lt k n⟩ :=
    ⟨⟨j.val / 16, lt_of_lt_of_eq (show j.val / 16 < 8 by have := j.isLt; omega) trips_eq.symm⟩, ⟨j.val % 16, Nat.mod_lt _ (by decide)⟩, Fin.ext (by dsimp only; omega)⟩
  have hR := band_lt t l
  obtain ⟨b, s, hbs⟩ : ∃ (b : Fin 8) (s : Fin 4096), t.val * 256 + l.val = b.val * 4096 + s.val :=
    ⟨⟨(t.val * 256 + l.val) / 4096, by omega⟩, ⟨(t.val * 256 + l.val) % 4096, Nat.mod_lt _ (by decide)⟩, by dsimp only; omega⟩
  have e0 := ptScore_at m c t l b s hbs k ⟨k.val, lt_of_lt_of_eq k.isLt trips_eq⟩ rfl 0
  have e1 := ptScore_at m c t l b s hbs k ⟨k.val, lt_of_lt_of_eq k.isLt trips_eq⟩ rfl 1
  refine (experts_tile m c t k l (fun n => e0 ▸ hreal b s _ 0 n) (fun n => e1 ▸ hreal b s _ 1 n) n).trans ?_
  rw [e0, e1]
  refine (Cert.Reference4Ideal.Peer.experts_at ⟨k.val, lt_of_lt_of_eq k.isLt trips_eq⟩ (argX m c) (argG m c) (argW m c) (argK m c) b s n).symm.trans (congrArg _ ?_)
  have e2 : (⟨b.val * 4096 + s.val, row_lt b s⟩ : Fin 32768) = ⟨t.val * 256 + l.val, band_lt t l⟩ := Fin.ext hbs.symm
  rw [e2]
  blk_ext [index_5 t]

theorem final6 : (dats m 0 c).arrAt 6 cfg0.N = Cert.Reference4Ideal.Peer.gates (argX m c) (argG m c) (argW m c) (argK m c) := by
  refine (dats m 0 c).arrAt_eq_of_covers 6 _ (by decide +kernel) fun t hf y => ?_
  blk_simp
  rw [after0_6]
  obtain ⟨l, j, rfl⟩ : ∃ (l : Fin 256) (j : Fin 128), y = ix2 l j := ⟨y 0, y 1, eq_ix2 y⟩
  obtain ⟨k, n, rfl⟩ : ∃ (k : Fin k0_t1_loop.trips) (n : Fin 16), j = ⟨k.val * 16 + n.val, slot_lt k n⟩ :=
    ⟨⟨j.val / 16, lt_of_lt_of_eq (show j.val / 16 < 8 by have := j.isLt; omega) trips_eq.symm⟩, ⟨j.val % 16, Nat.mod_lt _ (by decide)⟩, Fin.ext (by dsimp only; omega)⟩
  have hR := band_lt t l
  obtain ⟨b, s, hbs⟩ : ∃ (b : Fin 8) (s : Fin 4096), t.val * 256 + l.val = b.val * 4096 + s.val :=
    ⟨⟨(t.val * 256 + l.val) / 4096, by omega⟩, ⟨(t.val * 256 + l.val) % 4096, Nat.mod_lt _ (by decide)⟩, by dsimp only; omega⟩
  have e0 := ptScore_at m c t l b s hbs k ⟨k.val, lt_of_lt_of_eq k.isLt trips_eq⟩ rfl 0
  have e1 := ptScore_at m c t l b s hbs k ⟨k.val, lt_of_lt_of_eq k.isLt trips_eq⟩ rfl 1
  refine (gates_tile m c t k l (fun n => e0 ▸ hreal b s _ 0 n) (fun n => e1 ▸ hreal b s _ 1 n) n).trans ?_
  rw [e0, e1]
  refine (Cert.Reference4Ideal.Peer.gates_at ⟨k.val, lt_of_lt_of_eq k.isLt trips_eq⟩ (argX m c) (argG m c) (argW m c) (argK m c) b s n).symm.trans (congrArg _ ?_)
  have e2 : (⟨b.val * 4096 + s.val, row_lt b s⟩ : Fin 32768) = ⟨t.val * 256 + l.val, band_lt t l⟩ := Fin.ext hbs.symm
  rw [e2]
  blk_ext [index_6 t]

end Real

end Cert.Kernel4Ideal.Peer

end
-- ==== Proof.Peer.Finite.lean ====
/-
  Finite tokens and weights give the routing real scores: the precondition at an entry, and the scores made of
  real entries.
-/
module

public import proofs.«01_k».proof.Proof.Value.Real
public import proofs.«01_k».proof.Proof.Peer.Reference
public import proofs.«01_k».proof.Proof.Gen.Pre_finite_tokens_and_weights

@[expose] public section

set_option maxRecDepth 16384

noncomputable section

namespace Cert.Reference4Ideal.Peer

open Cert.Reference4Ideal Cert.Reference4Ideal.Gen Cert.NormProject Cert.PeerRoute
open Idealize.ShloMosaic Idealize.ShloMosaic.TcCoe
open scoped BigOperators

/-! ## An entry the precondition speaks of is real -/

theorem real_of_test (y : EReal) (h : Ideal.cmp .olt (max y (-y)) (Ideal.ofBits .f32 0x7F800000#32) = 1#1) : ∃ r : ℝ, y = (r : EReal) := by
  have h1 : max y (-y) < ⊤ := by
    by_contra hn
    have ht : max y (-y) = ⊤ := not_lt_top_iff.1 hn
    rw [ht] at h
    simp [Ideal.cmp, Ideal.ofBits, Ideal.ieee] at h
  have h2 := (max_lt_iff.1 h1).1
  have h3 := (max_lt_iff.1 h1).2
  refine ⟨y.toReal, (EReal.coe_toReal h2.ne ?_).symm⟩
  intro hb
  rw [hb] at h3
  simp at h3

section Entries

variable (X : FVec Ideal S8x4096x2048 .f32) (G : FVec Ideal S1x2048 .f32) (W : FVec Ideal S1x2048x2048 .f32) (K : FVec Ideal S1x8x2x128x128 .f32)

theorem pre_x (b : Fin 8) (s : Fin 4096) (a : Fin 2048) : Cert.Pre_finite_tokens_and_weights.fn (F := Ideal) X G W K
      (ix2 ⟨b.val * 4096 + s.val, by have := b.isLt; have := s.isLt; omega⟩ a)
    = Ideal.cmp .olt (max (X (ix3 b s a) : EReal) (-(X (ix3 b s a) : EReal))) (Ideal.ofBits .f32 0x7F800000#32) := by
  pointwise [Cert.Pre_finite_tokens_and_weights.fn]
  rw [dif_pos (row_lt b s)]
  rfl

theorem pre_g (a : Fin 2048) : Cert.Pre_finite_tokens_and_weights.fn (F := Ideal) X G W K (ix2 ⟨32768, by omega⟩ a)
    = Ideal.cmp .olt (max (G (ix2 (0 : Fin 1) a) : EReal) (-(G (ix2 (0 : Fin 1) a) : EReal))) (Ideal.ofBits .f32 0x7F800000#32) := by
  pointwise [Cert.Pre_finite_tokens_and_weights.fn]
  rfl

theorem pre_w (a d : Fin 2048) : Cert.Pre_finite_tokens_and_weights.fn (F := Ideal) X G W K (ix2 ⟨32769 + a.val, by have := a.isLt; omega⟩ d)
    = Ideal.cmp .olt (max (W (ix3 (0 : Fin 1) a d) : EReal) (-(W (ix3 (0 : Fin 1) a d) : EReal))) (Ideal.ofBits .f32 0x7F800000#32) := by
  have ha := a.isLt
  pointwise [Cert.Pre_finite_tokens_and_weights.fn]
  rw [dif_neg (show ¬ 32769 + a.val < 32768 by omega), dif_neg (show ¬ 32769 + a.val - 32768 < 1 by omega), dif_pos (show 32769 + a.val - 32768 - 1 < 2048 by omega)]
  have e : ∀ h, (⟨32769 + a.val - 32768 - 1, h⟩ : Fin 2048) = a := fun h => Fin.ext (by dsimp only; omega)
  rw [e]
  rfl

theorem pre_k (h : Fin 8) (p : Fin 2) (n d : Fin 128) : Cert.Pre_finite_tokens_and_weights.fn (F := Ideal) X G W K
      (ix2 ⟨34817 + ((h.val * 2 + p.val) * 8 + n.val / 16), by have := h.isLt; have := p.isLt; have := n.isLt; omega⟩ ⟨n.val % 16 * 128 + d.val, by have := d.isLt; omega⟩)
    = Ideal.cmp .olt (max (K (ix5 (0 : Fin 1) h p n d) : EReal) (-(K (ix5 (0 : Fin 1) h p n d) : EReal))) (Ideal.ofBits .f32 0x7F800000#32) := by
  have hh := h.isLt
  have hp := p.isLt
  have hn := n.isLt
  have hd := d.isLt
  pointwise [Cert.Pre_finite_tokens_and_weights.fn]
  rw [dif_neg (show ¬ 34817 + ((h.val * 2 + p.val) * 8 + n.val / 16) < 32768 by omega), dif_neg (show ¬ 34817 + ((h.val * 2 + p.val) * 8 + n.val / 16) - 32768 < 1 by omega), dif_neg (show ¬ 34817 + ((h.val * 2 + p.val) * 8 + n.val / 16) - 32768 - 1 < 2048 by omega)]
  have e : ∀ (h' : Fin 8) (p' : Fin 2) (n' d' : Fin 128), h' = h → p' = p → n' = n → d' = d → K (ix5 (0 : Fin 1) h' p' n' d') = K (ix5 (0 : Fin 1) h p n d) := by
    rintro _ _ _ _ rfl rfl rfl rfl; rfl
  rw [e _ _ _ _ (Fin.ext (by dsimp only; omega)) (Fin.ext (by dsimp only; omega)) (Fin.ext (by dsimp only <;> omega)) (Fin.ext (by dsimp only <;> omega))]
  rfl

/-! ## The scores are real -/

theorem square_real {N : ℕ} (y : Fin N → EReal) (hy : ∀ a, ∃ r : ℝ, y a = (r : EReal)) : ∃ r : ℝ, 0 ≤ r ∧ ∑ a, y a * y a = (r : EReal) := by
  choose f hf using hy
  refine ⟨∑ a, f a * f a, Finset.sum_nonneg fun a _ => mul_self_nonneg _, ?_⟩
  rw [Finset.sum_congr rfl fun a _ => by rw [hf a, ← EReal.coe_mul], ← Cert.StickBreaking.coe_sum]

theorem word_pos (w : BitVec 32) (hs : w.extractLsb' 31 1 ≠ 1#1) (h1 : (w.extractLsb' 23 8).toNat ≠ 255) (h0 : (w.extractLsb' 23 8).toNat ≠ 0) :
    ∃ r : ℝ, 0 < r ∧ Ideal.ofBits .f32 w = (r : EReal) := by
  show ∃ r : ℝ, 0 < r ∧ Ideal.ieee 8 23 w = (r : EReal)
  unfold Ideal.ieee
  dsimp only
  rw [if_neg (by simpa using h1), if_neg h0]
  refine ⟨_, ?_, rfl⟩
  rw [if_neg (by simpa using hs)]
  positivity

theorem invRms_real (y : Fin 2048 → EReal) (hy : ∀ a, ∃ r : ℝ, y a = (r : EReal)) : ∃ r : ℝ, invRms 0x45000000#32 y = (r : EReal) := by
  obtain ⟨q, hq, hqe⟩ := square_real y hy
  obtain ⟨n, hn, hne⟩ := word_pos 0x45000000#32 (by decide) (by decide) (by decide)
  obtain ⟨e, he, hee⟩ := word_pos 0x358637BD#32 (by decide) (by decide) (by decide)
  have hp : 0 < q * (1 / n) + e := by positivity
  unfold invRms
  rw [hqe, hne, hee, Ideal.div_coe hn.ne', ← EReal.coe_mul, ← EReal.coe_add, Ideal.rsqrt_coe, if_neg (not_lt.2 hp.le), if_neg hp.ne']
  exact ⟨_, rfl⟩

theorem normed_real (y g : Fin 2048 → EReal) (hy : ∀ a, ∃ r : ℝ, y a = (r : EReal)) (hg : ∀ a, ∃ r : ℝ, g a = (r : EReal)) (a : Fin 2048) :
    ∃ r : ℝ, normed y g a = (r : EReal) := by
  obtain ⟨u, hu⟩ := hy a
  obtain ⟨v, hv⟩ := invRms_real y hy
  obtain ⟨w, hw⟩ := hg a
  unfold normed
  rw [hu, hv, hw, ← EReal.coe_mul, ← EReal.coe_mul]
  exact ⟨_, rfl⟩

theorem dot_real {N : ℕ} (y z : Fin N → EReal) (hy : ∀ a, ∃ r : ℝ, y a = (r : EReal)) (hz : ∀ a, ∃ r : ℝ, z a = (r : EReal)) :
    ∃ r : ℝ, ∑ a, y a * z a = (r : EReal) := by
  choose f hf using hy
  choose g hg using hz
  refine ⟨∑ a, f a * g a, ?_⟩
  rw [Finset.sum_congr rfl fun a _ => by rw [hf a, hg a, ← EReal.coe_mul], ← Cert.StickBreaking.coe_sum]

theorem score_real (hpre : Cert.Pre_finite_tokens_and_weights.fn (F := Ideal) X G W K = fun _ => 1#1) (b : Fin 8) (s : Fin 4096) (h : Fin 8) (p : Fin 2) (n : Fin 128) :
    ∃ r : ℝ, score X G W K b s h p n = (r : EReal) := by
  have hx : ∀ a, ∃ r : ℝ, (X (ix3 b s a) : EReal) = (r : EReal) := fun a => real_of_test _ ((pre_x X G W K b s a).symm.trans (congrFun hpre _))
  have hg : ∀ a, ∃ r : ℝ, (G (ix2 (0 : Fin 1) a) : EReal) = (r : EReal) := fun a => real_of_test _ ((pre_g X G W K a).symm.trans (congrFun hpre _))
  have hw : ∀ a d, ∃ r : ℝ, (W (ix3 (0 : Fin 1) a d) : EReal) = (r : EReal) := fun a d => real_of_test _ ((pre_w X G W K a d).symm.trans (congrFun hpre _))
  have hk : ∀ d, ∃ r : ℝ, (K (ix5 (0 : Fin 1) h p n d) : EReal) = (r : EReal) := fun d => real_of_test _ ((pre_k X G W K h p n d).symm.trans (congrFun hpre _))
  exact dot_real _ _ hk fun d => dot_real _ _ (normed_real _ _ hx hg) fun a => hw a _

end Entries

end Cert.Reference4Ideal.Peer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ideal.Run
public import proofs.«01_k».proof.Proof.Bits.Run
public import proofs.«01_k».proof.Proof.Value.Array
public import proofs.«01_k».proof.Proof.Norm.Array
public import proofs.«01_k».proof.Proof.Mix.Array
public import proofs.«01_k».proof.Proof.Peer.Array
public import proofs.«01_k».proof.Proof.Peer.Finite
public import Idealize.ShloMosaic.Lib.Claim
public import Idealize.ShloMosaic.Lib.Quiescent
public import proofs.«01_k».proof.Proof.Gen.Pre_finite_queries_and_keys
public import proofs.«01_k».proof.Proof.Gen.Pre_finite_tokens_and_weights
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal := by
  intro m g _
  exact (θ_run Cert.ReferenceIdeal.defs _ _).mono (fun _ h => ⟨fun c => (h c).2, sem_eq_zero_of_no_sems rfl _⟩) (Cert.ReferenceIdeal.Value.run m g)

theorem algebraic : Cert.algebraic_KernelIdeal_ReferenceIdeal_pre_finite_queries_and_keys := by
  intro m g m' g' hpre hagree
  refine ⟨fun c => Cert.ReferenceIdeal.Stick.result (Cert.KernelIdeal.Value.argX m c), ?_, ?_⟩
  · exact (θ_run Cert.KernelIdeal.defs _ _).mono (fun r h c => ⟨(h.2 c).trans (Cert.KernelIdeal.Value.final m c (hpre c)), h.1.1 c⟩) (Cert.KernelIdeal.Run.run_out m g)
  · refine (θ_run Cert.ReferenceIdeal.defs _ _).mono (fun r h c => ⟨(h c).1.trans ((Cert.ReferenceIdeal.Stick.res_eq m' c).trans ?_), (h c).2⟩) (Cert.ReferenceIdeal.Value.run m' g')
    rw [hagree c]

theorem reference2_frame : Cert.quiescent_Reference2Ideal := by
  intro m g _
  exact (θ_run Cert.Reference2Ideal.defs _ _).mono (fun _ h => ⟨fun c => (h c).2, sem_eq_zero_of_no_sems rfl _⟩) (Cert.Reference2Ideal.Value.run m g)

theorem algebraic2 : Cert.algebraic_Kernel2Ideal_Reference2Ideal := by
  intro m g m' g' hpre hagree
  refine ⟨fun c => Cert.Reference2Ideal.Norm.result (Cert.Kernel2Ideal.Norm.argX m c) (Cert.Kernel2Ideal.Norm.argG m c)
    (Cert.Kernel2Ideal.Norm.argW m c) (Cert.Kernel2Ideal.Norm.argQ m c) (Cert.Kernel2Ideal.Norm.argK m c), ?_, ?_⟩
  · exact (θ_run Cert.Kernel2Ideal.defs _ _).mono (fun r h c => ⟨(h c).1.trans (Cert.Kernel2Ideal.Norm.final m c), (h c).2⟩) (Cert.Kernel2Ideal.Value.run_blocks m g)
  · refine (θ_run Cert.Reference2Ideal.defs _ _).mono (fun r h c => ⟨(h c).1.trans ((Cert.Reference2Ideal.Norm.res_eq m' c).trans ?_), (h c).2⟩) (Cert.Reference2Ideal.Value.run m' g')
    rw [(hagree c).1, (hagree c).2.1, (hagree c).2.2.1, (hagree c).2.2.2.1, (hagree c).2.2.2.2]

theorem reference3_frame : Cert.quiescent_Reference3Ideal := by
  intro m g _
  exact (θ_run Cert.Reference3Ideal.defs _ _).mono (fun _ h => ⟨fun c => (h c).2, sem_eq_zero_of_no_sems rfl _⟩) (Cert.Reference3Ideal.Value.run m g)

theorem algebraic3 : Cert.algebraic_Kernel3Ideal_Reference3Ideal := by
  intro m g m' g' hpre hagree
  refine ⟨fun c => Cert.Reference3Ideal.Mix.result (Cert.Kernel3Ideal.Mix.argSB m c) (Cert.Kernel3Ideal.Mix.argU0 m c)
    (Cert.Kernel3Ideal.Mix.argU1 m c) (Cert.Kernel3Ideal.Mix.argU2 m c) (Cert.Kernel3Ideal.Mix.argPR m c) (Cert.Kernel3Ideal.Mix.argGS m c)
    (Cert.Kernel3Ideal.Mix.argGN m c) (Cert.Kernel3Ideal.Mix.argW m c) (Cert.Kernel3Ideal.Mix.argX m c), ?_, ?_⟩
  · exact (θ_run Cert.Kernel3Ideal.defs _ _).mono (fun r h c => ⟨(h c).1.trans (Cert.Kernel3Ideal.Mix.final m c), (h c).2⟩) (Cert.Kernel3Ideal.Value.run_blocks m g)
  · refine (θ_run Cert.Reference3Ideal.defs _ _).mono (fun r h c => ⟨(h c).1.trans ((Cert.Reference3Ideal.Mix.res_eq m' c).trans ?_), (h c).2⟩) (Cert.Reference3Ideal.Value.run m' g')
    obtain ⟨h0, h1, h2, h3, h4, h5, h6, h7, h8⟩ := hagree c
    rw [h0, h1, h2, h3, h4, h5, h6, h7, h8]

theorem reference4_frame : Cert.quiescent_Reference4Ideal := by
  intro m g _
  exact (θ_run Cert.Reference4Ideal.defs _ _).mono (fun _ h => ⟨fun c => (h c).2.2.2, sem_eq_zero_of_no_sems rfl _⟩) (Cert.Reference4Ideal.Value.run m g)

theorem algebraic4 : Cert.algebraic_Kernel4Ideal_Reference4Ideal_pre_finite_tokens_and_weights := by
  intro m g m' g' hpre hagree
  refine ⟨fun c => Cert.Reference4Ideal.Peer.tokensT (Cert.Kernel4Ideal.Peer.argX m c) (Cert.Kernel4Ideal.Peer.argG m c),
    fun c => Cert.Reference4Ideal.Peer.experts (Cert.Kernel4Ideal.Peer.argX m c) (Cert.Kernel4Ideal.Peer.argG m c) (Cert.Kernel4Ideal.Peer.argW m c) (Cert.Kernel4Ideal.Peer.argK m c),
    fun c => Cert.Reference4Ideal.Peer.gates (Cert.Kernel4Ideal.Peer.argX m c) (Cert.Kernel4Ideal.Peer.argG m c) (Cert.Kernel4Ideal.Peer.argW m c) (Cert.Kernel4Ideal.Peer.argK m c), ?_, ?_⟩
  · refine (θ_run Cert.Kernel4Ideal.defs _ _).mono (fun r h c => ?_) (Cert.Kernel4Ideal.Value.run_blocks m g)
    have hr := fun b s h p n => Cert.Reference4Ideal.Peer.score_real _ _ _ _ (hpre c) b s h p n
    exact ⟨(h c).1.trans (Cert.Kernel4Ideal.Peer.final4 m c), (h c).2.1.trans (Cert.Kernel4Ideal.Peer.final5 m c hr),
      (h c).2.2.1.trans (Cert.Kernel4Ideal.Peer.final6 m c hr), (h c).2.2.2⟩
  · refine (θ_run Cert.Reference4Ideal.defs _ _).mono (fun r h c => ?_) (Cert.Reference4Ideal.Value.run m' g')
    obtain ⟨h0, h1, h2, h3⟩ := hagree c
    have hT : ∀ X X' G G', X' = X → G' = G → Cert.Reference4Ideal.Peer.tokensT X' G' = Cert.Reference4Ideal.Peer.tokensT X G := by
      rintro _ _ _ _ rfl rfl; rfl
    refine ⟨(h c).1.trans (hT _ _ _ _ h0 h1), (h c).2.1.trans ((Cert.Reference4Ideal.Peer.res57_eq m' c).trans ?_),
      (h c).2.2.1.trans ((Cert.Reference4Ideal.Peer.res58_eq m' c).trans ?_), (h c).2.2.2⟩
    · rw [h0, h1, h2, h3]
    · rw [h0, h1, h2, h3]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_queries_and_keys.Gen.facts, Cert.Pre_finite_tokens_and_weights.Gen.facts,
  fun m g _ => Cert.Kernel.Run.frame m g, fun m g _ => Cert.KernelIdeal.Run.frame m g, fun m g _ => Cert.KernelIdeal.Run.frame m g,
  reference_frame, fun m g h => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, fun m g _ => Cert.Kernel4Ideal.Gen.frame m g,
  reference4_frame, fun m g h => reference4_frame m g trivial,
  IdealRules.named_const.statement _ _ _ _ _ rfl, algebraic, trivial, algebraic2,
  trivial, algebraic3, trivial, algebraic4⟩

end Cert.Proof

end
